-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasIdeal_moderate_layer [hPre_moderate_layer : Cert.Pre_moderate_layer.Facts] (m : (ℓ : Loc Cert.BiasIdeal.nD Cert.BiasIdeal.τ Cert.BiasIdeal.sig) → Buf (Elt Ideal) ℓ) : Prop :=
  ∀ c : Dev Cert.BiasIdeal.nD,
    (Cert.Pre_moderate_layer.fn (F := Ideal) (m ((c.tc : Thread Cert.BiasIdeal.nD Cert.BiasIdeal.τ).loc Cert.BiasIdeal.main_arg0)) (m ((c.tc : Thread Cert.BiasIdeal.nD Cert.BiasIdeal.τ).loc Cert.BiasIdeal.main_arg1)) (m ((c.tc : Thread Cert.BiasIdeal.nD Cert.BiasIdeal.τ).loc Cert.BiasIdeal.main_arg2)) (m ((c.tc : Thread Cert.BiasIdeal.nD Cert.BiasIdeal.τ).loc Cert.BiasIdeal.main_arg3)) (m ((c.tc : Thread Cert.BiasIdeal.nD Cert.BiasIdeal.τ).loc Cert.BiasIdeal.main_arg4))) = (fun _ => 1#1)

def Pre_BiasReferenceIdeal (m : (ℓ : Loc Cert.BiasReferenceIdeal.nD Cert.BiasReferenceIdeal.τ Cert.BiasReferenceIdeal.sig) → Buf (Elt Ideal) ℓ) : Prop :=
  True

def Pre_BiasReferenceIdeal_moderate_layer [hPre_moderate_layer : Cert.Pre_moderate_layer.Facts] (m : (ℓ : Loc Cert.BiasReferenceIdeal.nD Cert.BiasReferenceIdeal.τ Cert.BiasReferenceIdeal.sig) → Buf (Elt Ideal) ℓ) : Prop :=
  ∀ c : Dev Cert.BiasReferenceIdeal.nD,
    (Cert.Pre_moderate_layer.fn (F := Ideal) (m ((c.tc : Thread Cert.BiasReferenceIdeal.nD Cert.BiasReferenceIdeal.τ).loc Cert.BiasReferenceIdeal.main_arg0)) (m ((c.tc : Thread Cert.BiasReferenceIdeal.nD Cert.BiasReferenceIdeal.τ).loc Cert.BiasReferenceIdeal.main_arg1)) (m ((c.tc : Thread Cert.BiasReferenceIdeal.nD Cert.BiasReferenceIdeal.τ).loc Cert.BiasReferenceIdeal.main_arg2)) (m ((c.tc : Thread Cert.BiasReferenceIdeal.nD Cert.BiasReferenceIdeal.τ).loc Cert.BiasReferenceIdeal.main_arg3)) (m ((c.tc : Thread Cert.BiasReferenceIdeal.nD Cert.BiasReferenceIdeal.τ).loc Cert.BiasReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0)
      ∧ r.2.mem ((c.tc : Thread Cert.Bias.nD Cert.Bias.τ).loc Cert.Bias.main_arg1) = m ((c.tc : Thread Cert.Bias.nD Cert.Bias.τ).loc Cert.Bias.main_arg1)
      ∧ r.2.mem ((c.tc : Thread Cert.Bias.nD Cert.Bias.τ).loc Cert.Bias.main_arg2) = m ((c.tc : Thread Cert.Bias.nD Cert.Bias.τ).loc Cert.Bias.main_arg2)
      ∧ r.2.mem ((c.tc : Thread Cert.Bias.nD Cert.Bias.τ).loc Cert.Bias.main_arg3) = m ((c.tc : Thread Cert.Bias.nD Cert.Bias.τ).loc Cert.Bias.main_arg3)
      ∧ r.2.mem ((c.tc : Thread Cert.Bias.nD Cert.Bias.τ).loc Cert.Bias.main_arg4) = m ((c.tc : Thread Cert.Bias.nD Cert.Bias.τ).loc Cert.Bias.main_arg4))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1)
      ∧ r.2.mem ((c.tc : Thread Cert.BiasIdeal.nD Cert.BiasIdeal.τ).loc Cert.BiasIdeal.main_arg2) = m ((c.tc : Thread Cert.BiasIdeal.nD Cert.BiasIdeal.τ).loc Cert.BiasIdeal.main_arg2)
      ∧ r.2.mem ((c.tc : Thread Cert.BiasIdeal.nD Cert.BiasIdeal.τ).loc Cert.BiasIdeal.main_arg3) = m ((c.tc : Thread Cert.BiasIdeal.nD Cert.BiasIdeal.τ).loc Cert.BiasIdeal.main_arg3)
      ∧ r.2.mem ((c.tc : Thread Cert.BiasIdeal.nD Cert.BiasIdeal.τ).loc Cert.BiasIdeal.main_arg4) = m ((c.tc : Thread Cert.BiasIdeal.nD Cert.BiasIdeal.τ).loc Cert.BiasIdeal.main_arg4))
      ∧ r.2.sem = fun _ => 0)

def quiescent_BiasIdeal_pre_moderate_layer [hBiasIdeal : Cert.BiasIdeal.Facts] [hPre_moderate_layer : Cert.Pre_moderate_layer.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal_moderate_layer m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1)
      ∧ r.2.mem ((c.tc : Thread Cert.BiasIdeal.nD Cert.BiasIdeal.τ).loc Cert.BiasIdeal.main_arg2) = m ((c.tc : Thread Cert.BiasIdeal.nD Cert.BiasIdeal.τ).loc Cert.BiasIdeal.main_arg2)
      ∧ r.2.mem ((c.tc : Thread Cert.BiasIdeal.nD Cert.BiasIdeal.τ).loc Cert.BiasIdeal.main_arg3) = m ((c.tc : Thread Cert.BiasIdeal.nD Cert.BiasIdeal.τ).loc Cert.BiasIdeal.main_arg3)
      ∧ r.2.mem ((c.tc : Thread Cert.BiasIdeal.nD Cert.BiasIdeal.τ).loc Cert.BiasIdeal.main_arg4) = m ((c.tc : Thread Cert.BiasIdeal.nD Cert.BiasIdeal.τ).loc Cert.BiasIdeal.main_arg4))
      ∧ r.2.sem = fun _ => 0)

def quiescent_BiasReferenceIdeal [hBiasReferenceIdeal : Cert.BiasReferenceIdeal.Facts] : Prop :=
  ∀ (m : (ℓ : Loc Cert.BiasReferenceIdeal.nD Cert.BiasReferenceIdeal.τ Cert.BiasReferenceIdeal.sig) → Buf (Elt Ideal) ℓ) (g : Dev Cert.BiasReferenceIdeal.nD → PrngReg), Pre_BiasReferenceIdeal m →
    θ_run (Cert.BiasReferenceIdeal.defs (F := Ideal)) (onTc (τ := Cert.BiasReferenceIdeal.τ) (Cert.BiasReferenceIdeal.main (F := Ideal))) ⟨m, fun _ => 0, g⟩ (fun r => (∀ c : Dev Cert.BiasReferenceIdeal.nD,
      r.2.mem ((c.tc : Thread Cert.BiasReferenceIdeal.nD Cert.BiasReferenceIdeal.τ).loc Cert.BiasReferenceIdeal.main_arg0) = m ((c.tc : Thread Cert.BiasReferenceIdeal.nD Cert.BiasReferenceIdeal.τ).loc Cert.BiasReferenceIdeal.main_arg0)
      ∧ r.2.mem ((c.tc : Thread Cert.BiasReferenceIdeal.nD Cert.BiasReferenceIdeal.τ).loc Cert.BiasReferenceIdeal.main_arg1) = m ((c.tc : Thread Cert.BiasReferenceIdeal.nD Cert.BiasReferenceIdeal.τ).loc Cert.BiasReferenceIdeal.main_arg1)
      ∧ r.2.mem ((c.tc : Thread Cert.BiasReferenceIdeal.nD Cert.BiasReferenceIdeal.τ).loc Cert.BiasReferenceIdeal.main_arg2) = m ((c.tc : Thread Cert.BiasReferenceIdeal.nD Cert.BiasReferenceIdeal.τ).loc Cert.BiasReferenceIdeal.main_arg2)
      ∧ r.2.mem ((c.tc : Thread Cert.BiasReferenceIdeal.nD Cert.BiasReferenceIdeal.τ).loc Cert.BiasReferenceIdeal.main_arg3) = m ((c.tc : Thread Cert.BiasReferenceIdeal.nD Cert.BiasReferenceIdeal.τ).loc Cert.BiasReferenceIdeal.main_arg3)
      ∧ r.2.mem ((c.tc : Thread Cert.BiasReferenceIdeal.nD Cert.BiasReferenceIdeal.τ).loc Cert.BiasReferenceIdeal.main_arg4) = m ((c.tc : Thread Cert.BiasReferenceIdeal.nD Cert.BiasReferenceIdeal.τ).loc Cert.BiasReferenceIdeal.main_arg4))
      ∧ r.2.sem = fun _ => 0)

def quiescent_BiasReferenceIdeal_pre_moderate_layer [hBiasReferenceIdeal : Cert.BiasReferenceIdeal.Facts] [hPre_moderate_layer : Cert.Pre_moderate_layer.Facts] : Prop :=
  ∀ (m : (ℓ : Loc Cert.BiasReferenceIdeal.nD Cert.BiasReferenceIdeal.τ Cert.BiasReferenceIdeal.sig) → Buf (Elt Ideal) ℓ) (g : Dev Cert.BiasReferenceIdeal.nD → PrngReg), Pre_BiasReferenceIdeal_moderate_layer m →
    θ_run (Cert.BiasReferenceIdeal.defs (F := Ideal)) (onTc (τ := Cert.BiasReferenceIdeal.τ) (Cert.BiasReferenceIdeal.main (F := Ideal))) ⟨m, fun _ => 0, g⟩ (fun r => (∀ c : Dev Cert.BiasReferenceIdeal.nD,
      r.2.mem ((c.tc : Thread Cert.BiasReferenceIdeal.nD Cert.BiasReferenceIdeal.τ).loc Cert.BiasReferenceIdeal.main_arg0) = m ((c.tc : Thread Cert.BiasReferenceIdeal.nD Cert.BiasReferenceIdeal.τ).loc Cert.BiasReferenceIdeal.main_arg0)
      ∧ r.2.mem ((c.tc : Thread Cert.BiasReferenceIdeal.nD Cert.BiasReferenceIdeal.τ).loc Cert.BiasReferenceIdeal.main_arg1) = m ((c.tc : Thread Cert.BiasReferenceIdeal.nD Cert.BiasReferenceIdeal.τ).loc Cert.BiasReferenceIdeal.main_arg1)
      ∧ r.2.mem ((c.tc : Thread Cert.BiasReferenceIdeal.nD Cert.BiasReferenceIdeal.τ).loc Cert.BiasReferenceIdeal.main_arg2) = m ((c.tc : Thread Cert.BiasReferenceIdeal.nD Cert.BiasReferenceIdeal.τ).loc Cert.BiasReferenceIdeal.main_arg2)
      ∧ r.2.mem ((c.tc : Thread Cert.BiasReferenceIdeal.nD Cert.BiasReferenceIdeal.τ).loc Cert.BiasReferenceIdeal.main_arg3) = m ((c.tc : Thread Cert.BiasReferenceIdeal.nD Cert.BiasReferenceIdeal.τ).loc Cert.BiasReferenceIdeal.main_arg3)
      ∧ r.2.mem ((c.tc : Thread Cert.BiasReferenceIdeal.nD Cert.BiasReferenceIdeal.τ).loc Cert.BiasReferenceIdeal.main_arg4) = m ((c.tc : Thread Cert.BiasReferenceIdeal.nD Cert.BiasReferenceIdeal.τ).loc Cert.BiasReferenceIdeal.main_arg4))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_v116) = v2 c
          ∧ r.2.mem ((c.tc : Thread Cert.ReferenceIdeal.nD Cert.ReferenceIdeal.τ).loc Cert.ReferenceIdeal.main_v117) = v3 c
          ∧ r.2.mem ((c.tc : Thread Cert.ReferenceIdeal.nD Cert.ReferenceIdeal.τ).loc Cert.ReferenceIdeal.main_v118) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Bias_BiasIdeal : Prop :=
  True

def algebraic_BiasIdeal_BiasReferenceIdeal_pre_moderate_layer [hBiasIdeal : Cert.BiasIdeal.Facts] [hBiasReferenceIdeal : Cert.BiasReferenceIdeal.Facts] [hPre_moderate_layer : Cert.Pre_moderate_layer.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasReferenceIdeal.nD Cert.BiasReferenceIdeal.τ Cert.BiasReferenceIdeal.sig) → Buf (Elt Ideal) ℓ) (g' : Dev Cert.BiasReferenceIdeal.nD → PrngReg), Pre_BiasIdeal_moderate_layer m →
    (∀ c : Dev Cert.BiasIdeal.nD,
      m' ((c.tc : Thread Cert.BiasReferenceIdeal.nD Cert.BiasReferenceIdeal.τ).loc Cert.BiasReferenceIdeal.main_arg0) = m ((c.tc : Thread Cert.BiasIdeal.nD Cert.BiasIdeal.τ).loc Cert.BiasIdeal.main_arg0)
      ∧ m' ((c.tc : Thread Cert.BiasReferenceIdeal.nD Cert.BiasReferenceIdeal.τ).loc Cert.BiasReferenceIdeal.main_arg1) = m ((c.tc : Thread Cert.BiasIdeal.nD Cert.BiasIdeal.τ).loc Cert.BiasIdeal.main_arg1)
      ∧ m' ((c.tc : Thread Cert.BiasReferenceIdeal.nD Cert.BiasReferenceIdeal.τ).loc Cert.BiasReferenceIdeal.main_arg2) = m ((c.tc : Thread Cert.BiasIdeal.nD Cert.BiasIdeal.τ).loc Cert.BiasIdeal.main_arg2)
      ∧ m' ((c.tc : Thread Cert.BiasReferenceIdeal.nD Cert.BiasReferenceIdeal.τ).loc Cert.BiasReferenceIdeal.main_arg3) = m ((c.tc : Thread Cert.BiasIdeal.nD Cert.BiasIdeal.τ).loc Cert.BiasIdeal.main_arg3)
      ∧ m' ((c.tc : Thread Cert.BiasReferenceIdeal.nD Cert.BiasReferenceIdeal.τ).loc Cert.BiasReferenceIdeal.main_arg4) = m ((c.tc : Thread Cert.BiasIdeal.nD Cert.BiasIdeal.τ).loc Cert.BiasIdeal.main_arg4)) →
    ∃ (v0 : (c : Dev Cert.BiasIdeal.nD) → Buf (Elt Ideal) ((c.tc : Thread Cert.BiasIdeal.nD Cert.BiasIdeal.τ).loc Cert.BiasIdeal.main_v4_0)) (v1 : (c : Dev Cert.BiasIdeal.nD) → Buf (Elt Ideal) ((c.tc : Thread Cert.BiasIdeal.nD Cert.BiasIdeal.τ).loc Cert.BiasIdeal.main_v4_1)) (v2 : (c : Dev Cert.BiasIdeal.nD) → Buf (Elt Ideal) ((c.tc : Thread Cert.BiasIdeal.nD Cert.BiasIdeal.τ).loc Cert.BiasIdeal.main_v4_2)) (v3 : (c : Dev Cert.BiasIdeal.nD) → Buf (Elt Ideal) ((c.tc : Thread Cert.BiasIdeal.nD Cert.BiasIdeal.τ).loc Cert.BiasIdeal.main_v4_3)) (v4 : (c : Dev Cert.BiasIdeal.nD) → Buf (Elt Ideal) ((c.tc : Thread Cert.BiasIdeal.nD Cert.BiasIdeal.τ).loc Cert.BiasIdeal.main_v4_4)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v4_0) = v0 c
          ∧ r.2.mem ((c.tc : Thread Cert.BiasIdeal.nD Cert.BiasIdeal.τ).loc Cert.BiasIdeal.main_v4_1) = v1 c
          ∧ r.2.mem ((c.tc : Thread Cert.BiasIdeal.nD Cert.BiasIdeal.τ).loc Cert.BiasIdeal.main_v4_2) = v2 c
          ∧ r.2.mem ((c.tc : Thread Cert.BiasIdeal.nD Cert.BiasIdeal.τ).loc Cert.BiasIdeal.main_v4_3) = v3 c
          ∧ r.2.mem ((c.tc : Thread Cert.BiasIdeal.nD Cert.BiasIdeal.τ).loc Cert.BiasIdeal.main_v4_4) = v4 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
          ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1)
          ∧ r.2.mem ((c.tc : Thread Cert.BiasIdeal.nD Cert.BiasIdeal.τ).loc Cert.BiasIdeal.main_arg2) = m ((c.tc : Thread Cert.BiasIdeal.nD Cert.BiasIdeal.τ).loc Cert.BiasIdeal.main_arg2)
          ∧ r.2.mem ((c.tc : Thread Cert.BiasIdeal.nD Cert.BiasIdeal.τ).loc Cert.BiasIdeal.main_arg3) = m ((c.tc : Thread Cert.BiasIdeal.nD Cert.BiasIdeal.τ).loc Cert.BiasIdeal.main_arg3)
          ∧ r.2.mem ((c.tc : Thread Cert.BiasIdeal.nD Cert.BiasIdeal.τ).loc Cert.BiasIdeal.main_arg4) = m ((c.tc : Thread Cert.BiasIdeal.nD Cert.BiasIdeal.τ).loc Cert.BiasIdeal.main_arg4))
      ∧ θ_run (Cert.BiasReferenceIdeal.defs (F := Ideal)) (onTc (τ := Cert.BiasReferenceIdeal.τ) (Cert.BiasReferenceIdeal.main (F := Ideal))) ⟨m', fun _ => 0, g'⟩ (fun r => ∀ c : Dev Cert.BiasReferenceIdeal.nD,
          r.2.mem ((c.tc : Thread Cert.BiasReferenceIdeal.nD Cert.BiasReferenceIdeal.τ).loc Cert.BiasReferenceIdeal.main_v111) = v0 c
          ∧ r.2.mem ((c.tc : Thread Cert.BiasReferenceIdeal.nD Cert.BiasReferenceIdeal.τ).loc Cert.BiasReferenceIdeal.main_v52_0) = v1 c
          ∧ r.2.mem ((c.tc : Thread Cert.BiasReferenceIdeal.nD Cert.BiasReferenceIdeal.τ).loc Cert.BiasReferenceIdeal.main_v112) = v2 c
          ∧ r.2.mem ((c.tc : Thread Cert.BiasReferenceIdeal.nD Cert.BiasReferenceIdeal.τ).loc Cert.BiasReferenceIdeal.main_v113) = v3 c
          ∧ r.2.mem ((c.tc : Thread Cert.BiasReferenceIdeal.nD Cert.BiasReferenceIdeal.τ).loc Cert.BiasReferenceIdeal.main_v115) = v4 c
          ∧ r.2.mem ((c.tc : Thread Cert.BiasReferenceIdeal.nD Cert.BiasReferenceIdeal.τ).loc Cert.BiasReferenceIdeal.main_arg0) = m' ((c.tc : Thread Cert.BiasReferenceIdeal.nD Cert.BiasReferenceIdeal.τ).loc Cert.BiasReferenceIdeal.main_arg0)
          ∧ r.2.mem ((c.tc : Thread Cert.BiasReferenceIdeal.nD Cert.BiasReferenceIdeal.τ).loc Cert.BiasReferenceIdeal.main_arg1) = m' ((c.tc : Thread Cert.BiasReferenceIdeal.nD Cert.BiasReferenceIdeal.τ).loc Cert.BiasReferenceIdeal.main_arg1)
          ∧ r.2.mem ((c.tc : Thread Cert.BiasReferenceIdeal.nD Cert.BiasReferenceIdeal.τ).loc Cert.BiasReferenceIdeal.main_arg2) = m' ((c.tc : Thread Cert.BiasReferenceIdeal.nD Cert.BiasReferenceIdeal.τ).loc Cert.BiasReferenceIdeal.main_arg2)
          ∧ r.2.mem ((c.tc : Thread Cert.BiasReferenceIdeal.nD Cert.BiasReferenceIdeal.τ).loc Cert.BiasReferenceIdeal.main_arg3) = m' ((c.tc : Thread Cert.BiasReferenceIdeal.nD Cert.BiasReferenceIdeal.τ).loc Cert.BiasReferenceIdeal.main_arg3)
          ∧ r.2.mem ((c.tc : Thread Cert.BiasReferenceIdeal.nD Cert.BiasReferenceIdeal.τ).loc Cert.BiasReferenceIdeal.main_arg4) = m' ((c.tc : Thread Cert.BiasReferenceIdeal.nD Cert.BiasReferenceIdeal.τ).loc Cert.BiasReferenceIdeal.main_arg4))

def Claim : Prop :=
  ∃ (hKernel : Cert.Kernel.Facts) (hKernelIdeal : Cert.KernelIdeal.Facts) (hReferenceIdeal : Cert.ReferenceIdeal.Facts) (hBias : Cert.Bias.Facts) (hBiasIdeal : Cert.BiasIdeal.Facts) (hBiasReferenceIdeal : Cert.BiasReferenceIdeal.Facts) (hPre_finite_logits : Cert.Pre_finite_logits.Facts) (hPre_moderate_layer : Cert.Pre_moderate_layer.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Bias (hBias := hBias)
    ∧ quiescent_BiasIdeal (hBiasIdeal := hBiasIdeal)
    ∧ quiescent_BiasIdeal_pre_moderate_layer (hBiasIdeal := hBiasIdeal) (hPre_moderate_layer := hPre_moderate_layer)
    ∧ quiescent_BiasReferenceIdeal (hBiasReferenceIdeal := hBiasReferenceIdeal)
    ∧ quiescent_BiasReferenceIdeal_pre_moderate_layer (hBiasReferenceIdeal := hBiasReferenceIdeal) (hPre_moderate_layer := hPre_moderate_layer)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Bias_BiasIdeal
    ∧ algebraic_BiasIdeal_BiasReferenceIdeal_pre_moderate_layer (hBiasIdeal := hBiasIdeal) (hBiasReferenceIdeal := hBiasReferenceIdeal) (hPre_moderate_layer := hPre_moderate_layer)
-- ==== Pre_finite_logits.lean ====
abbrev S20x2560x36x32 : Shape := ⟨4, ![20, 2560, 36, 32]⟩
abbrev S36x64x128 : Shape := ⟨3, ![36, 64, 128]⟩
abbrev S40x128 : Shape := ⟨2, ![40, 128]⟩
abbrev S_ : Shape := ⟨0, ![]⟩

class Facts : Prop where
  bcast_S_S36x64x128 : S_.BroadcastsInDim S36x64x128 (![] : Fin 0 → Fin S36x64x128.rank)
  reducesTo_S36x64x128_S_d0_1_2 : S36x64x128.ReducesTo [0, 1, 2] S_
  h_S_ : 0 < S_.numel
  bcast_S_S40x128 : S_.BroadcastsInDim S40x128 (![] : Fin 0 → Fin S40x128.rank)
  reducesTo_S40x128_S_d0_1 : S40x128.ReducesTo [0, 1] S_

variable [Facts]

def fn {F : FTy → Type} [FloatOps F] (main_arg0 : FVec F S20x2560x36x32 .bf16) (main_arg1 : FVec F S20x2560x36x32 .bf16) (main_arg2 : FVec F S20x2560x36x32 .bf16) (main_arg3 : FVec F S36x64x128 .f32) (main_arg4 : FVec F S40x128 .f32) : IVec S_ 1 :=
  let main_v0 : FVec F S36x64x128 .f32 := Host.absf main_arg3
  let main_cst : FVec F S_ .f32 := constant S_ .f32 0x7F800000#32
  let main_v1 : FVec F S36x64x128 .f32 := broadcastInDim S36x64x128 ![] bcast_S_S36x64x128 main_cst
  let main_v2 : IVec S36x64x128 1 := cmpf .olt main_v0 main_v1
  let main_c : IVec S_ 1 := constantI S_ 1 1#1
  let main_v3 : IVec S_ 1 := (fun x v => Host.reduce IntOp.andi x v reducesTo_S36x64x128_S_d0_1_2 h_S_) main_v2 main_c
  let main_v4 : FVec F S40x128 .f32 := Host.absf main_arg4
  let main_cst_0 : FVec F S_ .f32 := constant S_ .f32 0x7F800000#32
  let main_v5 : FVec F S40x128 .f32 := broadcastInDim S40x128 ![] bcast_S_S40x128 main_cst_0
  let main_v6 : IVec S40x128 1 := cmpf .olt main_v4 main_v5
  let main_c_1 : IVec S_ 1 := constantI S_ 1 1#1
  let main_v7 : IVec S_ 1 := (fun x v => Host.reduce IntOp.andi x v reducesTo_S40x128_S_d0_1 h_S_) main_v6 main_c_1
  let main_v8 : IVec S_ 1 := andi main_v3 main_v7
  main_v8
-- ==== Pre_moderate_layer.lean ====
abbrev S36 : Shape := ⟨1, ![36]⟩
abbrev S2x512 : Shape := ⟨2, ![2, 512]⟩
abbrev S512 : Shape := ⟨1, ![512]⟩
abbrev S512x36 : Shape := ⟨2, ![512, 36]⟩
abbrev S_ : Shape := ⟨0, ![]⟩

class Facts : Prop where
  bcast_S_S2x512 : S_.BroadcastsInDim S2x512 (![] : Fin 0 → Fin S2x512.rank)
  reducesTo_S2x512_S_d0_1 : S2x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S36 .f32) (main_arg1 : FVec F S2x512 .f32) (main_arg2 : FVec F S512 .f32) (main_arg3 : FVec F S512x36 .fp8e4m3) (main_arg4 : FVec F S36 .f32) : IVec S_ 1 :=
  let main_v0 : FVec F S2x512 .f32 := Host.absf main_arg1
  let main_cst : FVec F S_ .f32 := constant S_ .f32 0x7149F2CA#32
  let main_v1 : FVec F S2x512 .f32 := broadcastInDim S2x512 ![] bcast_S_S2x512 main_cst
  let main_v2 : IVec S2x512 1 := cmpf .olt main_v0 main_v1
  let main_c : IVec S_ 1 := constantI S_ 1 1#1
  let main_v3 : IVec S_ 1 := (fun x v => Host.reduce IntOp.andi x v reducesTo_S2x512_S_d0_1 h_S_) main_v2 main_c
  let main_v4 : FVec F S512 .f32 := Host.absf main_arg2
  let main_cst_0 : FVec F S_ .f32 := constant S_ .f32 0x7149F2CA#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Kernel.lean ====
abbrev S20x2560x36x32 : Shape := ⟨4, ![20, 2560, 36, 32]⟩
abbrev S36x64x128 : Shape := ⟨3, ![36, 64, 128]⟩
abbrev S40x128 : Shape := ⟨2, ![40, 128]⟩
abbrev S20x36x32x2560 : Shape := ⟨4, ![20, 36, 32, 2560]⟩
abbrev S20x2560x1152 : Shape := ⟨3, ![20, 2560, 1152]⟩
abbrev S20x40x36x32x64 : Shape := ⟨5, ![20, 40, 36, 32, 64]⟩
abbrev S20x36x40 : Shape := ⟨3, ![20, 36, 40]⟩
abbrev S1x36x32x256 : Shape := ⟨4, ![1, 36, 32, 256]⟩
abbrev S1x256x1152 : Shape := ⟨3, ![1, 256, 1152]⟩
abbrev S1x4x36x32x64 : Shape := ⟨5, ![1, 4, 36, 32, 64]⟩
abbrev S1x36x40 : Shape := ⟨3, ![1, 36, 40]⟩
abbrev S2x320x128 : Shape := ⟨3, ![2, 320, 128]⟩
abbrev S2x40x128 : Shape := ⟨3, ![2, 40, 128]⟩
abbrev S8x128 : Shape := ⟨2, ![8, 128]⟩
abbrev S1x1x32x128 : Shape := ⟨4, ![1, 1, 32, 128]⟩
abbrev S32x128 : Shape := ⟨2, ![32, 128]⟩
abbrev S1x8x128 : Shape := ⟨3, ![1, 8, 128]⟩
abbrev S8 : Shape := ⟨1, ![8]⟩
abbrev S8x1 : Shape := ⟨2, ![8, 1]⟩
abbrev S254x8x128 : Shape := ⟨3, ![254, 8, 128]⟩
abbrev S8x40 : Shape := ⟨2, ![8, 40]⟩
abbrev S1x8x40 : Shape := ⟨3, ![1, 8, 40]⟩
abbrev S4x40 : Shape := ⟨2, ![4, 40]⟩
abbrev S1x4x40 : Shape := ⟨3, ![1, 4, 40]⟩
abbrev S4x1 : Shape := ⟨2, ![4, 1]⟩
abbrev S1x1x128 : Shape := ⟨3, ![1, 1, 128]⟩
abbrev S1x128 : Shape := ⟨2, ![1, 128]⟩
abbrev S32x64 : Shape := ⟨2, ![32, 64]⟩
abbrev S1x1x1x32x64 : Shape := ⟨5, ![1, 1, 1, 32, 64]⟩
abbrev S64x128 : Shape := ⟨2, ![64, 128]⟩
abbrev S64x64 : Shape := ⟨2, ![64, 64]⟩
abbrev S1x64x128 : Shape := ⟨3, ![1, 64, 128]⟩
abbrev S128 : Shape := ⟨1, ![128]⟩
abbrev S128x128 : Shape := ⟨2, ![128, 128]⟩
abbrev S1x128x128 : Shape := ⟨3, ![1, 128, 128]⟩

abbrev nBuf : Space → Nat
  | .hbm => 13
  | .vmem => 22
  | .smem => 0
  | _ => 0

abbrev bufTy : (tb : Table) → Fin (tcTables nBuf tb) → BufTy
  | .hbm, ⟨0, _⟩ => ⟨S20x2560x36x32, .bf16⟩
  | .hbm, ⟨1, _⟩ => ⟨S20x2560x36x32, .bf16⟩
  | .hbm, ⟨2, _⟩ => ⟨S20x2560x36x32, .bf16⟩
  | .hbm, ⟨3, _⟩ => ⟨S36x64x128, .f32⟩
  | .hbm, ⟨4, _⟩ => ⟨S40x128, .f32⟩
  | .hbm, ⟨5, _⟩ => ⟨S20x36x32x2560, .bf16⟩
  | .hbm, ⟨6, _⟩ => ⟨S20x36x32x2560, .bf16⟩
  | .hbm, ⟨7, _⟩ => ⟨S20x36x32x2560, .bf16⟩
  | .hbm, ⟨8, _⟩ => ⟨S20x2560x1152, .bf16⟩
  | .hbm, ⟨9, _⟩ => ⟨S20x40x36x32x64, .fp8e4m3⟩
  | .hbm, ⟨10, _⟩ => ⟨S20x40x36x32x64, .fp8e4m3⟩
  | .hbm, ⟨11, _⟩ => ⟨S20x36x40, .f32⟩
  | .hbm, ⟨12, _⟩ => ⟨S20x36x40, .f32⟩
  | .local _ .vmem, ⟨0, _⟩ => ⟨S1x36x32x256, .bf16⟩
  | .local _ .vmem, ⟨1, _⟩ => ⟨S1x36x32x256, .bf16⟩
  | .local _ .vmem, ⟨2, _⟩ => ⟨S1x36x32x256, .bf16⟩
  | .local _ .vmem, ⟨3, _⟩ => ⟨S1x36x32x256, .bf16⟩
  | .local _ .vmem, ⟨4, _⟩ => ⟨S1x36x32x256, .bf16⟩
  | .local _ .vmem, ⟨5, _⟩ => ⟨S1x36x32x256, .bf16⟩
  | .local _ .vmem, ⟨6, _⟩ => ⟨S36x64x128, .f32⟩
  | .local _ .vmem, ⟨7, _⟩ => ⟨S40x128, .f32⟩
  | .local _ .vmem, ⟨8, _⟩ => ⟨S1x256x1152, .bf16⟩
  | .local _ .vmem, ⟨9, _⟩ => ⟨S1x256x1152, .bf16⟩
  | .local _ .vmem, ⟨10, _⟩ => ⟨S1x4x36x32x64, .fp8e4m3⟩
  | .local _ .vmem, ⟨11, _⟩ => ⟨S1x4x36x32x64, .fp8e4m3⟩
  | .local _ .vmem, ⟨12, _⟩ => ⟨S1x4x36x32x64, .fp8e4m3⟩
  | .local _ .vmem, ⟨13, _⟩ => ⟨S1x4x36x32x64, .fp8e4m3⟩
  | .local _ .vmem, ⟨14, _⟩ => ⟨S1x36x40, .f32⟩
  | .local _ .vmem, ⟨15, _⟩ => ⟨S1x36x40, .f32⟩
  | .local _ .vmem, ⟨16, _⟩ => ⟨S1x36x40, .f32⟩
  | .local _ .vmem, ⟨17, _⟩ => ⟨S1x36x40, .f32⟩
  | .local _ .vmem, ⟨18, _⟩ => ⟨S2x320x128, .f32⟩
  | .local _ .vmem, ⟨19, _⟩ => ⟨S2x320x128, .f32⟩
  | .local _ .vmem, ⟨20, _⟩ => ⟨S2x40x128, .f32⟩
  | .local _ .vmem, ⟨21, _⟩ => ⟨S40x128, .f32⟩
  | _, _ => ⟨S20x2560x36x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![20, 10], ![false, false]⟩

@[reducible] def k0_t1_loop : Scf.Loop 32 :=
  let c0_i32 : BitVec 32 := 0#32
  let c2_i32 : BitVec 32 := 2#32
  let v3 : BitVec 32 := Scalar.addi c0_i32 c2_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32 : BitVec 32 := 128#32
  let v4 : BitVec 32 := Scalar.muli arg16 c128_i32
  v4
@[reducible] def k0_t2_loop : Scf.Loop 32 :=
  let c0_i32_1 : BitVec 32 := 0#32
  let c36_i32 : BitVec 32 := 36#32
  let v6 : BitVec 32 := Scalar.addi c0_i32_1 c36_i32
  let c1_i32_2 : BitVec 32 := 1#32
  ⟨c0_i32_1, v6, c1_i32_2⟩
def k0_off1 (k0_t1 : Fin k0_t1_loop.trips) (k0_t2 : Fin k0_t2_loop.trips) : Fin 4 → Nat :=
  let c0_749 : Index := 0#32
  let c0_i32_1 : BitVec 32 := 0#32
  let c1_i32_2 : BitVec 32 := 1#32
  let arg17 : BitVec 32 := Scf.iv c0_i32_1 c1_i32_2 k0_t2
  let v1238 : Index := Scalar.indexCast arg17
  let c0_750 : Index := 0#32
  let c0_i32 : BitVec 32 := 0#32
  let c1_i32 : BitVec 32 := 1#32
  let arg16 : BitVec 32 := Scf.iv c0_i32 c1_i32 k0_t1
  let c128_i32 : BitVec 32 := 128#32
  let v4 : BitVec 32 := Scalar.muli arg16 c128_i32
  let v5 : BitVec 32 := v4
  let v1239 : Index := Scalar.indexCast v5
  ![0, v1238.toNat, 0, v1239.toNat]
def k0_off2 (k0_t2 : Fin k0_t2_loop.trips) : Fin 3 → Nat :=
  let c0_751 : Index := 0#32
  let c0_i32_1 : BitVec 32 := 0#32
  let c1_i32_2 : BitVec 32 := 1#32
  let arg17 : BitVec 32 := Scf.iv c0_i32_1 c1_i32_2 k0_t2
  let c8_i32 : BitVec 32 := 8#32
  let v1251 : BitVec 32 := Scalar.muli arg17 c8_i32
  let v1252 : Index := Scalar.indexCast v1251
  let c0_752 : Index := 0#32
  ![0, v1252.toNat, 0]
def k0_off3 (k0_t2 : Fin k0_t2_loop.trips) : Fin 3 → Nat :=
  let c1_759 : Index := 1#32
  let c0_i32_1 : BitVec 32 := 0#32
  let c1_i32_2 : BitVec 32 := 1#32
  let arg17 : BitVec 32 := Scf.iv c0_i32_1 c1_i32_2 k0_t2
  let c8_i32_758 : BitVec 32 := 8#32
  let v1282 : BitVec 32 := Scalar.muli arg17 c8_i32_758
  let v1283 : Index := Scalar.indexCast v1282
  let c0_760 : Index := 0#32
  ![1, v1283.toNat, 0]
@[reducible] def k0_t3_loop : Scf.Loop 32 :=
  let c0_i32_746 : BitVec 32 := 0#32
  let c9_i32 : BitVec 32 := 9#32
  let v1237 : BitVec 32 := Scalar.addi c0_i32_746 c9_i32
  let c1_i32_747 : BitVec 32 := 1#32
  ⟨c0_i32_746, v1237, c1_i32_747⟩
def k0_off4 (k0_t1 : Fin k0_t1_loop.trips) (k0_t3 : Fin k0_t3_loop.trips) (c0_i32_749 : BitVec 32) : Fin 4 → Nat :=
  let c0_750 : Index := 0#32
  let c0_i32_746 : BitVec 32 := 0#32
  let c1_i32_747 : BitVec 32 := 1#32
  let arg17 : BitVec 32 := Scf.iv c0_i32_746 c1_i32_747 k0_t3
  let c4_i32 : BitVec 32 := 4#32
  let v1238 : BitVec 32 := Scalar.muli arg17 c4_i32
  let v1239 : BitVec 32 := Scalar.addi v1238 c0_i32_749
  let v1240 : Index := Scalar.indexCast v1239
  let c0_751 : Index := 0#32
  let c0_i32 : BitVec 32 := 0#32
  let c1_i32 : BitVec 32 := 1#32
  let arg16 : BitVec 32 := Scf.iv c0_i32 c1_i32 k0_t1
  let c128_i32 : BitVec 32 := 128#32
  let v4 : BitVec 32 := Scalar.muli arg16 c128_i32
  let v5 : BitVec 32 := v4
  let v1241 : Index := Scalar.indexCast v5
  ![0, v1240.toNat, 0, v1241.toNat]
def k0_off5 (k0_t3 : Fin k0_t3_loop.trips) (c0_i32_749 : BitVec 32) : Fin 3 → Nat :=
  let c0_752 : Index := 0#32
  let c0_i32_746 : BitVec 32 := 0#32
  let c1_i32_747 : BitVec 32 := 1#32
  let arg17 : BitVec 32 := Scf.iv c0_i32_746 c1_i32_747 k0_t3
  let c4_i32 : BitVec 32 := 4#32
  let v1238 : BitVec 32 := Scalar.muli arg17 c4_i32
  let v1239 : BitVec 32 := Scalar.addi v1238 c0_i32_749
  let v1245 : Index := Scalar.indexCast v1239
  let c0_753 : Index := 0#32
  ![0, v1245.toNat, 0]
def k0_off6 (k0_t1 : Fin k0_t1_loop.trips) (k0_t3 : Fin k0_t3_loop.trips) (c0_i32_749 : BitVec 32) : Fin 5 → Nat :=
  let c0_757 : Index := 0#32
  let c2_i32_756 : BitVec 32 := 2#32
  let c0_i32 : BitVec 32 := 0#32
  let c1_i32 : BitVec 32 := 1#32
  let arg16 : BitVec 32 := Scf.iv c0_i32 c1_i32 k0_t1
  let v1257 : BitVec 32 := Scalar.muli c2_i32_756 arg16
  let v1258 : Index := Scalar.indexCast v1257
  let c0_i32_746 : BitVec 32 := 0#32
  let c1_i32_747 : BitVec 32 := 1#32
  let arg17 : BitVec 32 := Scf.iv c0_i32_746 c1_i32_747 k0_t3
  let c4_i32 : BitVec 32 := 4#32
  let v1238 : BitVec 32 := Scalar.muli arg17 c4_i32
  let v1239 : BitVec 32 := Scalar.addi v1238 c0_i32_749
  let v1259 : Index := Scalar.indexCast v1239
  let c0_758 : Index := 0#32
  let c0_759 : Index := 0#32
  ![0, v1258.toNat, v1259.toNat, 0, 0]
def k0_off7 (k0_t1 : Fin k0_t1_loop.trips) (k0_t3 : Fin k0_t3_loop.trips) (c0_i32_749 : BitVec 32) : Fin 5 → Nat :=
  let c0_762 : Index := 0#32
  let c2_i32_760 : BitVec 32 := 2#32
  let c0_i32 : BitVec 32 := 0#32
  let c1_i32 : BitVec 32 := 1#32
  let arg16 : BitVec 32 := Scf.iv c0_i32 c1_i32 k0_t1
  let v1263 : BitVec 32 := Scalar.muli c2_i32_760 arg16
  let c1_i32_761 : BitVec 32 := 1#32
  let v1264 : BitVec 32 := Scalar.addi v1263 c1_i32_761
  let v1265 : Index := Scalar.indexCast v1264
  let c0_i32_746 : BitVec 32 := 0#32
  let c1_i32_747 : BitVec 32 := 1#32
  let arg17 : BitVec 32 := Scf.iv c0_i32_746 c1_i32_747 k0_t3
  let c4_i32 : BitVec 32 := 4#32
  let v1238 : BitVec 32 := Scalar.muli arg17 c4_i32
  let v1239 : BitVec 32 := Scalar.addi v1238 c0_i32_749
  let v1266 : Index := Scalar.indexCast v1239
  let c0_763 : Index := 0#32
  let c0_764 : Index := 0#32
  ![0, v1265.toNat, v1266.toNat, 0, 0]
def k0_off8 (k0_t3 : Fin k0_t3_loop.trips) (c0_i32_749 : BitVec 32) : Fin 3 → Nat :=
  let c1_767 : Index := 1#32
  let c0_i32_746 : BitVec 32 := 0#32
  let c1_i32_747 : BitVec 32 := 1#32
  let arg17 : BitVec 32 := Scf.iv c0_i32_746 c1_i32_747 k0_t3
  let c4_i32 : BitVec 32 := 4#32
  let v1238 : BitVec 32 := Scalar.muli arg17 c4_i32
  let v1239 : BitVec 32 := Scalar.addi v1238 c0_i32_749
  let v1275 : Index := Scalar.indexCast v1239
  let c0_768 : Index := 0#32
  ![1, v1275.toNat, 0]
def k0_off9 (k0_t3 : Fin k0_t3_loop.trips) (c0_i32_749 : BitVec 32) : Fin 2 → Nat :=
  let c0_i32_746 : BitVec 32 := 0#32
  let c1_i32_747 : BitVec 32 := 1#32
  let arg17 : BitVec 32 := Scf.iv c0_i32_746 c1_i32_747 k0_t3
  let c4_i32 : BitVec 32 := 4#32
  let v1238 : BitVec 32 := Scalar.muli arg17 c4_i32
  let v1239 : BitVec 32 := Scalar.addi v1238 c0_i32_749
  let v1310 : Index := Scalar.indexCast v1239
  let c0_783 : Index := 0#32
  ![v1310.toNat, 0]
def k0_off10 (k0_t3 : Fin k0_t3_loop.trips) (c0_i32_749 : BitVec 32) : Fin 3 → Nat :=
  let c0_i32_746 : BitVec 32 := 0#32
  let c1_i32_747 : BitVec 32 := 1#32
  let arg17 : BitVec 32 := Scf.iv c0_i32_746 c1_i32_747 k0_t3
  let c4_i32 : BitVec 32 := 4#32
  let v1238 : BitVec 32 := Scalar.muli arg17 c4_i32
  let v1239 : BitVec 32 := Scalar.addi v1238 c0_i32_749
  let v1314 : Index := Scalar.indexCast v1239
  let c0_784 : Index := 0#32
  let c0_785 : Index := 0#32
  ![v1314.toNat, 0, 0]
def k0_mult2 (k0_t3 : Fin k0_t3_loop.trips) : BitVec 32 :=
  let c0_i32_746 : BitVec 32 := 0#32
  let c1_i32_747 : BitVec 32 := 1#32
  let arg17 : BitVec 32 := Scf.iv c0_i32_746 c1_i32_747 k0_t3
  let c128_i32_931 : BitVec 32 := 128#32
  let v1660 : BitVec 32 := Scalar.muli arg17 c128_i32_931
  v1660
def k0_off11 (k0_t1 : Fin k0_t1_loop.trips) (k0_t3 : Fin k0_t3_loop.trips) : Fin 3 → Nat :=
  let c0_932 : Index := 0#32
  let c0_i32 : BitVec 32 := 0#32
  let c1_i32 : BitVec 32 := 1#32
  let arg16 : BitVec 32 := Scf.iv c0_i32 c1_i32 k0_t1
  let c128_i32 : BitVec 32 := 128#32
  let v4 : BitVec 32 := Scalar.muli arg16 c128_i32
  let v5 : BitVec 32 := v4
  let v1662 : Index := Scalar.indexCast v5
  let c0_i32_746 : BitVec 32 := 0#32
  let c1_i32_747 : BitVec 32 := 1#32
  let arg17 : BitVec 32 := Scf.iv c0_i32_746 c1_i32_747 k0_t3
  let c128_i32_931 : BitVec 32 := 128#32
  let v1660 : BitVec 32 := Scalar.muli arg17 c128_i32_931
  let v1661 : BitVec 32 := v1660
  let v1663 : Index := Scalar.indexCast v1661
  ![0, v1662.toNat, v1663.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x36x32x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x36x32x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x36x32x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S36x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S40x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1152 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x36x32x64 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x36x32x64 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x36x40 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x36x40 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S20x2560x36x32 : Shape := ⟨4, ![20, 2560, 36, 32]⟩
abbrev S36x64x128 : Shape := ⟨3, ![36, 64, 128]⟩
abbrev S40x128 : Shape := ⟨2, ![40, 128]⟩
abbrev S20x40x64x36x32 : Shape := ⟨5, ![20, 40, 64, 36, 32]⟩
abbrev S_ : Shape := ⟨0, ![]⟩
abbrev S20x40x64x36 : Shape := ⟨4, ![20, 40, 64, 36]⟩
abbrev S20x40x64x36x1 : Shape := ⟨5, ![20, 40, 64, 36, 1]⟩
abbrev S20x40x36 : Shape := ⟨3, ![20, 40, 36]⟩
abbrev S254 : Shape := ⟨1, ![254]⟩
abbrev S20x40x36x1 : Shape := ⟨4, ![20, 40, 36, 1]⟩
abbrev S1x1x1x254 : Shape := ⟨4, ![1, 1, 1, 254]⟩
abbrev S20x40x36x254 : Shape := ⟨4, ![20, 40, 36, 254]⟩
abbrev S20x40x1x36x1 : Shape := ⟨5, ![20, 40, 1, 36, 1]⟩
abbrev S20x40x36x64x64 : Shape := ⟨5, ![20, 40, 36, 64, 64]⟩
abbrev S20x40x36x1x1 : Shape := ⟨5, ![20, 40, 36, 1, 1]⟩
abbrev S40 : Shape := ⟨1, ![40]⟩
abbrev S40x1x1 : Shape := ⟨3, ![40, 1, 1]⟩
abbrev S36x64 : Shape := ⟨2, ![36, 64]⟩
abbrev S1x36x64 : Shape := ⟨3, ![1, 36, 64]⟩
abbrev S40x36x64 : Shape := ⟨3, ![40, 36, 64]⟩
abbrev S36x128x64 : Shape := ⟨3, ![36, 128, 64]⟩
abbrev S40x1x1x1 : Shape := ⟨4, ![40, 1, 1, 1]⟩
abbrev S36x64x64 : Shape := ⟨3, ![36, 64, 64]⟩
abbrev S1x36x64x64 : Shape := ⟨4, ![1, 36, 64, 64]⟩
abbrev S40x36x64x64 : Shape := ⟨4, ![40, 36, 64, 64]⟩
abbrev S40x36x64x1 : Shape := ⟨4, ![40, 36, 64, 1]⟩
abbrev S1x40x36x64x1 : Shape := ⟨5, ![1, 40, 36, 64, 1]⟩
abbrev S1x40x36x64x64 : Shape := ⟨5, ![1, 40, 36, 64, 64]⟩
abbrev S20x40x36x64 : Shape := ⟨4, ![20, 40, 36, 64]⟩
abbrev S20x40x36x64x1 : Shape := ⟨5, ![20, 40, 36, 64, 1]⟩
abbrev S20x40x36x32x64 : Shape := ⟨5, ![20, 40, 36, 32, 64]⟩
abbrev S20x2560x1152 : Shape := ⟨3, ![20, 2560, 1152]⟩
abbrev S20x36x40 : Shape := ⟨3, ![20, 36, 40]⟩

abbrev nBuf : Space → Nat
  | .hbm => 182
  | .vmem => 6
  | .smem => 0
  | _ => 0

abbrev hbmTy0_0 (i : Nat) : BufTy := match i % 128 with
  | 0 => ⟨S20x2560x36x32, .bf16⟩
  | 1 => ⟨S20x2560x36x32, .bf16⟩
  | 2 => ⟨S20x2560x36x32, .bf16⟩
  | 3 => ⟨S36x64x128, .f32⟩
  | 4 => ⟨S40x128, .f32⟩
  | 5 => ⟨S20x40x64x36x32, .bf16⟩
  | 6 => ⟨S20x40x64x36x32, .f32⟩
  | 7 => ⟨S20x40x64x36x32, .f32⟩
  | 8 => ⟨S_, .f32⟩
  | 9 => ⟨S20x40x64x36, .f32⟩
  | 10 => ⟨S20x40x64x36x1, .f32⟩
  | 11 => ⟨S20x40x64x36x1, .f32⟩
  | 12 => ⟨S_, .f32⟩
  | 13 => ⟨S20x40x64x36x1, .f32⟩
  | 14 => ⟨S20x40x64x36x1, .f32⟩
  | 15 => ⟨S20x40x64x36x32, .f32⟩
  | 16 => ⟨S20x40x64x36x32, .f32⟩
  | 17 => ⟨S20x40x64x36x32, .f32⟩
  | 18 => ⟨S_, .f32⟩
  | 19 => ⟨S20x40x36, .f32⟩
  | 20 => ⟨S_, .f32⟩
  | 21 => ⟨S20x40x36, .f32⟩
  | 22 => ⟨S20x40x36, .f32⟩
  | 23 => ⟨S254, .f32⟩
  | 24 => ⟨S_, .f32⟩
  | 25 => ⟨S254, .f32⟩
  | 26 => ⟨S254, .f32⟩
  | 27 => ⟨S_, .f32⟩
  | 28 => ⟨S254, .f32⟩
  | 29 => ⟨S254, .f32⟩
  | 30 => ⟨S20x40x36x1, .f32⟩
  | 31 => ⟨S1x1x1x254, .f32⟩
  | 32 => ⟨S20x40x36x254, .f32⟩
  | 33 => ⟨S20x40x36x254, .f32⟩
  | 34 => ⟨S20x40x36x254, .i1⟩
  | 35 => ⟨S_, .f32⟩
  | 36 => ⟨S_, .f32⟩
  | 37 => ⟨S20x40x36x254, .f32⟩
  | 38 => ⟨S20x40x36x254, .f32⟩
  | 39 => ⟨S20x40x36x254, .f32⟩
  | 40 => ⟨S_, .f32⟩
  | 41 => ⟨S20x40x36, .f32⟩
  | 42 => ⟨S_, .f32⟩
  | 43 => ⟨S20x40x36, .f32⟩
  | 44 => ⟨S20x40x36, .i1⟩
  | 45 => ⟨S_, .f32⟩
  | 46 => ⟨S_, .f32⟩
  | 47 => ⟨S20x40x36, .f32⟩
  | 48 => ⟨S20x40x36, .f32⟩
  | 49 => ⟨S20x40x1x36x1, .f32⟩
  | 50 => ⟨S20x40x64x36x32, .f32⟩
  | 51 => ⟨S20x40x64x36x32, .f32⟩
  | 52 => ⟨S_, .f32⟩
  | 53 => ⟨S_, .f32⟩
  | 54 => ⟨S_, .f32⟩
  | 55 => ⟨S20x40x64x36x32, .f32⟩
  | 56 => ⟨S20x40x64x36x32, .f32⟩
  | 57 => ⟨S_, .f32⟩
  | 58 => ⟨S20x40x64x36x32, .f32⟩
  | 59 => ⟨S20x40x64x36x32, .f32⟩
  | 60 => ⟨S20x40x64x36x32, .bf16⟩
  | 61 => ⟨S20x40x64x36x32, .f32⟩
  | 62 => ⟨S20x40x64x36x32, .f32⟩
  | 63 => ⟨S_, .f32⟩
  | 64 => ⟨S20x40x64x36, .f32⟩
  | 65 => ⟨S20x40x64x36x1, .f32⟩
  | 66 => ⟨S20x40x64x36x1, .f32⟩
  | 67 => ⟨S_, .f32⟩
  | 68 => ⟨S20x40x64x36x1, .f32⟩
  | 69 => ⟨S20x40x64x36x1, .f32⟩
  | 70 => ⟨S20x40x64x36x32, .f32⟩
  | 71 => ⟨S20x40x64x36x32, .f32⟩
  | 72 => ⟨S20x40x64x36x32, .f32⟩
  | 73 => ⟨S_, .f32⟩
  | 74 => ⟨S20x40x36, .f32⟩
  | 75 => ⟨S_, .f32⟩
  | 76 => ⟨S20x40x36, .f32⟩
  | 77 => ⟨S20x40x36, .f32⟩
  | 78 => ⟨S254, .f32⟩
  | 79 => ⟨S_, .f32⟩
  | 80 => ⟨S254, .f32⟩
  | 81 => ⟨S254, .f32⟩
  | 82 => ⟨S_, .f32⟩
  | 83 => ⟨S254, .f32⟩
  | 84 => ⟨S254, .f32⟩
  | 85 => ⟨S20x40x36x1, .f32⟩
  | 86 => ⟨S1x1x1x254, .f32⟩
  | 87 => ⟨S20x40x36x254, .f32⟩
  | 88 => ⟨S20x40x36x254, .f32⟩
  | 89 => ⟨S20x40x36x254, .i1⟩
  | 90 => ⟨S_, .f32⟩
  | 91 => ⟨S_, .f32⟩
  | 92 => ⟨S20x40x36x254, .f32⟩
  | 93 => ⟨S20x40x36x254, .f32⟩
  | 94 => ⟨S20x40x36x254, .f32⟩
  | 95 => ⟨S_, .f32⟩
  | 96 => ⟨S20x40x36, .f32⟩
  | 97 => ⟨S_, .f32⟩
  | 98 => ⟨S20x40x36, .f32⟩
  | 99 => ⟨S20x40x36, .i1⟩
  | 100 => ⟨S_, .f32⟩
  | 101 => ⟨S_, .f32⟩
  | 102 => ⟨S20x40x36, .f32⟩
  | 103 => ⟨S20x40x36, .f32⟩
  | 104 => ⟨S20x40x1x36x1, .f32⟩
  | 105 => ⟨S20x40x64x36x32, .f32⟩
  | 106 => ⟨S20x40x64x36x32, .f32⟩
  | 107 => ⟨S_, .f32⟩
  | 108 => ⟨S_, .f32⟩
  | 109 => ⟨S_, .f32⟩
  | 110 => ⟨S20x40x64x36x32, .f32⟩
  | 111 => ⟨S20x40x64x36x32, .f32⟩
  | 112 => ⟨S_, .f32⟩
  | 113 => ⟨S20x40x64x36x32, .f32⟩
  | 114 => ⟨S20x40x64x36x32, .f32⟩
  | 115 => ⟨S20x40x64x36x32, .fp8e4m3⟩
  | 116 => ⟨S20x40x64x36x32, .fp8e4m3⟩
  | 117 => ⟨S20x40x64x36x32, .f32⟩
  | 118 => ⟨S20x40x64x36x32, .f32⟩
  | 119 => ⟨S20x40x36x64x64, .f32⟩
  | 120 => ⟨S20x40x36x1x1, .f32⟩
  | 121 => ⟨S20x40x36x64x64, .f32⟩
  | 122 => ⟨S20x40x36x64x64, .f32⟩
  | 123 => ⟨S20x40x36x1x1, .f32⟩
  | 124 => ⟨S20x40x36x64x64, .f32⟩
  | 125 => ⟨S20x40x36x64x64, .f32⟩
  | 126 => ⟨S40, .i32⟩
  | 127 => ⟨S_, .i32⟩
  | _ => ⟨S20x2560x36x32, .bf16⟩

abbrev hbmTy0_1 (i : Nat) : BufTy := match i % 128 with
  | 0 => ⟨S40, .i32⟩
  | 1 => ⟨S40, .i32⟩
  | 2 => ⟨S_, .i32⟩
  | 3 => ⟨S40, .i32⟩
  | 4 => ⟨S40, .i1⟩
  | 5 => ⟨S40x1x1, .i1⟩
  | 6 => ⟨S36x64, .f32⟩
  | 7 => ⟨S1x36x64, .f32⟩
  | 8 => ⟨S36x64, .f32⟩
  | 9 => ⟨S1x36x64, .f32⟩
  | 10 => ⟨S40x36x64, .i1⟩
  | 11 => ⟨S40x36x64, .f32⟩
  | 12 => ⟨S40x36x64, .f32⟩
  | 13 => ⟨S40x36x64, .f32⟩
  | 14 => ⟨S36x128x64, .f32⟩
  | 15 => ⟨S40x1x1x1, .i1⟩
  | 16 => ⟨S36x64x64, .f32⟩
  | 17 => ⟨S1x36x64x64, .f32⟩
  | 18 => ⟨S36x64x64, .f32⟩
  | 19 => ⟨S1x36x64x64, .f32⟩
  | 20 => ⟨S40x36x64x64, .i1⟩
  | 21 => ⟨S40x36x64x64, .f32⟩
  | 22 => ⟨S40x36x64x64, .f32⟩
  | 23 => ⟨S40x36x64x64, .f32⟩
  | 24 => ⟨S40x36x64x1, .f32⟩
  | 25 => ⟨S1x40x36x64x1, .f32⟩
  | 26 => ⟨S20x40x36x64x64, .f32⟩
  | 27 => ⟨S20x40x36x64x64, .f32⟩
  | 28 => ⟨S1x40x36x64x64, .f32⟩
  | 29 => ⟨S20x40x36x64x64, .f32⟩
  | 30 => ⟨S20x40x36x64x64, .f32⟩
  | 31 => ⟨S_, .f32⟩
  | 32 => ⟨S20x40x36x64, .f32⟩
  | 33 => ⟨S20x40x36x64x1, .f32⟩
  | 34 => ⟨S20x40x36x64x64, .f32⟩
  | 35 => ⟨S20x40x36x64x64, .f32⟩
  | 36 => ⟨S_, .f32⟩
  | 37 => ⟨S20x40x36x64x64, .f32⟩
  | 38 => ⟨S20x40x36x64x64, .f32⟩
  | 39 => ⟨S_, .f32⟩
  | 40 => ⟨S20x40x36x64, .f32⟩
  | 41 => ⟨S20x40x36x64x1, .f32⟩
  | 42 => ⟨S20x40x36x64x64, .f32⟩
  | 43 => ⟨S20x40x36x64x64, .f32⟩
  | 44 => ⟨S20x40x36x64x64, .bf16⟩
  | 45 => ⟨S20x40x64x36x32, .bf16⟩
  | 46 => ⟨S20x40x36x32x64, .f32⟩
  | 47 => ⟨S20x40x64x36x32, .f32⟩
  | 48 => ⟨S20x2560x1152, .f32⟩
  | 49 => ⟨S20x2560x1152, .bf16⟩
  | 50 => ⟨S20x40x36x32x64, .fp8e4m3⟩
  | 51 => ⟨S20x40x36x32x64, .fp8e4m3⟩
  | 52 => ⟨S20x36x40, .f32⟩
  | 53 => ⟨S20x36x40, .f32⟩
  | _ => ⟨S20x2560x36x32, .bf16⟩

abbrev hbmTy (i : Nat) : BufTy := match i / 128 with
  | 0 => hbmTy0_0 i
  | 1 => hbmTy0_1 i
  | _ => ⟨S20x2560x36x32, .bf16⟩

abbrev bufTy : (tb : Table) → Fin (tcTables nBuf tb) → BufTy
  | .hbm, ⟨i, _⟩ => hbmTy i
  | .local _ .vmem, ⟨0, _⟩ => ⟨S20x40x64x36x32, .f32⟩
  | .local _ .vmem, ⟨1, _⟩ => ⟨S20x40x64x36x32, .f32⟩
  | .local _ .vmem, ⟨2, _⟩ => ⟨S20x40x64x36x32, .fp8e4m3⟩
  | .local _ .vmem, ⟨3, _⟩ => ⟨S20x40x64x36x32, .fp8e4m3⟩
  | .local _ .vmem, ⟨4, _⟩ => ⟨S20x40x64x36x32, .f32⟩
  | .local _ .vmem, ⟨5, _⟩ => ⟨S20x40x64x36x32, .f32⟩
  | _, _ => ⟨S20x2560x36x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_call1_v0 : Ref sig .tc := ⟨.hbm, 46, rfl⟩
abbrev main_call1_v1 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_cst_10 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_11 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_12 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_13 : Ref sig .tc := ⟨.hbm, 73, rfl⟩
abbrev main_v44 : Ref sig .tc := ⟨.hbm, 74, rfl⟩
abbrev main_cst_14 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_15 : Ref sig .tc := ⟨.hbm, 79, rfl⟩
abbrev main_v48 : Ref sig .tc := ⟨.hbm, 80, rfl⟩
abbrev main_v49 : Ref sig .tc := ⟨.hbm, 81, rfl⟩
abbrev main_cst_16 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_17 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v57 : Ref sig .tc := ⟨.hbm, 94, rfl⟩
abbrev main_cst_18 : Ref sig .tc := ⟨.hbm, 95, rfl⟩
abbrev main_v58 : Ref sig .tc := ⟨.hbm, 96, rfl⟩
abbrev main_cst_19 : Ref sig .tc := ⟨.hbm, 97, rfl⟩
abbrev main_v59 : Ref sig .tc := ⟨.hbm, 98, rfl⟩
abbrev main_v60 : Ref sig .tc := ⟨.hbm, 99, rfl⟩
abbrev main_cst_20 : Ref sig .tc := ⟨.hbm, 100, rfl⟩
abbrev main_call4_v0 : Ref sig .tc := ⟨.hbm, 101, rfl⟩
abbrev main_call4_v1 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_21 : Ref sig .tc := ⟨.hbm, 107, rfl⟩
abbrev main_cst_22 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_v65 : Ref sig .tc := ⟨.hbm, 114, rfl⟩
abbrev main_v66_0 : Ref sig .tc := ⟨.hbm, 115, rfl⟩
abbrev main_v66_1 : Ref sig .tc := ⟨.hbm, 116, rfl⟩
abbrev main_v66_2 : Ref sig .tc := ⟨.hbm, 117, rfl⟩
abbrev main_v66_3 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_c : Ref sig .tc := ⟨.hbm, 127, rfl⟩
abbrev main_v75 : Ref sig .tc := ⟨.hbm, 128, rfl⟩
abbrev main_v76 : Ref sig .tc := ⟨.hbm, 129, rfl⟩
abbrev main_c_23 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_call6_v0 : Ref sig .tc := ⟨.hbm, 138, rfl⟩
abbrev main_call6_v1 : Ref sig .tc := ⟨.hbm, 139, rfl⟩
abbrev main_call6_v2 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_call7_v0 : Ref sig .tc := ⟨.hbm, 148, rfl⟩
abbrev main_call7_v1 : Ref sig .tc := ⟨.hbm, 149, rfl⟩
abbrev main_call7_v2 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_cst_24 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_cst_25 : Ref sig .tc := ⟨.hbm, 164, rfl⟩
abbrev main_v103 : Ref sig .tc := ⟨.hbm, 165, rfl⟩
abbrev main_v104 : Ref sig .tc := ⟨.hbm, 166, rfl⟩
abbrev main_cst_26 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S20x40x64x36x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x40x64x36x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20x40x64x36x32 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20x40x64x36x32 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20x40x64x36x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20x40x64x36x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Bias.lean ====
abbrev S36 : Shape := ⟨1, ![36]⟩
abbrev S2x512 : Shape := ⟨2, ![2, 512]⟩
abbrev S512 : Shape := ⟨1, ![512]⟩
abbrev S512x36 : Shape := ⟨2, ![512, 36]⟩
abbrev S1x512 : Shape := ⟨2, ![1, 512]⟩
abbrev S36x512 : Shape := ⟨2, ![36, 512]⟩
abbrev S36x1 : Shape := ⟨2, ![36, 1]⟩
abbrev S36x225 : Shape := ⟨2, ![36, 225]⟩
abbrev S225x512 : Shape := ⟨2, ![225, 512]⟩
abbrev S225x1 : Shape := ⟨2, ![225, 1]⟩
abbrev S36x64x128 : Shape := ⟨3, ![36, 64, 128]⟩
abbrev S40x128 : Shape := ⟨2, ![40, 128]⟩
abbrev S256x1 : Shape := ⟨2, ![256, 1]⟩
abbrev S256x512 : Shape := ⟨2, ![256, 512]⟩
abbrev S256 : Shape := ⟨1, ![256]⟩
abbrev S256x128 : Shape := ⟨2, ![256, 128]⟩
abbrev S254x256x128 : Shape := ⟨3, ![254, 256, 128]⟩
abbrev S1x256x128 : Shape := ⟨3, ![1, 256, 128]⟩
abbrev S36x256 : Shape := ⟨2, ![36, 256]⟩
abbrev S128x256 : Shape := ⟨2, ![128, 256]⟩
abbrev S1x256 : Shape := ⟨2, ![1, 256]⟩
abbrev S36x128 : Shape := ⟨2, ![36, 128]⟩
abbrev S36x1x128 : Shape := ⟨3, ![36, 1, 128]⟩

abbrev nBuf : Space → Nat
  | .hbm => 14
  | .vmem => 10
  | .smem => 0
  | _ => 0

abbrev bufTy : (tb : Table) → Fin (tcTables nBuf tb) → BufTy
  | .hbm, ⟨0, _⟩ => ⟨S36, .f32⟩
  | .hbm, ⟨1, _⟩ => ⟨S2x512, .f32⟩
  | .hbm, ⟨2, _⟩ => ⟨S512, .f32⟩
  | .hbm, ⟨3, _⟩ => ⟨S512x36, .fp8e4m3⟩
  | .hbm, ⟨4, _⟩ => ⟨S36, .f32⟩
  | .hbm, ⟨5, _⟩ => ⟨S1x512, .f32⟩
  | .hbm, ⟨6, _⟩ => ⟨S36x512, .fp8e4m3⟩
  | .hbm, ⟨7, _⟩ => ⟨S36x1, .f32⟩
  | .hbm, ⟨8, _⟩ => ⟨S36x1, .f32⟩
  | .hbm, ⟨9, _⟩ => ⟨S36x225, .f32⟩
  | .hbm, ⟨10, _⟩ => ⟨S225x512, .fp8e4m3⟩
  | .hbm, ⟨11, _⟩ => ⟨S225x1, .f32⟩
  | .hbm, ⟨12, _⟩ => ⟨S36x64x128, .f32⟩
  | .hbm, ⟨13, _⟩ => ⟨S40x128, .f32⟩
  | .local _ .vmem, ⟨0, _⟩ => ⟨S2x512, .f32⟩
  | .local _ .vmem, ⟨1, _⟩ => ⟨S1x512, .f32⟩
  | .local _ .vmem, ⟨2, _⟩ => ⟨S36x512, .fp8e4m3⟩
  | .local _ .vmem, ⟨3, _⟩ => ⟨S36x1, .f32⟩
  | .local _ .vmem, ⟨4, _⟩ => ⟨S36x1, .f32⟩
  | .local _ .vmem, ⟨5, _⟩ => ⟨S36x225, .f32⟩
  | .local _ .vmem, ⟨6, _⟩ => ⟨S225x512, .fp8e4m3⟩
  | .local _ .vmem, ⟨7, _⟩ => ⟨S225x1, .f32⟩
  | .local _ .vmem, ⟨8, _⟩ => ⟨S36x64x128, .f32⟩
  | .local _ .vmem, ⟨9, _⟩ => ⟨S40x128, .f32⟩
  | _, _ => ⟨S36, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

@[reducible] def k0_t1_loop : Scf.Loop 32 :=
  let c0_i32_63 : BitVec 32 := 0#32
  let c64_i32 : BitVec 32 := 64#32
  let v168 : BitVec 32 := Scalar.addi c0_i32_63 c64_i32
  let c1_i32_64 : BitVec 32 := 1#32
  ⟨c0_i32_63, v168, c1_i32_64⟩
def k0_off1 (k0_t1 : Fin k0_t1_loop.trips) : Fin 3 → Nat :=
  let c0_70 : Index := 0#32
  let c0_i32_63 : BitVec 32 := 0#32
  let c1_i32_64 : BitVec 32 := 1#32
  let arg10 : BitVec 32 := Scf.iv c0_i32_63 c1_i32_64 k0_t1
  let v179 : Index := Scalar.indexCast arg10
  let c0_71 : Index := 0#32
  ![0, v179.toNat, 0]
abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S36x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S36x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S36x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S36x225 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S225x512 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S225x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S36x64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S40x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== BiasReferenceIdeal.lean ====
abbrev S36 : Shape := ⟨1, ![36]⟩
abbrev S2x512 : Shape := ⟨2, ![2, 512]⟩
abbrev S512 : Shape := ⟨1, ![512]⟩
abbrev S512x36 : Shape := ⟨2, ![512, 36]⟩
abbrev S15 : Shape := ⟨1, ![15]⟩
abbrev S_ : Shape := ⟨0, ![]⟩
abbrev S15x15 : Shape := ⟨2, ![15, 15]⟩
abbrev S15x15x1 : Shape := ⟨3, ![15, 15, 1]⟩
abbrev S15x15x2 : Shape := ⟨3, ![15, 15, 2]⟩
abbrev S225x2 : Shape := ⟨2, ![225, 2]⟩
abbrev S225x512 : Shape := ⟨2, ![225, 512]⟩
abbrev S1x512 : Shape := ⟨2, ![1, 512]⟩
abbrev S225 : Shape := ⟨1, ![225]⟩
abbrev S254 : Shape := ⟨1, ![254]⟩
abbrev S225x1 : Shape := ⟨2, ![225, 1]⟩
abbrev S1x254 : Shape := ⟨2, ![1, 254]⟩
abbrev S225x254 : Shape := ⟨2, ![225, 254]⟩
abbrev S225x36 : Shape := ⟨2, ![225, 36]⟩
abbrev S1x36 : Shape := ⟨2, ![1, 36]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x64x1 : Shape := ⟨3, ![64, 64, 1]⟩
abbrev S64x64x36 : Shape := ⟨3, ![64, 64, 36]⟩
abbrev S36x64x64 : Shape := ⟨3, ![36, 64, 64]⟩
abbrev S36x1 : Shape := ⟨2, ![36, 1]⟩
abbrev S36x128 : Shape := ⟨2, ![36, 128]⟩
abbrev S36x225 : Shape := ⟨2, ![36, 225]⟩
abbrev S36x64x128 : Shape := ⟨3, ![36, 64, 128]⟩
abbrev S4x128 : Shape := ⟨2, ![4, 128]⟩
abbrev S40x128 : Shape := ⟨2, ![40, 128]⟩

abbrev nBuf : Space → Nat
  | .hbm => 166
  | .vmem => 5
  | .smem => 0
  | _ => 0

abbrev hbmTy0_0 (i : Nat) : BufTy := match i % 128 with
  | 0 => ⟨S36, .f32⟩
  | 1 => ⟨S2x512, .f32⟩
  | 2 => ⟨S512, .f32⟩
  | 3 => ⟨S512x36, .fp8e4m3⟩
  | 4 => ⟨S36, .f32⟩
  | 5 => ⟨S15, .f32⟩
  | 6 => ⟨S_, .f32⟩
  | 7 => ⟨S15, .f32⟩
  | 8 => ⟨S15, .f32⟩
  | 9 => ⟨S15, .f32⟩
  | 10 => ⟨S15, .f32⟩
  | 11 => ⟨S_, .f32⟩
  | 12 => ⟨S15, .f32⟩
  | 13 => ⟨S15, .f32⟩
  | 14 => ⟨S_, .f32⟩
  | 15 => ⟨S15, .f32⟩
  | 16 => ⟨S15, .f32⟩
  | 17 => ⟨S_, .f32⟩
  | 18 => ⟨S15, .f32⟩
  | 19 => ⟨S15, .f32⟩
  | 20 => ⟨S15, .f32⟩
  | 21 => ⟨S_, .f32⟩
  | 22 => ⟨S15, .f32⟩
  | 23 => ⟨S15, .f32⟩
  | 24 => ⟨S15, .f32⟩
  | 25 => ⟨S_, .f32⟩
  | 26 => ⟨S15, .f32⟩
  | 27 => ⟨S15, .f32⟩
  | 28 => ⟨S15x15, .f32⟩
  | 29 => ⟨S15x15, .f32⟩
  | 30 => ⟨S15x15x1, .f32⟩
  | 31 => ⟨S15x15x1, .f32⟩
  | 32 => ⟨S15x15x2, .f32⟩
  | 33 => ⟨S225x2, .f32⟩
  | 34 => ⟨S225x512, .f32⟩
  | 35 => ⟨S1x512, .f32⟩
  | 36 => ⟨S225x512, .f32⟩
  | 37 => ⟨S225x512, .f32⟩
  | 38 => ⟨S_, .f32⟩
  | 39 => ⟨S225x512, .f32⟩
  | 40 => ⟨S225x512, .f32⟩
  | 41 => ⟨S225x512, .f32⟩
  | 42 => ⟨S_, .f32⟩
  | 43 => ⟨S225, .f32⟩
  | 44 => ⟨S_, .f32⟩
  | 45 => ⟨S225, .f32⟩
  | 46 => ⟨S225, .f32⟩
  | 47 => ⟨S254, .f32⟩
  | 48 => ⟨S_, .f32⟩
  | 49 => ⟨S254, .f32⟩
  | 50 => ⟨S254, .f32⟩
  | 51 => ⟨S_, .f32⟩
  | 52 => ⟨S254, .f32⟩
  | 53 => ⟨S254, .f32⟩
  | 54 => ⟨S225x1, .f32⟩
  | 55 => ⟨S1x254, .f32⟩
  | 56 => ⟨S225x254, .f32⟩
  | 57 => ⟨S225x254, .f32⟩
  | 58 => ⟨S225x254, .i1⟩
  | 59 => ⟨S_, .f32⟩
  | 60 => ⟨S_, .f32⟩
  | 61 => ⟨S225x254, .f32⟩
  | 62 => ⟨S225x254, .f32⟩
  | 63 => ⟨S225x254, .f32⟩
  | 64 => ⟨S_, .f32⟩
  | 65 => ⟨S225, .f32⟩
  | 66 => ⟨S_, .f32⟩
  | 67 => ⟨S225, .f32⟩
  | 68 => ⟨S225, .i1⟩
  | 69 => ⟨S_, .f32⟩
  | 70 => ⟨S_, .f32⟩
  | 71 => ⟨S225, .f32⟩
  | 72 => ⟨S225, .f32⟩
  | 73 => ⟨S225x1, .f32⟩
  | 74 => ⟨S225x512, .f32⟩
  | 75 => ⟨S225x512, .f32⟩
  | 76 => ⟨S_, .f32⟩
  | 77 => ⟨S_, .f32⟩
  | 78 => ⟨S_, .f32⟩
  | 79 => ⟨S225x512, .f32⟩
  | 80 => ⟨S225x512, .f32⟩
  | 81 => ⟨S_, .f32⟩
  | 82 => ⟨S225x512, .f32⟩
  | 83 => ⟨S225x512, .f32⟩
  | 84 => ⟨S225x512, .fp8e4m3⟩
  | 85 => ⟨S225x512, .f32⟩
  | 86 => ⟨S512x36, .f32⟩
  | 87 => ⟨S225x36, .f32⟩
  | 88 => ⟨S225x1, .f32⟩
  | 89 => ⟨S225x36, .f32⟩
  | 90 => ⟨S225x36, .f32⟩
  | 91 => ⟨S1x36, .f32⟩
  | 92 => ⟨S225x36, .f32⟩
  | 93 => ⟨S225x36, .f32⟩
  | 94 => ⟨S225x36, .f32⟩
  | 95 => ⟨S225x36, .f32⟩
  | 96 => ⟨S_, .f32⟩
  | 97 => ⟨S225x36, .f32⟩
  | 98 => ⟨S225x36, .f32⟩
  | 99 => ⟨S_, .f32⟩
  | 100 => ⟨S225x36, .f32⟩
  | 101 => ⟨S225x36, .f32⟩
  | 102 => ⟨S_, .f32⟩
  | 103 => ⟨S225x36, .f32⟩
  | 104 => ⟨S225x36, .f32⟩
  | 105 => ⟨S64, .i32⟩
  | 106 => ⟨S_, .i32⟩
  | 107 => ⟨S64, .i32⟩
  | 108 => ⟨S64, .i32⟩
  | 109 => ⟨S_, .i32⟩
  | 110 => ⟨S64, .i32⟩
  | 111 => ⟨S64, .i32⟩
  | 112 => ⟨S64x1, .i32⟩
  | 113 => ⟨S1x64, .i32⟩
  | 114 => ⟨S64x64, .i32⟩
  | 115 => ⟨S64x64, .i32⟩
  | 116 => ⟨S64x64, .i32⟩
  | 117 => ⟨S_, .i32⟩
  | 118 => ⟨S64x64, .i32⟩
  | 119 => ⟨S64x64, .i32⟩
  | 120 => ⟨S_, .i32⟩
  | 121 => ⟨S64x64, .i32⟩
  | 122 => ⟨S64x64, .i32⟩
  | 123 => ⟨S_, .i32⟩
  | 124 => ⟨S64x64, .i32⟩
  | 125 => ⟨S64x64, .i32⟩
  | 126 => ⟨S64x1, .i32⟩
  | 127 => ⟨S1x64, .i32⟩
  | _ => ⟨S36, .f32⟩

abbrev hbmTy0_1 (i : Nat) : BufTy := match i % 128 with
  | 0 => ⟨S64x64, .i32⟩
  | 1 => ⟨S64x64, .i32⟩
  | 2 => ⟨S64x64, .i32⟩
  | 3 => ⟨S_, .i32⟩
  | 4 => ⟨S64x64, .i32⟩
  | 5 => ⟨S64x64, .i32⟩
  | 6 => ⟨S_, .i32⟩
  | 7 => ⟨S64x64, .i32⟩
  | 8 => ⟨S64x64, .i32⟩
  | 9 => ⟨S64x64, .i32⟩
  | 10 => ⟨S_, .i32⟩
  | 11 => ⟨S64x64, .i32⟩
  | 12 => ⟨S64x64, .i1⟩
  | 13 => ⟨S_, .i32⟩
  | 14 => ⟨S64x64, .i32⟩
  | 15 => ⟨S64x64, .i32⟩
  | 16 => ⟨S64x64, .i32⟩
  | 17 => ⟨S64x64x1, .i32⟩
  | 18 => ⟨S64x64x36, .f32⟩
  | 19 => ⟨S36x64x64, .f32⟩
  | 20 => ⟨S_, .f32⟩
  | 21 => ⟨S36x64x64, .f32⟩
  | 22 => ⟨S36x64x64, .f32⟩
  | 23 => ⟨S_, .f32⟩
  | 24 => ⟨S36, .f32⟩
  | 25 => ⟨S36, .f32⟩
  | 26 => ⟨S36, .f32⟩
  | 27 => ⟨S_, .f32⟩
  | 28 => ⟨S36, .f32⟩
  | 29 => ⟨S36, .f32⟩
  | 30 => ⟨S36x1, .f32⟩
  | 31 => ⟨S36x128, .f32⟩
  | 32 => ⟨S36x225, .f32⟩
  | 33 => ⟨S225x1, .f32⟩
  | 34 => ⟨S36x64x128, .f32⟩
  | 35 => ⟨S_, .f32⟩
  | 36 => ⟨S4x128, .f32⟩
  | 37 => ⟨S40x128, .f32⟩
  | _ => ⟨S36, .f32⟩

abbrev hbmTy (i : Nat) : BufTy := match i / 128 with
  | 0 => hbmTy0_0 i
  | 1 => hbmTy0_1 i
  | _ => ⟨S36, .f32⟩

abbrev bufTy : (tb : Table) → Fin (tcTables nBuf tb) → BufTy
  | .hbm, ⟨i, _⟩ => hbmTy i
  | .local _ .vmem, ⟨0, _⟩ => ⟨S225x512, .f32⟩
  | .local _ .vmem, ⟨1, _⟩ => ⟨S512x36, .fp8e4m3⟩
  | .local _ .vmem, ⟨2, _⟩ => ⟨S225x512, .fp8e4m3⟩
  | .local _ .vmem, ⟨3, _⟩ => ⟨S225x512, .f32⟩
  | .local _ .vmem, ⟨4, _⟩ => ⟨S512x36, .f32⟩
  | _, _ => ⟨S36, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_cst_12 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_call1_v0 : Ref sig .tc := ⟨.hbm, 70, rfl⟩
abbrev main_call1_v1 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_14 : Ref sig .tc := ⟨.hbm, 76, rfl⟩
abbrev main_cst_15 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_v51 : Ref sig .tc := ⟨.hbm, 83, rfl⟩
abbrev main_v52_0 : Ref sig .tc := ⟨.hbm, 84, rfl⟩
abbrev main_v52_1 : Ref sig .tc := ⟨.hbm, 85, rfl⟩
abbrev main_v52_2 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_16 : Ref sig .tc := ⟨.hbm, 96, rfl⟩
abbrev main_v62 : Ref sig .tc := ⟨.hbm, 97, rfl⟩
abbrev main_v63 : Ref sig .tc := ⟨.hbm, 98, rfl⟩
abbrev main_cst_17 : Ref sig .tc := ⟨.hbm, 99, rfl⟩
abbrev main_v64 : Ref sig .tc := ⟨.hbm, 100, rfl⟩
abbrev main_v65 : Ref sig .tc := ⟨.hbm, 101, rfl⟩
abbrev main_cst_18 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c : Ref sig .tc := ⟨.hbm, 106, rfl⟩
abbrev main_v69 : Ref sig .tc := ⟨.hbm, 107, rfl⟩
abbrev main_v70 : Ref sig .tc := ⟨.hbm, 108, rfl⟩
abbrev main_c_19 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_20 : Ref sig .tc := ⟨.hbm, 117, rfl⟩
abbrev main_v78 : Ref sig .tc := ⟨.hbm, 118, rfl⟩
abbrev main_v79 : Ref sig .tc := ⟨.hbm, 119, rfl⟩
abbrev main_c_21 : Ref sig .tc := ⟨.hbm, 120, rfl⟩
abbrev main_v80 : Ref sig .tc := ⟨.hbm, 121, rfl⟩
abbrev main_v81 : Ref sig .tc := ⟨.hbm, 122, rfl⟩
abbrev main_c_22 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_c_23 : Ref sig .tc := ⟨.hbm, 131, rfl⟩
abbrev main_v89 : Ref sig .tc := ⟨.hbm, 132, rfl⟩
abbrev main_v90 : Ref sig .tc := ⟨.hbm, 133, rfl⟩
abbrev main_c_24 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_c_25 : Ref sig .tc := ⟨.hbm, 138, rfl⟩
abbrev main_v94 : Ref sig .tc := ⟨.hbm, 139, rfl⟩
abbrev main_v95 : Ref sig .tc := ⟨.hbm, 140, rfl⟩
abbrev main_c_26 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_27 : Ref sig .tc := ⟨.hbm, 148, rfl⟩
abbrev main_v102 : Ref sig .tc := ⟨.hbm, 149, rfl⟩
abbrev main_v103 : Ref sig .tc := ⟨.hbm, 150, rfl⟩
abbrev main_cst_28 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_29 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_30 : Ref sig .tc := ⟨.hbm, 163, rfl⟩
abbrev main_v114 : Ref sig .tc := ⟨.hbm, 164, rfl⟩
abbrev main_v115 : Ref sig .tc := ⟨.hbm, 165, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S225x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x36 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S225x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S225x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x36 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.BitsFrame.lean ====
/-
  The frame of `Kernel`: the body run once by the executor, every output and every scratch buffer at some contents before
  and after; the two inner loops by their generated invariants, the loop over the two columns by the invariant
  `loopInv_k0_t1` stated here.
-/
module

public import proofs.«01_k».proof.Proof.Gen.Kernel.Frame
public import proofs.«01_k».proof.Proof.Gen.Kernel.Loops
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- What the loop over the columns holds before a trip: the five inputs at their contents, the outputs and the scratch
    buffers at some contents. -/
abbrev inv_k0_t1 (c : Dev nD) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : ℕ) (_u : PUnit) : sProp 𝕄 :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))

set_option warn.classDefReducibility false in
/-- One column's trip keeps that invariant. -/
@[sl_loop] def loopInv_k0_t1 (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (arg1 : BitVec 32) (v0 : IVec S8x128 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg1 v0 where
  inv := inv_k0_t1 c arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg4 X_arg5 X_arg6
  step k acc := by
    have hk : k.val < 2 := Nat.lt_of_lt_of_le k.isLt k0_t1_abs.2.1
    unfold k0_t1_body
    iintro ⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩
    sl_exec
    sl_step
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

/-- The body's triple, for any continuation: every window and every scratch buffer owned, the inputs handed back as
    they were, the rest at some contents. -/
theorem kernelRun (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole)
    (x2 : S1x36x32x256.Idx → Elt F .bf16) (x3 : S1x36x32x256.Idx → Elt F .bf16) (x4 : S1x36x32x256.Idx → Elt F .bf16) (x5 : S36x64x128.Idx → Elt F .f32) (x6 : S40x128.Idx → Elt F .f32)
    (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) Set.univ
          (cc0_window_attention i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_window_attention_eq_skeleton]; unfold cc0_window_attention_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  sl_exec
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

/-! ## The proof data and the body obligation -/

/-- The five outputs are not described here. -/
def forgets0 : Fin 10 → Bool := fun w => decide (5 ≤ w.val)

/-- The proof data on core `c`: each array as the region finds it; each input left in place. -/
def dats (_ : Fin 1) (c : Dev nD) : Dat τ (Elt F) Unit ℕ (UR sig nD τ) ℕ cfg0 c where
  A w := V m c (Pipeline.arrRef spec0 w)
  after
    | 0, t => iblk m c 0 t
    | 1, t => iblk m c 1 t
    | 2, t => iblk m c 2 t
    | 3, t => iblk m c 3 t
    | 4, t => iblk m c 4 t
    | w, t => Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

theorem before0_0 (c : Dev nD) (t : Fin cfg0.N) (d) : (dats m 0 c).before 0 t d = iblk m c 0 t :=
  before0_0_of m (dats m 0 c) (A_eq m c 0) (fun _ => rfl) t d
theorem before0_1 (c : Dev nD) (t : Fin cfg0.N) (d) : (dats m 0 c).before 1 t d = iblk m c 1 t :=
  before0_1_of m (dats m 0 c) (A_eq m c 1) (fun _ => rfl) t d
theorem before0_2 (c : Dev nD) (t : Fin cfg0.N) (d) : (dats m 0 c).before 2 t d = iblk m c 2 t :=
  before0_2_of m (dats m 0 c) (A_eq m c 2) (fun _ => rfl) t d
theorem before0_3 (c : Dev nD) (t : Fin cfg0.N) (d) : (dats m 0 c).before 3 t d = iblk m c 3 t :=
  before0_3_of m (dats m 0 c) (A_eq m c 3) (fun _ => rfl) t d
theorem before0_4 (c : Dev nD) (t : Fin cfg0.N) (d) : (dats m 0 c).before 4 t d = iblk m c 4 t :=
  before0_4_of m (dats m 0 c) (A_eq m c 4) (fun _ => rfl) t d

/-- The scoped rest, as the four scratch buffers owned at some contents. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d))
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d))

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before0_0, before0_1, before0_2, before0_3, before0_4]
  iintro ⟨⟨⟨HS0, HS1, HS2, HS3⟩, Hg⟩, HO, ⟨%_, H0⟩, ⟨%_, H1⟩, ⟨%_, H2⟩, ⟨%_, H3⟩, ⟨%_, H4⟩, H5, H6, H7, H8, H9⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iintro ⟨H0, H1, H2, H3, H4, H5, H6, H7, H8, H9, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs not described. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- Every weakly fair execution of @main terminates, with every unscoped buffer that is no window's array at its launch
    contents and every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The frame claim's post: the arguments unchanged, every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (h.1.arr_in c 3 rfl).trans ((A_eq m c 3).trans (V_main_arg3 m c)),
      (h.1.arr_in c 4 rfl).trans ((A_eq m c 4).trans (V_main_arg4 m c))⟩, h.2⟩) (run_main m ρ)

end Cert.Kernel.Hand

end
-- ==== Proof.IdealFrame.lean ====
/-
  The frame of `KernelIdeal`: the body run once by the executor, every output and every scratch buffer at some contents before
  and after; the two inner loops by their generated invariants, the loop over the two columns by the invariant
  `loopInv_k0_t1` stated here.
-/
module

public import proofs.«01_k».proof.Proof.Gen.KernelIdeal.Frame
public import proofs.«01_k».proof.Proof.Gen.KernelIdeal.Loops
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- What the loop over the columns holds before a trip: the five inputs at their contents, the outputs and the scratch
    buffers at some contents. -/
abbrev inv_k0_t1 (c : Dev nD) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : ℕ) (_u : PUnit) : sProp 𝕄 :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))

set_option warn.classDefReducibility false in
/-- One column's trip keeps that invariant. -/
@[sl_loop] def loopInv_k0_t1 (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (arg1 : BitVec 32) (v0 : IVec S8x128 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg1 v0 where
  inv := inv_k0_t1 c arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg4 X_arg5 X_arg6
  step k acc := by
    have hk : k.val < 2 := Nat.lt_of_lt_of_le k.isLt k0_t1_abs.2.1
    unfold k0_t1_body
    iintro ⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩
    sl_exec
    sl_step
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

/-- The body's triple, for any continuation: every window and every scratch buffer owned, the inputs handed back as
    they were, the rest at some contents. -/
theorem kernelRun (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole)
    (x2 : S1x36x32x256.Idx → Elt F .bf16) (x3 : S1x36x32x256.Idx → Elt F .bf16) (x4 : S1x36x32x256.Idx → Elt F .bf16) (x5 : S36x64x128.Idx → Elt F .f32) (x6 : S40x128.Idx → Elt F .f32)
    (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) Set.univ
          (cc0_window_attention i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_window_attention_eq_skeleton]; unfold cc0_window_attention_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  sl_exec
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

/-! ## The proof data and the body obligation -/

/-- The five outputs are not described here. -/
def forgets0 : Fin 10 → Bool := fun w => decide (5 ≤ w.val)

/-- The proof data on core `c`: each array as the region finds it; each input left in place. -/
def dats (_ : Fin 1) (c : Dev nD) : Dat τ (Elt F) Unit ℕ (UR sig nD τ) ℕ cfg0 c where
  A w := V m c (Pipeline.arrRef spec0 w)
  after
    | 0, t => iblk m c 0 t
    | 1, t => iblk m c 1 t
    | 2, t => iblk m c 2 t
    | 3, t => iblk m c 3 t
    | 4, t => iblk m c 4 t
    | w, t => Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

theorem before0_0 (c : Dev nD) (t : Fin cfg0.N) (d) : (dats m 0 c).before 0 t d = iblk m c 0 t :=
  before0_0_of m (dats m 0 c) (A_eq m c 0) (fun _ => rfl) t d
theorem before0_1 (c : Dev nD) (t : Fin cfg0.N) (d) : (dats m 0 c).before 1 t d = iblk m c 1 t :=
  before0_1_of m (dats m 0 c) (A_eq m c 1) (fun _ => rfl) t d
theorem before0_2 (c : Dev nD) (t : Fin cfg0.N) (d) : (dats m 0 c).before 2 t d = iblk m c 2 t :=
  before0_2_of m (dats m 0 c) (A_eq m c 2) (fun _ => rfl) t d
theorem before0_3 (c : Dev nD) (t : Fin cfg0.N) (d) : (dats m 0 c).before 3 t d = iblk m c 3 t :=
  before0_3_of m (dats m 0 c) (A_eq m c 3) (fun _ => rfl) t d
theorem before0_4 (c : Dev nD) (t : Fin cfg0.N) (d) : (dats m 0 c).before 4 t d = iblk m c 4 t :=
  before0_4_of m (dats m 0 c) (A_eq m c 4) (fun _ => rfl) t d

/-- The scoped rest, as the four scratch buffers owned at some contents. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d))
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d))

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before0_0, before0_1, before0_2, before0_3, before0_4]
  iintro ⟨⟨⟨HS0, HS1, HS2, HS3⟩, Hg⟩, HO, ⟨%_, H0⟩, ⟨%_, H1⟩, ⟨%_, H2⟩, ⟨%_, H3⟩, ⟨%_, H4⟩, H5, H6, H7, H8, H9⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iintro ⟨H0, H1, H2, H3, H4, H5, H6, H7, H8, H9, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs not described. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- Every weakly fair execution of @main terminates, with every unscoped buffer that is no window's array at its launch
    contents and every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The frame claim's post: the arguments unchanged, every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (h.1.arr_in c 3 rfl).trans ((A_eq m c 3).trans (V_main_arg3 m c)),
      (h.1.arr_in c 4 rfl).trans ((A_eq m c 4).trans (V_main_arg4 m c))⟩, h.2⟩) (run_main m ρ)

end Cert.KernelIdeal.Hand

end
-- ==== Proof.Trip.lean ====
/-
  One column's trip of the window-attention body, run once: what each buffer holds after it, as a function of what it held before.
-/
module

public import proofs.«01_k».proof.Proof.Gen.KernelIdeal.Frame
public import proofs.«01_k».proof.Proof.Gen.KernelIdeal.Loops
public import Idealize.ShloMosaic.Lib.Pointwise
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄I" => MT nD τ sig Unit (Elt Ideal) ℕ (UR sig nD τ) ℕ

/-- What a column's trip owns: the inputs and every other buffer, at the named contents. -/
abbrev own1 (c : Dev nD) (arg2 : Memref sig .tc .vmem S1x36x32x256 .bf16) (arg3 : Memref sig .tc .vmem S1x36x32x256 .bf16) (arg4 : Memref sig .tc .vmem S1x36x32x256 .bf16) (arg5 : Memref sig .tc .vmem S36x64x128 .f32) (arg6 : Memref sig .tc .vmem S40x128 .f32) (arg7 : Memref sig .tc .vmem S1x256x1152 .bf16) (arg8 : Memref sig .tc .vmem S1x4x36x32x64 .fp8e4m3) (arg9 : Memref sig .tc .vmem S1x4x36x32x64 .fp8e4m3) (arg10 : Memref sig .tc .vmem S1x36x40 .f32) (arg11 : Memref sig .tc .vmem S1x36x40 .f32) (arg12 : Memref sig .tc .vmem S2x320x128 .f32) (arg13 : Memref sig .tc .vmem S2x320x128 .f32) (arg14 : Memref sig .tc .vmem S2x40x128 .f32) (arg15 : Memref sig .tc .vmem S40x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) : sProp 𝕄I :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15))

/-- One trip, run: the contents each written buffer is left with are the run's own finds. -/
@[irreducible] def trip1 (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (arg1 : BitVec 32) (v0 : IVec S8x128 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) :
    Σ' (g_arg7 : BufTy.Contents (Elt Ideal) arg7.view.ty), Σ' (g_arg8 : BufTy.Contents (Elt Ideal) arg8.view.ty), Σ' (g_arg9 : BufTy.Contents (Elt Ideal) arg9.view.ty), Σ' (g_arg10 : BufTy.Contents (Elt Ideal) arg10.view.ty), Σ' (g_arg11 : BufTy.Contents (Elt Ideal) arg11.view.ty), Σ' (g_arg12 : BufTy.Contents (Elt Ideal) arg12.view.ty), Σ' (g_arg13 : BufTy.Contents (Elt Ideal) arg13.view.ty), Σ' (g_arg14 : BufTy.Contents (Elt Ideal) arg14.view.ty), { g_arg15 : BufTy.Contents (Elt Ideal) arg15.view.ty // ∀ (u : Unit),
      own1 c arg2 arg3 arg4 arg5 arg6 arg7 arg8 arg9 arg10 arg11 arg12 arg13 arg14 arg15 X_arg2 X_arg3 X_arg4 X_arg5 X_arg6 f_arg7 f_arg8 f_arg9 f_arg10 f_arg11 f_arg12 f_arg13 f_arg14 f_arg15
      ⊢ wp frame (wpE (defs₀ (F := Ideal)) Variants.none (c : Thread nD τ) none) Set.univ (k0_t1_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg1 v0 k u)
          (fun _ => own1 c arg2 arg3 arg4 arg5 arg6 arg7 arg8 arg9 arg10 arg11 arg12 arg13 arg14 arg15 X_arg2 X_arg3 X_arg4 X_arg5 X_arg6 g_arg7 g_arg8 g_arg9 g_arg10 g_arg11 g_arg12 g_arg13 g_arg14 g_arg15) } := by
  have hk : k.val < 2 := Nat.lt_of_lt_of_le k.isLt k0_t1_abs.2.1
  refine ⟨?_, ?_, ?_, ?_, ?_, ?_, ?_, ?_, ?_, fun u => ?run⟩
  case run =>
    unfold k0_t1_body
    iintro ⟨H2, H3, H4, H5, H6, H7, H8, H9, H10, H11, H12, H13, H14, H15⟩
    sl_exec
    sl_step
    sl_close

end Cert.KernelIdeal.Hand
end
-- ==== Proof.Spec.lean ====
/-
  Cosine attention of one window and one head over the extended reals: the norm of a row, the scale of a window, the codes,
  the logits, the softmax in base 2, and the two forms of the scale (a count of powers of two, the least power of two above).
-/
module

public import Idealize.ShloMosaic.PureOps.Ideal
public import Idealize.ShloMosaic.PureOps.IdealRules
public import Idealize.ShloMosaic.Lib.IdealHost
public import Idealize.ShloMosaic.Lib.IndicatorCount

@[expose] public section

noncomputable section

namespace Cert.Spec

open Idealize.ShloMosaic

/-- The patterns of 1e-12, 1/448, 448 and -448. -/
def eps : EReal := Ideal.ofBits .f32 0x2B8CBCCC#32
def k448 : EReal := Ideal.ofBits .f32 0x3B124925#32
def c448 : EReal := Ideal.ofBits .f32 0x43E00000#32
def m448 : EReal := Ideal.ofBits .f32 0xC3E00000#32

abbrev Win := Fin 64 → Fin 32 → EReal

def eabs (x : EReal) : EReal := max x (-x)

/-- The norm of row `i`, held off zero. -/
def nrm (x : Win) (i : Fin 64) : EReal := max (Ideal.sqrt (∑ d, x i d * x i d)) eps

/-- The window's largest entry in absolute value, its rows of norm one. -/
def amax (x : Win) : EReal := Finset.univ.sup fun i => Finset.univ.sup fun d => eabs (x i d * (nrm x i)⁻¹)

/-- The powers of two from 2^-126 to 2^127. -/
def pw (n : Fin 254) : EReal := (((2 : ℝ) ^ ((n.val : ℤ) - 126) : ℝ) : EReal)

/-- The least power of two above `a / 448`; one where `a` is zero. -/
def scl (a : EReal) : EReal := if a = 0 then 1 else Finset.univ.inf fun n => if a * k448 < pw n then pw n else ⊤

def code (x : Win) (i : Fin 64) (d : Fin 32) : EReal :=
  min c448 (max m448 (x i d * (nrm x i)⁻¹ * (scl (amax x))⁻¹))

def logit (q k : Win) (t : Fin 64 → EReal) (b : Fin 64 → Fin 64 → EReal) (i j : Fin 64) : EReal :=
  (∑ d, code q i d * code k j d) * scl (amax q) * scl (amax k) * t i + b i j

def ex (q k : Win) (t : Fin 64 → EReal) (b : Fin 64 → Fin 64 → EReal) (i j : Fin 64) : EReal :=
  Ideal.exp2 (logit q k t b i j - Finset.univ.sup fun j' => logit q k t b i j')

/-- The attention's result at query `i`, feature `d`. -/
def att (q k v : Win) (t : Fin 64 → EReal) (b : Fin 64 → Fin 64 → EReal) (i : Fin 64) (d : Fin 32) : EReal :=
  ∑ j, v j d * Ideal.div (ex q k t b i j) (∑ j', ex q k t b i j')

/-! ## Constants -/

/-- A pattern with sign bit clear and exponent field neither zero nor all ones, as a real. -/
theorem ofBits_normal (b : BitVec 32) (x f : ℕ) (hs : b.toNat = x * 8388608 + f) (hx0 : 0 < x) (hx : x < 255) (hf : f < 8388608) :
    Ideal.ofBits .f32 b = (((8388608 + f : ℕ) * (2 : ℝ) ^ ((x : ℤ) - 150) : ℝ) : EReal) := by
  have h1 : (BitVec.extractLsb' (8 + 23) 1 b == 1#1) = false := by
    rw [beq_eq_false_iff_ne]; intro h
    have h := congrArg BitVec.toNat h
    rw [BitVec.extractLsb'_toNat, Nat.shiftRight_eq_div_pow, hs] at h
    norm_num at h
    omega
  have h2 : (BitVec.extractLsb' 23 8 b).toNat = x := by
    rw [BitVec.extractLsb'_toNat, Nat.shiftRight_eq_div_pow, hs]
    norm_num
    omega
  have h3 : (BitVec.extractLsb' 0 23 b).toNat = f := by
    rw [BitVec.extractLsb'_toNat, Nat.shiftRight_eq_div_pow, hs]
    norm_num
    omega
  unfold Ideal.ofBits Ideal.ieee
  simp only [h1, h2, h3]
  rw [if_neg (by norm_num; omega), if_neg (by omega)]
  congr 1
  have : (x : ℤ) - (2 ^ (8 - 1) - 1) - (23 : ℕ) = (x : ℤ) - 150 := by norm_num; ring
  rw [this]
  norm_num

theorem eps_pos : ∃ r : ℝ, 0 < r ∧ eps = (r : EReal) :=
  ⟨_, by positivity, ofBits_normal 0x2B8CBCCC#32 87 834764 (by decide) (by decide) (by decide) (by decide)⟩

theorem k448_pos : ∃ r : ℝ, 0 < r ∧ r < 1 ∧ k448 = (r : EReal) :=
  ⟨_, by positivity, by norm_num, ofBits_normal 0x3B124925#32 118 1198373 (by decide) (by decide) (by decide) (by decide)⟩

theorem c448_eq : c448 = ((448 : ℝ) : EReal) :=
  (ofBits_normal 0x43E00000#32 135 6291456 (by decide) (by decide) (by decide) (by decide)).trans (by congr 1; norm_num)

theorem m448_eq : m448 = ((-448 : ℝ) : EReal) := by
  unfold m448 Ideal.ofBits Ideal.ieee
  have h1 : (BitVec.extractLsb' (8 + 23) 1 (0xC3E00000#32) == 1#1) = true := by decide
  have h2 : (BitVec.extractLsb' 23 8 (0xC3E00000#32)).toNat = 135 := by decide
  have h3 : (BitVec.extractLsb' 0 23 (0xC3E00000#32)).toNat = 6291456 := by decide
  simp only [h1, h2, h3]
  rw [if_neg (by norm_num), if_neg (by omega)]
  congr 1
  norm_num

/-- The pattern with exponent field `n + 1` and nothing else is 2^(n - 126). -/
theorem ofBits_pow (n : Fin 254) (b : BitVec 32) (hb : b.toNat = (n.val + 1) * 8388608) : Ideal.ofBits .f32 b = pw n := by
  have hb' : b.toNat = (n.val + 1) * 8388608 + 0 := by simp only [hb, Nat.add_zero]
  rw [ofBits_normal b (n.val + 1) 0 hb' (by omega) (by omega) (by norm_num), pw]
  congr 1
  have : ((n.val + 1 : ℕ) : ℤ) - 150 = ((n.val : ℤ) - 126) + (-23) := by push_cast; ring
  rw [this, zpow_add₀ (by norm_num), mul_left_comm]
  norm_num

theorem pw_pos (n : Fin 254) : 0 < pw n := by
  simp only [pw]; exact_mod_cast (by positivity : (0 : ℝ) < 2 ^ ((n.val : ℤ) - 126))

theorem pw_le_iff (m n : Fin 254) : pw m ≤ pw n ↔ m ≤ n := by
  simp only [pw, EReal.coe_le_coe_iff]
  rw [zpow_le_zpow_iff_right₀ (by norm_num)]
  omega

theorem pw_inv (n : Fin 254) (h : n.val ≤ 252) : (pw n)⁻¹ = pw ⟨252 - n.val, by omega⟩ := by
  simp only [pw]
  rw [← EReal.coe_inv, ← zpow_neg]
  congr 2
  push_cast [Nat.cast_sub h]; ring

/-! ## The scale, counted -/

/-- Where `y` is below one, the number of powers `≤ y`, the least power above `y` and its position. -/
theorem count_eq (y : EReal) (hy : y < 1) :
    ∃ c : Fin 254, c.val ≤ 126 ∧ (Finset.univ.filter fun k => pw k ≤ y).card = c.val
      ∧ (Finset.univ.inf fun n => if y < pw n then pw n else ⊤) = pw c := by
  have h126 : y < pw ⟨126, by omega⟩ := by simpa [pw] using hy
  have hex : ∃ n : ℕ, ∃ h : n < 254, y < pw ⟨n, h⟩ := ⟨126, by omega, h126⟩
  classical
  let c := Nat.find hex
  obtain ⟨hc, hyc⟩ := Nat.find_spec hex
  have hle : c ≤ 126 := Nat.find_min' hex ⟨by omega, h126⟩
  have hlt : ∀ k : Fin 254, pw k ≤ y ↔ k.val < c := by
    intro k
    constructor
    · intro h
      by_contra hk
      exact absurd (lt_of_lt_of_le hyc ((pw_le_iff ⟨c, hc⟩ k).mpr (by show c ≤ k.val; omega))) (not_lt.mpr h)
    · intro h
      have := Nat.find_min hex h
      by_contra hk
      exact this ⟨k.isLt, not_le.mp hk⟩
  refine ⟨⟨c, hc⟩, hle, ?_, le_antisymm ?_ ?_⟩
  · rw [Finset.filter_congr (fun k _ => hlt k)]
    have : (Finset.univ.filter fun k : Fin 254 => k.val < c) = Finset.Iio (⟨c, hc⟩ : Fin 254) := by
      ext k; simp [Fin.lt_def]
    rw [this, Fin.card_Iio]
  · refine (Finset.inf_le (Finset.mem_univ (⟨c, hc⟩ : Fin 254))).trans ?_
    rw [if_pos hyc]
  · refine Finset.le_inf fun n _ => ?_
    split_ifs with h
    · rw [pw_le_iff]
      have : ¬ n.val < c := fun hn => absurd ((hlt n).mpr hn) (not_le.mpr h)
      show c ≤ n.val; omega
    · exact le_top

/-- A maximum folded from -∞ is a supremum. -/
theorem fold_max_eq {ι : Type} (f : ι → EReal) (S : Finset ι) : S.fold max (Ideal.ofBits FTy.f32 4286578688#32) f = S.sup f := by
  have : Ideal.ofBits FTy.f32 4286578688#32 = ⊥ := by
    unfold Ideal.ofBits
    have h1 : (BitVec.extractLsb' (8 + 23) 1 (4286578688#32) == 1#1) = true := by decide
    have h2 : (BitVec.extractLsb' 23 8 (4286578688#32)).toNat = 255 := by decide
    have h3 : (BitVec.extractLsb' 0 23 (4286578688#32)).toNat = 0 := by decide
    simp [Ideal.ieee, h1, h2, h3]
  rw [this]; rfl

theorem shli_toNat (x : BitVec 32) (n : ℕ) (h : x.toNat = n) (hn : n < 512) :
    (IntOp.shli ArithUnit.vector x 23#32).toNat = n * 8388608 := by
  have : IntOp.shli ArithUnit.vector x 23#32 = x <<< (23 : ℕ) := rfl
  rw [this, BitVec.toNat_shiftLeft, h, Nat.shiftLeft_eq]
  norm_num
  omega

/-- The count of powers below, as the executor's fold of comparison bits. -/
theorem fold_eq (y : EReal) :
    (Finset.univ.fold IntOp.addi (0#32) fun x : Fin 254 =>
        BitVec.setWidth 32 (BitVec.ofBool (decide (Ideal.ofBits FTy.f32 (IntOp.shli ArithUnit.vector (IntOp.addi (BitVec.ofNat 32 x.val) 1#32) 23#32) ≤ y))))
      = BitVec.ofNat 32 (Finset.univ.filter fun k => pw k ≤ y).card := by
  rw [IndicatorCount.fold_addi_setWidth_eq_card]
  congr 2
  refine Finset.filter_congr fun k _ => ?_
  rw [ofBits_pow k]
  · by_cases h : pw k ≤ y <;> simp [h]
  · rw [shli_toNat _ (k.val + 1) _ (by omega)]
    show (BitVec.ofNat 32 k.val + 1#32).toNat = _
    rw [BitVec.toNat_add, BitVec.toNat_ofNat, BitVec.toNat_ofNat]; omega

/-- The exponent as the kernel counts it. -/
def expo (y : EReal) : BitVec 32 :=
  if y = 0 then 0#32
  else IntOp.subi (Finset.univ.fold IntOp.addi (0#32) fun x : Fin 254 =>
        BitVec.setWidth 32 (BitVec.ofBool (decide (Ideal.ofBits FTy.f32 (IntOp.shli ArithUnit.vector (IntOp.addi (BitVec.ofNat 32 x.val) 1#32) 23#32) ≤ y)))) 126#32

/-- For a window's largest entry the counted exponent gives the scale, its reciprocal, and a scale that is a positive real. -/
theorem scl_bits (a : EReal) (h0 : 0 ≤ a) (h1 : a ≤ 1) :
    Ideal.ofBits FTy.f32 (IntOp.shli ArithUnit.vector (IntOp.addi (expo (a * k448)) 127#32) 23#32) = scl a
    ∧ Ideal.ofBits FTy.f32 (IntOp.shli ArithUnit.vector (IntOp.subi 127#32 (expo (a * k448))) 23#32) = (scl a)⁻¹
    ∧ ∃ r : ℝ, 0 < r ∧ scl a = (r : EReal) := by
  obtain ⟨k, hk0, hk1, hk⟩ := k448_pos
  by_cases ha : a = 0
  · subst ha
    have e0 : expo (0 * k448) = 0#32 := by simp [expo]
    have h126 : pw ⟨126, by omega⟩ = 1 := by simp [pw]
    rw [e0]
    refine ⟨?_, ?_, 1, one_pos, by simp [scl]⟩
    · rw [ofBits_pow ⟨126, by omega⟩ _ (shli_toNat _ _ (by decide) (by decide)), h126]; simp [scl]
    · rw [ofBits_pow ⟨126, by omega⟩ _ (shli_toNat _ _ (by decide) (by decide)), h126]; simp [scl]
  · have hy0 : a * k448 ≠ 0 := by
      rw [hk]; exact mul_ne_zero ha (by exact_mod_cast hk0.ne')
    have hy : a * k448 < 1 := by
      refine lt_of_le_of_lt (mul_le_mul_of_nonneg_right h1 (by rw [hk]; exact_mod_cast hk0.le)) ?_
      rw [one_mul, hk]; exact_mod_cast hk1
    obtain ⟨c, hc, hcard, hinf⟩ := count_eq _ hy
    have he : expo (a * k448) = BitVec.ofNat 32 c.val - 126#32 := by
      rw [expo, if_neg hy0, fold_eq, hcard]; rfl
    have hs : scl a = pw c := by rw [scl, if_neg ha, hinf]
    rw [he, hs]
    refine ⟨?_, ?_, _, by positivity, rfl⟩
    · refine ofBits_pow c _ ?_
      refine shli_toNat _ (c.val + 1) ?_ (by omega)
      show (BitVec.ofNat 32 c.val - 126#32 + 127#32).toNat = _
      rw [BitVec.toNat_add, BitVec.toNat_sub, BitVec.toNat_ofNat, BitVec.toNat_ofNat, BitVec.toNat_ofNat]; omega
    · rw [pw_inv c (by omega)]
      refine ofBits_pow _ _ ?_
      refine shli_toNat _ (252 - c.val + 1) ?_ (by omega)
      show (127#32 - (BitVec.ofNat 32 c.val - 126#32)).toNat = _
      rw [BitVec.toNat_sub, BitVec.toNat_sub, BitVec.toNat_ofNat, BitVec.toNat_ofNat, BitVec.toNat_ofNat]; omega

/-! ## The norm and the largest entry -/

theorem nrm_pos (x : Win) (i : Fin 64) : 0 < nrm x i := by
  obtain ⟨r, hr, he⟩ := eps_pos
  exact lt_of_lt_of_le (by rw [he]; exact_mod_cast hr) (le_max_right _ _)

theorem div_nrm (x : Win) (i : Fin 64) (z : EReal) : Ideal.div z (nrm x i) = z * (nrm x i)⁻¹ := by
  rw [Ideal.div, if_neg (nrm_pos x i).ne']

theorem inv_nrm_nonneg (x : Win) (i : Fin 64) : 0 ≤ (nrm x i)⁻¹ := EReal.inv_nonneg_of_nonneg (nrm_pos x i).le

theorem eabs_nonneg (x : EReal) : 0 ≤ eabs x := by
  unfold eabs
  rcases le_total 0 x with h | h
  · exact h.trans (le_max_left _ _)
  · exact (EReal.neg_nonneg.mpr h).trans (le_max_right _ _)

theorem eabs_mul (x c : EReal) (hc : 0 ≤ c) : eabs (x * c) = eabs x * c := by
  unfold eabs
  rw [← EReal.neg_mul]
  rcases le_total x (-x) with h | h
  · rw [max_eq_right h, max_eq_right (mul_le_mul_of_nonneg_right h hc)]
  · rw [max_eq_left h, max_eq_left (mul_le_mul_of_nonneg_right h hc)]

theorem sq_nonneg' (x : EReal) : 0 ≤ x * x := by
  rcases le_total 0 x with h | h
  · exact mul_nonneg h h
  · have := mul_nonneg (EReal.neg_nonneg.mpr h) (EReal.neg_nonneg.mpr h)
    rwa [neg_mul_neg] at this

theorem eabs_le (x : Win) (i : Fin 64) (d : Fin 32) : eabs (x i d) * (nrm x i)⁻¹ ≤ 1 := by
  have hle : x i d * x i d ≤ ∑ d, x i d * x i d :=
    Finset.single_le_sum (f := fun d => x i d * x i d) (fun d _ => sq_nonneg' _) (Finset.mem_univ d)
  obtain ⟨r, hr, he⟩ := eps_pos
  unfold nrm
  generalize (∑ d, x i d * x i d) = S at hle ⊢
  generalize x i d = y at hle ⊢
  by_cases hS : S = ⊤
  · subst hS
    rw [Ideal.sqrt_top, max_eq_left le_top, EReal.inv_top, mul_zero]; exact zero_le_one
  have hS0 : 0 ≤ S := (sq_nonneg' y).trans hle
  lift S to ℝ using ⟨hS, (lt_of_lt_of_le EReal.bot_lt_zero hS0).ne'⟩
  have hyt : y ≠ ⊤ := by rintro rfl; exact hS (top_le_iff.mp (by simpa using hle))
  have hyb : y ≠ ⊥ := by rintro rfl; exact hS (top_le_iff.mp (by simpa using hle))
  lift y to ℝ using ⟨hyt, hyb⟩
  have hS0' : 0 ≤ S := by exact_mod_cast hS0
  have hle' : y * y ≤ S := by exact_mod_cast hle
  have hm : max (Ideal.sqrt (S : EReal)) eps = ((max (Real.sqrt S) r : ℝ) : EReal) := by
    rw [he, Ideal.sqrt_coe, if_neg (not_lt.mpr hS0'), EReal.coe_strictMono.monotone.map_max]
  have ha : eabs (y : EReal) = ((|y| : ℝ) : EReal) := by
    rw [eabs, abs_eq_max_neg, EReal.coe_strictMono.monotone.map_max, EReal.coe_neg]
  have hp : 0 < max (Real.sqrt S) r := lt_of_lt_of_le hr (le_max_right _ _)
  rw [hm, ha, ← EReal.coe_inv, ← EReal.coe_mul]
  have : |y| ≤ max (Real.sqrt S) r := (Real.abs_le_sqrt (by nlinarith)).trans (le_max_left _ _)
  exact_mod_cast (mul_inv_le_one_of_le₀ this hp.le)

theorem amax_le (x : Win) : amax x ≤ 1 :=
  Finset.sup_le fun i _ => Finset.sup_le fun d _ => by
    rw [eabs_mul _ _ (inv_nrm_nonneg x i)]; exact eabs_le x i d

theorem amax_nonneg (x : Win) : 0 ≤ amax x :=
  (eabs_nonneg _).trans ((Finset.le_sup (f := fun d => eabs (x 0 d * (nrm x 0)⁻¹)) (Finset.mem_univ 0)).trans
    (Finset.le_sup (f := fun i => Finset.univ.sup fun d => eabs (x i d * (nrm x i)⁻¹)) (Finset.mem_univ 0)))

/-- The kernel scales the row's largest entry where the reference takes the largest scaled one. -/
theorem amax_eq (x : Win) : amax x = Finset.univ.sup fun i => (Finset.univ.sup fun d => eabs (x i d)) * (nrm x i)⁻¹ := by
  unfold amax
  refine Finset.sup_congr rfl fun i _ => ?_
  refine eq_of_forall_ge_iff fun c => ?_
  obtain ⟨d, _, hd⟩ := Finset.exists_mem_eq_sup Finset.univ Finset.univ_nonempty fun d => eabs (x i d)
  rw [Finset.sup_le_iff]
  constructor
  · intro h
    rw [hd, ← eabs_mul _ _ (inv_nrm_nonneg x i)]; exact h d (Finset.mem_univ d)
  · intro h d' _
    rw [eabs_mul _ _ (inv_nrm_nonneg x i)]
    exact (mul_le_mul_of_nonneg_right (Finset.le_sup (f := fun d => eabs (x i d)) (Finset.mem_univ d')) (inv_nrm_nonneg x i)).trans h

/-! ## The softmax -/

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem sum_mul_coe {ι : Type} (S : Finset ι) (f : ι → EReal) (c : ℝ) (hc : 0 ≤ c) : (∑ i ∈ S, f i) * (c : EReal) = ∑ i ∈ S, f i * (c : EReal) := by
  classical
  induction S using Finset.induction_on with
  | empty => simp
  | insert a S ha ih =>
    rw [Finset.sum_insert ha, Finset.sum_insert ha, EReal.right_distrib_of_nonneg_of_ne_top (by exact_mod_cast hc) (EReal.coe_ne_top c), ih]

/-- Dividing the weighted sum is weighting by the quotients, when the logits are real. -/
theorem att_out (v S : Fin 64 → EReal) (hS : ∀ i, ∃ r : ℝ, S i = (r : EReal)) :
    (∑ i, v i * Ideal.exp2 (S i - Finset.univ.sup S)) * Ideal.div 1 (∑ i, Ideal.exp2 (S i - Finset.univ.sup S))
      = ∑ i, v i * Ideal.div (Ideal.exp2 (S i - Finset.univ.sup S)) (∑ i, Ideal.exp2 (S i - Finset.univ.sup S)) := by
  obtain ⟨i₀, _, hi₀⟩ := Finset.exists_mem_eq_sup Finset.univ Finset.univ_nonempty S
  choose r hr using hS
  have he : ∀ i, Ideal.exp2 (S i - Finset.univ.sup S) = (((2 : ℝ) ^ (r i - r i₀) : ℝ) : EReal) := by
    intro i
    rw [hi₀, hr, hr, ← EReal.coe_sub]
    rfl
  simp only [he]
  have hl : (∑ i, (((2 : ℝ) ^ (r i - r i₀) : ℝ) : EReal)) = ((∑ i, (2 : ℝ) ^ (r i - r i₀) : ℝ) : EReal) := by
    rw [coe_sum]
  have hp : 0 < ∑ i, (2 : ℝ) ^ (r i - r i₀) := Finset.sum_pos (fun i _ => by positivity) Finset.univ_nonempty
  rw [hl]
  have hne : ((∑ i, (2 : ℝ) ^ (r i - r i₀) : ℝ) : EReal) ≠ 0 := by exact_mod_cast hp.ne'
  have hd : ∀ z, Ideal.div z ((∑ i, (2 : ℝ) ^ (r i - r i₀) : ℝ) : EReal) = z * (((∑ i, (2 : ℝ) ^ (r i - r i₀))⁻¹ : ℝ) : EReal) := by
    intro z; rw [Ideal.div, if_neg hne, EReal.coe_inv]
  simp only [hd, one_mul]
  rw [sum_mul_coe _ _ _ (inv_nonneg.mpr hp.le)]
  exact Finset.sum_congr rfl fun i _ => mul_assoc _ _ _

theorem code_real (x : Win) (i : Fin 64) (d : Fin 32) : ∃ r : ℝ, code x i d = (r : EReal) := by
  have h1 : code x i d ≤ (448 : ℝ) := by rw [← c448_eq]; exact min_le_left _ _
  have h2 : ((-448 : ℝ) : EReal) ≤ code x i d := by
    rw [← m448_eq]
    exact le_min (by rw [m448_eq, c448_eq]; exact_mod_cast (by norm_num : (-448 : ℝ) ≤ 448)) (le_max_left _ _)
  exact ⟨(code x i d).toReal, (EReal.coe_toReal (ne_top_of_le_ne_top (EReal.coe_ne_top _) h1) (fun h => by rw [h] at h2; exact absurd h2 (by simp))).symm⟩

theorem scl_real (x : Win) : ∃ r : ℝ, scl (amax x) = (r : EReal) := by
  obtain ⟨_, _, r, _, h⟩ := scl_bits _ (amax_nonneg x) (amax_le x)
  exact ⟨r, h⟩

theorem logit_real (q k : Win) (t : Fin 64 → EReal) (b : Fin 64 → Fin 64 → EReal) (ht : ∀ i, ∃ r : ℝ, t i = (r : EReal))
    (hb : ∀ i j, ∃ r : ℝ, b i j = (r : EReal)) (i j : Fin 64) : ∃ r : ℝ, logit q k t b i j = (r : EReal) := by
  unfold logit
  obtain ⟨rq, hq⟩ := scl_real q
  obtain ⟨rk, hk⟩ := scl_real k
  obtain ⟨rt, ht⟩ := ht i
  obtain ⟨rb, hb⟩ := hb i j
  choose cq hcq using code_real q
  choose ck hck using code_real k
  rw [hq, hk, ht, hb]
  refine ⟨(∑ d, cq i d * ck j d) * rq * rk * rt + rb, ?_⟩
  simp only [hcq, hck, ← EReal.coe_mul, ← coe_sum, ← EReal.coe_add]

end Cert.Spec

end
-- ==== Proof.KVec.lean ====
/-
  The vector functions the window-attention body is made of, at the ideal instance, and each read at an index.
-/
module

public import proofs.«01_k».proof.Proof.Gen.KernelIdeal.Skeleton
public import proofs.«01_k».proof.Proof.Spec
public import Idealize.ShloMosaic.Lib.Pointwise

@[expose] public section

noncomputable section

namespace Cert.KernelIdeal.Hand

open Cert.KernelIdeal Cert.KernelIdeal.Gen
open Idealize.ShloMosaic

variable [Facts]
open Facts

abbrev B8 := Vec Ideal S1x8x128 .f32
abbrev V8 := FVec Ideal S8x128 .f32

def n2c (a0 a1 a2 a3 a4 a5 a6 a7 : B8) : V8 :=
  addf (addf (addf (addf (addf (addf (addf (shapeCast S8x128 a0 shapeCasts_S1x8x128_S8x128) (shapeCast S8x128 a1 shapeCasts_S1x8x128_S8x128))
    (shapeCast S8x128 a2 shapeCasts_S1x8x128_S8x128)) (shapeCast S8x128 a3 shapeCasts_S1x8x128_S8x128)) (shapeCast S8x128 a4 shapeCasts_S1x8x128_S8x128))
    (shapeCast S8x128 a5 shapeCasts_S1x8x128_S8x128)) (shapeCast S8x128 a6 shapeCasts_S1x8x128_S8x128)) (shapeCast S8x128 a7 shapeCasts_S1x8x128_S8x128)

def mxc (a0 a1 a2 a3 a4 a5 a6 a7 : B8) : V8 :=
  maximumf (maximumf (maximumf (maximumf (maximumf (maximumf (maximumf (shapeCast S8x128 a0 shapeCasts_S1x8x128_S8x128) (shapeCast S8x128 a1 shapeCasts_S1x8x128_S8x128))
    (shapeCast S8x128 a2 shapeCasts_S1x8x128_S8x128)) (shapeCast S8x128 a3 shapeCasts_S1x8x128_S8x128)) (shapeCast S8x128 a4 shapeCasts_S1x8x128_S8x128))
    (shapeCast S8x128 a5 shapeCasts_S1x8x128_S8x128)) (shapeCast S8x128 a6 shapeCasts_S1x8x128_S8x128)) (shapeCast S8x128 a7 shapeCasts_S1x8x128_S8x128)

def rnc (n : V8) : V8 :=
  divf (broadcast S8x128 (Scalar.ofBits .f32 0x3F800000#32 : Ideal .f32)) (maximumf (sqrt n) (broadcast S8x128 (Scalar.ofBits .f32 0x2B8CBCCC#32 : Ideal .f32)))

def zer : V8 := broadcast S8x128 (Scalar.ofBits .f32 0x00000000#32 : Ideal .f32)

def wmax (x : V8) : V8 :=
  select k0_pay1
    (broadcastTo S8x128 (shapeCast S8x1 (shapeCast S8x1 (multiReduction .maximumf [1] S8 (select k0_pay1 x zer) 0xFF800000#32 reduces_S8x128_S8 (.inl rfl) rfl) shapeCasts_S8_S8x1) shapeCasts_S8x1_S8x1) broadcasts_S8x1_S8x128)
    (broadcastTo S8x128 (shapeCast S8x1 (shapeCast S8x1 (multiReduction .maximumf [1] S8 (select k0_pay1 zer x) 0xFF800000#32 reduces_S8x128_S8 (.inl rfl) rfl) shapeCasts_S8_S8x1) shapeCasts_S8x1_S8x1) broadcasts_S8x1_S8x128)

def expc (a : V8) : IVec S8x128 32 :=
  have y : V8 := mulf a (broadcast S8x128 (Scalar.ofBits .f32 0x3B124925#32 : Ideal .f32))
  select (cmpf .oeq y zer) (broadcast S8x128 0#32)
    (subi (multiReductionI .add [0] S8x128 (extui 32 (cmpf .oge (broadcastTo S254x8x128 (shapeCast S1x8x128 y shapeCasts_S8x128_S1x8x128) broadcasts_S1x8x128_S254x8x128)
      (bitcastToFloat (F := Ideal) .f32 (shli (addi (iota .tc S254x8x128 32 [0] iota_S254x8x128_d0_w32) (broadcast S254x8x128 1#32)) (broadcast S254x8x128 23#32)))) natLt_1_32)
      0#32 reduces_S254x8x128_S8x128 rfl) (broadcast S8x128 126#32))

def sclc (e : IVec S8x128 32) : V8 := bitcastToFloat (F := Ideal) .f32 (shli (addi e (broadcast S8x128 127#32)) (broadcast S8x128 23#32))
def invc (e : IVec S8x128 32) : V8 := bitcastToFloat (F := Ideal) .f32 (shli (subi (broadcast S8x128 127#32) e) (broadcast S8x128 23#32))

def expOf (n m : V8) : IVec S8x128 32 := expc (wmax (mulf m (rnc n)))

def multc (n m : V8) : FVec Ideal S1x8x128 .f32 := shapeCast S1x8x128 (mulf (rnc n) (invc (expOf n m))) shapeCasts_S8x128_S1x8x128

set_option maxRecDepth 4000

/-! ## The same functions on one row of 128 lanes -/

/-- The reciprocal norm from the sums of squares. -/
def rnv (n : Fin 128 → EReal) (l : Fin 128) : EReal := Ideal.div 1 (max (Ideal.sqrt (n l)) Spec.eps)

/-- The largest entry of the lane's half of the row. -/
def wmaxv (f : Fin 128 → EReal) (l : Fin 128) : EReal :=
  Scalar.select (IntOp.cmpi .slt (BitVec.ofNat 32 l.val) 64#32)
    (Finset.univ.fold max (Ideal.ofBits FTy.f32 4286578688#32) fun x : Fin 128 => Scalar.select (IntOp.cmpi .slt (BitVec.ofNat 32 x.val) 64#32) (f x) 0)
    (Finset.univ.fold max (Ideal.ofBits FTy.f32 4286578688#32) fun x : Fin 128 => Scalar.select (IntOp.cmpi .slt (BitVec.ofNat 32 x.val) 64#32) 0 (f x))

/-- The exponent of the lane's window. -/
def expv (n m : Fin 128 → EReal) (l : Fin 128) : BitVec 32 := Spec.expo (wmaxv (fun x => m x * rnv n x) l * Spec.k448)

/-- The scale of the lane's window. -/
def sclv (n m : Fin 128 → EReal) (l : Fin 128) : EReal :=
  Ideal.ofBits FTy.f32 (IntOp.shli ArithUnit.vector (IntOp.addi (expv n m l) 127#32) 23#32)

/-- The factor the lane's entries are multiplied by. -/
def mulv (n m : Fin 128 → EReal) (l : Fin 128) : EReal :=
  rnv n l * Ideal.ofBits FTy.f32 (IntOp.shli ArithUnit.vector (IntOp.subi 127#32 (expv n m l)) 23#32)

theorem n2c_at (a0 a1 a2 a3 a4 a5 a6 a7 : B8) (r : Fin 8) (l : Fin 128) :
    n2c a0 a1 a2 a3 a4 a5 a6 a7 (ix2 r l) = a0 (ix3 0 r l) + a1 (ix3 0 r l) + a2 (ix3 0 r l) + a3 (ix3 0 r l) + a4 (ix3 0 r l) + a5 (ix3 0 r l) + a6 (ix3 0 r l) + a7 (ix3 0 r l) := by
  pointwise [n2c]

theorem mxc_at (a0 a1 a2 a3 a4 a5 a6 a7 : B8) (r : Fin 8) (l : Fin 128) :
    mxc a0 a1 a2 a3 a4 a5 a6 a7 (ix2 r l) = max (max (max (max (max (max (max (a0 (ix3 0 r l)) (a1 (ix3 0 r l))) (a2 (ix3 0 r l))) (a3 (ix3 0 r l))) (a4 (ix3 0 r l))) (a5 (ix3 0 r l))) (a6 (ix3 0 r l))) (a7 (ix3 0 r l)) := by
  pointwise [mxc]

theorem rnc_at (n : V8) (r : Fin 8) (l : Fin 128) : rnc n (ix2 r l) = rnv (fun x => n (ix2 r x)) l := by
  unfold rnv Spec.eps
  pointwise [rnc]

theorem wmax_at (m : V8) (r : Fin 8) (l : Fin 128) : wmax m (ix2 r l) = wmaxv (fun x => m (ix2 r x)) l := by
  unfold wmaxv
  pointwise [wmax, zer, k0_pay1]

theorem expc_at (a : V8) (r : Fin 8) (l : Fin 128) : expc a (ix2 r l) = Spec.expo (a (ix2 r l) * Spec.k448) := by
  unfold Spec.expo Spec.k448
  pointwise [expc, zer]

theorem expOf_at (n m : V8) (r : Fin 8) (l : Fin 128) : expOf n m (ix2 r l) = expv (fun x => n (ix2 r x)) (fun x => m (ix2 r x)) l := by
  unfold expOf expv
  rw [expc_at, wmax_at]
  congr 3
  funext x
  rw [← rnc_at]; rfl

theorem scl_at (n m : V8) (r : Fin 8) (l : Fin 128) : sclc (expOf n m) (ix2 r l) = sclv (fun x => n (ix2 r x)) (fun x => m (ix2 r x)) l := by
  unfold sclv
  rw [← expOf_at]
  pointwise [sclc]

theorem multc_at (n m : V8) (r : Fin 8) (l : Fin 128) : multc n m (ix3 0 r l) = mulv (fun x => n (ix2 r x)) (fun x => m (ix2 r x)) l := by
  unfold mulv
  rw [← expOf_at, ← rnc_at]
  pointwise [multc, invc]

/-- Lane `i` of half `p`. -/
def lane (p : Fin 2) (i : Fin 64) : Fin 128 := ⟨64 * p.val + i.val, by omega⟩

theorem slt_lane (p : Fin 2) (i : Fin 64) : IntOp.cmpi .slt (BitVec.ofNat 32 (lane p i).val) 64#32 = if p = 0 then 1#1 else 0#1 := by
  revert p i; decide

/-- The window's half of the row, with a zero from the other half. -/
theorem wmaxv_lane (f : Fin 128 → EReal) (p : Fin 2) (i : Fin 64) : wmaxv f (lane p i) = max (Finset.univ.sup fun j : Fin 64 => f (lane p j)) 0 := by
  unfold wmaxv
  simp only [slt_lane, Spec.fold_max_eq]
  refine eq_of_forall_ge_iff fun c => ?_
  have hs : ∀ g : Fin 128 → EReal, (Finset.univ.sup g ≤ c) ↔ (∀ j, g (lane 0 j) ≤ c) ∧ ∀ j, g (lane 1 j) ≤ c := by
    intro g
    rw [Finset.sup_le_iff]
    constructor
    · exact fun h => ⟨fun j => h _ (Finset.mem_univ _), fun j => h _ (Finset.mem_univ _)⟩
    · rintro ⟨ha, hb⟩ x -
      by_cases hx : x.val < 64
      · have := ha ⟨x.val, hx⟩; rwa [show lane 0 ⟨x.val, hx⟩ = x from Fin.ext (by simp [lane])] at this
      · have := hb ⟨x.val - 64, by omega⟩; rwa [show lane 1 ⟨x.val - 64, by omega⟩ = x from Fin.ext (by simp [lane]; omega)] at this
  fin_cases p
  · simp [Scalar.select, hs, slt_lane, Finset.sup_le_iff]
  · simp [Scalar.select, hs, slt_lane, Finset.sup_le_iff, and_comm]

/-! ## One head -/

/-- The logits before the bias: the two halves of the lanes are two windows. -/
theorem pay20_at (q k : FVec Ideal S32x128 .f32) (m : Vec Ideal S1x1x128 .f32) (c : Vec Ideal S1x128 .f32) (p : Fin 2) (i j : Fin 64) :
    k0_pay20 k0_pay1 q k m c (ix2 i (lane p j))
      = (∑ d : Fin 32, min Spec.c448 (max Spec.m448 (k (ix2 d (lane p i)) * m (ix3 0 0 (lane p i)))) * q (ix2 d (lane p j))) * c (ix2 0 (lane p j)) := by
  pointwise [k0_pay20, k0_pay16, k0_pay17, k0_pay15, k0_pay14, k0_pay1]
  simp only [slt_lane, dite_eq_ite, ite_self]
  congr 1
  refine (Fin.sum_univ_add (a := 32) (b := 32) _).trans ?_
  have hL : ∀ d : Fin 32, (Fin.castAdd 32 d).val < 32 := fun d => d.isLt
  have hR : ∀ d : Fin 32, ¬ (Fin.natAdd 32 d).val < 32 := fun d => by simp
  have hL' : ∀ (d : Fin 32) h, (⟨(Fin.castAdd 32 d).val, h⟩ : Fin 32) = d := fun d h => rfl
  have hR' : ∀ (d : Fin 32) h, (⟨(Fin.natAdd 32 d).val - 32, h⟩ : Fin 32) = d := fun d h => Fin.ext (by simp)
  have h0 : ∀ h, (⟨i.val, h⟩ : Fin 128) = lane 0 i := fun h => Fin.ext (by simp [lane])
  have h1 : ∀ h, (⟨64 + i.val, h⟩ : Fin 128) = lane 1 i := fun h => Fin.ext (by simp [lane])
  simp only [hL, hR, dite_true, dite_false, hL', hR', h0, h1]
  fin_cases p
  · simp [Scalar.select, Spec.c448, Spec.m448]
  · simp [Scalar.select, Spec.c448, Spec.m448]

theorem pay21_at (s : FVec Ideal S64x128 .f32) (b : Vec Ideal S1x64x128 .f32) (v : Vec Ideal S1x1x32x128 .bf16) (d : Fin 32) (p : Fin 2) (j : Fin 64) :
    k0_pay21 k0_pay1 s b v (ix2 d (lane p j))
      = (∑ i : Fin 64, v (ix4 0 0 d (lane p i)) * Ideal.exp2 (s (ix2 i (lane p j)) + b (ix3 0 i (lane p j))
          - Finset.univ.sup fun i' : Fin 64 => s (ix2 i' (lane p j)) + b (ix3 0 i' (lane p j))))
        * Ideal.div 1 (∑ i : Fin 64, Ideal.exp2 (s (ix2 i (lane p j)) + b (ix3 0 i (lane p j))
          - Finset.univ.sup fun i' : Fin 64 => s (ix2 i' (lane p j)) + b (ix3 0 i' (lane p j)))) := by
  pointwise [k0_pay21, k0_pay1]
  simp only [slt_lane, dite_eq_ite, ite_self]
  simp only [Spec.fold_max_eq]
  congr 1
  refine (Fin.sum_univ_add (a := 64) (b := 64) _).trans ?_
  have hL : ∀ d : Fin 64, (Fin.castAdd 64 d).val < 64 := fun d => d.isLt
  have hR : ∀ d : Fin 64, ¬ (Fin.natAdd 64 d).val < 64 := fun d => by simp
  have hL' : ∀ (d : Fin 64) h, (⟨(Fin.castAdd 64 d).val, h⟩ : Fin 64) = d := fun d h => rfl
  have hR' : ∀ (d : Fin 64) h, (⟨(Fin.natAdd 64 d).val - 64, h⟩ : Fin 64) = d := fun d h => Fin.ext (by simp)
  have h0 : ∀ i : Fin 64, Fin.castAdd 64 i = lane 0 i := fun i => Fin.ext (by simp [lane])
  have h1 : ∀ i : Fin 64, Fin.natAdd 64 i = lane 1 i := fun i => Fin.ext (by simp [lane, Nat.add_comm])
  simp only [hL, hR, dite_true, dite_false, hL', hR']
  simp only [h0, h1]
  fin_cases p
  · simp [Scalar.select]; rfl
  · simp [Scalar.select]; rfl

/-! ## A row that holds two windows -/

section
variable (x : Fin 2 → Spec.Win) (n m : Fin 128 → EReal)
  (hn : ∀ p i, n (lane p i) = ∑ d : Fin 32, x p i d * x p i d)
  (hm : ∀ p i, m (lane p i) = Finset.univ.sup fun d : Fin 32 => Spec.eabs (x p i d))
include hn hm

theorem rnv_lane (p : Fin 2) (i : Fin 64) : rnv n (lane p i) = (Spec.nrm (x p) i)⁻¹ := by
  unfold rnv
  rw [hn]
  change Ideal.div 1 (Spec.nrm (x p) i) = _
  rw [Spec.div_nrm, one_mul]

theorem wmaxv_win (p : Fin 2) (i : Fin 64) : wmaxv (fun y => m y * rnv n y) (lane p i) = Spec.amax (x p) := by
  rw [wmaxv_lane, Spec.amax_eq]
  simp only [rnv_lane x n m hn hm, hm]
  exact max_eq_left (by rw [← Spec.amax_eq]; exact Spec.amax_nonneg _)

theorem sclv_win (p : Fin 2) (i : Fin 64) : sclv n m (lane p i) = Spec.scl (Spec.amax (x p)) := by
  unfold sclv expv
  rw [wmaxv_win x n m hn hm]
  exact (Spec.scl_bits _ (Spec.amax_nonneg _) (Spec.amax_le _)).1

theorem mulv_win (p : Fin 2) (i : Fin 64) : mulv n m (lane p i) = (Spec.nrm (x p) i)⁻¹ * (Spec.scl (Spec.amax (x p)))⁻¹ := by
  unfold mulv expv
  rw [wmaxv_win x n m hn hm, rnv_lane x n m hn hm, (Spec.scl_bits _ (Spec.amax_nonneg _) (Spec.amax_le _)).2.1]

end

/-! ## The partial sums and the codes -/

theorem pay6_at (x : Vec Ideal S1x1x32x128 .bf16) (r : Fin 8) (l : Fin 128) :
    k0_pay6 x (ix3 0 r l) = (x (ix4 0 0 ⟨r.val, by omega⟩ l) * x (ix4 0 0 ⟨r.val, by omega⟩ l) + x (ix4 0 0 ⟨8 + r.val, by omega⟩ l) * x (ix4 0 0 ⟨8 + r.val, by omega⟩ l))
      + (x (ix4 0 0 ⟨16 + r.val, by omega⟩ l) * x (ix4 0 0 ⟨16 + r.val, by omega⟩ l) + x (ix4 0 0 ⟨24 + r.val, by omega⟩ l) * x (ix4 0 0 ⟨24 + r.val, by omega⟩ l)) := by
  pointwise [k0_pay6, k0_pay5]

theorem pay7_at (x : Vec Ideal S1x1x32x128 .bf16) (r : Fin 8) (l : Fin 128) :
    k0_pay7 x (ix3 0 r l) = max (max (Spec.eabs (x (ix4 0 0 ⟨r.val, by omega⟩ l))) (Spec.eabs (x (ix4 0 0 ⟨8 + r.val, by omega⟩ l))))
      (max (Spec.eabs (x (ix4 0 0 ⟨16 + r.val, by omega⟩ l))) (Spec.eabs (x (ix4 0 0 ⟨24 + r.val, by omega⟩ l)))) := by
  unfold Spec.eabs
  pointwise [k0_pay7, k0_pay5]
  rfl

theorem pay10_at (x : Vec Ideal S1x1x32x128 .bf16) (m : Vec Ideal S1x1x128 .f32) (d : Fin 32) (l : Fin 128) :
    k0_pay10 x m (ix2 d l) = min Spec.c448 (max Spec.m448 (x (ix4 0 0 d l) * m (ix3 0 0 l))) := by
  unfold Spec.c448 Spec.m448
  pointwise [k0_pay10]

theorem pay12_at (x : Vec Ideal S1x1x32x128 .bf16) (m : Vec Ideal S1x1x128 .f32) (d : Fin 32) (i : Fin 64) :
    k0_pay12 x m (ix5 0 0 0 d i) = min Spec.c448 (max Spec.m448 (x (ix4 0 0 d (lane 0 i)) * m (ix3 0 0 (lane 0 i)))) := by
  unfold Spec.c448 Spec.m448
  have h0 : ∀ h, (⟨i.val, h⟩ : Fin 128) = lane 0 i := fun h => Fin.ext (by simp [lane])
  pointwise [k0_pay12, k0_pay11, k0_pay10]
  simp only [h0]

theorem pay13_at (x : Vec Ideal S1x1x32x128 .bf16) (m : Vec Ideal S1x1x128 .f32) (d : Fin 32) (i : Fin 64) :
    k0_pay13 x m (ix5 0 0 0 d i) = min Spec.c448 (max Spec.m448 (x (ix4 0 0 d (lane 1 i)) * m (ix3 0 0 (lane 1 i)))) := by
  unfold Spec.c448 Spec.m448
  have h1 : ∀ h, (⟨64 + i.val, h⟩ : Fin 128) = lane 1 i := fun h => Fin.ext (by simp [lane])
  pointwise [k0_pay13, k0_pay11, k0_pay10]
  simp only [h1]

theorem pay14_at (x : Vec Ideal S1x1x32x128 .bf16) (d : Fin 32) (l : Fin 128) : k0_pay14 x (ix2 d l) = x (ix4 0 0 d l) := by
  pointwise [k0_pay14]

/-- Four heads side by side, tokens down the rows. -/
def outc (o0 o1 o2 o3 : FVec Ideal S32x128 .bf16) : FVec Ideal S1x128x128 .bf16 :=
  shapeCast S1x128x128 (transpose S128x128 [1, 0] (concatenate S128x128 0 [⟨S32x128, o0⟩, ⟨S32x128, o1⟩, ⟨S32x128, o2⟩, ⟨S32x128, o3⟩] concatenates_S32x128_S32x128_S32x128_S32x128_S128x128_d0) transposes_S128x128_p1_0_S128x128) shapeCasts_S128x128_S1x128x128

theorem outc_at (o0 o1 o2 o3 : FVec Ideal S32x128 .bf16) (l : Fin 128) (hh : Fin 4) (d : Fin 32) (hb : 32 * hh.val + d.val < 128) :
    outc o0 o1 o2 o3 (ix3 0 l ⟨32 * hh.val + d.val, hb⟩) = ![o0, o1, o2, o3] hh (ix2 d l) := by
  pointwise [outc]
  fin_cases hh
  · simp
  · simp
  · simp only []
    rw [dif_neg (by simp; omega), dif_neg (by simp; omega), dif_pos (by simp; omega)]
    congr 2
    exact Fin.ext (by simp; omega)
  · simp only []
    rw [dif_neg (by simp; omega), dif_neg (by simp; omega), dif_neg (by simp; omega)]
    congr 2
    exact Fin.ext (by simp; omega)

/-- One head's output, from what the trip loads. -/
def headc (xq xk xv : Vec Ideal S1x1x32x128 .bf16) (mq mk : Vec Ideal S1x1x128 .f32) (c : Vec Ideal S1x128 .f32) (b : Vec Ideal S1x64x128 .f32) : FVec Ideal S32x128 .bf16 :=
  k0_pay21 k0_pay1 (k0_pay20 k0_pay1 (k0_pay10 xq mq) (k0_pay14 xk) mk c) b xv

end Cert.KernelIdeal.Hand
end
-- ==== Proof.Scales.lean ====
/-
  What one column's trip leaves in the buffers of factors and scales, as functions of the partial sums and maxima.
-/
module

public import proofs.«01_k».proof.Proof.Trip
public import proofs.«01_k».proof.Proof.KVec
public import proofs.«01_k».proof.Proof.Gen.KernelIdeal.Loops
public import Idealize.ShloMosaic.Lib.Pointwise
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option maxRecDepth 8000

theorem idx1 (x : (⟨3, ![1, 8, 128]⟩ : Shape).Idx) : ∃ (r : Fin 8) (l : Fin 128), x = ix3 0 r l :=
  ⟨x 1, x 2, by rw [eq_ix3 x]; congr 1; exact Subsingleton.elim _ _⟩

theorem ldb_inb (i o : ℕ) (hi : i < 2) (ho : o + 57 ≤ 320) :
    ∀ a, S1x8x128.size a = 0 ∨ (![i, o, 0] : Fin 3 → ℕ) a + (![1, 8, 1] : Fin 3 → ℕ) a * (S1x8x128.size a - 1) < S2x320x128.size a := fun a => by
  fin_cases a
  · right; show i + 1 * (1 - 1) < 2; omega
  · right; show o + 8 * (8 - 1) < 320; omega
  · right; show 0 + 1 * (128 - 1) < 128; omega

/-- The load of every eighth row from row `o` on. -/
def ldb (v : View sig .tc .vmem S2x320x128 .f32) (V : v.ty.Contents (Elt Ideal)) (i o : ℕ) (hi : i < 2) (ho : o + 57 ≤ 320) : B8 :=
  v.readAt (Elt Ideal) { off := ![i, o, 0], size := S1x8x128.size, stride := ![1, 8, 1], inb := ldb_inb i o hi ho } V

theorem ldb_at (v : View sig .tc .vmem S2x320x128 .f32) (V : v.ty.Contents (Elt Ideal)) (i o : ℕ) (hi : i < 2) (ho : o + 57 ≤ 320) (r : Fin 8) (l : Fin 128) :
    ldb v V i o hi ho (ix3 0 r l) = v.read (Elt Ideal) V (ix3 ⟨i, hi⟩ ⟨o + 8 * r.val, by omega⟩ l) := by
  unfold ldb
  rw [View.readAt_apply]
  congr 1
  funext a
  fin_cases a
  · rfl
  · rfl
  · refine Fin.ext ?_
    show 0 + 1 * l.val = l.val
    omega

theorem rd (R : S2x320x128.Idx → EReal) (i : Fin 2) (l : Fin 128) (a b : ℕ) (ha : a < 320) (hb : b < 320) (h : a = b) :
    R (ix3 i ⟨a, ha⟩ l) = R (ix3 i ⟨b, hb⟩ l) := by subst h; rfl

/-- A head's sum of squares, and its largest entry, from the eight partial ones. -/
def n2f (R : S2x320x128.Idx → EReal) (i : Fin 2) (h : Fin 40) (l : Fin 128) : EReal :=
  R (ix3 i ⟨8 * h.val, by omega⟩ l) + R (ix3 i ⟨8 * h.val + 1, by omega⟩ l) + R (ix3 i ⟨8 * h.val + 2, by omega⟩ l) + R (ix3 i ⟨8 * h.val + 3, by omega⟩ l)
    + R (ix3 i ⟨8 * h.val + 4, by omega⟩ l) + R (ix3 i ⟨8 * h.val + 5, by omega⟩ l) + R (ix3 i ⟨8 * h.val + 6, by omega⟩ l) + R (ix3 i ⟨8 * h.val + 7, by omega⟩ l)
def mxf (R : S2x320x128.Idx → EReal) (i : Fin 2) (h : Fin 40) (l : Fin 128) : EReal :=
  max (max (max (max (max (max (max (R (ix3 i ⟨8 * h.val, by omega⟩ l)) (R (ix3 i ⟨8 * h.val + 1, by omega⟩ l))) (R (ix3 i ⟨8 * h.val + 2, by omega⟩ l))) (R (ix3 i ⟨8 * h.val + 3, by omega⟩ l)))
    (R (ix3 i ⟨8 * h.val + 4, by omega⟩ l))) (R (ix3 i ⟨8 * h.val + 5, by omega⟩ l))) (R (ix3 i ⟨8 * h.val + 6, by omega⟩ l))) (R (ix3 i ⟨8 * h.val + 7, by omega⟩ l))

section
variable (v : View sig .tc .vmem S2x320x128 .f32) (V : v.ty.Contents (Elt Ideal)) (i g : ℕ) (hi : i < 2) (hg : g < 5)

def n2l : V8 := n2c (ldb v V i (64 * g) hi (by omega)) (ldb v V i (64 * g + 1) hi (by omega)) (ldb v V i (64 * g + 2) hi (by omega)) (ldb v V i (64 * g + 3) hi (by omega))
  (ldb v V i (64 * g + 4) hi (by omega)) (ldb v V i (64 * g + 5) hi (by omega)) (ldb v V i (64 * g + 6) hi (by omega)) (ldb v V i (64 * g + 7) hi (by omega))
def mxl : V8 := mxc (ldb v V i (64 * g) hi (by omega)) (ldb v V i (64 * g + 1) hi (by omega)) (ldb v V i (64 * g + 2) hi (by omega)) (ldb v V i (64 * g + 3) hi (by omega))
  (ldb v V i (64 * g + 4) hi (by omega)) (ldb v V i (64 * g + 5) hi (by omega)) (ldb v V i (64 * g + 6) hi (by omega)) (ldb v V i (64 * g + 7) hi (by omega))

theorem n2l_at (r : Fin 8) (l : Fin 128) : n2l v V i g hi hg (ix2 r l) = n2f (v.read (Elt Ideal) V) ⟨i, hi⟩ ⟨8 * g + r.val, by omega⟩ l := by
  unfold n2l n2f
  rw [n2c_at]
  simp only [ldb_at]
  exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (rd _ _ _ _ _ _ _ (by omega)) (rd _ _ _ _ _ _ _ (by omega))) (rd _ _ _ _ _ _ _ (by omega))) (rd _ _ _ _ _ _ _ (by omega))) (rd _ _ _ _ _ _ _ (by omega))) (rd _ _ _ _ _ _ _ (by omega))) (rd _ _ _ _ _ _ _ (by omega))) (rd _ _ _ _ _ _ _ (by omega)))

theorem mxl_at (r : Fin 8) (l : Fin 128) : mxl v V i g hi hg (ix2 r l) = mxf (v.read (Elt Ideal) V) ⟨i, hi⟩ ⟨8 * g + r.val, by omega⟩ l := by
  unfold mxl mxf
  rw [mxc_at]
  simp only [ldb_at]
  exact (congrArg₂ (fun a b : EReal => max a b) (congrArg₂ (fun a b : EReal => max a b) (congrArg₂ (fun a b : EReal => max a b) (congrArg₂ (fun a b : EReal => max a b) (congrArg₂ (fun a b : EReal => max a b) (congrArg₂ (fun a b : EReal => max a b) (congrArg₂ (fun a b : EReal => max a b) (rd _ _ _ _ _ _ _ (by omega)) (rd _ _ _ _ _ _ _ (by omega))) (rd _ _ _ _ _ _ _ (by omega))) (rd _ _ _ _ _ _ _ (by omega))) (rd _ _ _ _ _ _ _ (by omega))) (rd _ _ _ _ _ _ _ (by omega))) (rd _ _ _ _ _ _ _ (by omega))) (rd _ _ _ _ _ _ _ (by omega)))
end

/-- The factors, from the partial sums and maxima. -/
def mulf2 (R12 R13 : S2x320x128.Idx → EReal) (y : S2x40x128.Idx) : EReal := mulv (n2f R12 (y 0) (y 1)) (mxf R13 (y 0) (y 1)) (y 2)

theorem mul_piece (v w : View sig .tc .vmem S2x320x128 .f32) (V : v.ty.Contents (Elt Ideal)) (W : w.ty.Contents (Elt Ideal)) (i g : ℕ) (hi : i < 2) (hg : g < 5)
    (r : Fin 8) (l : Fin 128) (y : S2x40x128.Idx) (h0 : (y 0).val = i) (h1 : (y 1).val = 8 * g + r.val) (h2 : (y 2).val = l.val) :
    multc (n2l v V i g hi hg) (mxl w W i g hi hg) (ix3 0 r l) = mulf2 (v.read (Elt Ideal) V) (w.read (Elt Ideal) W) y := by
  rw [multc_at]
  unfold mulf2
  have e0 : y 0 = ⟨i, hi⟩ := Fin.ext h0
  have e1 : y 1 = ⟨8 * g + r.val, by omega⟩ := Fin.ext h1
  have e2 : y 2 = l := Fin.ext h2
  rw [e0, e1, e2]
  rw [show (fun x => n2l v V i g hi hg (ix2 r x)) = _ from funext fun x => n2l_at v V i g hi hg r x,
    show (fun x => mxl w W i g hi hg (ix2 r x)) = _ from funext fun x => mxl_at w W i g hi hg r x]
  rfl

theorem trip1_e10 (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (arg1 : BitVec 32) (v0 : IVec S8x128 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) :
    (trip1 c i arg2 harg2 arg3 harg3 arg4 harg4 arg5 harg5 arg6 harg6 arg7 harg7 arg8 harg8 arg9 harg9 arg10 harg10 arg11 harg11 arg12 harg12 arg13 harg13 arg14 harg14 arg15 harg15 arg1 v0 X_arg2 X_arg3 X_arg4 X_arg5 X_arg6 k f_arg7 f_arg8 f_arg9 f_arg10 f_arg11 f_arg12 f_arg13 f_arg14 f_arg15).2.2.2.1 = arg10.view.writes (Elt Ideal) arg10.view.junk (trip1.sl.H10_5 c i arg2 harg2 arg3 harg3 arg4 harg4 arg5 harg5 arg6 harg6 arg7 harg7 arg8 harg8 arg9 harg9 arg10 harg10 arg11 harg11 arg12 harg12 arg13 harg13 arg14 harg14 arg15 harg15 arg1 v0 X_arg2 X_arg3 k f_arg10 f_arg12 f_arg13) := by
  unfold trip1
  dsimp only

theorem trip1_e11 (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (arg1 : BitVec 32) (v0 : IVec S8x128 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) :
    (trip1 c i arg2 harg2 arg3 harg3 arg4 harg4 arg5 harg5 arg6 harg6 arg7 harg7 arg8 harg8 arg9 harg9 arg10 harg10 arg11 harg11 arg12 harg12 arg13 harg13 arg14 harg14 arg15 harg15 arg1 v0 X_arg2 X_arg3 X_arg4 X_arg5 X_arg6 k f_arg7 f_arg8 f_arg9 f_arg10 f_arg11 f_arg12 f_arg13 f_arg14 f_arg15).2.2.2.2.1 = arg11.view.writes (Elt Ideal) arg11.view.junk (trip1.sl.H11_5 c i arg2 harg2 arg3 harg3 arg4 harg4 arg5 harg5 arg6 harg6 arg7 harg7 arg8 harg8 arg9 harg9 arg10 harg10 arg11 harg11 arg12 harg12 arg13 harg13 arg14 harg14 arg15 harg15 arg1 v0 X_arg2 X_arg3 k f_arg11 f_arg12 f_arg13) := by
  unfold trip1
  dsimp only

theorem trip1_e12 (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (arg1 : BitVec 32) (v0 : IVec S8x128 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) :
    (trip1 c i arg2 harg2 arg3 harg3 arg4 harg4 arg5 harg5 arg6 harg6 arg7 harg7 arg8 harg8 arg9 harg9 arg10 harg10 arg11 harg11 arg12 harg12 arg13 harg13 arg14 harg14 arg15 harg15 arg1 v0 X_arg2 X_arg3 X_arg4 X_arg5 X_arg6 k f_arg7 f_arg8 f_arg9 f_arg10 f_arg11 f_arg12 f_arg13 f_arg14 f_arg15).2.2.2.2.2.1 = arg12.view.writes (Elt Ideal) f_arg12 (pb_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 (0#32) (1#32) k (trip1.sl.v4 k) X_arg2 X_arg3 (Scf.trips (0#32) (Scalar.addi 0#32 36#32) 1#32)).1 := by
  unfold trip1
  dsimp only

theorem trip1_e13 (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (arg1 : BitVec 32) (v0 : IVec S8x128 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) :
    (trip1 c i arg2 harg2 arg3 harg3 arg4 harg4 arg5 harg5 arg6 harg6 arg7 harg7 arg8 harg8 arg9 harg9 arg10 harg10 arg11 harg11 arg12 harg12 arg13 harg13 arg14 harg14 arg15 harg15 arg1 v0 X_arg2 X_arg3 X_arg4 X_arg5 X_arg6 k f_arg7 f_arg8 f_arg9 f_arg10 f_arg11 f_arg12 f_arg13 f_arg14 f_arg15).2.2.2.2.2.2.1 = arg13.view.writes (Elt Ideal) f_arg13 (pb_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 (0#32) (1#32) k (trip1.sl.v4 k) X_arg2 X_arg3 (Scf.trips (0#32) (Scalar.addi 0#32 36#32) 1#32)).2 := by
  unfold trip1
  dsimp only

theorem trip1_e14 (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (arg1 : BitVec 32) (v0 : IVec S8x128 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) :
    (trip1 c i arg2 harg2 arg3 harg3 arg4 harg4 arg5 harg5 arg6 harg6 arg7 harg7 arg8 harg8 arg9 harg9 arg10 harg10 arg11 harg11 arg12 harg12 arg13 harg13 arg14 harg14 arg15 harg15 arg1 v0 X_arg2 X_arg3 X_arg4 X_arg5 X_arg6 k f_arg7 f_arg8 f_arg9 f_arg10 f_arg11 f_arg12 f_arg13 f_arg14 f_arg15).2.2.2.2.2.2.2.1 = arg14.view.writes (Elt Ideal) arg14.view.junk (trip1.sl.H14_10 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 k f_arg12 f_arg13) := by
  unfold trip1
  dsimp only

theorem trip1_e15 (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (arg1 : BitVec 32) (v0 : IVec S8x128 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) :
    (trip1 c i arg2 harg2 arg3 harg3 arg4 harg4 arg5 harg5 arg6 harg6 arg7 harg7 arg8 harg8 arg9 harg9 arg10 harg10 arg11 harg11 arg12 harg12 arg13 harg13 arg14 harg14 arg15 harg15 arg1 v0 X_arg2 X_arg3 X_arg4 X_arg5 X_arg6 k f_arg7 f_arg8 f_arg9 f_arg10 f_arg11 f_arg12 f_arg13 f_arg14 f_arg15).2.2.2.2.2.2.2.2.1 = arg15.view.writes (Elt Ideal) arg15.view.junk (trip1.sl.H15_5 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg6 k f_arg12 f_arg13) := by
  unfold trip1
  dsimp only

theorem trip1_e7 (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (arg1 : BitVec 32) (v0 : IVec S8x128 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) :
    (trip1 c i arg2 harg2 arg3 harg3 arg4 harg4 arg5 harg5 arg6 harg6 arg7 harg7 arg8 harg8 arg9 harg9 arg10 harg10 arg11 harg11 arg12 harg12 arg13 harg13 arg14 harg14 arg15 harg15 arg1 v0 X_arg2 X_arg3 X_arg4 X_arg5 X_arg6 k f_arg7 f_arg8 f_arg9 f_arg10 f_arg11 f_arg12 f_arg13 f_arg14 f_arg15).1 = arg7.view.writes (Elt Ideal) f_arg7 (pb_k0_t3 Variants.none c none i arg2 harg2 arg3 harg3 arg4 harg4 arg5 harg5 arg6 harg6 arg7 harg7 arg8 harg8 arg9 harg9 arg10 harg10 arg11 harg11 arg12 harg12 arg13 harg13 arg14 harg14 arg15 harg15 k (trip1.sl.arg16 k) (trip1.sl.v4 k) X_arg2 X_arg3 X_arg4 X_arg5 (arg14.view.writes (Elt Ideal) arg14.view.junk (trip1.sl.H14_10 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 k f_arg12 f_arg13)) (arg15.view.writes (Elt Ideal) arg15.view.junk (trip1.sl.H15_5 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg6 k f_arg12 f_arg13)) (Scf.trips (0#32) (Scalar.addi 0#32 9#32) 1#32)).1 := by
  unfold trip1
  dsimp only

theorem trip1_e8 (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (arg1 : BitVec 32) (v0 : IVec S8x128 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) :
    (trip1 c i arg2 harg2 arg3 harg3 arg4 harg4 arg5 harg5 arg6 harg6 arg7 harg7 arg8 harg8 arg9 harg9 arg10 harg10 arg11 harg11 arg12 harg12 arg13 harg13 arg14 harg14 arg15 harg15 arg1 v0 X_arg2 X_arg3 X_arg4 X_arg5 X_arg6 k f_arg7 f_arg8 f_arg9 f_arg10 f_arg11 f_arg12 f_arg13 f_arg14 f_arg15).2.1 = arg8.view.writes (Elt Ideal) f_arg8 (pb_k0_t3 Variants.none c none i arg2 harg2 arg3 harg3 arg4 harg4 arg5 harg5 arg6 harg6 arg7 harg7 arg8 harg8 arg9 harg9 arg10 harg10 arg11 harg11 arg12 harg12 arg13 harg13 arg14 harg14 arg15 harg15 k (trip1.sl.arg16 k) (trip1.sl.v4 k) X_arg2 X_arg3 X_arg4 X_arg5 (arg14.view.writes (Elt Ideal) arg14.view.junk (trip1.sl.H14_10 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 k f_arg12 f_arg13)) (arg15.view.writes (Elt Ideal) arg15.view.junk (trip1.sl.H15_5 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg6 k f_arg12 f_arg13)) (Scf.trips (0#32) (Scalar.addi 0#32 9#32) 1#32)).2.1 := by
  unfold trip1
  dsimp only

theorem trip1_e9 (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (arg1 : BitVec 32) (v0 : IVec S8x128 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) :
    (trip1 c i arg2 harg2 arg3 harg3 arg4 harg4 arg5 harg5 arg6 harg6 arg7 harg7 arg8 harg8 arg9 harg9 arg10 harg10 arg11 harg11 arg12 harg12 arg13 harg13 arg14 harg14 arg15 harg15 arg1 v0 X_arg2 X_arg3 X_arg4 X_arg5 X_arg6 k f_arg7 f_arg8 f_arg9 f_arg10 f_arg11 f_arg12 f_arg13 f_arg14 f_arg15).2.2.1 = arg9.view.writes (Elt Ideal) f_arg9 (pb_k0_t3 Variants.none c none i arg2 harg2 arg3 harg3 arg4 harg4 arg5 harg5 arg6 harg6 arg7 harg7 arg8 harg8 arg9 harg9 arg10 harg10 arg11 harg11 arg12 harg12 arg13 harg13 arg14 harg14 arg15 harg15 k (trip1.sl.arg16 k) (trip1.sl.v4 k) X_arg2 X_arg3 X_arg4 X_arg5 (arg14.view.writes (Elt Ideal) arg14.view.junk (trip1.sl.H14_10 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 k f_arg12 f_arg13)) (arg15.view.writes (Elt Ideal) arg15.view.junk (trip1.sl.H15_5 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg6 k f_arg12 f_arg13)) (Scf.trips (0#32) (Scalar.addi 0#32 9#32) 1#32)).2.2 := by
  unfold trip1
  dsimp only

/-- A head's scale, from the partial sums and maxima. -/
def sclf (R12 R13 : S2x320x128.Idx → EReal) (i : Fin 2) (h : Fin 40) (l : Fin 128) : EReal := sclv (n2f R12 i h) (mxf R13 i h) l

theorem scl_row (v w : View sig .tc .vmem S2x320x128 .f32) (V : v.ty.Contents (Elt Ideal)) (W : w.ty.Contents (Elt Ideal)) (i g : ℕ) (hi : i < 2) (hg : g < 5)
    (r : Fin 8) (l : Fin 128) : sclc (expOf (n2l v V i g hi hg) (mxl w W i g hi hg)) (ix2 r l) = sclf (v.read (Elt Ideal) V) (w.read (Elt Ideal) W) ⟨i, hi⟩ ⟨8 * g + r.val, by omega⟩ l := by
  rw [scl_at]
  rw [show (fun x => n2l v V i g hi hg (ix2 r x)) = _ from funext fun x => n2l_at v V i g hi hg r x,
    show (fun x => mxl w W i g hi hg (ix2 r x)) = _ from funext fun x => mxl_at w W i g hi hg r x]
  rfl

theorem idx28 (x : (⟨2, ![8, 128]⟩ : Shape).Idx) : ∃ (r : Fin 8) (l : Fin 128), x = ix2 r l := ⟨x 0, x 1, eq_ix2 x⟩
theorem idx38 (x : (⟨3, ![1, 8, 40]⟩ : Shape).Idx) : ∃ (r : Fin 8) (l : Fin 40), x = ix3 0 r l :=
  ⟨x 1, x 2, by rw [eq_ix3 x]; congr 1; exact Subsingleton.elim _ _⟩
theorem idx34 (x : (⟨3, ![1, 4, 40]⟩ : Shape).Idx) : ∃ (r : Fin 4) (l : Fin 40), x = ix3 0 r l :=
  ⟨x 1, x 2, by rw [eq_ix3 x]; congr 1; exact Subsingleton.elim _ _⟩

/-- The product of both scales and the temperature. -/
def prodf (R12 R13 : S2x320x128.Idx → EReal) (T : S40x128.Idx → EReal) (y : S40x128.Idx) : EReal :=
  sclf R12 R13 0 (y 0) (y 1) * sclf R12 R13 1 (y 0) (y 1) * T y

theorem prod_piece (v w : View sig .tc .vmem S2x320x128 .f32) (V : v.ty.Contents (Elt Ideal)) (W : w.ty.Contents (Elt Ideal)) (g : ℕ) (hg : g < 5)
    (t : Vec Ideal S8x128 .f32) (T : S40x128.Idx → EReal)
    (r : Fin 8) (l : Fin 128) (y : S40x128.Idx) (h1 : (y 0).val = 8 * g + r.val) (h2 : (y 1).val = l.val) (ht : t (ix2 r l) = T y) :
    k0_pay3 (sclc (expOf (n2l v V 0 g (by decide) hg) (mxl w W 0 g (by decide) hg))) (sclc (expOf (n2l v V 1 g (by decide) hg) (mxl w W 1 g (by decide) hg))) t (ix2 r l)
      = prodf (v.read (Elt Ideal) V) (w.read (Elt Ideal) W) T y := by
  have e : ∀ a b : V8, k0_pay3 a b t (ix2 r l) = a (ix2 r l) * b (ix2 r l) * t (ix2 r l) := fun a b => by pointwise [k0_pay3]
  rw [e, scl_row, scl_row, ht]
  unfold prodf
  have e1 : y 0 = ⟨8 * g + r.val, by omega⟩ := Fin.ext h1
  have e2 : y 1 = l := Fin.ext h2
  rw [e1, e2]
  rfl

/-- One entry of a row of scales with two columns overwritten. -/
def colv (W : BitVec 32) (s : Fin 128 → EReal) (old : EReal) (l : Fin 40) : EReal :=
  Scalar.select (IntOp.cmpi .eq (BitVec.ofNat 32 l.val) (IntOp.addi W 1#32)) (s 64) (Scalar.select (IntOp.cmpi .eq (BitVec.ofNat 32 l.val) W) (s 0) old)

/-- The rows of scales with the columns of the two windows overwritten. -/
def colc (W : BitVec 32) (s : V8) (old : Vec Ideal S1x8x40 .f32) : FVec Ideal S1x8x40 .f32 :=
  k0_pay131 s W (extractStridedSlice S8x40 ![0, 0] (iota .tc S8x128 32 [1] iota_S8x128_d1_w32) slices_S8x128_o0_0_S8x40) old

theorem colc_at (W : BitVec 32) (s : V8) (old : Vec Ideal S1x8x40 .f32) (r : Fin 8) (l : Fin 40) :
    colc W s old (ix3 0 r l) = colv W (fun x => s (ix2 r x)) (old (ix3 0 r l)) l := by
  unfold colv
  pointwise [colc, k0_pay131]
  rfl

theorem col4_at (a b : BitVec 32) (s : V8) (old : Vec Ideal S1x4x40 .f32) (r : Fin 4) (l : Fin 40) :
    k0_pay165 a (iota .tc S8x128 32 [1] iota_S8x128_d1_w32) b s old (ix3 0 r l)
      = colv (Scalar.muli (Scalar.addi (Scalar.muli a 2#32) b) 2#32) (fun x => s (ix2 ⟨r.val, by omega⟩ x)) (old (ix3 0 r l)) l := by
  unfold colv
  pointwise [k0_pay165]
  rfl

/-- The rows of scales after a trip. -/
def colf (W : BitVec 32) (R12 R13 : S2x320x128.Idx → EReal) (O : S1x36x40.Idx → EReal) (i : Fin 2) (y : S1x36x40.Idx) : EReal :=
  colv W (fun x => sclf R12 R13 i ⟨(y 1).val, by have : (y 1).val < 36 := (y 1).isLt; omega⟩ x) (O y) (y 2)

theorem col_piece (v w : View sig .tc .vmem S2x320x128 .f32) (V : v.ty.Contents (Elt Ideal)) (W : w.ty.Contents (Elt Ideal)) (C : BitVec 32) (i g : ℕ) (hi : i < 2) (hg : g < 5)
    (old : Vec Ideal S1x8x40 .f32) (O : S1x36x40.Idx → EReal)
    (r : Fin 8) (l : Fin 40) (y : S1x36x40.Idx) (h1 : (y 1).val = 8 * g + r.val) (h2 : (y 2).val = l.val) (ho : old (ix3 0 r l) = O y) :
    colc C (sclc (expOf (n2l v V i g hi hg) (mxl w W i g hi hg))) old (ix3 0 r l) = colf C (v.read (Elt Ideal) V) (w.read (Elt Ideal) W) O ⟨i, hi⟩ y := by
  rw [colc_at, show (fun x => sclc (expOf (n2l v V i g hi hg) (mxl w W i g hi hg)) (ix2 r x)) = _ from funext fun x => scl_row v w V W i g hi hg r x, ho]
  unfold colf
  have e1 : (⟨(y 1).val, by have : (y 1).val < 36 := (y 1).isLt; omega⟩ : Fin 40) = ⟨8 * g + r.val, by omega⟩ := Fin.ext h1
  have e2 : y 2 = l := Fin.ext h2
  rw [e1, e2]

theorem col4_piece (v w : View sig .tc .vmem S2x320x128 .f32) (V : v.ty.Contents (Elt Ideal)) (W : w.ty.Contents (Elt Ideal)) (a b : BitVec 32) (i : ℕ) (hi : i < 2)
    (old : Vec Ideal S1x4x40 .f32) (O : S1x36x40.Idx → EReal)
    (r : Fin 4) (l : Fin 40) (y : S1x36x40.Idx) (h1 : (y 1).val = 32 + r.val) (h2 : (y 2).val = l.val) (ho : old (ix3 0 r l) = O y) :
    k0_pay165 a (iota .tc S8x128 32 [1] iota_S8x128_d1_w32) b (sclc (expOf (n2l v V i 4 hi (by decide)) (mxl w W i 4 hi (by decide)))) old (ix3 0 r l)
      = colf (Scalar.muli (Scalar.addi (Scalar.muli a 2#32) b) 2#32) (v.read (Elt Ideal) V) (w.read (Elt Ideal) W) O ⟨i, hi⟩ y := by
  rw [col4_at, show (fun x => sclc (expOf (n2l v V i 4 hi (by decide)) (mxl w W i 4 hi (by decide))) (ix2 ⟨r.val, by omega⟩ x)) = _ from funext fun x => scl_row v w V W i 4 hi (by decide) ⟨r.val, by omega⟩ x, ho]
  unfold colf
  have e1 : (⟨(y 1).val, by have : (y 1).val < 36 := (y 1).isLt; omega⟩ : Fin 40) = ⟨8 * 4 + r.val, by omega⟩ := Fin.ext h1
  have e2 : y 2 = l := Fin.ext h2
  rw [e1, e2]

theorem mem36 (y : S1x36x40.Idx) (o n : ℕ) (inb : ∀ a, (![0, o, 0] : Fin 3 → ℕ) a + (![1, n, 40] : Fin 3 → ℕ) a ≤ S1x36x40.size a) (h1 : o ≤ (y 1).val) (h2 : (y 1).val < o + n) :
    y ∈ (Rect.unit (s := S1x36x40) ![0, o, 0] ![1, n, 40] inb).set := by
  rw [Rect.mem_set_unit]
  intro a
  have h0 : (y 0).val < 1 := (y 0).isLt
  have h3 : (y 2).val < 40 := (y 2).isLt
  fin_cases a
  · exact ⟨Nat.zero_le _, by show (y 0).val < 0 + 1; omega⟩
  · exact ⟨h1, h2⟩
  · exact ⟨Nat.zero_le _, by show (y 2).val < 0 + 40; omega⟩

/-- The buffer of factors after a trip. -/
theorem H14_at (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (arg1 : BitVec 32) (v0 : IVec S8x128 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) (y : S2x40x128.Idx) :
    arg14.view.read (Elt Ideal) (arg14.view.writes (Elt Ideal) arg14.view.junk (trip1.sl.H14_10 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 k f_arg12 f_arg13)) y = mulf2 (arg12.view.read (Elt Ideal) (arg12.view.writes (Elt Ideal) f_arg12 (pb_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 (0#32) (1#32) k (trip1.sl.v4 k) X_arg2 X_arg3 (Scf.trips (0#32) (Scalar.addi 0#32 36#32) 1#32)).1)) (arg13.view.read (Elt Ideal) (arg13.view.writes (Elt Ideal) f_arg13 (pb_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 (0#32) (1#32) k (trip1.sl.v4 k) X_arg2 X_arg3 (Scf.trips (0#32) (Scalar.addi 0#32 36#32) 1#32)).2)) y := by
  refine View.read_writes_apply_of_pieces arg14.view _ _ _ ?_ y ?_
  · unfold trip1.sl.H14_10
    simp only [List.forall_mem_cons]
    refine ⟨?_, ?_, ?_, ?_, ?_, ?_, ?_, ?_, ?_, ?_, by simp⟩
    · intro x
      obtain ⟨r, l, rfl⟩ := idx1 x
      exact mul_piece arg12.view arg13.view _ _ 1 4 (by decide) (by decide) r l _ rfl (by show 32 + 1 * r.val = _; omega) (by show 0 + 1 * l.val = _; omega)
    · intro x
      obtain ⟨r, l, rfl⟩ := idx1 x
      exact mul_piece arg12.view arg13.view _ _ 0 4 (by decide) (by decide) r l _ rfl (by show 32 + 1 * r.val = _; omega) (by show 0 + 1 * l.val = _; omega)
    · intro x
      obtain ⟨r, l, rfl⟩ := idx1 x
      exact mul_piece arg12.view arg13.view _ _ 1 3 (by decide) (by decide) r l _ rfl (by show 24 + 1 * r.val = _; omega) (by show 0 + 1 * l.val = _; omega)
    · intro x
      obtain ⟨r, l, rfl⟩ := idx1 x
      exact mul_piece arg12.view arg13.view _ _ 0 3 (by decide) (by decide) r l _ rfl (by show 24 + 1 * r.val = _; omega) (by show 0 + 1 * l.val = _; omega)
    · intro x
      obtain ⟨r, l, rfl⟩ := idx1 x
      exact mul_piece arg12.view arg13.view _ _ 1 2 (by decide) (by decide) r l _ rfl (by show 16 + 1 * r.val = _; omega) (by show 0 + 1 * l.val = _; omega)
    · intro x
      obtain ⟨r, l, rfl⟩ := idx1 x
      exact mul_piece arg12.view arg13.view _ _ 0 2 (by decide) (by decide) r l _ rfl (by show 16 + 1 * r.val = _; omega) (by show 0 + 1 * l.val = _; omega)
    · intro x
      obtain ⟨r, l, rfl⟩ := idx1 x
      exact mul_piece arg12.view arg13.view _ _ 1 1 (by decide) (by decide) r l _ rfl (by show 8 + 1 * r.val = _; omega) (by show 0 + 1 * l.val = _; omega)
    · intro x
      obtain ⟨r, l, rfl⟩ := idx1 x
      exact mul_piece arg12.view arg13.view _ _ 0 1 (by decide) (by decide) r l _ rfl (by show 8 + 1 * r.val = _; omega) (by show 0 + 1 * l.val = _; omega)
    · intro x
      obtain ⟨r, l, rfl⟩ := idx1 x
      exact mul_piece arg12.view arg13.view _ _ 1 0 (by decide) (by decide) r l _ rfl (by show 0 + 1 * r.val = _; omega) (by show 0 + 1 * l.val = _; omega)
    · intro x
      obtain ⟨r, l, rfl⟩ := idx1 x
      exact mul_piece arg12.view arg13.view _ _ 0 0 (by decide) (by decide) r l _ rfl (by show 0 + 1 * r.val = _; omega) (by show 0 + 1 * l.val = _; omega)
  · unfold trip1.sl.H14_10
    exact View.cover_of_tiled _ ![1, 8, 128] rfl y

/-- The buffer of the products of the scales after a trip. -/
theorem H15_at (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (arg1 : BitVec 32) (v0 : IVec S8x128 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) (y : S40x128.Idx) :
    arg15.view.read (Elt Ideal) (arg15.view.writes (Elt Ideal) arg15.view.junk (trip1.sl.H15_5 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg6 k f_arg12 f_arg13)) y = prodf (arg12.view.read (Elt Ideal) (arg12.view.writes (Elt Ideal) f_arg12 (pb_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 (0#32) (1#32) k (trip1.sl.v4 k) X_arg2 X_arg3 (Scf.trips (0#32) (Scalar.addi 0#32 36#32) 1#32)).1)) (arg13.view.read (Elt Ideal) (arg13.view.writes (Elt Ideal) f_arg13 (pb_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 (0#32) (1#32) k (trip1.sl.v4 k) X_arg2 X_arg3 (Scf.trips (0#32) (Scalar.addi 0#32 36#32) 1#32)).2)) (arg6.view.read (Elt Ideal) X_arg6) y := by
  refine View.read_writes_apply_of_pieces arg15.view _ _ _ ?_ y ?_
  · unfold trip1.sl.H15_5
    simp only [List.forall_mem_cons]
    refine ⟨?_, ?_, ?_, ?_, ?_, by simp⟩
    · intro x
      obtain ⟨r, l, rfl⟩ := idx28 x
      exact prod_piece arg12.view arg13.view _ _ 4 (by decide) _ _ r l _ (by show 32 + 1 * r.val = _; omega) (by show 0 + 1 * l.val = _; omega) rfl
    · intro x
      obtain ⟨r, l, rfl⟩ := idx28 x
      exact prod_piece arg12.view arg13.view _ _ 3 (by decide) _ _ r l _ (by show 24 + 1 * r.val = _; omega) (by show 0 + 1 * l.val = _; omega) rfl
    · intro x
      obtain ⟨r, l, rfl⟩ := idx28 x
      exact prod_piece arg12.view arg13.view _ _ 2 (by decide) _ _ r l _ (by show 16 + 1 * r.val = _; omega) (by show 0 + 1 * l.val = _; omega) rfl
    · intro x
      obtain ⟨r, l, rfl⟩ := idx28 x
      exact prod_piece arg12.view arg13.view _ _ 1 (by decide) _ _ r l _ (by show 8 + 1 * r.val = _; omega) (by show 0 + 1 * l.val = _; omega) rfl
    · intro x
      obtain ⟨r, l, rfl⟩ := idx28 x
      exact prod_piece arg12.view arg13.view _ _ 0 (by decide) _ _ r l _ (by show 0 + 1 * r.val = _; omega) (by show 0 + 1 * l.val = _; omega) rfl
  · unfold trip1.sl.H15_5
    exact View.cover_of_tiled _ ![8, 128] rfl y

set_option maxHeartbeats 4000000 in
/-- The scales after a trip. -/
theorem H10_at (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (arg1 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) (y : S1x36x40.Idx) :
    arg10.view.read (Elt Ideal) (arg10.view.writes (Elt Ideal) arg10.view.junk (trip1.sl.H10_5 c i arg2 harg2 arg3 harg3 arg4 harg4 arg5 harg5 arg6 harg6 arg7 harg7 arg8 harg8 arg9 harg9 arg10 harg10 arg11 harg11 arg12 harg12 arg13 harg13 arg14 harg14 arg15 harg15 arg1 (iota .tc S8x128 32 [1] iota_S8x128_d1_w32) X_arg2 X_arg3 k f_arg10 f_arg12 f_arg13)) y = colf (Scalar.muli (Scalar.addi (Scalar.muli arg1 2#32) (trip1.sl.arg16 k)) 2#32) (arg12.view.read (Elt Ideal) (arg12.view.writes (Elt Ideal) f_arg12 (pb_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 (0#32) (1#32) k (trip1.sl.v4 k) X_arg2 X_arg3 (Scf.trips (0#32) (Scalar.addi 0#32 36#32) 1#32)).1)) (arg13.view.read (Elt Ideal) (arg13.view.writes (Elt Ideal) f_arg13 (pb_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 (0#32) (1#32) k (trip1.sl.v4 k) X_arg2 X_arg3 (Scf.trips (0#32) (Scalar.addi 0#32 36#32) 1#32)).2)) (arg10.view.read (Elt Ideal) f_arg10) 0 y := by
  refine View.read_writes_apply_of_pieces arg10.view _ _ _ ?_ y ?_
  · unfold trip1.sl.H10_5
    simp only [List.forall_mem_cons]
    refine ⟨?_, ?_, ?_, ?_, ?_, by simp⟩
    · intro x
      obtain ⟨r, l, rfl⟩ := idx34 x
      exact col4_piece arg12.view arg13.view _ _ arg1 (trip1.sl.arg16 k) 0 (by decide) _ _ r l _ (by show 32 + 1 * r.val = _; omega) (by show 0 + 1 * l.val = _; omega) rfl
    · intro x
      obtain ⟨r, l, rfl⟩ := idx38 x
      exact col_piece arg12.view arg13.view _ _ (Scalar.muli (Scalar.addi (Scalar.muli arg1 2#32) (trip1.sl.arg16 k)) 2#32) 0 3 (by decide) (by decide) _ _ r l _ (by show 24 + 1 * r.val = _; omega) (by show 0 + 1 * l.val = _; omega) rfl
    · intro x
      obtain ⟨r, l, rfl⟩ := idx38 x
      exact col_piece arg12.view arg13.view _ _ (Scalar.muli (Scalar.addi (Scalar.muli arg1 2#32) (trip1.sl.arg16 k)) 2#32) 0 2 (by decide) (by decide) _ _ r l _ (by show 16 + 1 * r.val = _; omega) (by show 0 + 1 * l.val = _; omega) rfl
    · intro x
      obtain ⟨r, l, rfl⟩ := idx38 x
      show colc (Scalar.muli (Scalar.addi (Scalar.muli arg1 2#32) (trip1.sl.arg16 k)) 2#32) (trip1.sl.r_17 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 k f_arg12 f_arg13) (trip1.sl.v355 arg10 f_arg10) (ix3 0 r l) = _
      exact col_piece arg12.view arg13.view _ _ (Scalar.muli (Scalar.addi (Scalar.muli arg1 2#32) (trip1.sl.arg16 k)) 2#32) 0 1 (by decide) (by decide) _ _ r l _ (by show 8 + 1 * r.val = _; omega) (by show 0 + 1 * l.val = _; omega) rfl
    · intro x
      obtain ⟨r, l, rfl⟩ := idx38 x
      exact col_piece arg12.view arg13.view _ _ (Scalar.muli (Scalar.addi (Scalar.muli arg1 2#32) (trip1.sl.arg16 k)) 2#32) 0 0 (by decide) (by decide) _ _ r l _ (by show 0 + 1 * r.val = _; omega) (by show 0 + 1 * l.val = _; omega) rfl
  · unfold trip1.sl.H10_5
    have h36 : (y 1).val < 36 := (y 1).isLt
    rcases lt_or_ge (y 1).val 8 with h | h
    · exact ⟨_, .tail _ (.tail _ (.tail _ (.tail _ (.head _)))), mem36 y 0 8 inb_S1x36x40_S1x8x40_0_0_0 (by omega) (by omega)⟩
    rcases lt_or_ge (y 1).val 16 with h | h
    · exact ⟨_, .tail _ (.tail _ (.tail _ (.head _))), mem36 y 8 8 inb_S1x36x40_S1x8x40_0_8_0 (by omega) (by omega)⟩
    rcases lt_or_ge (y 1).val 24 with h | h
    · exact ⟨_, .tail _ (.tail _ (.head _)), mem36 y 16 8 inb_S1x36x40_S1x8x40_0_16_0 (by omega) (by omega)⟩
    rcases lt_or_ge (y 1).val 32 with h | h
    · exact ⟨_, .tail _ (.head _), mem36 y 24 8 inb_S1x36x40_S1x8x40_0_24_0 (by omega) (by omega)⟩
    · exact ⟨_, .head _, mem36 y 32 4 inb_S1x36x40_S1x4x40_0_32_0 (by omega) (by omega)⟩

set_option maxHeartbeats 4000000 in
/-- The scales after a trip. -/
theorem H11_at (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (arg1 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) (y : S1x36x40.Idx) :
    arg11.view.read (Elt Ideal) (arg11.view.writes (Elt Ideal) arg11.view.junk (trip1.sl.H11_5 c i arg2 harg2 arg3 harg3 arg4 harg4 arg5 harg5 arg6 harg6 arg7 harg7 arg8 harg8 arg9 harg9 arg10 harg10 arg11 harg11 arg12 harg12 arg13 harg13 arg14 harg14 arg15 harg15 arg1 (iota .tc S8x128 32 [1] iota_S8x128_d1_w32) X_arg2 X_arg3 k f_arg11 f_arg12 f_arg13)) y = colf (Scalar.muli (Scalar.addi (Scalar.muli arg1 2#32) (trip1.sl.arg16 k)) 2#32) (arg12.view.read (Elt Ideal) (arg12.view.writes (Elt Ideal) f_arg12 (pb_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 (0#32) (1#32) k (trip1.sl.v4 k) X_arg2 X_arg3 (Scf.trips (0#32) (Scalar.addi 0#32 36#32) 1#32)).1)) (arg13.view.read (Elt Ideal) (arg13.view.writes (Elt Ideal) f_arg13 (pb_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 (0#32) (1#32) k (trip1.sl.v4 k) X_arg2 X_arg3 (Scf.trips (0#32) (Scalar.addi 0#32 36#32) 1#32)).2)) (arg11.view.read (Elt Ideal) f_arg11) 1 y := by
  refine View.read_writes_apply_of_pieces arg11.view _ _ _ ?_ y ?_
  · unfold trip1.sl.H11_5
    simp only [List.forall_mem_cons]
    refine ⟨?_, ?_, ?_, ?_, ?_, by simp⟩
    · intro x
      obtain ⟨r, l, rfl⟩ := idx34 x
      exact col4_piece arg12.view arg13.view _ _ arg1 (trip1.sl.arg16 k) 1 (by decide) _ _ r l _ (by show 32 + 1 * r.val = _; omega) (by show 0 + 1 * l.val = _; omega) rfl
    · intro x
      obtain ⟨r, l, rfl⟩ := idx38 x
      exact col_piece arg12.view arg13.view _ _ (Scalar.muli (Scalar.addi (Scalar.muli arg1 2#32) (trip1.sl.arg16 k)) 2#32) 1 3 (by decide) (by decide) _ _ r l _ (by show 24 + 1 * r.val = _; omega) (by show 0 + 1 * l.val = _; omega) rfl
    · intro x
      obtain ⟨r, l, rfl⟩ := idx38 x
      exact col_piece arg12.view arg13.view _ _ (Scalar.muli (Scalar.addi (Scalar.muli arg1 2#32) (trip1.sl.arg16 k)) 2#32) 1 2 (by decide) (by decide) _ _ r l _ (by show 16 + 1 * r.val = _; omega) (by show 0 + 1 * l.val = _; omega) rfl
    · intro x
      obtain ⟨r, l, rfl⟩ := idx38 x
      exact col_piece arg12.view arg13.view _ _ (Scalar.muli (Scalar.addi (Scalar.muli arg1 2#32) (trip1.sl.arg16 k)) 2#32) 1 1 (by decide) (by decide) _ _ r l _ (by show 8 + 1 * r.val = _; omega) (by show 0 + 1 * l.val = _; omega) rfl
    · intro x
      obtain ⟨r, l, rfl⟩ := idx38 x
      exact col_piece arg12.view arg13.view _ _ (Scalar.muli (Scalar.addi (Scalar.muli arg1 2#32) (trip1.sl.arg16 k)) 2#32) 1 0 (by decide) (by decide) _ _ r l _ (by show 0 + 1 * r.val = _; omega) (by show 0 + 1 * l.val = _; omega) rfl
  · unfold trip1.sl.H11_5
    have h36 : (y 1).val < 36 := (y 1).isLt
    rcases lt_or_ge (y 1).val 8 with h | h
    · exact ⟨_, .tail _ (.tail _ (.tail _ (.tail _ (.head _)))), mem36 y 0 8 inb_S1x36x40_S1x8x40_0_0_0 (by omega) (by omega)⟩
    rcases lt_or_ge (y 1).val 16 with h | h
    · exact ⟨_, .tail _ (.tail _ (.tail _ (.head _))), mem36 y 8 8 inb_S1x36x40_S1x8x40_0_8_0 (by omega) (by omega)⟩
    rcases lt_or_ge (y 1).val 24 with h | h
    · exact ⟨_, .tail _ (.tail _ (.head _)), mem36 y 16 8 inb_S1x36x40_S1x8x40_0_16_0 (by omega) (by omega)⟩
    rcases lt_or_ge (y 1).val 32 with h | h
    · exact ⟨_, .tail _ (.head _), mem36 y 24 8 inb_S1x36x40_S1x8x40_0_24_0 (by omega) (by omega)⟩
    · exact ⟨_, .head _, mem36 y 32 4 inb_S1x36x40_S1x4x40_0_32_0 (by omega) (by omega)⟩

end Cert.KernelIdeal.Hand
end
-- ==== Proof.Sums.lean ====
/-
  The loop over the heads that leaves the partial sums of squares and the partial maxima.
-/
module

public import proofs.«01_k».proof.Proof.Scales
public import proofs.«01_k».proof.Proof.KVec
public import proofs.«01_k».proof.Proof.Gen.KernelIdeal.Loops
public import Idealize.ShloMosaic.Lib.Pointwise
public import Idealize.ShloMosaic.Lib.WritesUnit
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option maxRecDepth 8000

/-- A load through a block whose offset is known in closed form, read at an index. -/
theorem readAt_unit {κ : Kind} {sp : Space} {s : Shape} {e : EltTy} (v : View sig κ sp s e) (V : v.ty.Contents (Elt Ideal)) (off off' : Fin s.rank → ℕ) {size : Fin s.rank → ℕ}
    (inb : ∀ a, off a + size a ≤ s.size a) (heq : off = off') (x : (Rect.unit (s := s) off size inb).shape.Idx) (y : s.Idx) (hy : ∀ a, (y a).val = off' a + (x a).val) :
    v.readAt (Elt Ideal) (Rect.unit (s := s) off size inb).toLoadRect V x = v.read (Elt Ideal) V y := by
  subst heq
  rw [View.readAt_apply]
  congr 1
  funext a
  refine Fin.ext ?_
  show off a + 1 * (x a).val = (y a).val
  rw [hy, Nat.one_mul]

/-- What a loop over the heads that writes two blocks of eight rows per head leaves. -/
theorem rows_of (v : View sig .tc .vmem S2x320x128 .f32) (f : v.ty.Contents (Elt Ideal)) (L : ℕ → List (View.Piece (Elt Ideal) S2x320x128 .f32))
    (P0 P1 : Fin k0_t2_loop.trips → FVec Ideal S1x8x128 .f32)
    (hs : ∀ k : Fin k0_t2_loop.trips, L (k.val + 1) = (⟨Rect.unit (k0_off3 k) S1x8x128.size (k0_off3_inb k), P1 k⟩ : View.Piece (Elt Ideal) S2x320x128 .f32)
      :: (⟨Rect.unit (k0_off2 k) S1x8x128.size (k0_off2_inb k), P0 k⟩ : View.Piece (Elt Ideal) S2x320x128 .f32) :: L k.val) :
    ∀ n ≤ 36, ∀ (h : ℕ) (hn : h < n) (h36 : h < 36) (r : Fin 8) (l : Fin 128),
      v.read (Elt Ideal) (v.writes (Elt Ideal) f (L n)) (ix3 0 ⟨8 * h + r.val, by omega⟩ l) = P0 ⟨h, h36⟩ (ix3 0 r l)
      ∧ v.read (Elt Ideal) (v.writes (Elt Ideal) f (L n)) (ix3 1 ⟨8 * h + r.val, by omega⟩ l) = P1 ⟨h, h36⟩ (ix3 0 r l) := by
  intro n
  induction n with
  | zero => intro _ h hn; omega
  | succ n ih =>
    intro hle h hn h36 r l
    have hk : n < k0_t2_loop.trips := by show n < 36; omega
    rw [hs ⟨n, hk⟩]
    by_cases e : h = n
    · subst e
      constructor
      · rw [View.read_writes_cons_unit_of_not_mem (off' := ![1, 8 * h, 0]) (heq := k0_off3_eq ⟨h, hk⟩) (a := 0) (ha := Or.inl (by show 0 < 1; omega))]
        exact View.read_writes_cons_unit_of_mem v f _ _ _ _ (ix3 0 r l) (k0_off2_eq ⟨h, hk⟩) (fun a => by
          fin_cases a
          · rfl
          · rfl
          · show l.val = 0 + l.val; omega)
      · exact View.read_writes_cons_unit_of_mem v f _ _ _ _ (ix3 0 r l) (k0_off3_eq ⟨h, hk⟩) (fun a => by
          fin_cases a
          · rfl
          · rfl
          · show l.val = 0 + l.val; omega)
    · have hh : h < n := by omega
      constructor
      · rw [View.read_writes_cons_unit_of_not_mem (off' := ![1, 8 * n, 0]) (heq := k0_off3_eq ⟨n, hk⟩) (a := 1) (ha := Or.inl (by show 8 * h + r.val < 8 * n; omega)),
          View.read_writes_cons_unit_of_not_mem (off' := ![0, 8 * n, 0]) (heq := k0_off2_eq ⟨n, hk⟩) (a := 1) (ha := Or.inl (by show 8 * h + r.val < 8 * n; omega))]
        exact (ih (by omega) h hh h36 r l).1
      · rw [View.read_writes_cons_unit_of_not_mem (off' := ![1, 8 * n, 0]) (heq := k0_off3_eq ⟨n, hk⟩) (a := 1) (ha := Or.inl (by show 8 * h + r.val < 8 * n; omega)),
          View.read_writes_cons_unit_of_not_mem (off' := ![0, 8 * n, 0]) (heq := k0_off2_eq ⟨n, hk⟩) (a := 1) (ha := Or.inl (by show 8 * h + r.val < 8 * n; omega))]
        exact (ih (by omega) h hh h36 r l).2

/-- A column of one head's entries, over the 32 features. -/
def colx (R : S1x36x32x256.Idx → EReal) (k : Fin k0_t1_loop.trips) (h : Fin 36) (l : Fin 128) (d : Fin 32) : EReal :=
  R (ix4 0 h d ⟨128 * k.val + l.val, by have : k.val < 2 := k.isLt; omega⟩)

/-- The load of one head's block of 128 tokens. -/
def ldt (v : View sig .tc .vmem S1x36x32x256 .bf16) (V : v.ty.Contents (Elt Ideal)) (k : Fin k0_t1_loop.trips) (h : Fin k0_t2_loop.trips) : Vec Ideal S1x1x32x128 .bf16 :=
  v.readAt (Elt Ideal) (Rect.unit (s := S1x36x32x256) (k0_off1 k h) S1x1x32x128.size (k0_off1_inb k h)).toLoadRect V

theorem ld1_at (v : View sig .tc .vmem S1x36x32x256 .bf16) (V : v.ty.Contents (Elt Ideal)) (k : Fin k0_t1_loop.trips) (h : Fin k0_t2_loop.trips) (d : Fin 32) (l : Fin 128) :
    ldt v V k h (ix4 0 0 d l) = colx (v.read (Elt Ideal) V) k h l d := by
  exact readAt_unit v V _ _ (k0_off1_inb k h) (k0_off1_eq k h) (ix4 0 0 d l) _ (fun a => by
    fin_cases a
    · rfl
    · rfl
    · show d.val = 0 + d.val; omega
    · rfl)

def ps (x : Fin 32 → EReal) (r : Fin 8) : EReal :=
  (x ⟨r.val, by omega⟩ * x ⟨r.val, by omega⟩ + x ⟨8 + r.val, by omega⟩ * x ⟨8 + r.val, by omega⟩)
      + (x ⟨16 + r.val, by omega⟩ * x ⟨16 + r.val, by omega⟩ + x ⟨24 + r.val, by omega⟩ * x ⟨24 + r.val, by omega⟩)
def pm (x : Fin 32 → EReal) (r : Fin 8) : EReal :=
  max (max (Spec.eabs (x ⟨r.val, by omega⟩)) (Spec.eabs (x ⟨8 + r.val, by omega⟩))) (max (Spec.eabs (x ⟨16 + r.val, by omega⟩)) (Spec.eabs (x ⟨24 + r.val, by omega⟩)))

theorem sum_ps (x : Fin 32 → EReal) : ps x 0 + ps x 1 + ps x 2 + ps x 3 + ps x 4 + ps x 5 + ps x 6 + ps x 7 = ∑ d, x d * x d := by
  have e : ∑ d, x d * x d = ∑ r : Fin 8, ps x r := by
    rw [Fin.sum_univ_add (a := 16) (b := 16) (fun d : Fin 32 => x d * x d), Fin.sum_univ_add (a := 8) (b := 8) _, Fin.sum_univ_add (a := 8) (b := 8) (fun d : Fin 16 => x (Fin.natAdd 16 d) * x (Fin.natAdd 16 d)),
      ← Finset.sum_add_distrib, ← Finset.sum_add_distrib, ← Finset.sum_add_distrib]
    rfl
  rw [e]
  simp [Fin.sum_univ_succ]
  simp only [add_assoc]

theorem max_pm (x : Fin 32 → EReal) : max (max (max (max (max (max (max (pm x 0) (pm x 1)) (pm x 2)) (pm x 3)) (pm x 4)) (pm x 5)) (pm x 6)) (pm x 7) = Finset.univ.sup fun d => Spec.eabs (x d) := by
  refine eq_of_forall_ge_iff fun c => ?_
  simp only [pm, max_le_iff, Finset.sup_le_iff, Finset.mem_univ, true_implies, Fin.forall_fin_succ (n := 31)]
  simp only [Fin.forall_fin_succ]
  constructor
  · rintro ⟨⟨⟨⟨⟨⟨⟨⟨⟨a0, a1⟩, a2, a3⟩, ⟨b0, b1⟩, b2, b3⟩, ⟨c0, c1⟩, c2, c3⟩, ⟨d0, d1⟩, d2, d3⟩, ⟨e0, e1⟩, e2, e3⟩, ⟨f0, f1⟩, f2, f3⟩, ⟨g0, g1⟩, g2, g3⟩, ⟨h0, h1⟩, h2, h3⟩
    exact ⟨a0, b0, c0, d0, e0, f0, g0, h0, a1, b1, c1, d1, e1, f1, g1, h1, a2, b2, c2, d2, e2, f2, g2, h2, a3, b3, c3, d3, e3, f3, g3, h3, fun j => j.elim0⟩
  · rintro ⟨a0, b0, c0, d0, e0, f0, g0, h0, a1, b1, c1, d1, e1, f1, g1, h1, a2, b2, c2, d2, e2, f2, g2, h2, a3, b3, c3, d3, e3, f3, g3, h3, -⟩
    exact ⟨⟨⟨⟨⟨⟨⟨⟨⟨a0, a1⟩, a2, a3⟩, ⟨b0, b1⟩, b2, b3⟩, ⟨c0, c1⟩, c2, c3⟩, ⟨d0, d1⟩, d2, d3⟩, ⟨e0, e1⟩, e2, e3⟩, ⟨f0, f1⟩, f2, f3⟩, ⟨g0, g1⟩, g2, g3⟩, ⟨h0, h1⟩, h2, h3⟩

/-- The sums of squares and the maxima, from rows that hold the partial ones. -/
theorem n2f_of (R : S2x320x128.Idx → EReal) (i : Fin 2) (h : Fin 40) (l : Fin 128) (x : Fin 32 → EReal)
    (hR : ∀ r : Fin 8, R (ix3 i ⟨8 * h.val + r.val, by omega⟩ l) = ps x r) : n2f R i h l = ∑ d, x d * x d := by
  unfold n2f
  rw [← sum_ps, ← hR 0, ← hR 1, ← hR 2, ← hR 3, ← hR 4, ← hR 5, ← hR 6, ← hR 7]
  rfl
theorem mxf_of (R : S2x320x128.Idx → EReal) (i : Fin 2) (h : Fin 40) (l : Fin 128) (x : Fin 32 → EReal)
    (hR : ∀ r : Fin 8, R (ix3 i ⟨8 * h.val + r.val, by omega⟩ l) = pm x r) : mxf R i h l = Finset.univ.sup fun d => Spec.eabs (x d) := by
  unfold mxf
  rw [← max_pm, ← hR 0, ← hR 1, ← hR 2, ← hR 3, ← hR 4, ← hR 5, ← hR 6, ← hR 7]
  rfl

/-- The pieces one head adds. -/
theorem t2_succ (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (v5 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) (h : Fin k0_t2_loop.trips) :
    (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (0#32) (1#32) k v5 X_arg2 X_arg3 (h.val + 1)).1 = (⟨Rect.unit (k0_off3 h) S1x8x128.size (k0_off3_inb h), k0_pay6 (F := Ideal) (ldt arg3.view X_arg3 k h)⟩ : View.Piece (Elt Ideal) S2x320x128 .f32)
      :: (⟨Rect.unit (k0_off2 h) S1x8x128.size (k0_off2_inb h), k0_pay6 (F := Ideal) (ldt arg2.view X_arg2 k h)⟩ : View.Piece (Elt Ideal) S2x320x128 .f32) :: (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (0#32) (1#32) k v5 X_arg2 X_arg3 h.val).1
    ∧ (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (0#32) (1#32) k v5 X_arg2 X_arg3 (h.val + 1)).2 = (⟨Rect.unit (k0_off3 h) S1x8x128.size (k0_off3_inb h), k0_pay7 (F := Ideal) (ldt arg3.view X_arg3 k h)⟩ : View.Piece (Elt Ideal) S2x320x128 .f32)
      :: (⟨Rect.unit (k0_off2 h) S1x8x128.size (k0_off2_inb h), k0_pay7 (F := Ideal) (ldt arg2.view X_arg2 k h)⟩ : View.Piece (Elt Ideal) S2x320x128 .f32) :: (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (0#32) (1#32) k v5 X_arg2 X_arg3 h.val).2 := by
  rw [pb_k0_t2_succ]
  unfold tripL_k0_t2 trip_k0_t2
  constructor <;> rfl

/-- The rows of partial sums after the loop over the heads. -/
theorem t2_12 (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (v5 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) (h : ℕ) (h36 : h < 36) (r : Fin 8) (l : Fin 128) :
    arg12.view.read (Elt Ideal) (arg12.view.writes (Elt Ideal) f_arg12 (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (0#32) (1#32) k v5 X_arg2 X_arg3 36).1) (ix3 0 ⟨8 * h + r.val, by omega⟩ l) = ps (colx (arg2.view.read (Elt Ideal) X_arg2) k ⟨h, h36⟩ l) r
    ∧ arg12.view.read (Elt Ideal) (arg12.view.writes (Elt Ideal) f_arg12 (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (0#32) (1#32) k v5 X_arg2 X_arg3 36).1) (ix3 1 ⟨8 * h + r.val, by omega⟩ l) = ps (colx (arg3.view.read (Elt Ideal) X_arg3) k ⟨h, h36⟩ l) r := by
  have key := rows_of arg12.view f_arg12 (fun n => (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (0#32) (1#32) k v5 X_arg2 X_arg3 n).1) (fun h => k0_pay6 (F := Ideal) (ldt arg2.view X_arg2 k h)) (fun h => k0_pay6 (F := Ideal) (ldt arg3.view X_arg3 k h)) (fun h => (t2_succ c i arg2 harg2 arg3 harg3 arg4 harg4 arg5 harg5 arg6 harg6 arg7 harg7 arg8 harg8 arg9 harg9 arg10 harg10 arg11 harg11 arg12 harg12 arg13 harg13 arg14 harg14 arg15 harg15 v5 X_arg2 X_arg3 X_arg4 X_arg5 X_arg6 k f_arg7 f_arg8 f_arg9 f_arg10 f_arg11 f_arg12 f_arg13 f_arg14 f_arg15 h).1) 36 le_rfl h h36 h36 r l
  refine ⟨key.1.trans ?_, key.2.trans ?_⟩
  · rw [pay6_at]; simp only [ld1_at]; rfl
  · rw [pay6_at]; simp only [ld1_at]; rfl

/-- The rows of partial maxima after the loop over the heads. -/
theorem t2_13 (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (v5 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) (h : ℕ) (h36 : h < 36) (r : Fin 8) (l : Fin 128) :
    arg13.view.read (Elt Ideal) (arg13.view.writes (Elt Ideal) f_arg13 (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (0#32) (1#32) k v5 X_arg2 X_arg3 36).2) (ix3 0 ⟨8 * h + r.val, by omega⟩ l) = pm (colx (arg2.view.read (Elt Ideal) X_arg2) k ⟨h, h36⟩ l) r
    ∧ arg13.view.read (Elt Ideal) (arg13.view.writes (Elt Ideal) f_arg13 (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (0#32) (1#32) k v5 X_arg2 X_arg3 36).2) (ix3 1 ⟨8 * h + r.val, by omega⟩ l) = pm (colx (arg3.view.read (Elt Ideal) X_arg3) k ⟨h, h36⟩ l) r := by
  have key := rows_of arg13.view f_arg13 (fun n => (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (0#32) (1#32) k v5 X_arg2 X_arg3 n).2) (fun h => k0_pay7 (F := Ideal) (ldt arg2.view X_arg2 k h)) (fun h => k0_pay7 (F := Ideal) (ldt arg3.view X_arg3 k h)) (fun h => (t2_succ c i arg2 harg2 arg3 harg3 arg4 harg4 arg5 harg5 arg6 harg6 arg7 harg7 arg8 harg8 arg9 harg9 arg10 harg10 arg11 harg11 arg12 harg12 arg13 harg13 arg14 harg14 arg15 harg15 v5 X_arg2 X_arg3 X_arg4 X_arg5 X_arg6 k f_arg7 f_arg8 f_arg9 f_arg10 f_arg11 f_arg12 f_arg13 f_arg14 f_arg15 h).2) 36 le_rfl h h36 h36 r l
  refine ⟨key.1.trans ?_, key.2.trans ?_⟩
  · rw [pay7_at]; simp only [ld1_at]; rfl
  · rw [pay7_at]; simp only [ld1_at]; rfl

end Cert.KernelIdeal.Hand
end
-- ==== Proof.Heads.lean ====
/-
  The loop over groups of four heads that leaves the codes and the output.
-/
module

public import proofs.«01_k».proof.Proof.Sums
public import proofs.«01_k».proof.Proof.KVec
public import proofs.«01_k».proof.Proof.Gen.KernelIdeal.Loops
public import Idealize.ShloMosaic.Lib.Pointwise
public import Idealize.ShloMosaic.Lib.WritesUnit
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option maxRecDepth 8000

/-- What a loop leaves whose trips each write a region with the values of one function. -/
theorem loop_read {s : Shape} {e : EltTy} (v : View sig .tc .vmem s e) (f : v.ty.Contents (Elt Ideal)) (G : s.Idx → Elt Ideal e) (L T : ℕ → List (View.Piece (Elt Ideal) s e)) (N : ℕ) (h0 : L 0 = [])
    (hs : ∀ k < N, L (k + 1) = T k ++ L k) (reg : ℕ → s.Idx → Prop)
    (hit : ∀ k < N, ∀ g y, reg k y → v.read (Elt Ideal) (v.writes (Elt Ideal) g (T k)) y = G y)
    (miss : ∀ k < N, ∀ g y, ¬ reg k y → v.read (Elt Ideal) (v.writes (Elt Ideal) g (T k)) y = v.read (Elt Ideal) g y) :
    ∀ n ≤ N, ∀ y, ((∃ k < n, reg k y) → v.read (Elt Ideal) (v.writes (Elt Ideal) f (L n)) y = G y)
      ∧ ((∀ k < n, ¬ reg k y) → v.read (Elt Ideal) (v.writes (Elt Ideal) f (L n)) y = v.read (Elt Ideal) f y) := by
  intro n
  induction n with
  | zero =>
    intro _ y
    refine ⟨fun ⟨k, hk, _⟩ => absurd hk (Nat.not_lt_zero k), fun _ => ?_⟩
    rw [h0]; rfl
  | succ n ih =>
    intro hle y
    rw [hs n (by omega), View.writes_append]
    by_cases hr : reg n y
    · exact ⟨fun _ => hit n (by omega) _ y hr, fun h => absurd hr (h n (by omega))⟩
    · rw [miss n (by omega) _ y hr]
      refine ⟨fun ⟨k, hk, hk'⟩ => (ih (by omega) y).1 ⟨k, ?_, hk'⟩, fun h => (ih (by omega) y).2 fun k hk => h k (by omega)⟩
      rcases Nat.lt_succ_iff_lt_or_eq.mp hk with h | h
      · exact h
      · subst h; exact absurd hk' hr

/-- Head `hh` of group `k`. -/
def hd (k : Fin k0_t3_loop.trips) (hh : Fin 4) : Fin 36 := ⟨4 * k.val + hh.val, by have : k.val < 9 := k.isLt; omega⟩
def hd' (h : Fin 36) : Fin 40 := ⟨h.val, by omega⟩

/-! ## The loads of one head -/

/-- A head's entries for a block of 128 tokens, as a vector. -/
def xvec (R : S1x36x32x256.Idx → EReal) (k : Fin k0_t1_loop.trips) (h : Fin 36) : Vec Ideal S1x1x32x128 .bf16 := fun x => colx R k h (x 3) (x 2)
def mvec (R : S2x40x128.Idx → EReal) (i : Fin 2) (h : Fin 36) : Vec Ideal S1x1x128 .f32 := fun x => R (ix3 i (hd' h) (x 2))
def cvec (R : S40x128.Idx → EReal) (h : Fin 36) : Vec Ideal S1x128 .f32 := fun x => R (ix2 (hd' h) (x 1))
def bvec (R : S36x64x128.Idx → EReal) (h : Fin 36) : Vec Ideal S1x64x128 .f32 := fun x => R (ix3 h (x 1) (x 2))

def ldx (v : View sig .tc .vmem S1x36x32x256 .bf16) (V : v.ty.Contents (Elt Ideal)) (k0 : Fin k0_t1_loop.trips) (k : Fin k0_t3_loop.trips) (hh : Fin 4) : Vec Ideal S1x1x32x128 .bf16 :=
  v.readAt (Elt Ideal) (Rect.unit (s := S1x36x32x256) (k0_off4 k0 k (BitVec.ofNat 32 hh.val)) S1x1x32x128.size (k0_off4_inb k0 k hh)).toLoadRect V
def ldm0 (v : View sig .tc .vmem S2x40x128 .f32) (V : v.ty.Contents (Elt Ideal)) (k : Fin k0_t3_loop.trips) (hh : Fin 4) : Vec Ideal S1x1x128 .f32 :=
  v.readAt (Elt Ideal) (Rect.unit (s := S2x40x128) (k0_off5 k (BitVec.ofNat 32 hh.val)) S1x1x128.size (k0_off5_inb k hh)).toLoadRect V
def ldm1 (v : View sig .tc .vmem S2x40x128 .f32) (V : v.ty.Contents (Elt Ideal)) (k : Fin k0_t3_loop.trips) (hh : Fin 4) : Vec Ideal S1x1x128 .f32 :=
  v.readAt (Elt Ideal) (Rect.unit (s := S2x40x128) (k0_off8 k (BitVec.ofNat 32 hh.val)) S1x1x128.size (k0_off8_inb k hh)).toLoadRect V
def ldc (v : View sig .tc .vmem S40x128 .f32) (V : v.ty.Contents (Elt Ideal)) (k : Fin k0_t3_loop.trips) (hh : Fin 4) : Vec Ideal S1x128 .f32 :=
  v.readAt (Elt Ideal) (Rect.unit (s := S40x128) (k0_off9 k (BitVec.ofNat 32 hh.val)) S1x128.size (k0_off9_inb k hh)).toLoadRect V
def ldv (v : View sig .tc .vmem S36x64x128 .f32) (V : v.ty.Contents (Elt Ideal)) (k : Fin k0_t3_loop.trips) (hh : Fin 4) : Vec Ideal S1x64x128 .f32 :=
  v.readAt (Elt Ideal) (Rect.unit (s := S36x64x128) (k0_off10 k (BitVec.ofNat 32 hh.val)) S1x64x128.size (k0_off10_inb k hh)).toLoadRect V

theorem ldx_eq (v : View sig .tc .vmem S1x36x32x256 .bf16) (V : v.ty.Contents (Elt Ideal)) (k0 : Fin k0_t1_loop.trips) (k : Fin k0_t3_loop.trips) (hh : Fin 4) :
    ldx v V k0 k hh = xvec (v.read (Elt Ideal) V) k0 (hd k hh) := funext fun x =>
  readAt_unit v V _ _ (k0_off4_inb k0 k hh) (k0_off4_eq k0 k hh) x _ (fun a => by
    have h0 : (x 0).val < 1 := (x 0).isLt
    have h1 : (x 1).val < 1 := (x 1).isLt
    fin_cases a
    · show 0 = 0 + (x 0).val; omega
    · show 4 * k.val + hh.val = 4 * k.val + hh.val + (x 1).val; omega
    · show (x 2).val = 0 + (x 2).val; omega
    · rfl)
theorem ldm0_eq (v : View sig .tc .vmem S2x40x128 .f32) (V : v.ty.Contents (Elt Ideal)) (k : Fin k0_t3_loop.trips) (hh : Fin 4) :
    ldm0 v V k hh = mvec (v.read (Elt Ideal) V) 0 (hd k hh) := funext fun x =>
  readAt_unit v V _ _ (k0_off5_inb k hh) (k0_off5_eq k hh) x _ (fun a => by
    have h0 : (x 0).val < 1 := (x 0).isLt
    have h1 : (x 1).val < 1 := (x 1).isLt
    fin_cases a
    · show 0 = 0 + (x 0).val; omega
    · show 4 * k.val + hh.val = 4 * k.val + hh.val + (x 1).val; omega
    · show (x 2).val = 0 + (x 2).val; omega)
theorem ldm1_eq (v : View sig .tc .vmem S2x40x128 .f32) (V : v.ty.Contents (Elt Ideal)) (k : Fin k0_t3_loop.trips) (hh : Fin 4) :
    ldm1 v V k hh = mvec (v.read (Elt Ideal) V) 1 (hd k hh) := funext fun x =>
  readAt_unit v V _ _ (k0_off8_inb k hh) (k0_off8_eq k hh) x _ (fun a => by
    have h0 : (x 0).val < 1 := (x 0).isLt
    have h1 : (x 1).val < 1 := (x 1).isLt
    fin_cases a
    · show 1 = 1 + (x 0).val; omega
    · show 4 * k.val + hh.val = 4 * k.val + hh.val + (x 1).val; omega
    · show (x 2).val = 0 + (x 2).val; omega)
theorem ldc_eq (v : View sig .tc .vmem S40x128 .f32) (V : v.ty.Contents (Elt Ideal)) (k : Fin k0_t3_loop.trips) (hh : Fin 4) :
    ldc v V k hh = cvec (v.read (Elt Ideal) V) (hd k hh) := funext fun x =>
  readAt_unit v V _ _ (k0_off9_inb k hh) (k0_off9_eq k hh) x _ (fun a => by
    have h0 : (x 0).val < 1 := (x 0).isLt
    fin_cases a
    · show 4 * k.val + hh.val = 4 * k.val + hh.val + (x 0).val; omega
    · show (x 1).val = 0 + (x 1).val; omega)
theorem ldv_eq (v : View sig .tc .vmem S36x64x128 .f32) (V : v.ty.Contents (Elt Ideal)) (k : Fin k0_t3_loop.trips) (hh : Fin 4) :
    ldv v V k hh = bvec (v.read (Elt Ideal) V) (hd k hh) := funext fun x =>
  readAt_unit v V _ _ (k0_off10_inb k hh) (k0_off10_eq k hh) x _ (fun a => by
    have h0 : (x 0).val < 1 := (x 0).isLt
    fin_cases a
    · show 4 * k.val + hh.val = 4 * k.val + hh.val + (x 0).val; omega
    · show (x 1).val = 0 + (x 1).val; omega
    · show (x 2).val = 0 + (x 2).val; omega)

/-! ## The codes -/

/-- The code of an entry, from the entries and the factors. -/
def codev (R : S1x36x32x256.Idx → EReal) (M : S2x40x128.Idx → EReal) (i : Fin 2) (k0 : Fin k0_t1_loop.trips) (y : S1x4x36x32x64.Idx) : EReal :=
  min Spec.c448 (max Spec.m448 (colx R k0 (y 2) (lane ⟨(y 1).val % 2, by omega⟩ (y 4)) (y 3) * M (ix3 i (hd' (y 2)) (lane ⟨(y 1).val % 2, by omega⟩ (y 4)))))

theorem idx5 (x : (⟨5, ![1, 1, 1, 32, 64]⟩ : Shape).Idx) : ∃ (d : Fin 32) (j : Fin 64), x = ix5 0 0 0 d j :=
  ⟨x 3, x 4, by rw [eq_ix5 x]; congr 1 <;> exact Subsingleton.elim _ _⟩

/-- A piece of codes holds the codes of its place. -/
theorem code_piece (R : S1x36x32x256.Idx → EReal) (M : S2x40x128.Idx → EReal) (i : Fin 2) (k0 : Fin k0_t1_loop.trips) (k : Fin k0_t3_loop.trips) (hh : Fin 4) (p : Fin 2) (d : Fin 32) (j : Fin 64)
    (y : S1x4x36x32x64.Idx) (h1 : (y 1).val = 2 * k0.val + p.val) (h2 : (y 2).val = 4 * k.val + hh.val) (h3 : (y 3).val = d.val) (h4 : (y 4).val = j.val) :
    (![k0_pay12 (xvec R k0 (hd k hh)) (mvec M i (hd k hh)), k0_pay13 (xvec R k0 (hd k hh)) (mvec M i (hd k hh))] p : FVec Ideal S1x1x1x32x64 .fp8e4m3) (ix5 0 0 0 d j) = codev R M i k0 y := by
  have e : (![k0_pay12 (xvec R k0 (hd k hh)) (mvec M i (hd k hh)), k0_pay13 (xvec R k0 (hd k hh)) (mvec M i (hd k hh))] p : FVec Ideal S1x1x1x32x64 .fp8e4m3) (ix5 0 0 0 d j)
      = min Spec.c448 (max Spec.m448 (xvec R k0 (hd k hh) (ix4 0 0 d (lane p j)) * mvec M i (hd k hh) (ix3 0 0 (lane p j)))) := by
    fin_cases p
    · exact pay12_at _ _ _ _
    · exact pay13_at _ _ _ _
  rw [e]
  unfold codev
  have e1 : (⟨(y 1).val % 2, by omega⟩ : Fin 2) = p := Fin.ext (by show (y 1).val % 2 = p.val; omega)
  have e2 : y 2 = hd k hh := Fin.ext h2
  have e3 : y 3 = d := Fin.ext h3
  have e4 : y 4 = j := Fin.ext h4
  rw [e1, e2, e3, e4]
  rfl

/-! ## The output -/

/-- One head's output from what the buffers hold. -/
def headv (R2 R3 R4 : S1x36x32x256.Idx → EReal) (R5 : S36x64x128.Idx → EReal) (M : S2x40x128.Idx → EReal) (C : S40x128.Idx → EReal) (k0 : Fin k0_t1_loop.trips) (h : Fin 36) : FVec Ideal S32x128 .bf16 :=
  headc (xvec R2 k0 h) (xvec R3 k0 h) (xvec R4 k0 h) (mvec M 0 h) (mvec M 1 h) (cvec C h) (bvec R5 h)

/-- The output block from what the buffers hold. -/
def outv (R2 R3 R4 : S1x36x32x256.Idx → EReal) (R5 : S36x64x128.Idx → EReal) (M : S2x40x128.Idx → EReal) (C : S40x128.Idx → EReal) (k0 : Fin k0_t1_loop.trips) (y : S1x256x1152.Idx) : EReal :=
  headv R2 R3 R4 R5 M C k0 ⟨(y 2).val / 32, by have : (y 2).val < 1152 := (y 2).isLt; omega⟩ (ix2 ⟨(y 2).val % 32, by omega⟩ ⟨(y 1).val % 128, by omega⟩)

theorem idx3o (x : (⟨3, ![1, 128, 128]⟩ : Shape).Idx) : ∃ (l : Fin 128) (hh : Fin 4) (d : Fin 32) (hb : 32 * hh.val + d.val < 128), x = ix3 0 l ⟨32 * hh.val + d.val, hb⟩ := by
  have h2 : (x 2).val < 128 := (x 2).isLt
  refine ⟨x 1, ⟨(x 2).val / 32, by omega⟩, ⟨(x 2).val % 32, by omega⟩, by show 32 * ((x 2).val / 32) + (x 2).val % 32 < 128; omega, ?_⟩
  funext a
  fin_cases a
  · exact Subsingleton.elim (α := Fin 1) _ _
  · rfl
  · exact Fin.ext (by show (x 2).val = 32 * ((x 2).val / 32) + (x 2).val % 32; omega)

theorem out_piece (R2 R3 R4 : S1x36x32x256.Idx → EReal) (R5 : S36x64x128.Idx → EReal) (M : S2x40x128.Idx → EReal) (C : S40x128.Idx → EReal) (k0 : Fin k0_t1_loop.trips) (k : Fin k0_t3_loop.trips)
    (l : Fin 128) (hh : Fin 4) (d : Fin 32) (hb : 32 * hh.val + d.val < 128) (y : S1x256x1152.Idx) (h1 : (y 1).val = 128 * k0.val + l.val) (h2 : (y 2).val = 128 * k.val + (32 * hh.val + d.val)) :
    outc (headv R2 R3 R4 R5 M C k0 (hd k 0)) (headv R2 R3 R4 R5 M C k0 (hd k 1)) (headv R2 R3 R4 R5 M C k0 (hd k 2)) (headv R2 R3 R4 R5 M C k0 (hd k 3)) (ix3 0 l ⟨32 * hh.val + d.val, hb⟩)
      = outv R2 R3 R4 R5 M C k0 y := by
  rw [outc_at]
  have e : (![headv R2 R3 R4 R5 M C k0 (hd k 0), headv R2 R3 R4 R5 M C k0 (hd k 1), headv R2 R3 R4 R5 M C k0 (hd k 2), headv R2 R3 R4 R5 M C k0 (hd k 3)] hh : FVec Ideal S32x128 .bf16)
      = headv R2 R3 R4 R5 M C k0 (hd k hh) := by fin_cases hh <;> rfl
  rw [e]
  unfold outv
  have e1 : (⟨(y 2).val / 32, by have : (y 2).val < 1152 := (y 2).isLt; omega⟩ : Fin 36) = hd k hh := Fin.ext (by show (y 2).val / 32 = 4 * k.val + hh.val; omega)
  have e2 : (⟨(y 2).val % 32, by omega⟩ : Fin 32) = d := Fin.ext (by show (y 2).val % 32 = d.val; omega)
  have e3 : (⟨(y 1).val % 128, by omega⟩ : Fin 128) = l := Fin.ext (by show (y 1).val % 128 = l.val; omega)
  rw [e1, e2, e3]

/-- The pieces one group of four heads adds. -/
theorem t3_succ (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (a16 v5 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) (g : Fin k0_t3_loop.trips) :
    (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 k a16 v5 X_arg2 X_arg3 X_arg4 X_arg5 f_arg14 f_arg15 (g.val + 1)).1 = [(⟨Rect.unit (k0_off11 k g) S1x128x128.size (k0_off11_inb k g), outc (headc (ldx arg2.view X_arg2 k g 0) (ldx arg3.view X_arg3 k g 0) (ldx arg4.view X_arg4 k g 0) (ldm0 arg14.view f_arg14 g 0) (ldm1 arg14.view f_arg14 g 0) (ldc arg15.view f_arg15 g 0) (ldv arg5.view X_arg5 g 0)) (headc (ldx arg2.view X_arg2 k g 1) (ldx arg3.view X_arg3 k g 1) (ldx arg4.view X_arg4 k g 1) (ldm0 arg14.view f_arg14 g 1) (ldm1 arg14.view f_arg14 g 1) (ldc arg15.view f_arg15 g 1) (ldv arg5.view X_arg5 g 1)) (headc (ldx arg2.view X_arg2 k g 2) (ldx arg3.view X_arg3 k g 2) (ldx arg4.view X_arg4 k g 2) (ldm0 arg14.view f_arg14 g 2) (ldm1 arg14.view f_arg14 g 2) (ldc arg15.view f_arg15 g 2) (ldv arg5.view X_arg5 g 2)) (headc (ldx arg2.view X_arg2 k g 3) (ldx arg3.view X_arg3 k g 3) (ldx arg4.view X_arg4 k g 3) (ldm0 arg14.view f_arg14 g 3) (ldm1 arg14.view f_arg14 g 3) (ldc arg15.view f_arg15 g 3) (ldv arg5.view X_arg5 g 3))⟩ : View.Piece (Elt Ideal) S1x256x1152 .bf16)] ++ (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 k a16 v5 X_arg2 X_arg3 X_arg4 X_arg5 f_arg14 f_arg15 g.val).1
    ∧ (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 k a16 v5 X_arg2 X_arg3 X_arg4 X_arg5 f_arg14 f_arg15 (g.val + 1)).2.1 = [(⟨Rect.unit (k0_off7 k g 3#32) S1x1x1x32x64.size (k0_off7_inb k g 3), k0_pay13 (F := Ideal) (ldx arg2.view X_arg2 k g 3) (ldm0 arg14.view f_arg14 g 3)⟩ : View.Piece (Elt Ideal) S1x4x36x32x64 .fp8e4m3), (⟨Rect.unit (k0_off6 k g 3#32) S1x1x1x32x64.size (k0_off6_inb k g 3), k0_pay12 (F := Ideal) (ldx arg2.view X_arg2 k g 3) (ldm0 arg14.view f_arg14 g 3)⟩ : View.Piece (Elt Ideal) S1x4x36x32x64 .fp8e4m3), (⟨Rect.unit (k0_off7 k g 2#32) S1x1x1x32x64.size (k0_off7_inb k g 2), k0_pay13 (F := Ideal) (ldx arg2.view X_arg2 k g 2) (ldm0 arg14.view f_arg14 g 2)⟩ : View.Piece (Elt Ideal) S1x4x36x32x64 .fp8e4m3), (⟨Rect.unit (k0_off6 k g 2#32) S1x1x1x32x64.size (k0_off6_inb k g 2), k0_pay12 (F := Ideal) (ldx arg2.view X_arg2 k g 2) (ldm0 arg14.view f_arg14 g 2)⟩ : View.Piece (Elt Ideal) S1x4x36x32x64 .fp8e4m3), (⟨Rect.unit (k0_off7 k g 1#32) S1x1x1x32x64.size (k0_off7_inb k g 1), k0_pay13 (F := Ideal) (ldx arg2.view X_arg2 k g 1) (ldm0 arg14.view f_arg14 g 1)⟩ : View.Piece (Elt Ideal) S1x4x36x32x64 .fp8e4m3), (⟨Rect.unit (k0_off6 k g 1#32) S1x1x1x32x64.size (k0_off6_inb k g 1), k0_pay12 (F := Ideal) (ldx arg2.view X_arg2 k g 1) (ldm0 arg14.view f_arg14 g 1)⟩ : View.Piece (Elt Ideal) S1x4x36x32x64 .fp8e4m3), (⟨Rect.unit (k0_off7 k g 0#32) S1x1x1x32x64.size (k0_off7_inb k g 0), k0_pay13 (F := Ideal) (ldx arg2.view X_arg2 k g 0) (ldm0 arg14.view f_arg14 g 0)⟩ : View.Piece (Elt Ideal) S1x4x36x32x64 .fp8e4m3), (⟨Rect.unit (k0_off6 k g 0#32) S1x1x1x32x64.size (k0_off6_inb k g 0), k0_pay12 (F := Ideal) (ldx arg2.view X_arg2 k g 0) (ldm0 arg14.view f_arg14 g 0)⟩ : View.Piece (Elt Ideal) S1x4x36x32x64 .fp8e4m3)] ++ (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 k a16 v5 X_arg2 X_arg3 X_arg4 X_arg5 f_arg14 f_arg15 g.val).2.1
    ∧ (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 k a16 v5 X_arg2 X_arg3 X_arg4 X_arg5 f_arg14 f_arg15 (g.val + 1)).2.2 = [(⟨Rect.unit (k0_off7 k g 3#32) S1x1x1x32x64.size (k0_off7_inb k g 3), k0_pay13 (F := Ideal) (ldx arg3.view X_arg3 k g 3) (ldm1 arg14.view f_arg14 g 3)⟩ : View.Piece (Elt Ideal) S1x4x36x32x64 .fp8e4m3), (⟨Rect.unit (k0_off6 k g 3#32) S1x1x1x32x64.size (k0_off6_inb k g 3), k0_pay12 (F := Ideal) (ldx arg3.view X_arg3 k g 3) (ldm1 arg14.view f_arg14 g 3)⟩ : View.Piece (Elt Ideal) S1x4x36x32x64 .fp8e4m3), (⟨Rect.unit (k0_off7 k g 2#32) S1x1x1x32x64.size (k0_off7_inb k g 2), k0_pay13 (F := Ideal) (ldx arg3.view X_arg3 k g 2) (ldm1 arg14.view f_arg14 g 2)⟩ : View.Piece (Elt Ideal) S1x4x36x32x64 .fp8e4m3), (⟨Rect.unit (k0_off6 k g 2#32) S1x1x1x32x64.size (k0_off6_inb k g 2), k0_pay12 (F := Ideal) (ldx arg3.view X_arg3 k g 2) (ldm1 arg14.view f_arg14 g 2)⟩ : View.Piece (Elt Ideal) S1x4x36x32x64 .fp8e4m3), (⟨Rect.unit (k0_off7 k g 1#32) S1x1x1x32x64.size (k0_off7_inb k g 1), k0_pay13 (F := Ideal) (ldx arg3.view X_arg3 k g 1) (ldm1 arg14.view f_arg14 g 1)⟩ : View.Piece (Elt Ideal) S1x4x36x32x64 .fp8e4m3), (⟨Rect.unit (k0_off6 k g 1#32) S1x1x1x32x64.size (k0_off6_inb k g 1), k0_pay12 (F := Ideal) (ldx arg3.view X_arg3 k g 1) (ldm1 arg14.view f_arg14 g 1)⟩ : View.Piece (Elt Ideal) S1x4x36x32x64 .fp8e4m3), (⟨Rect.unit (k0_off7 k g 0#32) S1x1x1x32x64.size (k0_off7_inb k g 0), k0_pay13 (F := Ideal) (ldx arg3.view X_arg3 k g 0) (ldm1 arg14.view f_arg14 g 0)⟩ : View.Piece (Elt Ideal) S1x4x36x32x64 .fp8e4m3), (⟨Rect.unit (k0_off6 k g 0#32) S1x1x1x32x64.size (k0_off6_inb k g 0), k0_pay12 (F := Ideal) (ldx arg3.view X_arg3 k g 0) (ldm1 arg14.view f_arg14 g 0)⟩ : View.Piece (Elt Ideal) S1x4x36x32x64 .fp8e4m3)] ++ (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 k a16 v5 X_arg2 X_arg3 X_arg4 X_arg5 f_arg14 f_arg15 g.val).2.2 := by
  rw [pb_k0_t3_succ]
  unfold tripL_k0_t3 trip_k0_t3
  refine ⟨rfl, rfl, rfl⟩

/-- Membership in a block of codes, by its window and head. -/
theorem mem5 (y : S1x4x36x32x64.Idx) (off off' : Fin 5 → ℕ) (inb : ∀ a, off a + S1x1x1x32x64.size a ≤ S1x4x36x32x64.size a) (heq : off = ![0, off' 1, off' 2, 0, 0])
    (h1 : (y 1).val = off' 1) (h2 : (y 2).val = off' 2) : y ∈ (Rect.unit (s := S1x4x36x32x64) off S1x1x1x32x64.size inb).set := by
  rw [Rect.mem_set_unit]
  intro a
  have h0 : (y 0).val < 1 := (y 0).isLt
  have h3 : (y 3).val < 32 := (y 3).isLt
  have h4 : (y 4).val < 64 := (y 4).isLt
  rw [congrFun heq a]
  fin_cases a
  · exact ⟨Nat.zero_le _, by show (y 0).val < 0 + 1; omega⟩
  · exact ⟨by show off' 1 ≤ (y 1).val; omega, by show (y 1).val < off' 1 + 1; omega⟩
  · exact ⟨by show off' 2 ≤ (y 2).val; omega, by show (y 2).val < off' 2 + 1; omega⟩
  · exact ⟨Nat.zero_le _, by show (y 3).val < 0 + 32; omega⟩
  · exact ⟨Nat.zero_le _, by show (y 4).val < 0 + 64; omega⟩

theorem not_mem5 (k : Fin k0_t1_loop.trips) (g : Fin k0_t3_loop.trips) (y : S1x4x36x32x64.Idx) (off : Fin 5 → ℕ) (p hh : ℕ) (inb : ∀ a, off a + S1x1x1x32x64.size a ≤ S1x4x36x32x64.size a)
    (heq : off = ![0, 2 * k.val + p, 4 * g.val + hh, 0, 0]) (h : ¬ ((y 1).val / 2 = k.val ∧ (y 2).val / 4 = g.val)) (hp : p < 2) (h4 : hh < 4) :
    y ∉ (Rect.unit (s := S1x4x36x32x64) off S1x1x1x32x64.size inb).set := by
  rw [Rect.mem_set_unit]
  intro hall
  have e1 := hall 1
  have e2 := hall 2
  rw [congrFun heq 1] at e1
  rw [congrFun heq 2] at e2
  have e1' : 2 * k.val + p ≤ (y 1).val ∧ (y 1).val < 2 * k.val + p + 1 := e1
  have e2' : 4 * g.val + hh ≤ (y 2).val ∧ (y 2).val < 4 * g.val + hh + 1 := e2
  apply h
  omega

/-- The codes of one group of four heads. -/
theorem hit8 (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (a16 v5 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) (g : Fin k0_t3_loop.trips) (f : arg8.view.ty.Contents (Elt Ideal)) (y : S1x4x36x32x64.Idx) (hw : (y 1).val / 2 = k.val) (hy : (y 2).val / 4 = g.val) :
    arg8.view.read (Elt Ideal) (arg8.view.writes (Elt Ideal) f [(⟨Rect.unit (k0_off7 k g 3#32) S1x1x1x32x64.size (k0_off7_inb k g 3), k0_pay13 (F := Ideal) (ldx arg2.view X_arg2 k g 3) (ldm0 arg14.view f_arg14 g 3)⟩ : View.Piece (Elt Ideal) S1x4x36x32x64 .fp8e4m3), (⟨Rect.unit (k0_off6 k g 3#32) S1x1x1x32x64.size (k0_off6_inb k g 3), k0_pay12 (F := Ideal) (ldx arg2.view X_arg2 k g 3) (ldm0 arg14.view f_arg14 g 3)⟩ : View.Piece (Elt Ideal) S1x4x36x32x64 .fp8e4m3), (⟨Rect.unit (k0_off7 k g 2#32) S1x1x1x32x64.size (k0_off7_inb k g 2), k0_pay13 (F := Ideal) (ldx arg2.view X_arg2 k g 2) (ldm0 arg14.view f_arg14 g 2)⟩ : View.Piece (Elt Ideal) S1x4x36x32x64 .fp8e4m3), (⟨Rect.unit (k0_off6 k g 2#32) S1x1x1x32x64.size (k0_off6_inb k g 2), k0_pay12 (F := Ideal) (ldx arg2.view X_arg2 k g 2) (ldm0 arg14.view f_arg14 g 2)⟩ : View.Piece (Elt Ideal) S1x4x36x32x64 .fp8e4m3), (⟨Rect.unit (k0_off7 k g 1#32) S1x1x1x32x64.size (k0_off7_inb k g 1), k0_pay13 (F := Ideal) (ldx arg2.view X_arg2 k g 1) (ldm0 arg14.view f_arg14 g 1)⟩ : View.Piece (Elt Ideal) S1x4x36x32x64 .fp8e4m3), (⟨Rect.unit (k0_off6 k g 1#32) S1x1x1x32x64.size (k0_off6_inb k g 1), k0_pay12 (F := Ideal) (ldx arg2.view X_arg2 k g 1) (ldm0 arg14.view f_arg14 g 1)⟩ : View.Piece (Elt Ideal) S1x4x36x32x64 .fp8e4m3), (⟨Rect.unit (k0_off7 k g 0#32) S1x1x1x32x64.size (k0_off7_inb k g 0), k0_pay13 (F := Ideal) (ldx arg2.view X_arg2 k g 0) (ldm0 arg14.view f_arg14 g 0)⟩ : View.Piece (Elt Ideal) S1x4x36x32x64 .fp8e4m3), (⟨Rect.unit (k0_off6 k g 0#32) S1x1x1x32x64.size (k0_off6_inb k g 0), k0_pay12 (F := Ideal) (ldx arg2.view X_arg2 k g 0) (ldm0 arg14.view f_arg14 g 0)⟩ : View.Piece (Elt Ideal) S1x4x36x32x64 .fp8e4m3)]) y = codev (arg2.view.read (Elt Ideal) X_arg2) (arg14.view.read (Elt Ideal) f_arg14) 0 k y := by
  refine View.read_writes_apply_of_pieces arg8.view _ _ _ ?_ y ?_
  · simp only [List.forall_mem_cons]
    refine ⟨?_, ?_, ?_, ?_, ?_, ?_, ?_, ?_, by simp⟩
    · intro x
      obtain ⟨d, j, rfl⟩ := idx5 x
      rw [ldx_eq, ldm0_eq]
      refine code_piece (arg2.view.read (Elt Ideal) X_arg2) (arg14.view.read (Elt Ideal) f_arg14) 0 k g 3 1 d j _ ?_ ?_ ?_ ?_
      · exact (congrFun (k0_off7_eq k g 3) 1 :)
      · exact (congrFun (k0_off7_eq k g 3) 2 :)
      · exact (congrArg (fun z => z + 1 * d.val) (congrFun (k0_off7_eq k g 3) 3)).trans (by show 0 + 1 * d.val = _; omega)
      · exact (congrArg (fun z => z + 1 * j.val) (congrFun (k0_off7_eq k g 3) 4)).trans (by show 0 + 1 * j.val = _; omega)
    · intro x
      obtain ⟨d, j, rfl⟩ := idx5 x
      rw [ldx_eq, ldm0_eq]
      refine code_piece (arg2.view.read (Elt Ideal) X_arg2) (arg14.view.read (Elt Ideal) f_arg14) 0 k g 3 0 d j _ ?_ ?_ ?_ ?_
      · exact (congrFun (k0_off6_eq k g 3) 1 :)
      · exact (congrFun (k0_off6_eq k g 3) 2 :)
      · exact (congrArg (fun z => z + 1 * d.val) (congrFun (k0_off6_eq k g 3) 3)).trans (by show 0 + 1 * d.val = _; omega)
      · exact (congrArg (fun z => z + 1 * j.val) (congrFun (k0_off6_eq k g 3) 4)).trans (by show 0 + 1 * j.val = _; omega)
    · intro x
      obtain ⟨d, j, rfl⟩ := idx5 x
      rw [ldx_eq, ldm0_eq]
      refine code_piece (arg2.view.read (Elt Ideal) X_arg2) (arg14.view.read (Elt Ideal) f_arg14) 0 k g 2 1 d j _ ?_ ?_ ?_ ?_
      · exact (congrFun (k0_off7_eq k g 2) 1 :)
      · exact (congrFun (k0_off7_eq k g 2) 2 :)
      · exact (congrArg (fun z => z + 1 * d.val) (congrFun (k0_off7_eq k g 2) 3)).trans (by show 0 + 1 * d.val = _; omega)
      · exact (congrArg (fun z => z + 1 * j.val) (congrFun (k0_off7_eq k g 2) 4)).trans (by show 0 + 1 * j.val = _; omega)
    · intro x
      obtain ⟨d, j, rfl⟩ := idx5 x
      rw [ldx_eq, ldm0_eq]
      refine code_piece (arg2.view.read (Elt Ideal) X_arg2) (arg14.view.read (Elt Ideal) f_arg14) 0 k g 2 0 d j _ ?_ ?_ ?_ ?_
      · exact (congrFun (k0_off6_eq k g 2) 1 :)
      · exact (congrFun (k0_off6_eq k g 2) 2 :)
      · exact (congrArg (fun z => z + 1 * d.val) (congrFun (k0_off6_eq k g 2) 3)).trans (by show 0 + 1 * d.val = _; omega)
      · exact (congrArg (fun z => z + 1 * j.val) (congrFun (k0_off6_eq k g 2) 4)).trans (by show 0 + 1 * j.val = _; omega)
    · intro x
      obtain ⟨d, j, rfl⟩ := idx5 x
      rw [ldx_eq, ldm0_eq]
      refine code_piece (arg2.view.read (Elt Ideal) X_arg2) (arg14.view.read (Elt Ideal) f_arg14) 0 k g 1 1 d j _ ?_ ?_ ?_ ?_
      · exact (congrFun (k0_off7_eq k g 1) 1 :)
      · exact (congrFun (k0_off7_eq k g 1) 2 :)
      · exact (congrArg (fun z => z + 1 * d.val) (congrFun (k0_off7_eq k g 1) 3)).trans (by show 0 + 1 * d.val = _; omega)
      · exact (congrArg (fun z => z + 1 * j.val) (congrFun (k0_off7_eq k g 1) 4)).trans (by show 0 + 1 * j.val = _; omega)
    · intro x
      obtain ⟨d, j, rfl⟩ := idx5 x
      rw [ldx_eq, ldm0_eq]
      refine code_piece (arg2.view.read (Elt Ideal) X_arg2) (arg14.view.read (Elt Ideal) f_arg14) 0 k g 1 0 d j _ ?_ ?_ ?_ ?_
      · exact (congrFun (k0_off6_eq k g 1) 1 :)
      · exact (congrFun (k0_off6_eq k g 1) 2 :)
      · exact (congrArg (fun z => z + 1 * d.val) (congrFun (k0_off6_eq k g 1) 3)).trans (by show 0 + 1 * d.val = _; omega)
      · exact (congrArg (fun z => z + 1 * j.val) (congrFun (k0_off6_eq k g 1) 4)).trans (by show 0 + 1 * j.val = _; omega)
    · intro x
      obtain ⟨d, j, rfl⟩ := idx5 x
      rw [ldx_eq, ldm0_eq]
      refine code_piece (arg2.view.read (Elt Ideal) X_arg2) (arg14.view.read (Elt Ideal) f_arg14) 0 k g 0 1 d j _ ?_ ?_ ?_ ?_
      · exact (congrFun (k0_off7_eq k g 0) 1 :)
      · exact (congrFun (k0_off7_eq k g 0) 2 :)
      · exact (congrArg (fun z => z + 1 * d.val) (congrFun (k0_off7_eq k g 0) 3)).trans (by show 0 + 1 * d.val = _; omega)
      · exact (congrArg (fun z => z + 1 * j.val) (congrFun (k0_off7_eq k g 0) 4)).trans (by show 0 + 1 * j.val = _; omega)
    · intro x
      obtain ⟨d, j, rfl⟩ := idx5 x
      rw [ldx_eq, ldm0_eq]
      refine code_piece (arg2.view.read (Elt Ideal) X_arg2) (arg14.view.read (Elt Ideal) f_arg14) 0 k g 0 0 d j _ ?_ ?_ ?_ ?_
      · exact (congrFun (k0_off6_eq k g 0) 1 :)
      · exact (congrFun (k0_off6_eq k g 0) 2 :)
      · exact (congrArg (fun z => z + 1 * d.val) (congrFun (k0_off6_eq k g 0) 3)).trans (by show 0 + 1 * d.val = _; omega)
      · exact (congrArg (fun z => z + 1 * j.val) (congrFun (k0_off6_eq k g 0) 4)).trans (by show 0 + 1 * j.val = _; omega)
  · skip
    by_cases h31 : (y 1).val = 2 * k.val + 1 ∧ (y 2).val = 4 * g.val + 3
    · exact ⟨_, .head _, mem5 y _ ![0, 2 * k.val + 1, 4 * g.val + 3, 0, 0] (k0_off7_inb k g 3) (k0_off7_eq k g 3) h31.1 h31.2⟩
    by_cases h30 : (y 1).val = 2 * k.val + 0 ∧ (y 2).val = 4 * g.val + 3
    · exact ⟨_, .tail _ (.head _), mem5 y _ ![0, 2 * k.val + 0, 4 * g.val + 3, 0, 0] (k0_off6_inb k g 3) (k0_off6_eq k g 3) h30.1 h30.2⟩
    by_cases h21 : (y 1).val = 2 * k.val + 1 ∧ (y 2).val = 4 * g.val + 2
    · exact ⟨_, .tail _ (.tail _ (.head _)), mem5 y _ ![0, 2 * k.val + 1, 4 * g.val + 2, 0, 0] (k0_off7_inb k g 2) (k0_off7_eq k g 2) h21.1 h21.2⟩
    by_cases h20 : (y 1).val = 2 * k.val + 0 ∧ (y 2).val = 4 * g.val + 2
    · exact ⟨_, .tail _ (.tail _ (.tail _ (.head _))), mem5 y _ ![0, 2 * k.val + 0, 4 * g.val + 2, 0, 0] (k0_off6_inb k g 2) (k0_off6_eq k g 2) h20.1 h20.2⟩
    by_cases h11 : (y 1).val = 2 * k.val + 1 ∧ (y 2).val = 4 * g.val + 1
    · exact ⟨_, .tail _ (.tail _ (.tail _ (.tail _ (.head _)))), mem5 y _ ![0, 2 * k.val + 1, 4 * g.val + 1, 0, 0] (k0_off7_inb k g 1) (k0_off7_eq k g 1) h11.1 h11.2⟩
    by_cases h10 : (y 1).val = 2 * k.val + 0 ∧ (y 2).val = 4 * g.val + 1
    · exact ⟨_, .tail _ (.tail _ (.tail _ (.tail _ (.tail _ (.head _))))), mem5 y _ ![0, 2 * k.val + 0, 4 * g.val + 1, 0, 0] (k0_off6_inb k g 1) (k0_off6_eq k g 1) h10.1 h10.2⟩
    by_cases h01 : (y 1).val = 2 * k.val + 1 ∧ (y 2).val = 4 * g.val + 0
    · exact ⟨_, .tail _ (.tail _ (.tail _ (.tail _ (.tail _ (.tail _ (.head _)))))), mem5 y _ ![0, 2 * k.val + 1, 4 * g.val + 0, 0, 0] (k0_off7_inb k g 0) (k0_off7_eq k g 0) h01.1 h01.2⟩
    by_cases h00 : (y 1).val = 2 * k.val + 0 ∧ (y 2).val = 4 * g.val + 0
    · exact ⟨_, .tail _ (.tail _ (.tail _ (.tail _ (.tail _ (.tail _ (.tail _ (.head _))))))), mem5 y _ ![0, 2 * k.val + 0, 4 * g.val + 0, 0, 0] (k0_off6_inb k g 0) (k0_off6_eq k g 0) h00.1 h00.2⟩
    omega

theorem miss8 (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (a16 v5 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) (g : Fin k0_t3_loop.trips) (f : arg8.view.ty.Contents (Elt Ideal)) (y : S1x4x36x32x64.Idx) (h : ¬ ((y 1).val / 2 = k.val ∧ (y 2).val / 4 = g.val)) :
    arg8.view.read (Elt Ideal) (arg8.view.writes (Elt Ideal) f [(⟨Rect.unit (k0_off7 k g 3#32) S1x1x1x32x64.size (k0_off7_inb k g 3), k0_pay13 (F := Ideal) (ldx arg2.view X_arg2 k g 3) (ldm0 arg14.view f_arg14 g 3)⟩ : View.Piece (Elt Ideal) S1x4x36x32x64 .fp8e4m3), (⟨Rect.unit (k0_off6 k g 3#32) S1x1x1x32x64.size (k0_off6_inb k g 3), k0_pay12 (F := Ideal) (ldx arg2.view X_arg2 k g 3) (ldm0 arg14.view f_arg14 g 3)⟩ : View.Piece (Elt Ideal) S1x4x36x32x64 .fp8e4m3), (⟨Rect.unit (k0_off7 k g 2#32) S1x1x1x32x64.size (k0_off7_inb k g 2), k0_pay13 (F := Ideal) (ldx arg2.view X_arg2 k g 2) (ldm0 arg14.view f_arg14 g 2)⟩ : View.Piece (Elt Ideal) S1x4x36x32x64 .fp8e4m3), (⟨Rect.unit (k0_off6 k g 2#32) S1x1x1x32x64.size (k0_off6_inb k g 2), k0_pay12 (F := Ideal) (ldx arg2.view X_arg2 k g 2) (ldm0 arg14.view f_arg14 g 2)⟩ : View.Piece (Elt Ideal) S1x4x36x32x64 .fp8e4m3), (⟨Rect.unit (k0_off7 k g 1#32) S1x1x1x32x64.size (k0_off7_inb k g 1), k0_pay13 (F := Ideal) (ldx arg2.view X_arg2 k g 1) (ldm0 arg14.view f_arg14 g 1)⟩ : View.Piece (Elt Ideal) S1x4x36x32x64 .fp8e4m3), (⟨Rect.unit (k0_off6 k g 1#32) S1x1x1x32x64.size (k0_off6_inb k g 1), k0_pay12 (F := Ideal) (ldx arg2.view X_arg2 k g 1) (ldm0 arg14.view f_arg14 g 1)⟩ : View.Piece (Elt Ideal) S1x4x36x32x64 .fp8e4m3), (⟨Rect.unit (k0_off7 k g 0#32) S1x1x1x32x64.size (k0_off7_inb k g 0), k0_pay13 (F := Ideal) (ldx arg2.view X_arg2 k g 0) (ldm0 arg14.view f_arg14 g 0)⟩ : View.Piece (Elt Ideal) S1x4x36x32x64 .fp8e4m3), (⟨Rect.unit (k0_off6 k g 0#32) S1x1x1x32x64.size (k0_off6_inb k g 0), k0_pay12 (F := Ideal) (ldx arg2.view X_arg2 k g 0) (ldm0 arg14.view f_arg14 g 0)⟩ : View.Piece (Elt Ideal) S1x4x36x32x64 .fp8e4m3)]) y = arg8.view.read (Elt Ideal) f y := by
  refine View.read_writes_apply_of_forall_not_mem arg8.view _ y _ ?_
  simp only [List.forall_mem_cons]
  refine ⟨not_mem5 k g y _ 1 3 (k0_off7_inb k g 3) (k0_off7_eq k g 3) h (by omega) (by omega), not_mem5 k g y _ 0 3 (k0_off6_inb k g 3) (k0_off6_eq k g 3) h (by omega) (by omega), not_mem5 k g y _ 1 2 (k0_off7_inb k g 2) (k0_off7_eq k g 2) h (by omega) (by omega), not_mem5 k g y _ 0 2 (k0_off6_inb k g 2) (k0_off6_eq k g 2) h (by omega) (by omega), not_mem5 k g y _ 1 1 (k0_off7_inb k g 1) (k0_off7_eq k g 1) h (by omega) (by omega), not_mem5 k g y _ 0 1 (k0_off6_inb k g 1) (k0_off6_eq k g 1) h (by omega) (by omega), not_mem5 k g y _ 1 0 (k0_off7_inb k g 0) (k0_off7_eq k g 0) h (by omega) (by omega), not_mem5 k g y _ 0 0 (k0_off6_inb k g 0) (k0_off6_eq k g 0) h (by omega) (by omega), by simp⟩

/-- The codes after the loop. -/
theorem t3_8 (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (a16 v5 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) (y : S1x4x36x32x64.Idx) :
    ((y 1).val / 2 = k.val → arg8.view.read (Elt Ideal) (arg8.view.writes (Elt Ideal) f_arg8 (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 k a16 v5 X_arg2 X_arg3 X_arg4 X_arg5 f_arg14 f_arg15 9).2.1) y = codev (arg2.view.read (Elt Ideal) X_arg2) (arg14.view.read (Elt Ideal) f_arg14) 0 k y)
    ∧ (¬ (y 1).val / 2 = k.val → arg8.view.read (Elt Ideal) (arg8.view.writes (Elt Ideal) f_arg8 (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 k a16 v5 X_arg2 X_arg3 X_arg4 X_arg5 f_arg14 f_arg15 9).2.1) y = (arg8.view.read (Elt Ideal) f_arg8) y) := by
  have key := loop_read arg8.view f_arg8 (codev (arg2.view.read (Elt Ideal) X_arg2) (arg14.view.read (Elt Ideal) f_arg14) 0 k) (fun n => (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 k a16 v5 X_arg2 X_arg3 X_arg4 X_arg5 f_arg14 f_arg15 n).2.1) (fun n => if h : n < 9 then have g : Fin k0_t3_loop.trips := ⟨n, h⟩; [(⟨Rect.unit (k0_off7 k g 3#32) S1x1x1x32x64.size (k0_off7_inb k g 3), k0_pay13 (F := Ideal) (ldx arg2.view X_arg2 k g 3) (ldm0 arg14.view f_arg14 g 3)⟩ : View.Piece (Elt Ideal) S1x4x36x32x64 .fp8e4m3), (⟨Rect.unit (k0_off6 k g 3#32) S1x1x1x32x64.size (k0_off6_inb k g 3), k0_pay12 (F := Ideal) (ldx arg2.view X_arg2 k g 3) (ldm0 arg14.view f_arg14 g 3)⟩ : View.Piece (Elt Ideal) S1x4x36x32x64 .fp8e4m3), (⟨Rect.unit (k0_off7 k g 2#32) S1x1x1x32x64.size (k0_off7_inb k g 2), k0_pay13 (F := Ideal) (ldx arg2.view X_arg2 k g 2) (ldm0 arg14.view f_arg14 g 2)⟩ : View.Piece (Elt Ideal) S1x4x36x32x64 .fp8e4m3), (⟨Rect.unit (k0_off6 k g 2#32) S1x1x1x32x64.size (k0_off6_inb k g 2), k0_pay12 (F := Ideal) (ldx arg2.view X_arg2 k g 2) (ldm0 arg14.view f_arg14 g 2)⟩ : View.Piece (Elt Ideal) S1x4x36x32x64 .fp8e4m3), (⟨Rect.unit (k0_off7 k g 1#32) S1x1x1x32x64.size (k0_off7_inb k g 1), k0_pay13 (F := Ideal) (ldx arg2.view X_arg2 k g 1) (ldm0 arg14.view f_arg14 g 1)⟩ : View.Piece (Elt Ideal) S1x4x36x32x64 .fp8e4m3), (⟨Rect.unit (k0_off6 k g 1#32) S1x1x1x32x64.size (k0_off6_inb k g 1), k0_pay12 (F := Ideal) (ldx arg2.view X_arg2 k g 1) (ldm0 arg14.view f_arg14 g 1)⟩ : View.Piece (Elt Ideal) S1x4x36x32x64 .fp8e4m3), (⟨Rect.unit (k0_off7 k g 0#32) S1x1x1x32x64.size (k0_off7_inb k g 0), k0_pay13 (F := Ideal) (ldx arg2.view X_arg2 k g 0) (ldm0 arg14.view f_arg14 g 0)⟩ : View.Piece (Elt Ideal) S1x4x36x32x64 .fp8e4m3), (⟨Rect.unit (k0_off6 k g 0#32) S1x1x1x32x64.size (k0_off6_inb k g 0), k0_pay12 (F := Ideal) (ldx arg2.view X_arg2 k g 0) (ldm0 arg14.view f_arg14 g 0)⟩ : View.Piece (Elt Ideal) S1x4x36x32x64 .fp8e4m3)] else []) 9 rfl
    (fun n hn => by rw [dif_pos hn]; exact (t3_succ c i arg2 harg2 arg3 harg3 arg4 harg4 arg5 harg5 arg6 harg6 arg7 harg7 arg8 harg8 arg9 harg9 arg10 harg10 arg11 harg11 arg12 harg12 arg13 harg13 arg14 harg14 arg15 harg15 a16 v5 X_arg2 X_arg3 X_arg4 X_arg5 X_arg6 k f_arg7 f_arg8 f_arg9 f_arg10 f_arg11 f_arg12 f_arg13 f_arg14 f_arg15 ⟨n, hn⟩).2.1) (fun n y => (y 1).val / 2 = k.val ∧ (y 2).val / 4 = n)
    (fun n hn g y hy => by rw [dif_pos hn]; exact hit8 c i arg2 harg2 arg3 harg3 arg4 harg4 arg5 harg5 arg6 harg6 arg7 harg7 arg8 harg8 arg9 harg9 arg10 harg10 arg11 harg11 arg12 harg12 arg13 harg13 arg14 harg14 arg15 harg15 a16 v5 X_arg2 X_arg3 X_arg4 X_arg5 X_arg6 k f_arg7 f_arg8 f_arg9 f_arg10 f_arg11 f_arg12 f_arg13 f_arg14 f_arg15 ⟨n, hn⟩ g y hy.1 hy.2)
    (fun n hn g y hy => by rw [dif_pos hn]; exact miss8 c i arg2 harg2 arg3 harg3 arg4 harg4 arg5 harg5 arg6 harg6 arg7 harg7 arg8 harg8 arg9 harg9 arg10 harg10 arg11 harg11 arg12 harg12 arg13 harg13 arg14 harg14 arg15 harg15 a16 v5 X_arg2 X_arg3 X_arg4 X_arg5 X_arg6 k f_arg7 f_arg8 f_arg9 f_arg10 f_arg11 f_arg12 f_arg13 f_arg14 f_arg15 ⟨n, hn⟩ g y hy) 9 le_rfl y
  have h36 : (y 2).val < 36 := (y 2).isLt
  exact ⟨fun h => key.1 ⟨(y 2).val / 4, by omega, h, rfl⟩, fun h => key.2 fun _ _ hh => h hh.1⟩

/-- The codes of one group of four heads. -/
theorem hit9 (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (a16 v5 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) (g : Fin k0_t3_loop.trips) (f : arg9.view.ty.Contents (Elt Ideal)) (y : S1x4x36x32x64.Idx) (hw : (y 1).val / 2 = k.val) (hy : (y 2).val / 4 = g.val) :
    arg9.view.read (Elt Ideal) (arg9.view.writes (Elt Ideal) f [(⟨Rect.unit (k0_off7 k g 3#32) S1x1x1x32x64.size (k0_off7_inb k g 3), k0_pay13 (F := Ideal) (ldx arg3.view X_arg3 k g 3) (ldm1 arg14.view f_arg14 g 3)⟩ : View.Piece (Elt Ideal) S1x4x36x32x64 .fp8e4m3), (⟨Rect.unit (k0_off6 k g 3#32) S1x1x1x32x64.size (k0_off6_inb k g 3), k0_pay12 (F := Ideal) (ldx arg3.view X_arg3 k g 3) (ldm1 arg14.view f_arg14 g 3)⟩ : View.Piece (Elt Ideal) S1x4x36x32x64 .fp8e4m3), (⟨Rect.unit (k0_off7 k g 2#32) S1x1x1x32x64.size (k0_off7_inb k g 2), k0_pay13 (F := Ideal) (ldx arg3.view X_arg3 k g 2) (ldm1 arg14.view f_arg14 g 2)⟩ : View.Piece (Elt Ideal) S1x4x36x32x64 .fp8e4m3), (⟨Rect.unit (k0_off6 k g 2#32) S1x1x1x32x64.size (k0_off6_inb k g 2), k0_pay12 (F := Ideal) (ldx arg3.view X_arg3 k g 2) (ldm1 arg14.view f_arg14 g 2)⟩ : View.Piece (Elt Ideal) S1x4x36x32x64 .fp8e4m3), (⟨Rect.unit (k0_off7 k g 1#32) S1x1x1x32x64.size (k0_off7_inb k g 1), k0_pay13 (F := Ideal) (ldx arg3.view X_arg3 k g 1) (ldm1 arg14.view f_arg14 g 1)⟩ : View.Piece (Elt Ideal) S1x4x36x32x64 .fp8e4m3), (⟨Rect.unit (k0_off6 k g 1#32) S1x1x1x32x64.size (k0_off6_inb k g 1), k0_pay12 (F := Ideal) (ldx arg3.view X_arg3 k g 1) (ldm1 arg14.view f_arg14 g 1)⟩ : View.Piece (Elt Ideal) S1x4x36x32x64 .fp8e4m3), (⟨Rect.unit (k0_off7 k g 0#32) S1x1x1x32x64.size (k0_off7_inb k g 0), k0_pay13 (F := Ideal) (ldx arg3.view X_arg3 k g 0) (ldm1 arg14.view f_arg14 g 0)⟩ : View.Piece (Elt Ideal) S1x4x36x32x64 .fp8e4m3), (⟨Rect.unit (k0_off6 k g 0#32) S1x1x1x32x64.size (k0_off6_inb k g 0), k0_pay12 (F := Ideal) (ldx arg3.view X_arg3 k g 0) (ldm1 arg14.view f_arg14 g 0)⟩ : View.Piece (Elt Ideal) S1x4x36x32x64 .fp8e4m3)]) y = codev (arg3.view.read (Elt Ideal) X_arg3) (arg14.view.read (Elt Ideal) f_arg14) 1 k y := by
  refine View.read_writes_apply_of_pieces arg9.view _ _ _ ?_ y ?_
  · simp only [List.forall_mem_cons]
    refine ⟨?_, ?_, ?_, ?_, ?_, ?_, ?_, ?_, by simp⟩
    · intro x
      obtain ⟨d, j, rfl⟩ := idx5 x
      rw [ldx_eq, ldm1_eq]
      refine code_piece (arg3.view.read (Elt Ideal) X_arg3) (arg14.view.read (Elt Ideal) f_arg14) 1 k g 3 1 d j _ ?_ ?_ ?_ ?_
      · exact (congrFun (k0_off7_eq k g 3) 1 :)
      · exact (congrFun (k0_off7_eq k g 3) 2 :)
      · exact (congrArg (fun z => z + 1 * d.val) (congrFun (k0_off7_eq k g 3) 3)).trans (by show 0 + 1 * d.val = _; omega)
      · exact (congrArg (fun z => z + 1 * j.val) (congrFun (k0_off7_eq k g 3) 4)).trans (by show 0 + 1 * j.val = _; omega)
    · intro x
      obtain ⟨d, j, rfl⟩ := idx5 x
      rw [ldx_eq, ldm1_eq]
      refine code_piece (arg3.view.read (Elt Ideal) X_arg3) (arg14.view.read (Elt Ideal) f_arg14) 1 k g 3 0 d j _ ?_ ?_ ?_ ?_
      · exact (congrFun (k0_off6_eq k g 3) 1 :)
      · exact (congrFun (k0_off6_eq k g 3) 2 :)
      · exact (congrArg (fun z => z + 1 * d.val) (congrFun (k0_off6_eq k g 3) 3)).trans (by show 0 + 1 * d.val = _; omega)
      · exact (congrArg (fun z => z + 1 * j.val) (congrFun (k0_off6_eq k g 3) 4)).trans (by show 0 + 1 * j.val = _; omega)
    · intro x
      obtain ⟨d, j, rfl⟩ := idx5 x
      rw [ldx_eq, ldm1_eq]
      refine code_piece (arg3.view.read (Elt Ideal) X_arg3) (arg14.view.read (Elt Ideal) f_arg14) 1 k g 2 1 d j _ ?_ ?_ ?_ ?_
      · exact (congrFun (k0_off7_eq k g 2) 1 :)
      · exact (congrFun (k0_off7_eq k g 2) 2 :)
      · exact (congrArg (fun z => z + 1 * d.val) (congrFun (k0_off7_eq k g 2) 3)).trans (by show 0 + 1 * d.val = _; omega)
      · exact (congrArg (fun z => z + 1 * j.val) (congrFun (k0_off7_eq k g 2) 4)).trans (by show 0 + 1 * j.val = _; omega)
    · intro x
      obtain ⟨d, j, rfl⟩ := idx5 x
      rw [ldx_eq, ldm1_eq]
      refine code_piece (arg3.view.read (Elt Ideal) X_arg3) (arg14.view.read (Elt Ideal) f_arg14) 1 k g 2 0 d j _ ?_ ?_ ?_ ?_
      · exact (congrFun (k0_off6_eq k g 2) 1 :)
      · exact (congrFun (k0_off6_eq k g 2) 2 :)
      · exact (congrArg (fun z => z + 1 * d.val) (congrFun (k0_off6_eq k g 2) 3)).trans (by show 0 + 1 * d.val = _; omega)
      · exact (congrArg (fun z => z + 1 * j.val) (congrFun (k0_off6_eq k g 2) 4)).trans (by show 0 + 1 * j.val = _; omega)
    · intro x
      obtain ⟨d, j, rfl⟩ := idx5 x
      rw [ldx_eq, ldm1_eq]
      refine code_piece (arg3.view.read (Elt Ideal) X_arg3) (arg14.view.read (Elt Ideal) f_arg14) 1 k g 1 1 d j _ ?_ ?_ ?_ ?_
      · exact (congrFun (k0_off7_eq k g 1) 1 :)
      · exact (congrFun (k0_off7_eq k g 1) 2 :)
      · exact (congrArg (fun z => z + 1 * d.val) (congrFun (k0_off7_eq k g 1) 3)).trans (by show 0 + 1 * d.val = _; omega)
      · exact (congrArg (fun z => z + 1 * j.val) (congrFun (k0_off7_eq k g 1) 4)).trans (by show 0 + 1 * j.val = _; omega)
    · intro x
      obtain ⟨d, j, rfl⟩ := idx5 x
      rw [ldx_eq, ldm1_eq]
      refine code_piece (arg3.view.read (Elt Ideal) X_arg3) (arg14.view.read (Elt Ideal) f_arg14) 1 k g 1 0 d j _ ?_ ?_ ?_ ?_
      · exact (congrFun (k0_off6_eq k g 1) 1 :)
      · exact (congrFun (k0_off6_eq k g 1) 2 :)
      · exact (congrArg (fun z => z + 1 * d.val) (congrFun (k0_off6_eq k g 1) 3)).trans (by show 0 + 1 * d.val = _; omega)
      · exact (congrArg (fun z => z + 1 * j.val) (congrFun (k0_off6_eq k g 1) 4)).trans (by show 0 + 1 * j.val = _; omega)
    · intro x
      obtain ⟨d, j, rfl⟩ := idx5 x
      rw [ldx_eq, ldm1_eq]
      refine code_piece (arg3.view.read (Elt Ideal) X_arg3) (arg14.view.read (Elt Ideal) f_arg14) 1 k g 0 1 d j _ ?_ ?_ ?_ ?_
      · exact (congrFun (k0_off7_eq k g 0) 1 :)
      · exact (congrFun (k0_off7_eq k g 0) 2 :)
      · exact (congrArg (fun z => z + 1 * d.val) (congrFun (k0_off7_eq k g 0) 3)).trans (by show 0 + 1 * d.val = _; omega)
      · exact (congrArg (fun z => z + 1 * j.val) (congrFun (k0_off7_eq k g 0) 4)).trans (by show 0 + 1 * j.val = _; omega)
    · intro x
      obtain ⟨d, j, rfl⟩ := idx5 x
      rw [ldx_eq, ldm1_eq]
      refine code_piece (arg3.view.read (Elt Ideal) X_arg3) (arg14.view.read (Elt Ideal) f_arg14) 1 k g 0 0 d j _ ?_ ?_ ?_ ?_
      · exact (congrFun (k0_off6_eq k g 0) 1 :)
      · exact (congrFun (k0_off6_eq k g 0) 2 :)
      · exact (congrArg (fun z => z + 1 * d.val) (congrFun (k0_off6_eq k g 0) 3)).trans (by show 0 + 1 * d.val = _; omega)
      · exact (congrArg (fun z => z + 1 * j.val) (congrFun (k0_off6_eq k g 0) 4)).trans (by show 0 + 1 * j.val = _; omega)
  · skip
    by_cases h31 : (y 1).val = 2 * k.val + 1 ∧ (y 2).val = 4 * g.val + 3
    · exact ⟨_, .head _, mem5 y _ ![0, 2 * k.val + 1, 4 * g.val + 3, 0, 0] (k0_off7_inb k g 3) (k0_off7_eq k g 3) h31.1 h31.2⟩
    by_cases h30 : (y 1).val = 2 * k.val + 0 ∧ (y 2).val = 4 * g.val + 3
    · exact ⟨_, .tail _ (.head _), mem5 y _ ![0, 2 * k.val + 0, 4 * g.val + 3, 0, 0] (k0_off6_inb k g 3) (k0_off6_eq k g 3) h30.1 h30.2⟩
    by_cases h21 : (y 1).val = 2 * k.val + 1 ∧ (y 2).val = 4 * g.val + 2
    · exact ⟨_, .tail _ (.tail _ (.head _)), mem5 y _ ![0, 2 * k.val + 1, 4 * g.val + 2, 0, 0] (k0_off7_inb k g 2) (k0_off7_eq k g 2) h21.1 h21.2⟩
    by_cases h20 : (y 1).val = 2 * k.val + 0 ∧ (y 2).val = 4 * g.val + 2
    · exact ⟨_, .tail _ (.tail _ (.tail _ (.head _))), mem5 y _ ![0, 2 * k.val + 0, 4 * g.val + 2, 0, 0] (k0_off6_inb k g 2) (k0_off6_eq k g 2) h20.1 h20.2⟩
    by_cases h11 : (y 1).val = 2 * k.val + 1 ∧ (y 2).val = 4 * g.val + 1
    · exact ⟨_, .tail _ (.tail _ (.tail _ (.tail _ (.head _)))), mem5 y _ ![0, 2 * k.val + 1, 4 * g.val + 1, 0, 0] (k0_off7_inb k g 1) (k0_off7_eq k g 1) h11.1 h11.2⟩
    by_cases h10 : (y 1).val = 2 * k.val + 0 ∧ (y 2).val = 4 * g.val + 1
    · exact ⟨_, .tail _ (.tail _ (.tail _ (.tail _ (.tail _ (.head _))))), mem5 y _ ![0, 2 * k.val + 0, 4 * g.val + 1, 0, 0] (k0_off6_inb k g 1) (k0_off6_eq k g 1) h10.1 h10.2⟩
    by_cases h01 : (y 1).val = 2 * k.val + 1 ∧ (y 2).val = 4 * g.val + 0
    · exact ⟨_, .tail _ (.tail _ (.tail _ (.tail _ (.tail _ (.tail _ (.head _)))))), mem5 y _ ![0, 2 * k.val + 1, 4 * g.val + 0, 0, 0] (k0_off7_inb k g 0) (k0_off7_eq k g 0) h01.1 h01.2⟩
    by_cases h00 : (y 1).val = 2 * k.val + 0 ∧ (y 2).val = 4 * g.val + 0
    · exact ⟨_, .tail _ (.tail _ (.tail _ (.tail _ (.tail _ (.tail _ (.tail _ (.head _))))))), mem5 y _ ![0, 2 * k.val + 0, 4 * g.val + 0, 0, 0] (k0_off6_inb k g 0) (k0_off6_eq k g 0) h00.1 h00.2⟩
    omega

theorem miss9 (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (a16 v5 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) (g : Fin k0_t3_loop.trips) (f : arg9.view.ty.Contents (Elt Ideal)) (y : S1x4x36x32x64.Idx) (h : ¬ ((y 1).val / 2 = k.val ∧ (y 2).val / 4 = g.val)) :
    arg9.view.read (Elt Ideal) (arg9.view.writes (Elt Ideal) f [(⟨Rect.unit (k0_off7 k g 3#32) S1x1x1x32x64.size (k0_off7_inb k g 3), k0_pay13 (F := Ideal) (ldx arg3.view X_arg3 k g 3) (ldm1 arg14.view f_arg14 g 3)⟩ : View.Piece (Elt Ideal) S1x4x36x32x64 .fp8e4m3), (⟨Rect.unit (k0_off6 k g 3#32) S1x1x1x32x64.size (k0_off6_inb k g 3), k0_pay12 (F := Ideal) (ldx arg3.view X_arg3 k g 3) (ldm1 arg14.view f_arg14 g 3)⟩ : View.Piece (Elt Ideal) S1x4x36x32x64 .fp8e4m3), (⟨Rect.unit (k0_off7 k g 2#32) S1x1x1x32x64.size (k0_off7_inb k g 2), k0_pay13 (F := Ideal) (ldx arg3.view X_arg3 k g 2) (ldm1 arg14.view f_arg14 g 2)⟩ : View.Piece (Elt Ideal) S1x4x36x32x64 .fp8e4m3), (⟨Rect.unit (k0_off6 k g 2#32) S1x1x1x32x64.size (k0_off6_inb k g 2), k0_pay12 (F := Ideal) (ldx arg3.view X_arg3 k g 2) (ldm1 arg14.view f_arg14 g 2)⟩ : View.Piece (Elt Ideal) S1x4x36x32x64 .fp8e4m3), (⟨Rect.unit (k0_off7 k g 1#32) S1x1x1x32x64.size (k0_off7_inb k g 1), k0_pay13 (F := Ideal) (ldx arg3.view X_arg3 k g 1) (ldm1 arg14.view f_arg14 g 1)⟩ : View.Piece (Elt Ideal) S1x4x36x32x64 .fp8e4m3), (⟨Rect.unit (k0_off6 k g 1#32) S1x1x1x32x64.size (k0_off6_inb k g 1), k0_pay12 (F := Ideal) (ldx arg3.view X_arg3 k g 1) (ldm1 arg14.view f_arg14 g 1)⟩ : View.Piece (Elt Ideal) S1x4x36x32x64 .fp8e4m3), (⟨Rect.unit (k0_off7 k g 0#32) S1x1x1x32x64.size (k0_off7_inb k g 0), k0_pay13 (F := Ideal) (ldx arg3.view X_arg3 k g 0) (ldm1 arg14.view f_arg14 g 0)⟩ : View.Piece (Elt Ideal) S1x4x36x32x64 .fp8e4m3), (⟨Rect.unit (k0_off6 k g 0#32) S1x1x1x32x64.size (k0_off6_inb k g 0), k0_pay12 (F := Ideal) (ldx arg3.view X_arg3 k g 0) (ldm1 arg14.view f_arg14 g 0)⟩ : View.Piece (Elt Ideal) S1x4x36x32x64 .fp8e4m3)]) y = arg9.view.read (Elt Ideal) f y := by
  refine View.read_writes_apply_of_forall_not_mem arg9.view _ y _ ?_
  simp only [List.forall_mem_cons]
  refine ⟨not_mem5 k g y _ 1 3 (k0_off7_inb k g 3) (k0_off7_eq k g 3) h (by omega) (by omega), not_mem5 k g y _ 0 3 (k0_off6_inb k g 3) (k0_off6_eq k g 3) h (by omega) (by omega), not_mem5 k g y _ 1 2 (k0_off7_inb k g 2) (k0_off7_eq k g 2) h (by omega) (by omega), not_mem5 k g y _ 0 2 (k0_off6_inb k g 2) (k0_off6_eq k g 2) h (by omega) (by omega), not_mem5 k g y _ 1 1 (k0_off7_inb k g 1) (k0_off7_eq k g 1) h (by omega) (by omega), not_mem5 k g y _ 0 1 (k0_off6_inb k g 1) (k0_off6_eq k g 1) h (by omega) (by omega), not_mem5 k g y _ 1 0 (k0_off7_inb k g 0) (k0_off7_eq k g 0) h (by omega) (by omega), not_mem5 k g y _ 0 0 (k0_off6_inb k g 0) (k0_off6_eq k g 0) h (by omega) (by omega), by simp⟩

/-- The codes after the loop. -/
theorem t3_9 (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (a16 v5 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) (y : S1x4x36x32x64.Idx) :
    ((y 1).val / 2 = k.val → arg9.view.read (Elt Ideal) (arg9.view.writes (Elt Ideal) f_arg9 (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 k a16 v5 X_arg2 X_arg3 X_arg4 X_arg5 f_arg14 f_arg15 9).2.2) y = codev (arg3.view.read (Elt Ideal) X_arg3) (arg14.view.read (Elt Ideal) f_arg14) 1 k y)
    ∧ (¬ (y 1).val / 2 = k.val → arg9.view.read (Elt Ideal) (arg9.view.writes (Elt Ideal) f_arg9 (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 k a16 v5 X_arg2 X_arg3 X_arg4 X_arg5 f_arg14 f_arg15 9).2.2) y = (arg9.view.read (Elt Ideal) f_arg9) y) := by
  have key := loop_read arg9.view f_arg9 (codev (arg3.view.read (Elt Ideal) X_arg3) (arg14.view.read (Elt Ideal) f_arg14) 1 k) (fun n => (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 k a16 v5 X_arg2 X_arg3 X_arg4 X_arg5 f_arg14 f_arg15 n).2.2) (fun n => if h : n < 9 then have g : Fin k0_t3_loop.trips := ⟨n, h⟩; [(⟨Rect.unit (k0_off7 k g 3#32) S1x1x1x32x64.size (k0_off7_inb k g 3), k0_pay13 (F := Ideal) (ldx arg3.view X_arg3 k g 3) (ldm1 arg14.view f_arg14 g 3)⟩ : View.Piece (Elt Ideal) S1x4x36x32x64 .fp8e4m3), (⟨Rect.unit (k0_off6 k g 3#32) S1x1x1x32x64.size (k0_off6_inb k g 3), k0_pay12 (F := Ideal) (ldx arg3.view X_arg3 k g 3) (ldm1 arg14.view f_arg14 g 3)⟩ : View.Piece (Elt Ideal) S1x4x36x32x64 .fp8e4m3), (⟨Rect.unit (k0_off7 k g 2#32) S1x1x1x32x64.size (k0_off7_inb k g 2), k0_pay13 (F := Ideal) (ldx arg3.view X_arg3 k g 2) (ldm1 arg14.view f_arg14 g 2)⟩ : View.Piece (Elt Ideal) S1x4x36x32x64 .fp8e4m3), (⟨Rect.unit (k0_off6 k g 2#32) S1x1x1x32x64.size (k0_off6_inb k g 2), k0_pay12 (F := Ideal) (ldx arg3.view X_arg3 k g 2) (ldm1 arg14.view f_arg14 g 2)⟩ : View.Piece (Elt Ideal) S1x4x36x32x64 .fp8e4m3), (⟨Rect.unit (k0_off7 k g 1#32) S1x1x1x32x64.size (k0_off7_inb k g 1), k0_pay13 (F := Ideal) (ldx arg3.view X_arg3 k g 1) (ldm1 arg14.view f_arg14 g 1)⟩ : View.Piece (Elt Ideal) S1x4x36x32x64 .fp8e4m3), (⟨Rect.unit (k0_off6 k g 1#32) S1x1x1x32x64.size (k0_off6_inb k g 1), k0_pay12 (F := Ideal) (ldx arg3.view X_arg3 k g 1) (ldm1 arg14.view f_arg14 g 1)⟩ : View.Piece (Elt Ideal) S1x4x36x32x64 .fp8e4m3), (⟨Rect.unit (k0_off7 k g 0#32) S1x1x1x32x64.size (k0_off7_inb k g 0), k0_pay13 (F := Ideal) (ldx arg3.view X_arg3 k g 0) (ldm1 arg14.view f_arg14 g 0)⟩ : View.Piece (Elt Ideal) S1x4x36x32x64 .fp8e4m3), (⟨Rect.unit (k0_off6 k g 0#32) S1x1x1x32x64.size (k0_off6_inb k g 0), k0_pay12 (F := Ideal) (ldx arg3.view X_arg3 k g 0) (ldm1 arg14.view f_arg14 g 0)⟩ : View.Piece (Elt Ideal) S1x4x36x32x64 .fp8e4m3)] else []) 9 rfl
    (fun n hn => by rw [dif_pos hn]; exact (t3_succ c i arg2 harg2 arg3 harg3 arg4 harg4 arg5 harg5 arg6 harg6 arg7 harg7 arg8 harg8 arg9 harg9 arg10 harg10 arg11 harg11 arg12 harg12 arg13 harg13 arg14 harg14 arg15 harg15 a16 v5 X_arg2 X_arg3 X_arg4 X_arg5 X_arg6 k f_arg7 f_arg8 f_arg9 f_arg10 f_arg11 f_arg12 f_arg13 f_arg14 f_arg15 ⟨n, hn⟩).2.2) (fun n y => (y 1).val / 2 = k.val ∧ (y 2).val / 4 = n)
    (fun n hn g y hy => by rw [dif_pos hn]; exact hit9 c i arg2 harg2 arg3 harg3 arg4 harg4 arg5 harg5 arg6 harg6 arg7 harg7 arg8 harg8 arg9 harg9 arg10 harg10 arg11 harg11 arg12 harg12 arg13 harg13 arg14 harg14 arg15 harg15 a16 v5 X_arg2 X_arg3 X_arg4 X_arg5 X_arg6 k f_arg7 f_arg8 f_arg9 f_arg10 f_arg11 f_arg12 f_arg13 f_arg14 f_arg15 ⟨n, hn⟩ g y hy.1 hy.2)
    (fun n hn g y hy => by rw [dif_pos hn]; exact miss9 c i arg2 harg2 arg3 harg3 arg4 harg4 arg5 harg5 arg6 harg6 arg7 harg7 arg8 harg8 arg9 harg9 arg10 harg10 arg11 harg11 arg12 harg12 arg13 harg13 arg14 harg14 arg15 harg15 a16 v5 X_arg2 X_arg3 X_arg4 X_arg5 X_arg6 k f_arg7 f_arg8 f_arg9 f_arg10 f_arg11 f_arg12 f_arg13 f_arg14 f_arg15 ⟨n, hn⟩ g y hy) 9 le_rfl y
  have h36 : (y 2).val < 36 := (y 2).isLt
  exact ⟨fun h => key.1 ⟨(y 2).val / 4, by omega, h, rfl⟩, fun h => key.2 fun _ _ hh => h hh.1⟩

/-- The output of one group of four heads. -/
theorem hit7 (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (a16 v5 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) (g : Fin k0_t3_loop.trips) (f : arg7.view.ty.Contents (Elt Ideal)) (y : S1x256x1152.Idx) (hw : (y 1).val / 128 = k.val) (hy : (y 2).val / 128 = g.val) :
    arg7.view.read (Elt Ideal) (arg7.view.writes (Elt Ideal) f [(⟨Rect.unit (k0_off11 k g) S1x128x128.size (k0_off11_inb k g), outc (headc (ldx arg2.view X_arg2 k g 0) (ldx arg3.view X_arg3 k g 0) (ldx arg4.view X_arg4 k g 0) (ldm0 arg14.view f_arg14 g 0) (ldm1 arg14.view f_arg14 g 0) (ldc arg15.view f_arg15 g 0) (ldv arg5.view X_arg5 g 0)) (headc (ldx arg2.view X_arg2 k g 1) (ldx arg3.view X_arg3 k g 1) (ldx arg4.view X_arg4 k g 1) (ldm0 arg14.view f_arg14 g 1) (ldm1 arg14.view f_arg14 g 1) (ldc arg15.view f_arg15 g 1) (ldv arg5.view X_arg5 g 1)) (headc (ldx arg2.view X_arg2 k g 2) (ldx arg3.view X_arg3 k g 2) (ldx arg4.view X_arg4 k g 2) (ldm0 arg14.view f_arg14 g 2) (ldm1 arg14.view f_arg14 g 2) (ldc arg15.view f_arg15 g 2) (ldv arg5.view X_arg5 g 2)) (headc (ldx arg2.view X_arg2 k g 3) (ldx arg3.view X_arg3 k g 3) (ldx arg4.view X_arg4 k g 3) (ldm0 arg14.view f_arg14 g 3) (ldm1 arg14.view f_arg14 g 3) (ldc arg15.view f_arg15 g 3) (ldv arg5.view X_arg5 g 3))⟩ : View.Piece (Elt Ideal) S1x256x1152 .bf16)]) y = outv (arg2.view.read (Elt Ideal) X_arg2) (arg3.view.read (Elt Ideal) X_arg3) (arg4.view.read (Elt Ideal) X_arg4) (arg5.view.read (Elt Ideal) X_arg5) (arg14.view.read (Elt Ideal) f_arg14) (arg15.view.read (Elt Ideal) f_arg15) k y := by
  refine View.read_writes_apply_of_pieces arg7.view _ _ _ ?_ y ?_
  · simp only [List.forall_mem_cons]
    refine ⟨?_, by simp⟩
    intro x
    obtain ⟨l, hh, d, hb, rfl⟩ := idx3o x
    simp only [ldx_eq, ldm0_eq, ldm1_eq, ldc_eq, ldv_eq]
    refine out_piece (arg2.view.read (Elt Ideal) X_arg2) (arg3.view.read (Elt Ideal) X_arg3) (arg4.view.read (Elt Ideal) X_arg4) (arg5.view.read (Elt Ideal) X_arg5) (arg14.view.read (Elt Ideal) f_arg14) (arg15.view.read (Elt Ideal) f_arg15) k g l hh d hb _ ?_ ?_
    · show k0_off11 k g 1 + 1 * l.val = _; rw [congrFun (k0_off11_eq k g) 1]; show 128 * k.val + 1 * l.val = _; omega
    · show k0_off11 k g 2 + 1 * (32 * hh.val + d.val) = _; rw [congrFun (k0_off11_eq k g) 2]; show 128 * g.val + 1 * (32 * hh.val + d.val) = _; omega
  · refine ⟨_, .head _, ?_⟩
    rw [Rect.mem_set_unit]
    intro a
    have h0 : (y 0).val < 1 := (y 0).isLt
    rw [congrFun (k0_off11_eq k g) a]
    fin_cases a
    · exact ⟨Nat.zero_le _, by show (y 0).val < 0 + 1; omega⟩
    · exact ⟨by show 128 * k.val ≤ (y 1).val; omega, by show (y 1).val < 128 * k.val + 128; omega⟩
    · exact ⟨by show 128 * g.val ≤ (y 2).val; omega, by show (y 2).val < 128 * g.val + 128; omega⟩

theorem miss7 (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (a16 v5 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) (g : Fin k0_t3_loop.trips) (f : arg7.view.ty.Contents (Elt Ideal)) (y : S1x256x1152.Idx) (h : ¬ ((y 1).val / 128 = k.val ∧ (y 2).val / 128 = g.val)) :
    arg7.view.read (Elt Ideal) (arg7.view.writes (Elt Ideal) f [(⟨Rect.unit (k0_off11 k g) S1x128x128.size (k0_off11_inb k g), outc (headc (ldx arg2.view X_arg2 k g 0) (ldx arg3.view X_arg3 k g 0) (ldx arg4.view X_arg4 k g 0) (ldm0 arg14.view f_arg14 g 0) (ldm1 arg14.view f_arg14 g 0) (ldc arg15.view f_arg15 g 0) (ldv arg5.view X_arg5 g 0)) (headc (ldx arg2.view X_arg2 k g 1) (ldx arg3.view X_arg3 k g 1) (ldx arg4.view X_arg4 k g 1) (ldm0 arg14.view f_arg14 g 1) (ldm1 arg14.view f_arg14 g 1) (ldc arg15.view f_arg15 g 1) (ldv arg5.view X_arg5 g 1)) (headc (ldx arg2.view X_arg2 k g 2) (ldx arg3.view X_arg3 k g 2) (ldx arg4.view X_arg4 k g 2) (ldm0 arg14.view f_arg14 g 2) (ldm1 arg14.view f_arg14 g 2) (ldc arg15.view f_arg15 g 2) (ldv arg5.view X_arg5 g 2)) (headc (ldx arg2.view X_arg2 k g 3) (ldx arg3.view X_arg3 k g 3) (ldx arg4.view X_arg4 k g 3) (ldm0 arg14.view f_arg14 g 3) (ldm1 arg14.view f_arg14 g 3) (ldc arg15.view f_arg15 g 3) (ldv arg5.view X_arg5 g 3))⟩ : View.Piece (Elt Ideal) S1x256x1152 .bf16)]) y = arg7.view.read (Elt Ideal) f y := by
  refine View.read_writes_apply_of_forall_not_mem arg7.view _ y _ ?_
  simp only [List.forall_mem_cons]
  refine ⟨?_, by simp⟩
  rw [Rect.mem_set_unit]
  intro hall
  have e1 := hall 1
  have e2 := hall 2
  rw [congrFun (k0_off11_eq k g) 1] at e1
  rw [congrFun (k0_off11_eq k g) 2] at e2
  have e1' : 128 * k.val ≤ (y 1).val ∧ (y 1).val < 128 * k.val + 128 := e1
  have e2' : 128 * g.val ≤ (y 2).val ∧ (y 2).val < 128 * g.val + 128 := e2
  apply h
  omega

/-- The output after the loop. -/
theorem t3_7 (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (a16 v5 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) (y : S1x256x1152.Idx) :
    ((y 1).val / 128 = k.val → arg7.view.read (Elt Ideal) (arg7.view.writes (Elt Ideal) f_arg7 (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 k a16 v5 X_arg2 X_arg3 X_arg4 X_arg5 f_arg14 f_arg15 9).1) y = outv (arg2.view.read (Elt Ideal) X_arg2) (arg3.view.read (Elt Ideal) X_arg3) (arg4.view.read (Elt Ideal) X_arg4) (arg5.view.read (Elt Ideal) X_arg5) (arg14.view.read (Elt Ideal) f_arg14) (arg15.view.read (Elt Ideal) f_arg15) k y)
    ∧ (¬ (y 1).val / 128 = k.val → arg7.view.read (Elt Ideal) (arg7.view.writes (Elt Ideal) f_arg7 (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 k a16 v5 X_arg2 X_arg3 X_arg4 X_arg5 f_arg14 f_arg15 9).1) y = (arg7.view.read (Elt Ideal) f_arg7) y) := by
  have key := loop_read arg7.view f_arg7 (outv (arg2.view.read (Elt Ideal) X_arg2) (arg3.view.read (Elt Ideal) X_arg3) (arg4.view.read (Elt Ideal) X_arg4) (arg5.view.read (Elt Ideal) X_arg5) (arg14.view.read (Elt Ideal) f_arg14) (arg15.view.read (Elt Ideal) f_arg15) k) (fun n => (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 k a16 v5 X_arg2 X_arg3 X_arg4 X_arg5 f_arg14 f_arg15 n).1) (fun n => if h : n < 9 then have g : Fin k0_t3_loop.trips := ⟨n, h⟩; [(⟨Rect.unit (k0_off11 k g) S1x128x128.size (k0_off11_inb k g), outc (headc (ldx arg2.view X_arg2 k g 0) (ldx arg3.view X_arg3 k g 0) (ldx arg4.view X_arg4 k g 0) (ldm0 arg14.view f_arg14 g 0) (ldm1 arg14.view f_arg14 g 0) (ldc arg15.view f_arg15 g 0) (ldv arg5.view X_arg5 g 0)) (headc (ldx arg2.view X_arg2 k g 1) (ldx arg3.view X_arg3 k g 1) (ldx arg4.view X_arg4 k g 1) (ldm0 arg14.view f_arg14 g 1) (ldm1 arg14.view f_arg14 g 1) (ldc arg15.view f_arg15 g 1) (ldv arg5.view X_arg5 g 1)) (headc (ldx arg2.view X_arg2 k g 2) (ldx arg3.view X_arg3 k g 2) (ldx arg4.view X_arg4 k g 2) (ldm0 arg14.view f_arg14 g 2) (ldm1 arg14.view f_arg14 g 2) (ldc arg15.view f_arg15 g 2) (ldv arg5.view X_arg5 g 2)) (headc (ldx arg2.view X_arg2 k g 3) (ldx arg3.view X_arg3 k g 3) (ldx arg4.view X_arg4 k g 3) (ldm0 arg14.view f_arg14 g 3) (ldm1 arg14.view f_arg14 g 3) (ldc arg15.view f_arg15 g 3) (ldv arg5.view X_arg5 g 3))⟩ : View.Piece (Elt Ideal) S1x256x1152 .bf16)] else []) 9 rfl
    (fun n hn => by rw [dif_pos hn]; exact (t3_succ c i arg2 harg2 arg3 harg3 arg4 harg4 arg5 harg5 arg6 harg6 arg7 harg7 arg8 harg8 arg9 harg9 arg10 harg10 arg11 harg11 arg12 harg12 arg13 harg13 arg14 harg14 arg15 harg15 a16 v5 X_arg2 X_arg3 X_arg4 X_arg5 X_arg6 k f_arg7 f_arg8 f_arg9 f_arg10 f_arg11 f_arg12 f_arg13 f_arg14 f_arg15 ⟨n, hn⟩).1) (fun n y => (y 1).val / 128 = k.val ∧ (y 2).val / 128 = n)
    (fun n hn g y hy => by rw [dif_pos hn]; exact hit7 c i arg2 harg2 arg3 harg3 arg4 harg4 arg5 harg5 arg6 harg6 arg7 harg7 arg8 harg8 arg9 harg9 arg10 harg10 arg11 harg11 arg12 harg12 arg13 harg13 arg14 harg14 arg15 harg15 a16 v5 X_arg2 X_arg3 X_arg4 X_arg5 X_arg6 k f_arg7 f_arg8 f_arg9 f_arg10 f_arg11 f_arg12 f_arg13 f_arg14 f_arg15 ⟨n, hn⟩ g y hy.1 hy.2)
    (fun n hn g y hy => by rw [dif_pos hn]; exact miss7 c i arg2 harg2 arg3 harg3 arg4 harg4 arg5 harg5 arg6 harg6 arg7 harg7 arg8 harg8 arg9 harg9 arg10 harg10 arg11 harg11 arg12 harg12 arg13 harg13 arg14 harg14 arg15 harg15 a16 v5 X_arg2 X_arg3 X_arg4 X_arg5 X_arg6 k f_arg7 f_arg8 f_arg9 f_arg10 f_arg11 f_arg12 f_arg13 f_arg14 f_arg15 ⟨n, hn⟩ g y hy) 9 le_rfl y
  have h36 : (y 2).val < 1152 := (y 2).isLt
  exact ⟨fun h => key.1 ⟨(y 2).val / 128, by omega, h, rfl⟩, fun h => key.2 fun _ _ hh => h hh.1⟩

end Cert.KernelIdeal.Hand
end
-- ==== Proof.Column.lean ====
/-
  What one trip over the columns leaves, in the terms of the problem: the codes, the scales and the attention of the two windows
  of the trip.
-/
module

public import proofs.«01_k».proof.Proof.Heads

@[expose] public section

noncomputable section

namespace Cert.KernelIdeal.Hand

open Cert.KernelIdeal Cert.KernelIdeal.Gen
open Idealize.ShloMosaic Idealize.ShloMosaic.TcCoe Idealize.ShloMosaic.Tactic

/-- The entries of one window and one head of a block, tokens first. -/
def wint (R : S1x36x32x256.Idx → EReal) (w : Fin 4) (h : Fin 36) : Spec.Win := fun i d => R (ix4 0 h d ⟨64 * w.val + i.val, by omega⟩)

/-- The window of a trip's half. -/
def wk (k : Fin k0_t1_loop.trips) (p : Fin 2) : Fin 4 := ⟨2 * k.val + p.val, by have : k.val < 2 := k.isLt; omega⟩

theorem colx_lane (R : S1x36x32x256.Idx → EReal) (k : Fin k0_t1_loop.trips) (h : Fin 36) (p : Fin 2) (i : Fin 64) (d : Fin 32) :
    colx R k h (lane p i) d = wint R (wk k p) h i d :=
  congrArg (fun z => R (ix4 0 h d z)) (Fin.ext (by show 128 * k.val + (64 * p.val + i.val) = 64 * (2 * k.val + p.val) + i.val; omega))

/-- The rows of partial sums and partial maxima are those of the entries `R`. -/
def IsSums (R12 R13 : S2x320x128.Idx → EReal) (R : S1x36x32x256.Idx → EReal) (i : Fin 2) (k : Fin k0_t1_loop.trips) : Prop :=
  ∀ (h : Fin 36) (r : Fin 8) (l : Fin 128), R12 (ix3 i ⟨8 * h.val + r.val, by omega⟩ l) = ps (colx R k h l) r
    ∧ R13 (ix3 i ⟨8 * h.val + r.val, by omega⟩ l) = pm (colx R k h l) r

section
variable (R12 R13 : S2x320x128.Idx → EReal) (R : S1x36x32x256.Idx → EReal) (i : Fin 2) (k : Fin k0_t1_loop.trips) (H : IsSums R12 R13 R i k)
include H

theorem n2f_win (h : Fin 36) (p : Fin 2) (j : Fin 64) :
    n2f R12 i (hd' h) (lane p j) = ∑ d, wint R (wk k p) h j d * wint R (wk k p) h j d := by
  rw [n2f_of R12 i (hd' h) (lane p j) (colx R k h (lane p j)) (fun r => (H h r _).1)]
  simp only [colx_lane]
theorem mxf_win (h : Fin 36) (p : Fin 2) (j : Fin 64) :
    mxf R13 i (hd' h) (lane p j) = Finset.univ.sup fun d => Spec.eabs (wint R (wk k p) h j d) := by
  rw [mxf_of R13 i (hd' h) (lane p j) (colx R k h (lane p j)) (fun r => (H h r _).2)]
  simp only [colx_lane]

/-- The scale the kernel stores is the scale of the window. -/
theorem sclf_win (h : Fin 36) (p : Fin 2) (j : Fin 64) : sclf R12 R13 i (hd' h) (lane p j) = Spec.scl (Spec.amax (wint R (wk k p) h)) :=
  sclv_win (fun p => wint R (wk k p) h) _ _ (n2f_win R12 R13 R i k H h) (mxf_win R12 R13 R i k H h) p j
theorem mulf_win (h : Fin 36) (p : Fin 2) (j : Fin 64) : mulf2 R12 R13 (ix3 i (hd' h) (lane p j))
    = (Spec.nrm (wint R (wk k p) h) j)⁻¹ * (Spec.scl (Spec.amax (wint R (wk k p) h)))⁻¹ :=
  mulv_win (fun p => wint R (wk k p) h) _ _ (n2f_win R12 R13 R i k H h) (mxf_win R12 R13 R i k H h) p j

/-- The code of an entry. -/
theorem code_win (M : S2x40x128.Idx → EReal) (hM : ∀ y, M y = mulf2 R12 R13 y) (h : Fin 36) (p : Fin 2) (j : Fin 64) (d : Fin 32) :
    min Spec.c448 (max Spec.m448 (colx R k h (lane p j) d * M (ix3 i (hd' h) (lane p j)))) = Spec.code (wint R (wk k p) h) j d := by
  rw [hM, mulf_win R12 R13 R i k H, colx_lane, ← mul_assoc]
  rfl

theorem codev_win (M : S2x40x128.Idx → EReal) (hM : ∀ y, M y = mulf2 R12 R13 y) (y : S1x4x36x32x64.Idx) (hy : (y 1).val / 2 = k.val) :
    codev R M i k y = Spec.code (wint R (y 1) (y 2)) (y 4) (y 3) := by
  have e : wk k ⟨(y 1).val % 2, by omega⟩ = y 1 := Fin.ext (by show 2 * k.val + (y 1).val % 2 = (y 1).val; omega)
  exact (code_win R12 R13 R i k H M hM (y 2) ⟨(y 1).val % 2, by omega⟩ (y 4) (y 3)).trans (congrArg (fun w => Spec.code (wint R w (y 2)) (y 4) (y 3)) e)
end

/-- The attention of one window and one head, from the entries, the temperatures and the bias. -/
def hatt (R2 R3 R4 : S1x36x32x256.Idx → EReal) (R5 : S36x64x128.Idx → EReal) (T : S40x128.Idx → EReal) (w : Fin 4) (p : Fin 2) (h : Fin 36) (j : Fin 64) (d : Fin 32) : EReal :=
  Spec.att (wint R2 w h) (wint R3 w h) (wint R4 w h) (fun i => T (ix2 (hd' h) (lane p i))) (fun i j => R5 (ix3 h j (lane p i))) j d

theorem headv_win (R12 R13 : S2x320x128.Idx → EReal) (R2 R3 R4 : S1x36x32x256.Idx → EReal) (R5 : S36x64x128.Idx → EReal) (T : S40x128.Idx → EReal)
    (M : S2x40x128.Idx → EReal) (C : S40x128.Idx → EReal) (k : Fin k0_t1_loop.trips)
    (H2 : IsSums R12 R13 R2 0 k) (H3 : IsSums R12 R13 R3 1 k) (hM : ∀ y, M y = mulf2 R12 R13 y) (hC : ∀ y, C y = prodf R12 R13 T y)
    (hT : ∀ y, ∃ r : ℝ, T y = (r : EReal)) (hR : ∀ y, ∃ r : ℝ, R5 y = (r : EReal)) (h : Fin 36) (p : Fin 2) (j : Fin 64) (d : Fin 32) :
    headv R2 R3 R4 R5 M C k h (ix2 d (lane p j)) = hatt R2 R3 R4 R5 T (wk k p) p h j d := by
  unfold headv headc
  rw [pay21_at]
  have hS : ∀ i : Fin 64, k0_pay20 k0_pay1 (k0_pay10 (xvec R2 k h) (mvec M 0 h)) (k0_pay14 (xvec R3 k h)) (mvec M 1 h) (cvec C h) (ix2 i (lane p j)) + bvec R5 h (ix3 0 i (lane p j))
      = Spec.logit (wint R2 (wk k p) h) (wint R3 (wk k p) h) (fun i => T (ix2 (hd' h) (lane p i))) (fun i j => R5 (ix3 h j (lane p i))) j i := by
    intro i
    rw [pay20_at]
    simp only [pay10_at, pay14_at]
    have e1 : ∀ d : Fin 32, min Spec.c448 (max Spec.m448 (xvec R3 k h (ix4 0 0 d (lane p i)) * mvec M 1 h (ix3 0 0 (lane p i)))) = Spec.code (wint R3 (wk k p) h) i d :=
      fun d => code_win R12 R13 R3 1 k H3 M hM h p i d
    have e2 : ∀ d : Fin 32, min Spec.c448 (max Spec.m448 (xvec R2 k h (ix4 0 0 d (lane p j)) * mvec M 0 h (ix3 0 0 (lane p j)))) = Spec.code (wint R2 (wk k p) h) j d :=
      fun d => code_win R12 R13 R2 0 k H2 M hM h p j d
    have e3 : cvec C h (ix2 0 (lane p j)) = Spec.scl (Spec.amax (wint R2 (wk k p) h)) * Spec.scl (Spec.amax (wint R3 (wk k p) h)) * T (ix2 (hd' h) (lane p j)) := by
      rw [← sclf_win R12 R13 R2 0 k H2 h p j, ← sclf_win R12 R13 R3 1 k H3 h p j]
      exact hC (ix2 (hd' h) (lane p j))
    simp only [e1, e2, e3]
    unfold Spec.logit
    rw [← mul_assoc, ← mul_assoc]
    simp only [mul_comm]
    rfl
  simp only [hS]
  refine (Spec.att_out _ _ fun i => Spec.logit_real _ _ _ _ (fun _ => hT _) (fun _ _ => hR _) j i).trans ?_
  unfold hatt Spec.att Spec.ex
  refine Finset.sum_congr rfl fun i _ => ?_
  rw [show xvec R4 k h (ix4 0 0 d (lane p i)) = wint R4 (wk k p) h i d from colx_lane R4 k h p i d]

/-- The output block. -/
def blk7 (R2 R3 R4 : S1x36x32x256.Idx → EReal) (R5 : S36x64x128.Idx → EReal) (T : S40x128.Idx → EReal) (y : S1x256x1152.Idx) : EReal :=
  hatt R2 R3 R4 R5 T ⟨(y 1).val / 64, by have h : (y 1).val < 256 := (y 1).isLt; omega⟩ ⟨(y 1).val / 64 % 2, by omega⟩
    ⟨(y 2).val / 32, by have h : (y 2).val < 1152 := (y 2).isLt; omega⟩ ⟨(y 1).val % 64, by omega⟩ ⟨(y 2).val % 32, by omega⟩

theorem outv_win (R12 R13 : S2x320x128.Idx → EReal) (R2 R3 R4 : S1x36x32x256.Idx → EReal) (R5 : S36x64x128.Idx → EReal) (T : S40x128.Idx → EReal)
    (M : S2x40x128.Idx → EReal) (C : S40x128.Idx → EReal) (k : Fin k0_t1_loop.trips)
    (H2 : IsSums R12 R13 R2 0 k) (H3 : IsSums R12 R13 R3 1 k) (hM : ∀ y, M y = mulf2 R12 R13 y) (hC : ∀ y, C y = prodf R12 R13 T y)
    (hT : ∀ y, ∃ r : ℝ, T y = (r : EReal)) (hR : ∀ y, ∃ r : ℝ, R5 y = (r : EReal)) (y : S1x256x1152.Idx) (hy : (y 1).val / 128 = k.val) :
    outv R2 R3 R4 R5 M C k y = blk7 R2 R3 R4 R5 T y := by
  have e := headv_win R12 R13 R2 R3 R4 R5 T M C k H2 H3 hM hC hT hR
    ⟨(y 2).val / 32, by have h : (y 2).val < 1152 := (y 2).isLt; omega⟩ ⟨(y 1).val / 64 % 2, by omega⟩ ⟨(y 1).val % 64, by omega⟩ ⟨(y 2).val % 32, by omega⟩
  unfold outv blk7
  rw [show (⟨(y 1).val % 128, by omega⟩ : Fin 128) = lane ⟨(y 1).val / 64 % 2, by omega⟩ ⟨(y 1).val % 64, by omega⟩ from
      Fin.ext (by show (y 1).val % 128 = 64 * ((y 1).val / 64 % 2) + (y 1).val % 64; omega), e]
  have e : wk k ⟨(y 1).val / 64 % 2, by omega⟩ = ⟨(y 1).val / 64, by have h : (y 1).val < 256 := (y 1).isLt; omega⟩ :=
    Fin.ext (by show 2 * k.val + (y 1).val / 64 % 2 = (y 1).val / 64; omega)
  rw [e]

theorem col_word : ∀ (s : Fin 10) (k : Fin 2), Scalar.muli (Scalar.addi (Scalar.muli (BitVec.ofNat 32 s.val) 2#32) (Scf.iv 0#32 1#32 k.val)) 2#32 = BitVec.ofNat 32 (4 * s.val + 2 * k.val) := by
  decide
theorem col_eq : ∀ (l : Fin 40) (n : Fin 39), (IntOp.cmpi .eq (BitVec.ofNat 32 l.val) (BitVec.ofNat 32 n.val) = if l.val = n.val then 1#1 else 0#1)
    ∧ (IntOp.cmpi .eq (BitVec.ofNat 32 l.val) (IntOp.addi (BitVec.ofNat 32 n.val) 1#32) = if l.val = n.val + 1 then 1#1 else 0#1) := by
  decide +kernel

/-- The columns of scales after a trip: the trip's two columns at their windows' scales, the others as they were. -/
theorem colf_win (R12 R13 : S2x320x128.Idx → EReal) (R : S1x36x32x256.Idx → EReal) (O : S1x36x40.Idx → EReal) (i : Fin 2) (k : Fin k0_t1_loop.trips) (H : IsSums R12 R13 R i k) (s : Fin 10) (y : S1x36x40.Idx) :
    (∀ p : Fin 2, (y 2).val = 4 * s.val + 2 * k.val + p.val → colf (BitVec.ofNat 32 (4 * s.val + 2 * k.val)) R12 R13 O i y = Spec.scl (Spec.amax (wint R (wk k p) (y 1))))
    ∧ ((∀ p : Fin 2, (y 2).val ≠ 4 * s.val + 2 * k.val + p.val) → colf (BitVec.ofNat 32 (4 * s.val + 2 * k.val)) R12 R13 O i y = O y) := by
  have hk : k.val < 2 := k.isLt
  have c := col_eq (y 2) ⟨4 * s.val + 2 * k.val, by omega⟩
  have e0 := sclf_win R12 R13 R i k H (y 1) 0 0
  have e1 := sclf_win R12 R13 R i k H (y 1) 1 0
  have ec : colf (BitVec.ofNat 32 (4 * s.val + 2 * k.val)) R12 R13 O i y
      = Scalar.select (if (y 2).val = 4 * s.val + 2 * k.val + 1 then 1#1 else 0#1) (Spec.scl (Spec.amax (wint R (wk k 1) (y 1))))
        (Scalar.select (if (y 2).val = 4 * s.val + 2 * k.val then 1#1 else 0#1) (Spec.scl (Spec.amax (wint R (wk k 0) (y 1)))) (O y)) := by
    unfold colf colv
    rw [← e0, ← e1]
    exact congrArg₂ (fun a b => Scalar.select a _ (Scalar.select b _ _)) c.2 c.1
  rw [ec]
  refine ⟨fun p hp => ?_, fun hp => ?_⟩
  · fin_cases p
    · have h' : (y 2).val = 4 * s.val + 2 * k.val := hp
      rw [if_neg (by omega), if_pos h']; rfl
    · have h' : (y 2).val = 4 * s.val + 2 * k.val + 1 := hp
      rw [if_pos h']; rfl
  · have h0 : (y 2).val ≠ 4 * s.val + 2 * k.val := hp 0
    have h1 : (y 2).val ≠ 4 * s.val + 2 * k.val + 1 := hp 1
    rw [if_neg h1, if_neg h0]; rfl

/-- The scales of a step's block after `n` trips, over what the block held. -/
def ColOk (R : S1x36x32x256.Idx → EReal) (O : S1x36x40.Idx → EReal) (s n : ℕ) (G : S1x36x40.Idx → EReal) : Prop :=
  ∀ y, (∀ w : Fin 4, w.val < 2 * n → (y 2).val = 4 * s + w.val → G y = Spec.scl (Spec.amax (wint R w (y 1))))
    ∧ (((y 2).val < 4 * s ∨ 4 * s + 2 * n ≤ (y 2).val) → G y = O y)

/-- What the outputs hold after `n` trips of step `s`. -/
structure Good (R2 R3 R4 : S1x36x32x256.Idx → EReal) (R5 : S36x64x128.Idx → EReal) (T : S40x128.Idx → EReal) (O10 O11 : S1x36x40.Idx → EReal) (s n : ℕ)
    (G7 : S1x256x1152.Idx → EReal) (G8 G9 : S1x4x36x32x64.Idx → EReal) (G10 G11 : S1x36x40.Idx → EReal) : Prop where
  o7 : (∀ y, ∃ r : ℝ, T y = (r : EReal)) → (∀ y, ∃ r : ℝ, R5 y = (r : EReal)) → ∀ y, (y 1).val / 128 < n → G7 y = blk7 R2 R3 R4 R5 T y
  o8 : ∀ y, (y 1).val / 2 < n → G8 y = Spec.code (wint R2 (y 1) (y 2)) (y 4) (y 3)
  o9 : ∀ y, (y 1).val / 2 < n → G9 y = Spec.code (wint R3 (y 1) (y 2)) (y 4) (y 3)
  o10 : ColOk R2 O10 s n G10
  o11 : ColOk R3 O11 s n G11

theorem col_step (R12 R13 : S2x320x128.Idx → EReal) (R : S1x36x32x256.Idx → EReal) (O G G' : S1x36x40.Idx → EReal) (i : Fin 2) (k : Fin k0_t1_loop.trips) (H : IsSums R12 R13 R i k) (s : Fin 10)
    (h : ColOk R O s.val k.val G) (hG : ∀ y, G' y = colf (BitVec.ofNat 32 (4 * s.val + 2 * k.val)) R12 R13 G i y) : ColOk R O s.val (k.val + 1) G' := by
  intro y
  have c := colf_win R12 R13 R G i k H s y
  refine ⟨fun w hw hy => ?_, fun hy => ?_⟩
  · by_cases hw' : w.val < 2 * k.val
    · rw [hG, c.2 (fun p => by omega)]
      exact (h y).1 w hw' hy
    · have e : w = wk k ⟨w.val - 2 * k.val, by omega⟩ := Fin.ext (by show w.val = 2 * k.val + (w.val - 2 * k.val); omega)
      rw [hG, c.1 ⟨w.val - 2 * k.val, by omega⟩ (by show (y 2).val = 4 * s.val + 2 * k.val + (w.val - 2 * k.val); omega), ← e]
  · rw [hG, c.2 (fun p => by omega)]
    exact (h y).2 (by omega)

theorem good_step (R12 R13 : S2x320x128.Idx → EReal) (R2 R3 R4 : S1x36x32x256.Idx → EReal) (R5 : S36x64x128.Idx → EReal) (T : S40x128.Idx → EReal) (O10 O11 : S1x36x40.Idx → EReal) (s : Fin 10)
    (M : S2x40x128.Idx → EReal) (C : S40x128.Idx → EReal) (k : Fin k0_t1_loop.trips)
    (H2 : IsSums R12 R13 R2 0 k) (H3 : IsSums R12 R13 R3 1 k) (hM : ∀ y, M y = mulf2 R12 R13 y) (hC : ∀ y, C y = prodf R12 R13 T y)
    (G7 G7' : S1x256x1152.Idx → EReal) (G8 G9 G8' G9' : S1x4x36x32x64.Idx → EReal) (G10 G11 G10' G11' : S1x36x40.Idx → EReal)
    (h7 : ∀ y, ((y 1).val / 128 = k.val → G7' y = outv R2 R3 R4 R5 M C k y) ∧ (¬ (y 1).val / 128 = k.val → G7' y = G7 y))
    (h8 : ∀ y, ((y 1).val / 2 = k.val → G8' y = codev R2 M 0 k y) ∧ (¬ (y 1).val / 2 = k.val → G8' y = G8 y))
    (h9 : ∀ y, ((y 1).val / 2 = k.val → G9' y = codev R3 M 1 k y) ∧ (¬ (y 1).val / 2 = k.val → G9' y = G9 y))
    (h10 : ∀ y, G10' y = colf (BitVec.ofNat 32 (4 * s.val + 2 * k.val)) R12 R13 G10 0 y)
    (h11 : ∀ y, G11' y = colf (BitVec.ofNat 32 (4 * s.val + 2 * k.val)) R12 R13 G11 1 y)
    (g : Good R2 R3 R4 R5 T O10 O11 s.val k.val G7 G8 G9 G10 G11) : Good R2 R3 R4 R5 T O10 O11 s.val (k.val + 1) G7' G8' G9' G10' G11' where
  o7 hT hR y hy := by
    by_cases e : (y 1).val / 128 = k.val
    · rw [(h7 y).1 e]; exact outv_win R12 R13 R2 R3 R4 R5 T M C k H2 H3 hM hC hT hR y e
    · rw [(h7 y).2 e]; exact g.o7 hT hR y (by omega)
  o8 y hy := by
    by_cases e : (y 1).val / 2 = k.val
    · rw [(h8 y).1 e]; exact codev_win R12 R13 R2 0 k H2 M hM y e
    · rw [(h8 y).2 e]; exact g.o8 y (by omega)
  o9 y hy := by
    by_cases e : (y 1).val / 2 = k.val
    · rw [(h9 y).1 e]; exact codev_win R12 R13 R3 1 k H3 M hM y e
    · rw [(h9 y).2 e]; exact g.o9 y (by omega)
  o10 := col_step R12 R13 R2 O10 G10 G10' 0 k H2 s g.o10 h10
  o11 := col_step R12 R13 R3 O11 G11 G11' 1 k H3 s g.o11 h11

end Cert.KernelIdeal.Hand
end
-- ==== Proof.Step.lean ====
/-
  One trip over the columns keeps what the outputs hold; the whole body, run from what a point finds to what it leaves.
-/
module

public import proofs.«01_k».proof.Proof.Column

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄I" => MT nD τ sig Unit (Elt Ideal) ℕ (UR sig nD τ) ℕ

set_option maxHeartbeats 4000000 in
/-- One trip keeps what the outputs hold, on the contents the run found. -/
theorem trip_good0 (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (s : Fin 10) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) (O10 O11 : S1x36x40.Idx → EReal)
    (g : Good (arg2.view.read (Elt Ideal) X_arg2) (arg3.view.read (Elt Ideal) X_arg3) (arg4.view.read (Elt Ideal) X_arg4) (arg5.view.read (Elt Ideal) X_arg5) (arg6.view.read (Elt Ideal) X_arg6) O10 O11 s.val k.val (arg7.view.read (Elt Ideal) f_arg7) (arg8.view.read (Elt Ideal) f_arg8) (arg9.view.read (Elt Ideal) f_arg9) (arg10.view.read (Elt Ideal) f_arg10) (arg11.view.read (Elt Ideal) f_arg11))
    (g7 : arg7.view.ty.Contents (Elt Ideal)) (e7 : g7 = arg7.view.writes (Elt Ideal) f_arg7 (pb_k0_t3 Variants.none c none i arg2 harg2 arg3 harg3 arg4 harg4 arg5 harg5 arg6 harg6 arg7 harg7 arg8 harg8 arg9 harg9 arg10 harg10 arg11 harg11 arg12 harg12 arg13 harg13 arg14 harg14 arg15 harg15 k (trip1.sl.arg16 k) (trip1.sl.v4 k) X_arg2 X_arg3 X_arg4 X_arg5 (arg14.view.writes (Elt Ideal) arg14.view.junk (trip1.sl.H14_10 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 k f_arg12 f_arg13)) (arg15.view.writes (Elt Ideal) arg15.view.junk (trip1.sl.H15_5 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg6 k f_arg12 f_arg13)) (Scf.trips (0#32) (Scalar.addi 0#32 9#32) 1#32)).1) (g8 : arg8.view.ty.Contents (Elt Ideal)) (e8 : g8 = arg8.view.writes (Elt Ideal) f_arg8 (pb_k0_t3 Variants.none c none i arg2 harg2 arg3 harg3 arg4 harg4 arg5 harg5 arg6 harg6 arg7 harg7 arg8 harg8 arg9 harg9 arg10 harg10 arg11 harg11 arg12 harg12 arg13 harg13 arg14 harg14 arg15 harg15 k (trip1.sl.arg16 k) (trip1.sl.v4 k) X_arg2 X_arg3 X_arg4 X_arg5 (arg14.view.writes (Elt Ideal) arg14.view.junk (trip1.sl.H14_10 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 k f_arg12 f_arg13)) (arg15.view.writes (Elt Ideal) arg15.view.junk (trip1.sl.H15_5 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg6 k f_arg12 f_arg13)) (Scf.trips (0#32) (Scalar.addi 0#32 9#32) 1#32)).2.1) (g9 : arg9.view.ty.Contents (Elt Ideal)) (e9 : g9 = arg9.view.writes (Elt Ideal) f_arg9 (pb_k0_t3 Variants.none c none i arg2 harg2 arg3 harg3 arg4 harg4 arg5 harg5 arg6 harg6 arg7 harg7 arg8 harg8 arg9 harg9 arg10 harg10 arg11 harg11 arg12 harg12 arg13 harg13 arg14 harg14 arg15 harg15 k (trip1.sl.arg16 k) (trip1.sl.v4 k) X_arg2 X_arg3 X_arg4 X_arg5 (arg14.view.writes (Elt Ideal) arg14.view.junk (trip1.sl.H14_10 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 k f_arg12 f_arg13)) (arg15.view.writes (Elt Ideal) arg15.view.junk (trip1.sl.H15_5 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg6 k f_arg12 f_arg13)) (Scf.trips (0#32) (Scalar.addi 0#32 9#32) 1#32)).2.2) (g10 : arg10.view.ty.Contents (Elt Ideal)) (e10 : g10 = arg10.view.writes (Elt Ideal) arg10.view.junk (trip1.sl.H10_5 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) X_arg2 X_arg3 k f_arg10 f_arg12 f_arg13)) (g11 : arg11.view.ty.Contents (Elt Ideal)) (e11 : g11 = arg11.view.writes (Elt Ideal) arg11.view.junk (trip1.sl.H11_5 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) X_arg2 X_arg3 k f_arg11 f_arg12 f_arg13)) :
    Good (arg2.view.read (Elt Ideal) X_arg2) (arg3.view.read (Elt Ideal) X_arg3) (arg4.view.read (Elt Ideal) X_arg4) (arg5.view.read (Elt Ideal) X_arg5) (arg6.view.read (Elt Ideal) X_arg6) O10 O11 s.val (k.val + 1) (arg7.view.read (Elt Ideal) g7) (arg8.view.read (Elt Ideal) g8) (arg9.view.read (Elt Ideal) g9) (arg10.view.read (Elt Ideal) g10) (arg11.view.read (Elt Ideal) g11) := by
  subst e7 e8 e9 e10 e11
  have hW : Scalar.muli (Scalar.addi (Scalar.muli (BitVec.ofNat 32 s.val) 2#32) (trip1.sl.arg16 k)) 2#32 = BitVec.ofNat 32 (4 * s.val + 2 * k.val) := col_word s ⟨k.val, k.isLt⟩
  exact good_step (arg12.view.read (Elt Ideal) (arg12.view.writes (Elt Ideal) f_arg12 (pb_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 (0#32) (1#32) k (trip1.sl.v4 k) X_arg2 X_arg3 (Scf.trips (0#32) (Scalar.addi 0#32 36#32) 1#32)).1)) (arg13.view.read (Elt Ideal) (arg13.view.writes (Elt Ideal) f_arg13 (pb_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 (0#32) (1#32) k (trip1.sl.v4 k) X_arg2 X_arg3 (Scf.trips (0#32) (Scalar.addi 0#32 36#32) 1#32)).2)) _ _ _ _ _ O10 O11 s
    (arg14.view.read (Elt Ideal) (arg14.view.writes (Elt Ideal) arg14.view.junk (trip1.sl.H14_10 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 k f_arg12 f_arg13))) (arg15.view.read (Elt Ideal) (arg15.view.writes (Elt Ideal) arg15.view.junk (trip1.sl.H15_5 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg6 k f_arg12 f_arg13))) k
    (fun h r l => ⟨(t2_12 c i arg2 harg2 arg3 harg3 arg4 harg4 arg5 harg5 arg6 harg6 arg7 harg7 arg8 harg8 arg9 harg9 arg10 harg10 arg11 harg11 arg12 harg12 arg13 harg13 arg14 harg14 arg15 harg15 (trip1.sl.v4 k) X_arg2 X_arg3 X_arg4 X_arg5 X_arg6 k f_arg7 f_arg8 f_arg9 f_arg10 f_arg11 f_arg12 f_arg13 f_arg14 f_arg15 h.val h.isLt r l).1, (t2_13 c i arg2 harg2 arg3 harg3 arg4 harg4 arg5 harg5 arg6 harg6 arg7 harg7 arg8 harg8 arg9 harg9 arg10 harg10 arg11 harg11 arg12 harg12 arg13 harg13 arg14 harg14 arg15 harg15 (trip1.sl.v4 k) X_arg2 X_arg3 X_arg4 X_arg5 X_arg6 k f_arg7 f_arg8 f_arg9 f_arg10 f_arg11 f_arg12 f_arg13 f_arg14 f_arg15 h.val h.isLt r l).1⟩)
    (fun h r l => ⟨(t2_12 c i arg2 harg2 arg3 harg3 arg4 harg4 arg5 harg5 arg6 harg6 arg7 harg7 arg8 harg8 arg9 harg9 arg10 harg10 arg11 harg11 arg12 harg12 arg13 harg13 arg14 harg14 arg15 harg15 (trip1.sl.v4 k) X_arg2 X_arg3 X_arg4 X_arg5 X_arg6 k f_arg7 f_arg8 f_arg9 f_arg10 f_arg11 f_arg12 f_arg13 f_arg14 f_arg15 h.val h.isLt r l).2, (t2_13 c i arg2 harg2 arg3 harg3 arg4 harg4 arg5 harg5 arg6 harg6 arg7 harg7 arg8 harg8 arg9 harg9 arg10 harg10 arg11 harg11 arg12 harg12 arg13 harg13 arg14 harg14 arg15 harg15 (trip1.sl.v4 k) X_arg2 X_arg3 X_arg4 X_arg5 X_arg6 k f_arg7 f_arg8 f_arg9 f_arg10 f_arg11 f_arg12 f_arg13 f_arg14 f_arg15 h.val h.isLt r l).2⟩)
    (fun y => H14_at c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) X_arg2 X_arg3 X_arg4 X_arg5 X_arg6 k f_arg7 f_arg8 f_arg9 f_arg10 f_arg11 f_arg12 f_arg13 f_arg14 f_arg15 y) (fun y => H15_at c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) X_arg2 X_arg3 X_arg4 X_arg5 X_arg6 k f_arg7 f_arg8 f_arg9 f_arg10 f_arg11 f_arg12 f_arg13 f_arg14 f_arg15 y) _ _ _ _ _ _ _ _ _ _
    (fun y => t3_7 c i arg2 harg2 arg3 harg3 arg4 harg4 arg5 harg5 arg6 harg6 arg7 harg7 arg8 harg8 arg9 harg9 arg10 harg10 arg11 harg11 arg12 harg12 arg13 harg13 arg14 harg14 arg15 harg15 (trip1.sl.arg16 k) (trip1.sl.v4 k) X_arg2 X_arg3 X_arg4 X_arg5 X_arg6 k f_arg7 f_arg8 f_arg9 f_arg10 f_arg11 f_arg12 f_arg13 (arg14.view.writes (Elt Ideal) arg14.view.junk (trip1.sl.H14_10 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 k f_arg12 f_arg13)) (arg15.view.writes (Elt Ideal) arg15.view.junk (trip1.sl.H15_5 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg6 k f_arg12 f_arg13)) y) (fun y => t3_8 c i arg2 harg2 arg3 harg3 arg4 harg4 arg5 harg5 arg6 harg6 arg7 harg7 arg8 harg8 arg9 harg9 arg10 harg10 arg11 harg11 arg12 harg12 arg13 harg13 arg14 harg14 arg15 harg15 (trip1.sl.arg16 k) (trip1.sl.v4 k) X_arg2 X_arg3 X_arg4 X_arg5 X_arg6 k f_arg7 f_arg8 f_arg9 f_arg10 f_arg11 f_arg12 f_arg13 (arg14.view.writes (Elt Ideal) arg14.view.junk (trip1.sl.H14_10 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 k f_arg12 f_arg13)) (arg15.view.writes (Elt Ideal) arg15.view.junk (trip1.sl.H15_5 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg6 k f_arg12 f_arg13)) y) (fun y => t3_9 c i arg2 harg2 arg3 harg3 arg4 harg4 arg5 harg5 arg6 harg6 arg7 harg7 arg8 harg8 arg9 harg9 arg10 harg10 arg11 harg11 arg12 harg12 arg13 harg13 arg14 harg14 arg15 harg15 (trip1.sl.arg16 k) (trip1.sl.v4 k) X_arg2 X_arg3 X_arg4 X_arg5 X_arg6 k f_arg7 f_arg8 f_arg9 f_arg10 f_arg11 f_arg12 f_arg13 (arg14.view.writes (Elt Ideal) arg14.view.junk (trip1.sl.H14_10 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 k f_arg12 f_arg13)) (arg15.view.writes (Elt Ideal) arg15.view.junk (trip1.sl.H15_5 c i arg2 harg2 arg3 harg3 arg4 harg4 arg5 harg5 arg6 harg6 arg7 harg7 arg8 harg8 arg9 harg9 arg10 harg10 arg11 harg11 arg12 harg12 arg13 harg13 arg14 harg14 arg15 harg15 X_arg2 X_arg3 X_arg6 k f_arg12 f_arg13)) y)
    (fun y => (H10_at c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) X_arg2 X_arg3 X_arg4 X_arg5 X_arg6 k f_arg7 f_arg8 f_arg9 f_arg10 f_arg11 f_arg12 f_arg13 f_arg14 f_arg15 y).trans (congrArg (fun W => colf W _ _ _ _ _) hW))
    (fun y => (H11_at c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) X_arg2 X_arg3 X_arg4 X_arg5 X_arg6 k f_arg7 f_arg8 f_arg9 f_arg10 f_arg11 f_arg12 f_arg13 f_arg14 f_arg15 y).trans (congrArg (fun W => colf W _ _ _ _ _) hW)) g

/-- One trip keeps what the outputs hold. -/
theorem trip_good (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (s : Fin 10) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) (O10 O11 : S1x36x40.Idx → EReal)
    (g : Good (arg2.view.read (Elt Ideal) X_arg2) (arg3.view.read (Elt Ideal) X_arg3) (arg4.view.read (Elt Ideal) X_arg4) (arg5.view.read (Elt Ideal) X_arg5) (arg6.view.read (Elt Ideal) X_arg6) O10 O11 s.val k.val (arg7.view.read (Elt Ideal) f_arg7) (arg8.view.read (Elt Ideal) f_arg8) (arg9.view.read (Elt Ideal) f_arg9) (arg10.view.read (Elt Ideal) f_arg10) (arg11.view.read (Elt Ideal) f_arg11)) :
    Good (arg2.view.read (Elt Ideal) X_arg2) (arg3.view.read (Elt Ideal) X_arg3) (arg4.view.read (Elt Ideal) X_arg4) (arg5.view.read (Elt Ideal) X_arg5) (arg6.view.read (Elt Ideal) X_arg6) O10 O11 s.val (k.val + 1) (arg7.view.read (Elt Ideal) (trip1 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) X_arg2 X_arg3 X_arg4 X_arg5 X_arg6 k f_arg7 f_arg8 f_arg9 f_arg10 f_arg11 f_arg12 f_arg13 f_arg14 f_arg15).1) (arg8.view.read (Elt Ideal) (trip1 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) X_arg2 X_arg3 X_arg4 X_arg5 X_arg6 k f_arg7 f_arg8 f_arg9 f_arg10 f_arg11 f_arg12 f_arg13 f_arg14 f_arg15).2.1) (arg9.view.read (Elt Ideal) (trip1 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) X_arg2 X_arg3 X_arg4 X_arg5 X_arg6 k f_arg7 f_arg8 f_arg9 f_arg10 f_arg11 f_arg12 f_arg13 f_arg14 f_arg15).2.2.1) (arg10.view.read (Elt Ideal) (trip1 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) X_arg2 X_arg3 X_arg4 X_arg5 X_arg6 k f_arg7 f_arg8 f_arg9 f_arg10 f_arg11 f_arg12 f_arg13 f_arg14 f_arg15).2.2.2.1) (arg11.view.read (Elt Ideal) (trip1 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) X_arg2 X_arg3 X_arg4 X_arg5 X_arg6 k f_arg7 f_arg8 f_arg9 f_arg10 f_arg11 f_arg12 f_arg13 f_arg14 f_arg15).2.2.2.2.1) :=
  trip_good0 c i arg2 harg2 arg3 harg3 arg4 harg4 arg5 harg5 arg6 harg6 arg7 harg7 arg8 harg8 arg9 harg9 arg10 harg10 arg11 harg11 arg12 harg12 arg13 harg13 arg14 harg14 arg15 harg15 s X_arg2 X_arg3 X_arg4 X_arg5 X_arg6 k f_arg7 f_arg8 f_arg9 f_arg10 f_arg11 f_arg12 f_arg13 f_arg14 f_arg15 O10 O11 g _ (trip1_e7 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) X_arg2 X_arg3 X_arg4 X_arg5 X_arg6 k f_arg7 f_arg8 f_arg9 f_arg10 f_arg11 f_arg12 f_arg13 f_arg14 f_arg15) _ (trip1_e8 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) X_arg2 X_arg3 X_arg4 X_arg5 X_arg6 k f_arg7 f_arg8 f_arg9 f_arg10 f_arg11 f_arg12 f_arg13 f_arg14 f_arg15) _ (trip1_e9 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) X_arg2 X_arg3 X_arg4 X_arg5 X_arg6 k f_arg7 f_arg8 f_arg9 f_arg10 f_arg11 f_arg12 f_arg13 f_arg14 f_arg15) _ (trip1_e10 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) X_arg2 X_arg3 X_arg4 X_arg5 X_arg6 k f_arg7 f_arg8 f_arg9 f_arg10 f_arg11 f_arg12 f_arg13 f_arg14 f_arg15) _ (trip1_e11 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) X_arg2 X_arg3 X_arg4 X_arg5 X_arg6 k f_arg7 f_arg8 f_arg9 f_arg10 f_arg11 f_arg12 f_arg13 f_arg14 f_arg15)

end Cert.KernelIdeal.Hand
end
-- ==== Proof.Run.lean ====
/-
  The whole body, run from what a point finds to what it leaves.
-/
module

public import proofs.«01_k».proof.Proof.Step

public import proofs.«01_k».proof.Proof.IdealFrame
public import Idealize.ShloMosaic.Lib.Pipeline.DatRel
public import Idealize.ShloMosaic.Lib.Pipeline.ArrRel

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄I" => MT nD τ sig Unit (Elt Ideal) ℕ (UR sig nD τ) ℕ

/-- What the loop over the columns holds before a trip: the inputs, the outputs at what is good, the scratch buffers. -/
abbrev invV (c : Dev nD) (s : Fin 10) (arg2 : Memref sig .tc .vmem S1x36x32x256 .bf16) (arg3 : Memref sig .tc .vmem S1x36x32x256 .bf16) (arg4 : Memref sig .tc .vmem S1x36x32x256 .bf16) (arg5 : Memref sig .tc .vmem S36x64x128 .f32) (arg6 : Memref sig .tc .vmem S40x128 .f32) (arg7 : Memref sig .tc .vmem S1x256x1152 .bf16) (arg8 : Memref sig .tc .vmem S1x4x36x32x64 .fp8e4m3) (arg9 : Memref sig .tc .vmem S1x4x36x32x64 .fp8e4m3) (arg10 : Memref sig .tc .vmem S1x36x40 .f32) (arg11 : Memref sig .tc .vmem S1x36x40 .f32) (arg12 : Memref sig .tc .vmem S2x320x128 .f32) (arg13 : Memref sig .tc .vmem S2x320x128 .f32) (arg14 : Memref sig .tc .vmem S2x40x128 .f32) (arg15 : Memref sig .tc .vmem S40x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (O10 O11 : S1x36x40.Idx → EReal) (k : ℕ) (_u : PUnit) : sProp 𝕄I :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ ∃ f7 : BufTy.Contents (Elt Ideal) arg7.view.ty, ∃ f8 : BufTy.Contents (Elt Ideal) arg8.view.ty, ∃ f9 : BufTy.Contents (Elt Ideal) arg9.view.ty, ∃ f10 : BufTy.Contents (Elt Ideal) arg10.view.ty, ∃ f11 : BufTy.Contents (Elt Ideal) arg11.view.ty, ∃ f12 : BufTy.Contents (Elt Ideal) arg12.view.ty, ∃ f13 : BufTy.Contents (Elt Ideal) arg13.view.ty, ∃ f14 : BufTy.Contents (Elt Ideal) arg14.view.ty, ∃ f15 : BufTy.Contents (Elt Ideal) arg15.view.ty, ⌜Good (arg2.view.read (Elt Ideal) X_arg2) (arg3.view.read (Elt Ideal) X_arg3) (arg4.view.read (Elt Ideal) X_arg4) (arg5.view.read (Elt Ideal) X_arg5) (arg6.view.read (Elt Ideal) X_arg6) O10 O11 s.val k (arg7.view.read (Elt Ideal) f7) (arg8.view.read (Elt Ideal) f8) (arg9.view.read (Elt Ideal) f9) (arg10.view.read (Elt Ideal) f10) (arg11.view.read (Elt Ideal) f11)⌝ ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))

/-- One trip keeps it. -/
theorem stepV (c : Dev nD) (i : grid0.Coords) (s : Fin 10) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (O10 O11 : S1x36x40.Idx → EReal) (k : Fin k0_t1_loop.trips) (u : PUnit) :
    invV c s arg2 arg3 arg4 arg5 arg6 arg7 arg8 arg9 arg10 arg11 arg12 arg13 arg14 arg15 X_arg2 X_arg3 X_arg4 X_arg5 X_arg6 O10 O11 k.val u
      ⊢ wp Idealize.ShloMosaic.frame (wpE (defs₀ (F := Ideal)) Variants.none (c : Thread nD τ) none) Set.univ (k0_t1_body (F := Ideal) i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) k u) (invV c s arg2 arg3 arg4 arg5 arg6 arg7 arg8 arg9 arg10 arg11 arg12 arg13 arg14 arg15 X_arg2 X_arg3 X_arg4 X_arg5 X_arg6 O10 O11 (k.val + 1)) := by
  iintro ⟨H2, H3, H4, H5, H6, %f7, %f8, %f9, %f10, %f11, %f12, %f13, %f14, %f15, %hg, H7, H8, H9, H10, H11, H12, H13, H14, H15⟩
  iapply (wp_wand_r Idealize.ShloMosaic.frame (wpE (defs₀ (F := Ideal)) Variants.none (c : Thread nD τ) none) Set.univ (Q := fun _ => own1 c arg2 arg3 arg4 arg5 arg6 arg7 arg8 arg9 arg10 arg11 arg12 arg13 arg14 arg15 X_arg2 X_arg3 X_arg4 X_arg5 X_arg6 (trip1 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) X_arg2 X_arg3 X_arg4 X_arg5 X_arg6 k f7 f8 f9 f10 f11 f12 f13 f14 f15).1 (trip1 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) X_arg2 X_arg3 X_arg4 X_arg5 X_arg6 k f7 f8 f9 f10 f11 f12 f13 f14 f15).2.1 (trip1 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) X_arg2 X_arg3 X_arg4 X_arg5 X_arg6 k f7 f8 f9 f10 f11 f12 f13 f14 f15).2.2.1 (trip1 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) X_arg2 X_arg3 X_arg4 X_arg5 X_arg6 k f7 f8 f9 f10 f11 f12 f13 f14 f15).2.2.2.1 (trip1 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) X_arg2 X_arg3 X_arg4 X_arg5 X_arg6 k f7 f8 f9 f10 f11 f12 f13 f14 f15).2.2.2.2.1 (trip1 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) X_arg2 X_arg3 X_arg4 X_arg5 X_arg6 k f7 f8 f9 f10 f11 f12 f13 f14 f15).2.2.2.2.2.1 (trip1 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) X_arg2 X_arg3 X_arg4 X_arg5 X_arg6 k f7 f8 f9 f10 f11 f12 f13 f14 f15).2.2.2.2.2.2.1 (trip1 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) X_arg2 X_arg3 X_arg4 X_arg5 X_arg6 k f7 f8 f9 f10 f11 f12 f13 f14 f15).2.2.2.2.2.2.2.1 (trip1 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) X_arg2 X_arg3 X_arg4 X_arg5 X_arg6 k f7 f8 f9 f10 f11 f12 f13 f14 f15).2.2.2.2.2.2.2.2.val))
  isplitl
  · iapply ((trip1 c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 s.val) (iota .tc S8x128 32 [1] iota_S8x128_d1_w32) X_arg2 X_arg3 X_arg4 X_arg5 X_arg6 k f7 f8 f9 f10 f11 f12 f13 f14 f15).2.2.2.2.2.2.2.2.2 u)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iintro %_ ⟨G2, G3, G4, G5, G6, G7, G8, G9, G10, G11, G12, G13, G14, G15⟩
    isplitl [G2]; · iexact G2
    isplitl [G3]; · iexact G3
    isplitl [G4]; · iexact G4
    isplitl [G5]; · iexact G5
    isplitl [G6]; · iexact G6
    iexists _, _, _, _, _, _, _, _, _
    isplitr
    · ipureintro; exact trip_good c i arg2 harg2 arg3 harg3 arg4 harg4 arg5 harg5 arg6 harg6 arg7 harg7 arg8 harg8 arg9 harg9 arg10 harg10 arg11 harg11 arg12 harg12 arg13 harg13 arg14 harg14 arg15 harg15 s X_arg2 X_arg3 X_arg4 X_arg5 X_arg6 k f7 f8 f9 f10 f11 f12 f13 f14 f15 O10 O11 hg
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    iexact G15

/-- The body's triple, for any continuation. -/
theorem kernelRunV (c : Dev nD) (i : grid0.Coords) (arg2 : Memref sig .tc .vmem S1x36x32x256 .bf16) (harg2 : arg2.IsWhole) (arg3 : Memref sig .tc .vmem S1x36x32x256 .bf16) (harg3 : arg3.IsWhole) (arg4 : Memref sig .tc .vmem S1x36x32x256 .bf16) (harg4 : arg4.IsWhole) (arg5 : Memref sig .tc .vmem S36x64x128 .f32) (harg5 : arg5.IsWhole) (arg6 : Memref sig .tc .vmem S40x128 .f32) (harg6 : arg6.IsWhole) (arg7 : Memref sig .tc .vmem S1x256x1152 .bf16) (harg7 : arg7.IsWhole) (arg8 : Memref sig .tc .vmem S1x4x36x32x64 .fp8e4m3) (harg8 : arg8.IsWhole) (arg9 : Memref sig .tc .vmem S1x4x36x32x64 .fp8e4m3) (harg9 : arg9.IsWhole) (arg10 : Memref sig .tc .vmem S1x36x40 .f32) (harg10 : arg10.IsWhole) (arg11 : Memref sig .tc .vmem S1x36x40 .f32) (harg11 : arg11.IsWhole) (arg12 : Memref sig .tc .vmem S2x320x128 .f32) (harg12 : arg12.IsWhole) (arg13 : Memref sig .tc .vmem S2x320x128 .f32) (harg13 : arg13.IsWhole) (arg14 : Memref sig .tc .vmem S2x40x128 .f32) (harg14 : arg14.IsWhole) (arg15 : Memref sig .tc .vmem S40x128 .f32) (harg15 : arg15.IsWhole) (x2 : S1x36x32x256.Idx → Elt Ideal .bf16) (x3 : S1x36x32x256.Idx → Elt Ideal .bf16) (x4 : S1x36x32x256.Idx → Elt Ideal .bf16) (x5 : S36x64x128.Idx → Elt Ideal .f32) (x6 : S40x128.Idx → Elt Ideal .f32) (d10 : S1x36x40.Idx → Elt Ideal .f32) (d11 : S1x36x40.Idx → Elt Ideal .f32) (K : PUnit → sProp 𝕄I) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare d10 ∗ owns (c : Thread nD τ) arg11 fullShare d11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ e7 : S1x256x1152.Idx → Elt Ideal .bf16, ∃ e8 : S1x4x36x32x64.Idx → Elt Ideal .fp8e4m3, ∃ e9 : S1x4x36x32x64.Idx → Elt Ideal .fp8e4m3, ∃ e10 : S1x36x40.Idx → Elt Ideal .f32, ∃ e11 : S1x36x40.Idx → Elt Ideal .f32, ⌜Good x2 x3 x4 x5 x6 d10 d11 (i 1).val 2 e7 e8 e9 e10 e11⌝ ∗ owns (c : Thread nD τ) arg7 fullShare e7 ∗ owns (c : Thread nD τ) arg8 fullShare e8 ∗ owns (c : Thread nD τ) arg9 fullShare e9 ∗ owns (c : Thread nD τ) arg10 fullShare e10 ∗ owns (c : Thread nD τ) arg11 fullShare e11) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp Idealize.ShloMosaic.frame (wpE (defs₀ (F := Ideal)) Variants.none (c : Thread nD τ) none) Set.univ (cc0_window_attention (F := Ideal) i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_window_attention_eq_skeleton]; unfold cc0_window_attention_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, Hk⟩
  subst hf2 hf3 hf4 hf5 hf6 hf10 hf11
  rw [wp_bind]
  iapply (Scf.wp_for Idealize.ShloMosaic.frame (wpE (defs₀ (F := Ideal)) Variants.none (c : Thread nD τ) none) Set.univ k0_t1_loop.lb k0_t1_loop.ub k0_t1_loop.st k0_t1_ok ⟨⟩ (k0_t1_body (F := Ideal) i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) (iota .tc S8x128 32 [1] iota_S8x128_d1_w32))
    (invV c (⟨(i 1).val, (i 1).isLt⟩ : Fin 10) arg2 arg3 arg4 arg5 arg6 arg7 arg8 arg9 arg10 arg11 arg12 arg13 arg14 arg15 f2 f3 f4 f5 f6 (arg10.view.read (Elt Ideal) f10) (arg11.view.read (Elt Ideal) f11))
    (fun k u => stepV c i (⟨(i 1).val, (i 1).isLt⟩ : Fin 10) arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 (arg10.view.read (Elt Ideal) f10) (arg11.view.read (Elt Ideal) f11) k u))
  isplitr [Hk]
  · isplitl [H2]; · iexact H2
    isplitl [H3]; · iexact H3
    isplitl [H4]; · iexact H4
    isplitl [H5]; · iexact H5
    isplitl [H6]; · iexact H6
    iexists f7, f8, f9, f10, f11, f12, f13, f14, f15
    isplitr
    · ipureintro
      exact ⟨fun _ _ _ h => absurd h (Nat.not_lt_zero _), fun _ h => absurd h (Nat.not_lt_zero _), fun _ h => absurd h (Nat.not_lt_zero _),
        fun _ => ⟨fun _ h => absurd h (Nat.not_lt_zero _), fun _ => rfl⟩, fun _ => ⟨fun _ h => absurd h (Nat.not_lt_zero _), fun _ => rfl⟩⟩
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iintro %_ ⟨H2, H3, H4, H5, H6, %g7, %g8, %g9, %g10, %g11, %g12, %g13, %g14, %g15, %hg, H7, H8, H9, H10, H11, H12, H13, H14, H15⟩
    sl_step
    iapply Hk
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7 H8 H9 H10 H11]
    · iexists _, _, _, _, _
      isplitr
      · ipureintro; exact hg
      isplitl [H7]
      · iexists _; isplitr; swap; · iexact H7
        ipureintro; rfl
      isplitl [H8]
      · iexists _; isplitr; swap; · iexact H8
        ipureintro; rfl
      isplitl [H9]
      · iexists _; isplitr; swap; · iexact H9
        ipureintro; rfl
      isplitl [H10]
      · iexists _; isplitr; swap; · iexact H10
        ipureintro; rfl
      iexists _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

end Cert.KernelIdeal.Hand
end
-- ==== Proof.Value.lean ====
/-
  The launch, with what every point leaves in the results.
-/
module

public import proofs.«01_k».proof.Proof.Run

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation BodyObligationRel)

local notation "𝕄I" => MT nD τ sig Unit (Elt Ideal) ℕ (UR sig nD τ) ℕ

variable (m : (ℓ : Loc nD τ sig) → Buf (Elt Ideal) ℓ) (ρ : Dev nD → PrngReg)

/-- The blocks of the five inputs at a point. -/
def bq (c : Dev nD) (t : Fin cfg0.N) : S1x36x32x256.Idx → EReal := iblk m c 0 t
def bk (c : Dev nD) (t : Fin cfg0.N) : S1x36x32x256.Idx → EReal := iblk m c 1 t
def bv (c : Dev nD) (t : Fin cfg0.N) : S1x36x32x256.Idx → EReal := iblk m c 2 t
def bb (c : Dev nD) (t : Fin cfg0.N) : S36x64x128.Idx → EReal := iblk m c 3 t
def bt (c : Dev nD) (t : Fin cfg0.N) : S40x128.Idx → EReal := iblk m c 4 t

/-- What the scales' block holds after point `t`: the scales of every window of its batch up to the point. -/
def ScaleOk (R : Fin cfg0.N → S1x36x32x256.Idx → EReal) (t : Fin cfg0.N) (X : S1x36x40.Idx → EReal) : Prop :=
  ∀ y, ∀ u : Fin cfg0.N, u.val ≤ t.val → u.val / 10 = t.val / 10 → ∀ w : Fin 4, (y 2).val = 4 * (u.val % 10) + w.val →
    X y = Spec.scl (Spec.amax (wint (R u) w (y 1)))

def P5 (c : Dev nD) (t : Fin cfg0.N) (X : S1x256x1152.Idx → EReal) : Prop :=
  (∀ y, ∃ r : ℝ, bt m c t y = (r : EReal)) → (∀ y, ∃ r : ℝ, bb m c t y = (r : EReal)) → ∀ y, X y = blk7 (bq m c t) (bk m c t) (bv m c t) (bb m c t) (bt m c t) y
def PC (R : S1x36x32x256.Idx → EReal) (X : S1x4x36x32x64.Idx → EReal) : Prop := ∀ y, X y = Spec.code (wint R (y 1) (y 2)) (y 4) (y 3)

/-- What every point leaves in the results' blocks. -/
def RlV (c : Dev nD) : (w : Fin cfg0.W) → Fin cfg0.N → ((cfg0.win w).block.Idx → Elt Ideal (cfg0.win w).elt) → Prop
  | 5, t, X => P5 m c t X
  | 6, t, X => PC (bq m c t) X
  | 7, t, X => PC (bk m c t) X
  | 8, t, X => ScaleOk (bq m c) t X
  | 9, t, X => ScaleOk (bk m c) t X
  | _, _, _ => True

/-- The launch's data, with the results held to `RlV`. -/
def rdatV (c : Dev nD) : RDat τ (Elt Ideal) Unit ℕ (UR sig nD τ) ℕ cfg0 c := (dats (F := Ideal) m 0 c).toRRel forgets0 (RlV m c)

theorem coord1 (t : Fin cfg0.N) : (grid0.coords t 1).val = t.val % 10 := by revert t; decide +kernel
theorem coord0 (t : Fin cfg0.N) : (grid0.coords t 0).val = t.val / 10 := by revert t; decide +kernel

/-- One point's trips carry the scales of the batch one step further. -/
theorem scale_step (R : Fin cfg0.N → S1x36x32x256.Idx → EReal) (t : Fin cfg0.N) (Y X : S1x36x40.Idx → EReal)
    (hY : ∀ h : t.val % 10 ≠ 0, ScaleOk R ⟨t.val - 1, Nat.lt_of_le_of_lt (Nat.sub_le _ _) t.isLt⟩ Y)
    (hX : ColOk (R t) Y (t.val % 10) 2 X) : ScaleOk R t X := by
  intro y u hu hb w hw
  by_cases e : u = t
  · subst e
    exact (hX y).1 w (by have := w.isLt; omega) hw
  · have hne : u.val ≠ t.val := fun h => e (Fin.ext h)
    have hlt : u.val % 10 < t.val % 10 := by omega
    rw [(hX y).2 (Or.inl (by have := w.isLt; omega))]
    exact hY (by omega) y u (by show u.val ≤ t.val - 1; omega) (by show u.val / 10 = (t.val - 1) / 10; omega) w hw

theorem finds8 (c : Dev nD) (t : Fin cfg0.N) (Y : S1x36x40.Idx → EReal) (hF : (rdatV m c).Finds 8 t Y) (h : t.val % 10 ≠ 0) :
    ScaleOk (bq m c) ⟨t.val - 1, Nat.lt_of_le_of_lt (Nat.sub_le _ _) t.isLt⟩ Y := by
  have hf : (cfg0.win 8).fetch t = false := rfl
  have ht : t.val ≠ 0 := fun e => h (by rw [e])
  rcases (RDat.finds_of_pos (rdatV m c) hf ht Y).mp hF with h1 | h1
  · have := (flush0_8 _).mp h1
    exact absurd this (by show ¬ (t.val - 1) % 10 = 9; omega)
  · exact (Dat.toRRel_leaves (dats (F := Ideal) m 0 c) (fgt := forgets0) (Rl := RlV m c) (w := 8) (by decide) h1)

theorem finds9 (c : Dev nD) (t : Fin cfg0.N) (Y : S1x36x40.Idx → EReal) (hF : (rdatV m c).Finds 9 t Y) (h : t.val % 10 ≠ 0) :
    ScaleOk (bk m c) ⟨t.val - 1, Nat.lt_of_le_of_lt (Nat.sub_le _ _) t.isLt⟩ Y := by
  have hf : (cfg0.win 9).fetch t = false := rfl
  have ht : t.val ≠ 0 := fun e => h (by rw [e])
  rcases (RDat.finds_of_pos (rdatV m c) hf ht Y).mp hF with h1 | h1
  · have := (flush0_9 _).mp h1
    exact absurd this (by show ¬ (t.val - 1) % 10 = 9; omega)
  · exact (Dat.toRRel_leaves (dats (F := Ideal) m 0 c) (fgt := forgets0) (Rl := RlV m c) (w := 9) (by decide) h1)

def preV (c : Dev nD) (t : Fin cfg0.N) : sProp 𝕄I :=
  iprop((dats (F := Ideal) m 0 c).Φ t.castSucc ∗ (dats (F := Ideal) m 0 c).owesAt () t.castSucc ∗ (∃ d, owns (c : Thread nD τ) (st0_0 t) fullShare ((dats (F := Ideal) m 0 c).before 0 t d)) ∗ (∃ d, owns (c : Thread nD τ) (st0_1 t) fullShare ((dats (F := Ideal) m 0 c).before 1 t d)) ∗ (∃ d, owns (c : Thread nD τ) (st0_2 t) fullShare ((dats (F := Ideal) m 0 c).before 2 t d)) ∗ (∃ d, owns (c : Thread nD τ) (st0_3 t) fullShare ((dats (F := Ideal) m 0 c).before 3 t d)) ∗ (∃ d, owns (c : Thread nD τ) (st0_4 t) fullShare ((dats (F := Ideal) m 0 c).before 4 t d)) ∗ (∃ Y, ⌜(rdatV m c).Finds 5 t Y⌝ ∗ owns (c : Thread nD τ) (st0_5 t) fullShare Y) ∗ (∃ Y, ⌜(rdatV m c).Finds 6 t Y⌝ ∗ owns (c : Thread nD τ) (st0_6 t) fullShare Y) ∗ (∃ Y, ⌜(rdatV m c).Finds 7 t Y⌝ ∗ owns (c : Thread nD τ) (st0_7 t) fullShare Y) ∗ (∃ Y, ⌜(rdatV m c).Finds 8 t Y⌝ ∗ owns (c : Thread nD τ) (st0_8 t) fullShare Y) ∗ (∃ Y, ⌜(rdatV m c).Finds 9 t Y⌝ ∗ owns (c : Thread nD τ) (st0_9 t) fullShare Y))
def postV (c : Dev nD) (t : Fin cfg0.N) : sProp 𝕄I :=
  iprop((dats (F := Ideal) m 0 c).Φ t.succ ∗ (dats (F := Ideal) m 0 c).owesAt () t.succ ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ (∃ X, ⌜RlV m c 5 t X⌝ ∗ owns (c : Thread nD τ) (st0_5 t) fullShare X) ∗ (∃ X, ⌜RlV m c 6 t X⌝ ∗ owns (c : Thread nD τ) (st0_6 t) fullShare X) ∗ (∃ X, ⌜RlV m c 7 t X⌝ ∗ owns (c : Thread nD τ) (st0_7 t) fullShare X) ∗ (∃ X, ⌜RlV m c 8 t X⌝ ∗ owns (c : Thread nD τ) (st0_8 t) fullShare X) ∗ (∃ X, ⌜RlV m c 9 t X⌝ ∗ owns (c : Thread nD τ) (st0_9 t) fullShare X))

/-- The body at a point. -/
theorem sound_bodyV (c : Dev nD) (t : Fin cfg0.N) :
    preV m c t ⊢ wp Idealize.ShloMosaic.frame (wpE (defs₀ (F := Ideal)) Variants.none c none) Set.univ (bodyAt0 t) (fun _ => postV m c t) := by
  unfold preV postV bodyAt0
  rw [show (dats (F := Ideal) m 0 c).Φ t.succ = (dats (F := Ideal) m 0 c).Φ t.castSucc from rfl,
    show (dats (F := Ideal) m 0 c).owesAt () t.succ = (dats (F := Ideal) m 0 c).owesAt () t.castSucc from rfl,
    show (dats (F := Ideal) m 0 c).Φ t.castSucc = Pipeline.ΦA spec0 c from rfl, PhiA_eq]
  simp only [before0_0, before0_1, before0_2, before0_3, before0_4]
  iintro ⟨⟨⟨HS0, HS1, HS2, HS3⟩, Hg⟩, HO, ⟨%_, H0⟩, ⟨%_, H1⟩, ⟨%_, H2⟩, ⟨%_, H3⟩, ⟨%_, H4⟩, ⟨%Y5, -, H5⟩, ⟨%Y6, -, H6⟩, ⟨%Y7, -, H7⟩, ⟨%Y8, %hY8, H8⟩, ⟨%Y9, %hY9, H9⟩⟩
  iapply (kernelRunV c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) Y8 Y9 _)
  isplitl [H0]; · iexact H0
  isplitl [H1]; · iexact H1
  isplitl [H2]; · iexact H2
  isplitl [H3]; · iexact H3
  isplitl [H4]; · iexact H4
  isplitl [H5]; · iexists Y5; iexact H5
  isplitl [H6]; · iexists Y6; iexact H6
  isplitl [H7]; · iexists Y7; iexact H7
  isplitl [H8]; · iexact H8
  isplitl [H9]; · iexact H9
  isplitl [HS0]; · iexact HS0
  isplitl [HS1]; · iexact HS1
  isplitl [HS2]; · iexact HS2
  isplitl [HS3]; · iexact HS3
  iintro ⟨H0, H1, H2, H3, H4, ⟨%e7, %e8, %e9, %e10, %e11, %hg, H5, H6, H7, H8, H9⟩, HS0, HS1, HS2, HS3⟩
  rw [coord1] at hg
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [HO]; · iexact HO
  isplitl [H0]; · iexact H0
  isplitl [H1]; · iexact H1
  isplitl [H2]; · iexact H2
  isplitl [H3]; · iexact H3
  isplitl [H4]; · iexact H4
  isplitl [H5]
  · iexists e7; isplitr; · ipureintro; exact (show P5 m c t e7 from fun ht hb y => hg.o7 ht hb y (by have h : (y 1).val < 256 := (y 1).isLt; omega))
    iexact H5
  isplitl [H6]
  · iexists e8; isplitr; · ipureintro; exact (show PC (bq m c t) e8 from fun y => hg.o8 y (by have h : (y 1).val < 4 := (y 1).isLt; omega))
    iexact H6
  isplitl [H7]
  · iexists e9; isplitr; · ipureintro; exact (show PC (bk m c t) e9 from fun y => hg.o9 y (by have h : (y 1).val < 4 := (y 1).isLt; omega))
    iexact H7
  isplitl [H8]
  · iexists e10; isplitr; · ipureintro; exact (show ScaleOk (bq m c) t e10 from scale_step (bq m c) t Y8 e10 (finds8 m c t Y8 hY8) hg.o10)
    iexact H8
  iexists e11; isplitr; · ipureintro; exact (show ScaleOk (bk m c) t e11 from scale_step (bk m c) t Y9 e11 (finds9 m c t Y9 hY9) hg.o11)
  iexact H9

theorem obligationV (c : Dev nD) :
    BodyObligationRel (dats (F := Ideal) m 0 c) (defs₀ (F := Ideal)) Variants.none () Set.univ forgets0 (RlV m c) := fun t => by
  rw [bigSep_W0, bigSep_W0, defs₀_row]
  exact triple_restated (sound_bodyV m c t) rfl .rfl fun _ => .rfl

set_option backward.isDefEq.respectTransparency.types false in
/-- Every weakly fair execution of the program ends with each result's array written back from blocks that meet `RlV`. -/
theorem run_mainV :
    θ_run defs (onTc (τ := τ) (main (F := Ideal))) (s₀ m ρ)
      (fun r => RDat.FramePost (cfgs 0) (rdatV m) (V m) r ∧ r.2.sem = fun _ => 0) :=
  RDat.θ_run_frame (Q' := _) cfgs (0 : Fin 1) launch0 defs₀ Variants.none (rdatV m) m ρ main
    (hbody := fun c => (obligationV m c).toRRel) (hshare := fun c => (dats (F := Ideal) m 0 c).share_full fun _ => rfl)
    (howed := fun _ _ => rfl) (V := V m) (hmain := hmain m Variants.none) (hA := A_eq m)
    (hΦ := fun _ _ => rfl)

end Cert.KernelIdeal.Hand

end
-- ==== Proof.Final.lean ====
/-
  The five results' arrays after the launch, entry by entry, in terms of the arguments.
-/
module

public import proofs.«01_k».proof.Proof.Value
public import Idealize.ShloMosaic.Lib.Pipeline.Value
public import Idealize.ShloMosaic.Lib.StableHlo.Run

@[expose] public section

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat RDat)

variable (m : (ℓ : Loc nD τ sig) → Buf (Elt Ideal) ℓ) (ρ : Dev nD → PrngReg)

/-! ## Where the blocks lie -/

theorem widx0 : ∀ t : Fin cfg0.N, win0_0.index t (0 : Fin 4) = t.val / 10 ∧ win0_0.index t (1 : Fin 4) = 0 ∧ win0_0.index t (2 : Fin 4) = 0 ∧ win0_0.index t (3 : Fin 4) = t.val % 10 :=
  (by decide +kernel : ∀ t : Fin grid0.N, _)
def pos0 (t : Fin cfg0.N) (y : S1x36x32x256.Idx) : S20x36x32x2560.Idx := ((cfg0.win 0).blk t).view.emb y
theorem pos0_val (t : Fin cfg0.N) (y : S1x36x32x256.Idx) : (pos0 t y (0 : Fin 4)).val = (t.val / 10) * 1 + (y (0 : Fin 4)).val ∧ (pos0 t y (1 : Fin 4)).val = (y (1 : Fin 4)).val ∧ (pos0 t y (2 : Fin 4)).val = (y (2 : Fin 4)).val ∧ (pos0 t y (3 : Fin 4)).val = (t.val % 10) * 256 + (y (3 : Fin 4)).val := by
  obtain ⟨e0, e1, e2, e3⟩ := widx0 t
  have f0 := Pipeline.Window.rect_emb_val win0_0 t y (0 : Fin 4) rfl
  rw [e0] at f0
  have f1 := Pipeline.Window.rect_emb_val win0_0 t y (1 : Fin 4) rfl
  rw [e1] at f1
  have f2 := Pipeline.Window.rect_emb_val win0_0 t y (2 : Fin 4) rfl
  rw [e2] at f2
  have f3 := Pipeline.Window.rect_emb_val win0_0 t y (3 : Fin 4) rfl
  rw [e3] at f3
  exact ⟨f0, f1.trans (by rw [Nat.zero_mul, Nat.zero_add]), f2.trans (by rw [Nat.zero_mul, Nat.zero_add]), f3⟩

theorem widx1 : ∀ t : Fin cfg0.N, win0_1.index t (0 : Fin 4) = t.val / 10 ∧ win0_1.index t (1 : Fin 4) = 0 ∧ win0_1.index t (2 : Fin 4) = 0 ∧ win0_1.index t (3 : Fin 4) = t.val % 10 :=
  (by decide +kernel : ∀ t : Fin grid0.N, _)
def pos1 (t : Fin cfg0.N) (y : S1x36x32x256.Idx) : S20x36x32x2560.Idx := ((cfg0.win 1).blk t).view.emb y
theorem pos1_val (t : Fin cfg0.N) (y : S1x36x32x256.Idx) : (pos1 t y (0 : Fin 4)).val = (t.val / 10) * 1 + (y (0 : Fin 4)).val ∧ (pos1 t y (1 : Fin 4)).val = (y (1 : Fin 4)).val ∧ (pos1 t y (2 : Fin 4)).val = (y (2 : Fin 4)).val ∧ (pos1 t y (3 : Fin 4)).val = (t.val % 10) * 256 + (y (3 : Fin 4)).val := by
  obtain ⟨e0, e1, e2, e3⟩ := widx1 t
  have f0 := Pipeline.Window.rect_emb_val win0_1 t y (0 : Fin 4) rfl
  rw [e0] at f0
  have f1 := Pipeline.Window.rect_emb_val win0_1 t y (1 : Fin 4) rfl
  rw [e1] at f1
  have f2 := Pipeline.Window.rect_emb_val win0_1 t y (2 : Fin 4) rfl
  rw [e2] at f2
  have f3 := Pipeline.Window.rect_emb_val win0_1 t y (3 : Fin 4) rfl
  rw [e3] at f3
  exact ⟨f0, f1.trans (by rw [Nat.zero_mul, Nat.zero_add]), f2.trans (by rw [Nat.zero_mul, Nat.zero_add]), f3⟩

theorem widx2 : ∀ t : Fin cfg0.N, win0_2.index t (0 : Fin 4) = t.val / 10 ∧ win0_2.index t (1 : Fin 4) = 0 ∧ win0_2.index t (2 : Fin 4) = 0 ∧ win0_2.index t (3 : Fin 4) = t.val % 10 :=
  (by decide +kernel : ∀ t : Fin grid0.N, _)
def pos2 (t : Fin cfg0.N) (y : S1x36x32x256.Idx) : S20x36x32x2560.Idx := ((cfg0.win 2).blk t).view.emb y
theorem pos2_val (t : Fin cfg0.N) (y : S1x36x32x256.Idx) : (pos2 t y (0 : Fin 4)).val = (t.val / 10) * 1 + (y (0 : Fin 4)).val ∧ (pos2 t y (1 : Fin 4)).val = (y (1 : Fin 4)).val ∧ (pos2 t y (2 : Fin 4)).val = (y (2 : Fin 4)).val ∧ (pos2 t y (3 : Fin 4)).val = (t.val % 10) * 256 + (y (3 : Fin 4)).val := by
  obtain ⟨e0, e1, e2, e3⟩ := widx2 t
  have f0 := Pipeline.Window.rect_emb_val win0_2 t y (0 : Fin 4) rfl
  rw [e0] at f0
  have f1 := Pipeline.Window.rect_emb_val win0_2 t y (1 : Fin 4) rfl
  rw [e1] at f1
  have f2 := Pipeline.Window.rect_emb_val win0_2 t y (2 : Fin 4) rfl
  rw [e2] at f2
  have f3 := Pipeline.Window.rect_emb_val win0_2 t y (3 : Fin 4) rfl
  rw [e3] at f3
  exact ⟨f0, f1.trans (by rw [Nat.zero_mul, Nat.zero_add]), f2.trans (by rw [Nat.zero_mul, Nat.zero_add]), f3⟩

theorem widx3 : ∀ t : Fin cfg0.N, win0_3.index t (0 : Fin 3) = 0 ∧ win0_3.index t (1 : Fin 3) = 0 ∧ win0_3.index t (2 : Fin 3) = 0 :=
  (by decide +kernel : ∀ t : Fin grid0.N, _)
def pos3 (t : Fin cfg0.N) (y : S36x64x128.Idx) : S36x64x128.Idx := ((cfg0.win 3).blk t).view.emb y
theorem pos3_val (t : Fin cfg0.N) (y : S36x64x128.Idx) : (pos3 t y (0 : Fin 3)).val = (y (0 : Fin 3)).val ∧ (pos3 t y (1 : Fin 3)).val = (y (1 : Fin 3)).val ∧ (pos3 t y (2 : Fin 3)).val = (y (2 : Fin 3)).val := by
  obtain ⟨e0, e1, e2⟩ := widx3 t
  have f0 := Pipeline.Window.rect_emb_val win0_3 t y (0 : Fin 3) rfl
  rw [e0] at f0
  have f1 := Pipeline.Window.rect_emb_val win0_3 t y (1 : Fin 3) rfl
  rw [e1] at f1
  have f2 := Pipeline.Window.rect_emb_val win0_3 t y (2 : Fin 3) rfl
  rw [e2] at f2
  exact ⟨f0.trans (by rw [Nat.zero_mul, Nat.zero_add]), f1.trans (by rw [Nat.zero_mul, Nat.zero_add]), f2.trans (by rw [Nat.zero_mul, Nat.zero_add])⟩

theorem widx4 : ∀ t : Fin cfg0.N, win0_4.index t (0 : Fin 2) = 0 ∧ win0_4.index t (1 : Fin 2) = 0 :=
  (by decide +kernel : ∀ t : Fin grid0.N, _)
def pos4 (t : Fin cfg0.N) (y : S40x128.Idx) : S40x128.Idx := ((cfg0.win 4).blk t).view.emb y
theorem pos4_val (t : Fin cfg0.N) (y : S40x128.Idx) : (pos4 t y (0 : Fin 2)).val = (y (0 : Fin 2)).val ∧ (pos4 t y (1 : Fin 2)).val = (y (1 : Fin 2)).val := by
  obtain ⟨e0, e1⟩ := widx4 t
  have f0 := Pipeline.Window.rect_emb_val win0_4 t y (0 : Fin 2) rfl
  rw [e0] at f0
  have f1 := Pipeline.Window.rect_emb_val win0_4 t y (1 : Fin 2) rfl
  rw [e1] at f1
  exact ⟨f0.trans (by rw [Nat.zero_mul, Nat.zero_add]), f1.trans (by rw [Nat.zero_mul, Nat.zero_add])⟩

theorem widx5 : ∀ t : Fin cfg0.N, win0_5.index t (0 : Fin 3) = t.val / 10 ∧ win0_5.index t (1 : Fin 3) = t.val % 10 ∧ win0_5.index t (2 : Fin 3) = 0 :=
  (by decide +kernel : ∀ t : Fin grid0.N, _)
def pos5 (t : Fin cfg0.N) (y : S1x256x1152.Idx) : S20x2560x1152.Idx := ((cfg0.win 5).blk t).view.emb y
theorem pos5_val (t : Fin cfg0.N) (y : S1x256x1152.Idx) : (pos5 t y (0 : Fin 3)).val = (t.val / 10) * 1 + (y (0 : Fin 3)).val ∧ (pos5 t y (1 : Fin 3)).val = (t.val % 10) * 256 + (y (1 : Fin 3)).val ∧ (pos5 t y (2 : Fin 3)).val = (y (2 : Fin 3)).val := by
  obtain ⟨e0, e1, e2⟩ := widx5 t
  have f0 := Pipeline.Window.rect_emb_val win0_5 t y (0 : Fin 3) rfl
  rw [e0] at f0
  have f1 := Pipeline.Window.rect_emb_val win0_5 t y (1 : Fin 3) rfl
  rw [e1] at f1
  have f2 := Pipeline.Window.rect_emb_val win0_5 t y (2 : Fin 3) rfl
  rw [e2] at f2
  exact ⟨f0, f1, f2.trans (by rw [Nat.zero_mul, Nat.zero_add])⟩

theorem widx6 : ∀ t : Fin cfg0.N, win0_6.index t (0 : Fin 5) = t.val / 10 ∧ win0_6.index t (1 : Fin 5) = t.val % 10 ∧ win0_6.index t (2 : Fin 5) = 0 ∧ win0_6.index t (3 : Fin 5) = 0 ∧ win0_6.index t (4 : Fin 5) = 0 :=
  (by decide +kernel : ∀ t : Fin grid0.N, _)
def pos6 (t : Fin cfg0.N) (y : S1x4x36x32x64.Idx) : S20x40x36x32x64.Idx := ((cfg0.win 6).blk t).view.emb y
theorem pos6_val (t : Fin cfg0.N) (y : S1x4x36x32x64.Idx) : (pos6 t y (0 : Fin 5)).val = (t.val / 10) * 1 + (y (0 : Fin 5)).val ∧ (pos6 t y (1 : Fin 5)).val = (t.val % 10) * 4 + (y (1 : Fin 5)).val ∧ (pos6 t y (2 : Fin 5)).val = (y (2 : Fin 5)).val ∧ (pos6 t y (3 : Fin 5)).val = (y (3 : Fin 5)).val ∧ (pos6 t y (4 : Fin 5)).val = (y (4 : Fin 5)).val := by
  obtain ⟨e0, e1, e2, e3, e4⟩ := widx6 t
  have f0 := Pipeline.Window.rect_emb_val win0_6 t y (0 : Fin 5) rfl
  rw [e0] at f0
  have f1 := Pipeline.Window.rect_emb_val win0_6 t y (1 : Fin 5) rfl
  rw [e1] at f1
  have f2 := Pipeline.Window.rect_emb_val win0_6 t y (2 : Fin 5) rfl
  rw [e2] at f2
  have f3 := Pipeline.Window.rect_emb_val win0_6 t y (3 : Fin 5) rfl
  rw [e3] at f3
  have f4 := Pipeline.Window.rect_emb_val win0_6 t y (4 : Fin 5) rfl
  rw [e4] at f4
  exact ⟨f0, f1, f2.trans (by rw [Nat.zero_mul, Nat.zero_add]), f3.trans (by rw [Nat.zero_mul, Nat.zero_add]), f4.trans (by rw [Nat.zero_mul, Nat.zero_add])⟩

theorem widx7 : ∀ t : Fin cfg0.N, win0_7.index t (0 : Fin 5) = t.val / 10 ∧ win0_7.index t (1 : Fin 5) = t.val % 10 ∧ win0_7.index t (2 : Fin 5) = 0 ∧ win0_7.index t (3 : Fin 5) = 0 ∧ win0_7.index t (4 : Fin 5) = 0 :=
  (by decide +kernel : ∀ t : Fin grid0.N, _)
def pos7 (t : Fin cfg0.N) (y : S1x4x36x32x64.Idx) : S20x40x36x32x64.Idx := ((cfg0.win 7).blk t).view.emb y
theorem pos7_val (t : Fin cfg0.N) (y : S1x4x36x32x64.Idx) : (pos7 t y (0 : Fin 5)).val = (t.val / 10) * 1 + (y (0 : Fin 5)).val ∧ (pos7 t y (1 : Fin 5)).val = (t.val % 10) * 4 + (y (1 : Fin 5)).val ∧ (pos7 t y (2 : Fin 5)).val = (y (2 : Fin 5)).val ∧ (pos7 t y (3 : Fin 5)).val = (y (3 : Fin 5)).val ∧ (pos7 t y (4 : Fin 5)).val = (y (4 : Fin 5)).val := by
  obtain ⟨e0, e1, e2, e3, e4⟩ := widx7 t
  have f0 := Pipeline.Window.rect_emb_val win0_7 t y (0 : Fin 5) rfl
  rw [e0] at f0
  have f1 := Pipeline.Window.rect_emb_val win0_7 t y (1 : Fin 5) rfl
  rw [e1] at f1
  have f2 := Pipeline.Window.rect_emb_val win0_7 t y (2 : Fin 5) rfl
  rw [e2] at f2
  have f3 := Pipeline.Window.rect_emb_val win0_7 t y (3 : Fin 5) rfl
  rw [e3] at f3
  have f4 := Pipeline.Window.rect_emb_val win0_7 t y (4 : Fin 5) rfl
  rw [e4] at f4
  exact ⟨f0, f1, f2.trans (by rw [Nat.zero_mul, Nat.zero_add]), f3.trans (by rw [Nat.zero_mul, Nat.zero_add]), f4.trans (by rw [Nat.zero_mul, Nat.zero_add])⟩

theorem widx8 : ∀ t : Fin cfg0.N, win0_8.index t (0 : Fin 3) = t.val / 10 ∧ win0_8.index t (1 : Fin 3) = 0 ∧ win0_8.index t (2 : Fin 3) = 0 :=
  (by decide +kernel : ∀ t : Fin grid0.N, _)
def pos8 (t : Fin cfg0.N) (y : S1x36x40.Idx) : S20x36x40.Idx := ((cfg0.win 8).blk t).view.emb y
theorem pos8_val (t : Fin cfg0.N) (y : S1x36x40.Idx) : (pos8 t y (0 : Fin 3)).val = (t.val / 10) * 1 + (y (0 : Fin 3)).val ∧ (pos8 t y (1 : Fin 3)).val = (y (1 : Fin 3)).val ∧ (pos8 t y (2 : Fin 3)).val = (y (2 : Fin 3)).val := by
  obtain ⟨e0, e1, e2⟩ := widx8 t
  have f0 := Pipeline.Window.rect_emb_val win0_8 t y (0 : Fin 3) rfl
  rw [e0] at f0
  have f1 := Pipeline.Window.rect_emb_val win0_8 t y (1 : Fin 3) rfl
  rw [e1] at f1
  have f2 := Pipeline.Window.rect_emb_val win0_8 t y (2 : Fin 3) rfl
  rw [e2] at f2
  exact ⟨f0, f1.trans (by rw [Nat.zero_mul, Nat.zero_add]), f2.trans (by rw [Nat.zero_mul, Nat.zero_add])⟩

theorem widx9 : ∀ t : Fin cfg0.N, win0_9.index t (0 : Fin 3) = t.val / 10 ∧ win0_9.index t (1 : Fin 3) = 0 ∧ win0_9.index t (2 : Fin 3) = 0 :=
  (by decide +kernel : ∀ t : Fin grid0.N, _)
def pos9 (t : Fin cfg0.N) (y : S1x36x40.Idx) : S20x36x40.Idx := ((cfg0.win 9).blk t).view.emb y
theorem pos9_val (t : Fin cfg0.N) (y : S1x36x40.Idx) : (pos9 t y (0 : Fin 3)).val = (t.val / 10) * 1 + (y (0 : Fin 3)).val ∧ (pos9 t y (1 : Fin 3)).val = (y (1 : Fin 3)).val ∧ (pos9 t y (2 : Fin 3)).val = (y (2 : Fin 3)).val := by
  obtain ⟨e0, e1, e2⟩ := widx9 t
  have f0 := Pipeline.Window.rect_emb_val win0_9 t y (0 : Fin 3) rfl
  rw [e0] at f0
  have f1 := Pipeline.Window.rect_emb_val win0_9 t y (1 : Fin 3) rfl
  rw [e1] at f1
  have f2 := Pipeline.Window.rect_emb_val win0_9 t y (2 : Fin 3) rfl
  rw [e2] at f2
  exact ⟨f0, f1.trans (by rw [Nat.zero_mul, Nat.zero_add]), f2.trans (by rw [Nat.zero_mul, Nat.zero_add])⟩

/-! ## The inputs' blocks -/

theorem V_v0 (c : Dev nD) (x : S20x36x32x2560.Idx) : V m c main_v0 x = m ((c : Thread nD τ).loc main_arg0) (ix4 (x 0) (x 3) (x 1) (x 2)) := by
  have e : V m c main_v0 = transpose S20x36x32x2560 [0, 2, 3, 1] (m ((c : Thread nD τ).loc main_arg0)) transposes_S20x2560x36x32_S20x36x32x2560_0_2_3_1 := by
    dsimp only [V, hostOps0]; after_results
  rw [e]
  refine congrArg (m ((c : Thread nD τ).loc main_arg0)) (funext fun a => ?_)
  fin_cases a <;> rfl

theorem V_v1 (c : Dev nD) (x : S20x36x32x2560.Idx) : V m c main_v1 x = m ((c : Thread nD τ).loc main_arg1) (ix4 (x 0) (x 3) (x 1) (x 2)) := by
  have e : V m c main_v1 = transpose S20x36x32x2560 [0, 2, 3, 1] (m ((c : Thread nD τ).loc main_arg1)) transposes_S20x2560x36x32_S20x36x32x2560_0_2_3_1 := by
    dsimp only [V, hostOps0]; after_results
  rw [e]
  refine congrArg (m ((c : Thread nD τ).loc main_arg1)) (funext fun a => ?_)
  fin_cases a <;> rfl

theorem V_v2 (c : Dev nD) (x : S20x36x32x2560.Idx) : V m c main_v2 x = m ((c : Thread nD τ).loc main_arg2) (ix4 (x 0) (x 3) (x 1) (x 2)) := by
  have e : V m c main_v2 = transpose S20x36x32x2560 [0, 2, 3, 1] (m ((c : Thread nD τ).loc main_arg2)) transposes_S20x2560x36x32_S20x36x32x2560_0_2_3_1 := by
    dsimp only [V, hostOps0]; after_results
  rw [e]
  refine congrArg (m ((c : Thread nD τ).loc main_arg2)) (funext fun a => ?_)
  fin_cases a <;> rfl

/-- One head's rows of one window, from an argument. -/
def xin (A : S20x2560x36x32.Idx → EReal) (b : Fin 20) (n : Fin 40) (h : Fin 36) : Spec.Win := fun i d => A (ix4 b ⟨64 * n.val + i.val, by omega⟩ h d)

def pb (t : Fin cfg0.N) : Fin 20 := ⟨t.val / 10, by have h : t.val < 200 := t.isLt; omega⟩
def pn (t : Fin cfg0.N) (w : Fin 4) : Fin 40 := ⟨4 * (t.val % 10) + w.val, by omega⟩

theorem wint_bq (c : Dev nD) (t : Fin cfg0.N) (w : Fin 4) (h : Fin 36) : wint (bq m c t) w h = xin (m ((c : Thread nD τ).loc main_arg0)) (pb t) (pn t w) h := by
  funext i d
  show V m c main_v0 (pos0 t (ix4 0 h d ⟨64 * w.val + i.val, by omega⟩)) = _
  rw [V_v0]
  obtain ⟨e0, e1, e2, e3⟩ := pos0_val t (ix4 0 h d ⟨64 * w.val + i.val, by omega⟩)
  refine congrArg (m ((c : Thread nD τ).loc main_arg0)) (funext fun a => ?_)
  fin_cases a
  · exact Fin.ext (e0.trans (by show t.val / 10 * 1 + 0 = t.val / 10; omega))
  · exact Fin.ext (e3.trans (by show t.val % 10 * 256 + (64 * w.val + i.val) = 64 * (4 * (t.val % 10) + w.val) + i.val; omega))
  · exact Fin.ext e1
  · exact Fin.ext e2

theorem wint_bk (c : Dev nD) (t : Fin cfg0.N) (w : Fin 4) (h : Fin 36) : wint (bk m c t) w h = xin (m ((c : Thread nD τ).loc main_arg1)) (pb t) (pn t w) h := by
  funext i d
  show V m c main_v1 (pos1 t (ix4 0 h d ⟨64 * w.val + i.val, by omega⟩)) = _
  rw [V_v1]
  obtain ⟨e0, e1, e2, e3⟩ := pos1_val t (ix4 0 h d ⟨64 * w.val + i.val, by omega⟩)
  refine congrArg (m ((c : Thread nD τ).loc main_arg1)) (funext fun a => ?_)
  fin_cases a
  · exact Fin.ext (e0.trans (by show t.val / 10 * 1 + 0 = t.val / 10; omega))
  · exact Fin.ext (e3.trans (by show t.val % 10 * 256 + (64 * w.val + i.val) = 64 * (4 * (t.val % 10) + w.val) + i.val; omega))
  · exact Fin.ext e1
  · exact Fin.ext e2

theorem wint_bv (c : Dev nD) (t : Fin cfg0.N) (w : Fin 4) (h : Fin 36) : wint (bv m c t) w h = xin (m ((c : Thread nD τ).loc main_arg2)) (pb t) (pn t w) h := by
  funext i d
  show V m c main_v2 (pos2 t (ix4 0 h d ⟨64 * w.val + i.val, by omega⟩)) = _
  rw [V_v2]
  obtain ⟨e0, e1, e2, e3⟩ := pos2_val t (ix4 0 h d ⟨64 * w.val + i.val, by omega⟩)
  refine congrArg (m ((c : Thread nD τ).loc main_arg2)) (funext fun a => ?_)
  fin_cases a
  · exact Fin.ext (e0.trans (by show t.val / 10 * 1 + 0 = t.val / 10; omega))
  · exact Fin.ext (e3.trans (by show t.val % 10 * 256 + (64 * w.val + i.val) = 64 * (4 * (t.val % 10) + w.val) + i.val; omega))
  · exact Fin.ext e1
  · exact Fin.ext e2

theorem bb_eq (c : Dev nD) (t : Fin cfg0.N) (y : S36x64x128.Idx) : bb m c t y = m ((c : Thread nD τ).loc main_arg3) y := by
  show V m c main_arg3 (pos3 t y) = _
  rw [V_main_arg3]
  obtain ⟨e0, e1, e2⟩ := pos3_val t y
  refine congrArg (m ((c : Thread nD τ).loc main_arg3)) (funext fun a => ?_)
  fin_cases a
  · exact Fin.ext e0
  · exact Fin.ext e1
  · exact Fin.ext e2

theorem bt_eq (c : Dev nD) (t : Fin cfg0.N) (y : S40x128.Idx) : bt m c t y = m ((c : Thread nD τ).loc main_arg4) y := by
  show V m c main_arg4 (pos4 t y) = _
  rw [V_main_arg4]
  obtain ⟨e0, e1⟩ := pos4_val t y
  refine congrArg (m ((c : Thread nD τ).loc main_arg4)) (funext fun a => ?_)
  fin_cases a
  · exact Fin.ext e0
  · exact Fin.ext e1

/-! ## The results -/

/-- The attention's result. -/
def outG (A0 A1 A2 : S20x2560x36x32.Idx → EReal) (B : S36x64x128.Idx → EReal) (T : S40x128.Idx → EReal) (b : Fin 20) (n : Fin 40) (h : Fin 36) (i : Fin 64) (d : Fin 32) : EReal :=
  Spec.att (xin A0 b n h) (xin A1 b n h) (xin A2 b n h) (fun i => T (ix2 (hd' h) (lane ⟨n.val % 2, by omega⟩ i))) (fun i j => B (ix3 h j (lane ⟨n.val % 2, by omega⟩ i))) i d
def codeG (A : S20x2560x36x32.Idx → EReal) (y : S20x40x36x32x64.Idx) : EReal := Spec.code (xin A (y 0) (y 1) (y 2)) (y 4) (y 3)
def scaleG (A : S20x2560x36x32.Idx → EReal) (y : S20x36x40.Idx) : EReal := Spec.scl (Spec.amax (xin A (y 0) (y 2) (y 1)))
def outV (A0 A1 A2 : S20x2560x36x32.Idx → EReal) (B : S36x64x128.Idx → EReal) (T : S40x128.Idx → EReal) (y : S20x2560x1152.Idx) : EReal :=
  outG A0 A1 A2 B T (y 0) ⟨(y 1).val / 64, by have h : (y 1).val < 2560 := (y 1).isLt; omega⟩ ⟨(y 2).val / 32, by have h : (y 2).val < 1152 := (y 2).isLt; omega⟩
    ⟨(y 1).val % 64, by omega⟩ ⟨(y 2).val % 32, by omega⟩

/-- The step of a batch. -/
def pt (b : Fin 20) (s : Fin 10) : Fin cfg0.N := ⟨10 * b.val + s.val, by show 10 * b.val + s.val < 200; omega⟩

theorem code6 (c : Dev nD) (t : Fin cfg0.N) (X : S1x4x36x32x64.Idx → EReal) (hX : PC (bq m c t) X) (y : S1x4x36x32x64.Idx) :
    X y = codeG (m ((c : Thread nD τ).loc main_arg0)) (pos6 t y) := by
  rw [hX y]
  obtain ⟨e0, e1, e2, e3, e4⟩ := pos6_val t y
  have h0 : (y 0).val < 1 := (y 0).isLt
  have a0 : (pos6 t y 0 : Fin 20) = pb t := Fin.ext (e0.trans (by show t.val / 10 * 1 + (y 0).val = t.val / 10; omega))
  have a1 : (pos6 t y 1 : Fin 40) = pn t (y 1) := Fin.ext (e1.trans (by show t.val % 10 * 4 + (y 1).val = 4 * (t.val % 10) + (y 1).val; omega))
  have a2 : (pos6 t y 2 : Fin 36) = y 2 := Fin.ext e2
  have a3 : (pos6 t y 3 : Fin 32) = y 3 := Fin.ext e3
  have a4 : (pos6 t y 4 : Fin 64) = y 4 := Fin.ext e4
  refine (congrArg (fun W : Spec.Win => Spec.code W (y 4) (y 3)) (wint_bq m c t (y 1) (y 2))).trans ?_
  show Spec.code (xin _ (pb t) (pn t (y 1)) (y 2)) (y 4) (y 3) = Spec.code (xin _ (pos6 t y 0 : Fin 20) (pos6 t y 1 : Fin 40) (pos6 t y 2 : Fin 36)) (pos6 t y 4 : Fin 64) (pos6 t y 3 : Fin 32)
  exact a0 ▸ a1 ▸ a2 ▸ a3 ▸ a4 ▸ rfl

theorem at6 (x : S20x40x36x32x64.Idx) (t : Fin cfg0.N) (ht : t.val = 10 * (x 0).val + (x 1).val / 4) (y : S1x4x36x32x64.Idx) (h0 : (y 0).val = 0) (h1 : (y 1).val = (x 1).val % 4)
    (h2 : (y 2).val = (x 2).val) (h3 : (y 3).val = (x 3).val) (h4 : (y 4).val = (x 4).val) : pos6 t y = x := by
  have b1 : (x 1).val < 40 := (x 1).isLt
  obtain ⟨e0, e1, e2, e3, e4⟩ := pos6_val t y
  funext a
  fin_cases a
  · exact Fin.ext (e0.trans (show t.val / 10 * 1 + (y 0).val = (x 0).val by rw [h0, ht]; omega))
  · exact Fin.ext (e1.trans (show t.val % 10 * 4 + (y 1).val = (x 1).val by rw [h1, ht]; omega))
  · exact Fin.ext (e2.trans h2)
  · exact Fin.ext (e3.trans h3)
  · exact Fin.ext (e4.trans h4)

theorem cover6 (x : S20x40x36x32x64.Idx) : ∃ t : Fin cfg0.N, (cfg0.win 6).flush t = true ∧ x ∈ ((cfg0.win 6).blk t).view.set := by
  have b1 : (x 1).val < 40 := (x 1).isLt
  have key := at6 x (pt (x 0) ⟨(x 1).val / 4, by omega⟩) rfl (ix5 0 (⟨(x 1).val % 4, by omega⟩ : Fin 4) (x 2) (x 3) (x 4)) rfl rfl rfl rfl rfl
  exact ⟨_, flush0_6 _, Finset.mem_map.mpr ⟨_, Finset.mem_univ _, key⟩⟩

theorem code7 (c : Dev nD) (t : Fin cfg0.N) (X : S1x4x36x32x64.Idx → EReal) (hX : PC (bk m c t) X) (y : S1x4x36x32x64.Idx) :
    X y = codeG (m ((c : Thread nD τ).loc main_arg1)) (pos7 t y) := by
  rw [hX y]
  obtain ⟨e0, e1, e2, e3, e4⟩ := pos7_val t y
  have h0 : (y 0).val < 1 := (y 0).isLt
  have a0 : (pos7 t y 0 : Fin 20) = pb t := Fin.ext (e0.trans (by show t.val / 10 * 1 + (y 0).val = t.val / 10; omega))
  have a1 : (pos7 t y 1 : Fin 40) = pn t (y 1) := Fin.ext (e1.trans (by show t.val % 10 * 4 + (y 1).val = 4 * (t.val % 10) + (y 1).val; omega))
  have a2 : (pos7 t y 2 : Fin 36) = y 2 := Fin.ext e2
  have a3 : (pos7 t y 3 : Fin 32) = y 3 := Fin.ext e3
  have a4 : (pos7 t y 4 : Fin 64) = y 4 := Fin.ext e4
  refine (congrArg (fun W : Spec.Win => Spec.code W (y 4) (y 3)) (wint_bk m c t (y 1) (y 2))).trans ?_
  show Spec.code (xin _ (pb t) (pn t (y 1)) (y 2)) (y 4) (y 3) = Spec.code (xin _ (pos7 t y 0 : Fin 20) (pos7 t y 1 : Fin 40) (pos7 t y 2 : Fin 36)) (pos7 t y 4 : Fin 64) (pos7 t y 3 : Fin 32)
  exact a0 ▸ a1 ▸ a2 ▸ a3 ▸ a4 ▸ rfl

theorem at7 (x : S20x40x36x32x64.Idx) (t : Fin cfg0.N) (ht : t.val = 10 * (x 0).val + (x 1).val / 4) (y : S1x4x36x32x64.Idx) (h0 : (y 0).val = 0) (h1 : (y 1).val = (x 1).val % 4)
    (h2 : (y 2).val = (x 2).val) (h3 : (y 3).val = (x 3).val) (h4 : (y 4).val = (x 4).val) : pos7 t y = x := by
  have b1 : (x 1).val < 40 := (x 1).isLt
  obtain ⟨e0, e1, e2, e3, e4⟩ := pos7_val t y
  funext a
  fin_cases a
  · exact Fin.ext (e0.trans (show t.val / 10 * 1 + (y 0).val = (x 0).val by rw [h0, ht]; omega))
  · exact Fin.ext (e1.trans (show t.val % 10 * 4 + (y 1).val = (x 1).val by rw [h1, ht]; omega))
  · exact Fin.ext (e2.trans h2)
  · exact Fin.ext (e3.trans h3)
  · exact Fin.ext (e4.trans h4)

theorem cover7 (x : S20x40x36x32x64.Idx) : ∃ t : Fin cfg0.N, (cfg0.win 7).flush t = true ∧ x ∈ ((cfg0.win 7).blk t).view.set := by
  have b1 : (x 1).val < 40 := (x 1).isLt
  have key := at7 x (pt (x 0) ⟨(x 1).val / 4, by omega⟩) rfl (ix5 0 (⟨(x 1).val % 4, by omega⟩ : Fin 4) (x 2) (x 3) (x 4)) rfl rfl rfl rfl rfl
  exact ⟨_, flush0_7 _, Finset.mem_map.mpr ⟨_, Finset.mem_univ _, key⟩⟩

theorem scale8 (c : Dev nD) (t : Fin cfg0.N) (ht : t.val % 10 = 9) (X : S1x36x40.Idx → EReal) (hX : ScaleOk (bq m c) t X) (y : S1x36x40.Idx) :
    X y = scaleG (m ((c : Thread nD τ).loc main_arg0)) (pos8 t y) := by
  obtain ⟨e0, e1, e2⟩ := pos8_val t y
  have h0 : (y 0).val < 1 := (y 0).isLt
  have h2 : (y 2).val < 40 := (y 2).isLt
  have hN : t.val < 200 := t.isLt
  have hu : 10 * (t.val / 10) + (y 2).val / 4 < 200 := by omega
  rw [hX y ⟨10 * (t.val / 10) + (y 2).val / 4, hu⟩ (by show 10 * (t.val / 10) + (y 2).val / 4 ≤ t.val; omega) (by show (10 * (t.val / 10) + (y 2).val / 4) / 10 = t.val / 10; omega)
    ⟨(y 2).val % 4, by omega⟩ (by show (y 2).val = 4 * ((10 * (t.val / 10) + (y 2).val / 4) % 10) + (y 2).val % 4; omega)]
  refine (congrArg (fun W : Spec.Win => Spec.scl (Spec.amax W)) (wint_bq m c _ _ (y 1))).trans ?_
  have a0 : (pos8 t y 0 : Fin 20) = pb ⟨10 * (t.val / 10) + (y 2).val / 4, hu⟩ := Fin.ext (e0.trans (by show t.val / 10 * 1 + (y 0).val = (10 * (t.val / 10) + (y 2).val / 4) / 10; omega))
  have a1 : (pos8 t y 1 : Fin 36) = y 1 := Fin.ext e1
  have a2 : (pos8 t y 2 : Fin 40) = pn ⟨10 * (t.val / 10) + (y 2).val / 4, hu⟩ ⟨(y 2).val % 4, by omega⟩ :=
    Fin.ext (e2.trans (by show (y 2).val = 4 * ((10 * (t.val / 10) + (y 2).val / 4) % 10) + (y 2).val % 4; omega))
  show Spec.scl (Spec.amax (xin _ (pb _) (pn _ _) (y 1))) = Spec.scl (Spec.amax (xin _ (pos8 t y 0 : Fin 20) (pos8 t y 2 : Fin 40) (pos8 t y 1 : Fin 36)))
  rw [a0, a1, a2]

theorem cover8 (x : S20x36x40.Idx) : ∃ t : Fin cfg0.N, (cfg0.win 8).flush t = true ∧ x ∈ ((cfg0.win 8).blk t).view.set := by
  refine ⟨pt (x 0) 9, (flush0_8 _).mpr (by show (10 * (x 0).val + 9) % 10 = 9; omega), Finset.mem_map.mpr ⟨ix3 0 (x 1) (x 2), Finset.mem_univ _, ?_⟩⟩
  obtain ⟨e0, e1, e2⟩ := pos8_val (pt (x 0) 9) (ix3 0 (x 1) (x 2))
  funext a
  fin_cases a
  · exact Fin.ext (e0.trans (by show (10 * (x 0).val + 9) / 10 * 1 + 0 = (x 0).val; omega))
  · exact Fin.ext e1
  · exact Fin.ext e2

theorem scale9 (c : Dev nD) (t : Fin cfg0.N) (ht : t.val % 10 = 9) (X : S1x36x40.Idx → EReal) (hX : ScaleOk (bk m c) t X) (y : S1x36x40.Idx) :
    X y = scaleG (m ((c : Thread nD τ).loc main_arg1)) (pos9 t y) := by
  obtain ⟨e0, e1, e2⟩ := pos9_val t y
  have h0 : (y 0).val < 1 := (y 0).isLt
  have h2 : (y 2).val < 40 := (y 2).isLt
  have hN : t.val < 200 := t.isLt
  have hu : 10 * (t.val / 10) + (y 2).val / 4 < 200 := by omega
  rw [hX y ⟨10 * (t.val / 10) + (y 2).val / 4, hu⟩ (by show 10 * (t.val / 10) + (y 2).val / 4 ≤ t.val; omega) (by show (10 * (t.val / 10) + (y 2).val / 4) / 10 = t.val / 10; omega)
    ⟨(y 2).val % 4, by omega⟩ (by show (y 2).val = 4 * ((10 * (t.val / 10) + (y 2).val / 4) % 10) + (y 2).val % 4; omega)]
  refine (congrArg (fun W : Spec.Win => Spec.scl (Spec.amax W)) (wint_bk m c _ _ (y 1))).trans ?_
  have a0 : (pos9 t y 0 : Fin 20) = pb ⟨10 * (t.val / 10) + (y 2).val / 4, hu⟩ := Fin.ext (e0.trans (by show t.val / 10 * 1 + (y 0).val = (10 * (t.val / 10) + (y 2).val / 4) / 10; omega))
  have a1 : (pos9 t y 1 : Fin 36) = y 1 := Fin.ext e1
  have a2 : (pos9 t y 2 : Fin 40) = pn ⟨10 * (t.val / 10) + (y 2).val / 4, hu⟩ ⟨(y 2).val % 4, by omega⟩ :=
    Fin.ext (e2.trans (by show (y 2).val = 4 * ((10 * (t.val / 10) + (y 2).val / 4) % 10) + (y 2).val % 4; omega))
  show Spec.scl (Spec.amax (xin _ (pb _) (pn _ _) (y 1))) = Spec.scl (Spec.amax (xin _ (pos9 t y 0 : Fin 20) (pos9 t y 2 : Fin 40) (pos9 t y 1 : Fin 36)))
  rw [a0, a1, a2]

theorem cover9 (x : S20x36x40.Idx) : ∃ t : Fin cfg0.N, (cfg0.win 9).flush t = true ∧ x ∈ ((cfg0.win 9).blk t).view.set := by
  refine ⟨pt (x 0) 9, (flush0_9 _).mpr (by show (10 * (x 0).val + 9) % 10 = 9; omega), Finset.mem_map.mpr ⟨ix3 0 (x 1) (x 2), Finset.mem_univ _, ?_⟩⟩
  obtain ⟨e0, e1, e2⟩ := pos9_val (pt (x 0) 9) (ix3 0 (x 1) (x 2))
  funext a
  fin_cases a
  · exact Fin.ext (e0.trans (by show (10 * (x 0).val + 9) / 10 * 1 + 0 = (x 0).val; omega))
  · exact Fin.ext e1
  · exact Fin.ext e2

theorem out5 (c : Dev nD) (hT : ∀ y, ∃ r : ℝ, m ((c : Thread nD τ).loc main_arg4) y = (r : EReal)) (hB : ∀ y, ∃ r : ℝ, m ((c : Thread nD τ).loc main_arg3) y = (r : EReal))
    (t : Fin cfg0.N) (X : S1x256x1152.Idx → EReal) (hX : P5 m c t X) (y : S1x256x1152.Idx) :
    X y = outV (m ((c : Thread nD τ).loc main_arg0)) (m ((c : Thread nD τ).loc main_arg1)) (m ((c : Thread nD τ).loc main_arg2)) (m ((c : Thread nD τ).loc main_arg3)) (m ((c : Thread nD τ).loc main_arg4)) (pos5 t y) := by
  rw [hX (fun z => by rw [bt_eq]; exact hT z) (fun z => by rw [bb_eq]; exact hB z) y]
  obtain ⟨e0, e1, e2⟩ := pos5_val t y
  have h0 : (y 0).val < 1 := (y 0).isLt
  have h1 : (y 1).val < 256 := (y 1).isLt
  have h2 : (y 2).val < 1152 := (y 2).isLt
  have hb : bb m c t = m ((c : Thread nD τ).loc main_arg3) := funext (bb_eq m c t)
  have ht : bt m c t = m ((c : Thread nD τ).loc main_arg4) := funext (bt_eq m c t)
  unfold blk7 hatt
  rw [wint_bq, wint_bk, wint_bv, hb, ht]
  have key : ∀ (b b' : Fin 20) (n n' : Fin 40) (h h' : Fin 36) (p p' : Fin 2) (i i' : Fin 64) (d d' : Fin 32), b = b' → n = n' → h = h' → p = p' → i = i' → d = d' →
      Spec.att (xin (m ((c : Thread nD τ).loc main_arg0)) b n h) (xin (m ((c : Thread nD τ).loc main_arg1)) b n h) (xin (m ((c : Thread nD τ).loc main_arg2)) b n h)
        (fun i => m ((c : Thread nD τ).loc main_arg4) (ix2 (hd' h) (lane p i))) (fun i j => m ((c : Thread nD τ).loc main_arg3) (ix3 h j (lane p i))) i d
      = Spec.att (xin (m ((c : Thread nD τ).loc main_arg0)) b' n' h') (xin (m ((c : Thread nD τ).loc main_arg1)) b' n' h') (xin (m ((c : Thread nD τ).loc main_arg2)) b' n' h')
        (fun i => m ((c : Thread nD τ).loc main_arg4) (ix2 (hd' h') (lane p' i))) (fun i j => m ((c : Thread nD τ).loc main_arg3) (ix3 h' j (lane p' i))) i' d' := by
    intro b b' n n' h h' p p' i i' d d' h1 h2 h3 h4 h5 h6; subst h1 h2 h3 h4 h5 h6; rfl
  exact key _ _ _ _ _ _ _ _ _ _ _ _
    (Fin.ext ((by show t.val / 10 = t.val / 10 * 1 + (y 0).val; omega : t.val / 10 = _).trans e0.symm))
    (Fin.ext (by show 4 * (t.val % 10) + (y 1).val / 64 = (pos5 t y 1).val / 64; rw [e1]; omega))
    (Fin.ext (by show (y 2).val / 32 = (pos5 t y 2).val / 32; rw [e2]))
    (Fin.ext (by show (y 1).val / 64 % 2 = (pos5 t y 1).val / 64 % 2; rw [e1]; omega))
    (Fin.ext (by show (y 1).val % 64 = (pos5 t y 1).val % 64; rw [e1]; omega))
    (Fin.ext (by show (y 2).val % 32 = (pos5 t y 2).val % 32; rw [e2]))

theorem at5 (x : S20x2560x1152.Idx) (t : Fin cfg0.N) (ht : t.val = 10 * (x 0).val + (x 1).val / 256) (y : S1x256x1152.Idx) (h0 : (y 0).val = 0) (h1 : (y 1).val = (x 1).val % 256)
    (h2 : (y 2).val = (x 2).val) : pos5 t y = x := by
  have b1 : (x 1).val < 2560 := (x 1).isLt
  obtain ⟨e0, e1, e2⟩ := pos5_val t y
  funext a
  fin_cases a
  · exact Fin.ext (e0.trans (show t.val / 10 * 1 + (y 0).val = (x 0).val by rw [h0, ht]; omega))
  · exact Fin.ext (e1.trans (show t.val % 10 * 256 + (y 1).val = (x 1).val by rw [h1, ht]; omega))
  · exact Fin.ext (e2.trans h2)

theorem cover5 (x : S20x2560x1152.Idx) : ∃ t : Fin cfg0.N, (cfg0.win 5).flush t = true ∧ x ∈ ((cfg0.win 5).blk t).view.set := by
  have b1 : (x 1).val < 2560 := (x 1).isLt
  have key := at5 x (pt (x 0) ⟨(x 1).val / 256, by omega⟩) rfl (ix3 0 (⟨(x 1).val % 256, by omega⟩ : Fin 256) (x 2)) rfl rfl rfl
  exact ⟨_, flush0_5 _, Finset.mem_map.mpr ⟨_, Finset.mem_univ _, key⟩⟩

/-- What a program's run leaves in the results, and that it leaves the arguments. -/
theorem value :
    θ_run defs (onTc (τ := τ) (main (F := Ideal))) (s₀ m ρ) (fun r => (∀ c : Dev nD,
      (((∀ y, ∃ r : ℝ, m ((c : Thread nD τ).loc main_arg4) y = (r : EReal)) → (∀ y, ∃ r : ℝ, m ((c : Thread nD τ).loc main_arg3) y = (r : EReal)) →
        r.2.mem ((c : Thread nD τ).loc main_v3_0) = outV (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c : Thread nD τ).loc main_v3_1) = codeG (m ((c : Thread nD τ).loc main_arg0))
      ∧ r.2.mem ((c : Thread nD τ).loc main_v3_2) = codeG (m ((c : Thread nD τ).loc main_arg1))
      ∧ r.2.mem ((c : Thread nD τ).loc main_v3_3) = scaleG (m ((c : Thread nD τ).loc main_arg0))
      ∧ r.2.mem ((c : Thread nD τ).loc main_v3_4) = scaleG (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))) := by
  refine (θ_run defs _ _).mono (fun r h c => ?_) (run_mainV m ρ)
  obtain ⟨after, hL, hA⟩ := h.1.exists_exact c
  have hR : ∀ (w : Fin cfg0.W) (u : Fin cfg0.N), forgets0 w = true → (cfg0.win w).flush u = true → RlV m c w u (after w u) := fun w u hw hf =>
    Dat.toRRel_leaves (dats (F := Ideal) m 0 c) (fgt := forgets0) (Rl := RlV m c) hw (hL w u hf)
  refine ⟨⟨fun hT hB => ?_, ?_, ?_, ?_, ?_⟩,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    (h.1.arr_in c 3 rfl).trans ((A_eq m c 3).trans (V_main_arg3 m c)),
    (h.1.arr_in c 4 rfl).trans ((A_eq m c 4).trans (V_main_arg4 m c))⟩
  · exact (hA 5).trans (Dat.arrAt_eq_of_cover ((rdatV m c).withAfter after) 5 _ (fun t hf => funext fun y => out5 m c hT hB t _ (hR 5 t (by decide) hf) y) cover5)
  · exact (hA 6).trans (Dat.arrAt_eq_of_cover ((rdatV m c).withAfter after) 6 _ (fun t hf => funext fun y => code6 m c t _ (hR 6 t (by decide) hf) y) cover6)
  · exact (hA 7).trans (Dat.arrAt_eq_of_cover ((rdatV m c).withAfter after) 7 _ (fun t hf => funext fun y => code7 m c t _ (hR 7 t (by decide) hf) y) cover7)
  · exact (hA 8).trans (Dat.arrAt_eq_of_cover ((rdatV m c).withAfter after) 8 _ (fun t hf => funext fun y => scale8 m c t ((flush0_8 t).mp hf) _ (hR 8 t (by decide) hf) y) cover8)
  · exact (hA 9).trans (Dat.arrAt_eq_of_cover ((rdatV m c).withAfter after) 9 _ (fun t hf => funext fun y => scale9 m c t ((flush0_9 t).mp hf) _ (hR 9 t (by decide) hf) y) cover9)

end Cert.KernelIdeal.Hand

end
-- ==== Proof.RefRun.lean ====
/-
  The reference's host lines: what each of the named values is, as one expression of the arguments.
-/
module

public import proofs.«01_k».proof.Proof.Gen.ReferenceIdeal.Frame
public import Idealize.ShloMosaic.Lib.StableHlo.Run
public import Idealize.ShloMosaic.Lib.Pipeline.Value
public import Idealize.ShloMosaic.PureOps.Ideal

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.ShloMosaic.StableHlo (after after_append after_of_writes_sub forall_writes_sub_of_map)

/-! ## The reference's values -/

/-- A constant of no axes. -/
abbrev gC (b : BitVec 32) : FVec Ideal S_ .f32 := constant S_ .f32 b
/-- Which of the powers exceed the largest entry over the largest code. -/
abbrev gLt (a : FVec Ideal S20x40x36 .f32) (p : FVec Ideal S254 .f32) : S20x40x36x254.Idx → BitVec 1 :=
  cmpf .olt
      (broadcastInDim S20x40x36x254 ![0, 1, 2, 3] bcast_S20x40x36x1_S20x40x36x254_0_1_2_3
        (broadcastInDim S20x40x36x1 ![0, 1, 2] bcast_S20x40x36_S20x40x36x1_0_1_2
          (mulf a (broadcastInDim S20x40x36 ![] bcast_S_S20x40x36 (constant S_ .f32 0x3B124925#32)))))
      (broadcastInDim S20x40x36x254 ![0, 1, 2, 3] bcast_S1x1x1x254_S20x40x36x254_0_1_2_3
        (broadcastInDim S1x1x1x254 ![3] bcast_S254_S1x1x1x254_3 p))
/-- Those powers, and infinity in the others' place. -/
abbrev gCand (l : S20x40x36x254.Idx → BitVec 1) (p : FVec Ideal S254 .f32) (i : FVec Ideal S_ .f32) : FVec Ideal S20x40x36x254 .f32 :=
  select l (broadcastInDim S20x40x36x254 ![3] bcast_S254_S20x40x36x254_3 p) (broadcastInDim S20x40x36x254 ![] bcast_S_S20x40x36x254 i)
/-- The least of them. -/
abbrev gLeast (x : FVec Ideal S20x40x36x254 .f32) : FVec Ideal S20x40x36 .f32 :=
  Host.reduce FloatOps.minimumf x (constant S_ .f32 0x7F800000#32) reducesTo_S20x40x36x254_S20x40x36_d3 h_S_
/-- Which entries are zero. -/
abbrev gZero (a : FVec Ideal S20x40x36 .f32) : S20x40x36.Idx → BitVec 1 :=
  cmpf .oeq a (broadcastInDim S20x40x36 ![] bcast_S_S20x40x36 (constant S_ .f32 0x00000000#32))
/-- A constant where the flag is set, the other value elsewhere. -/
abbrev gSel (z : S20x40x36.Idx → BitVec 1) (o : FVec Ideal S_ .f32) (x : FVec Ideal S20x40x36 .f32) : FVec Ideal S20x40x36 .f32 :=
  select z (broadcastInDim S20x40x36 ![] bcast_S_S20x40x36 o) x
/-- The quotients by the scale. -/
abbrev gQuot (u : FVec Ideal S20x40x64x36x32 .f32) (s : FVec Ideal S20x40x36 .f32) : FVec Ideal S20x40x64x36x32 .f32 :=
  Host.divf u (broadcastInDim S20x40x64x36x32 ![0, 1, 2, 3, 4] bcast_S20x40x1x36x1_S20x40x64x36x32_0_1_2_3_4
        (broadcastInDim S20x40x1x36x1 ![0, 1, 3] bcast_S20x40x36_S20x40x1x36x1_0_1_3 s))
/-- The quotients clipped. -/
abbrev gClip (hi lo : FVec Ideal S_ .f32) (x : FVec Ideal S20x40x64x36x32 .f32) : FVec Ideal S20x40x64x36x32 .f32 :=
  minimumf (broadcastInDim S20x40x64x36x32 ![] bcast_S_S20x40x64x36x32 hi)
    (maximumf (broadcastInDim S20x40x64x36x32 ![] bcast_S_S20x40x64x36x32 lo) x)

/-- The windows of an argument. -/
def rX (A : FVec Ideal S20x2560x36x32 .bf16) : FVec Ideal S20x40x64x36x32 .f32 :=
  extf .f32 (shapeCast S20x40x64x36x32 A shapeCasts_S20x2560x36x32_S20x40x64x36x32) bitsLt_bf16_f32
/-- Each token's length, at least the small constant. -/
def rNrm (A : FVec Ideal S20x2560x36x32 .bf16) : FVec Ideal S20x40x64x36x1 .f32 :=
  maximumf (Host.sqrt (broadcastInDim S20x40x64x36x1 ![0, 1, 2, 3] bcast_S20x40x64x36_S20x40x64x36x1_0_1_2_3
    (Host.reduceAdd (mulf (rX A) (rX A)) (constant S_ .f32 0x00000000#32) reducesTo_S20x40x64x36x32_S20x40x64x36_d4 h_S_)))
    (broadcastInDim S20x40x64x36x1 ![] bcast_S_S20x40x64x36x1 (constant S_ .f32 0x2B8CBCCC#32))
/-- Each token divided by its length. -/
def rUnit (A : FVec Ideal S20x2560x36x32 .bf16) : FVec Ideal S20x40x64x36x32 .f32 :=
  Host.divf (rX A) (broadcastInDim S20x40x64x36x32 ![0, 1, 2, 3, 4] bcast_S20x40x64x36x1_S20x40x64x36x32_0_1_2_3_4 (rNrm A))
/-- The largest absolute entry of a window's head. -/
def rAmax (A : FVec Ideal S20x2560x36x32 .bf16) : FVec Ideal S20x40x36 .f32 :=
  Host.reduce FloatOps.maximumf (Host.absf (rUnit A)) (constant S_ .f32 0xFF800000#32) reducesTo_S20x40x64x36x32_S20x40x36_d2_4 h_S_
/-- The powers of two. -/
def rPow : FVec Ideal S254 .f32 :=
  Host.powf (broadcastInDim S254 ![] bcast_S_S254 (constant S_ .f32 0x40000000#32))
    (subf (sitofp .f32 (iotaInDim S254 32 0)) (broadcastInDim S254 ![] bcast_S_S254 (constant S_ .f32 0x42FC0000#32)))
/-- Where a power exceeds the largest entry over the largest code, that power; elsewhere infinity. -/
def rCand (A : FVec Ideal S20x2560x36x32 .bf16) : FVec Ideal S20x40x36x254 .f32 := gCand (gLt (rAmax A) rPow) rPow (gC 0x7F800000#32)
/-- The scale of a window's head: one if the head is zero, else the least candidate. -/
def rScale (A : FVec Ideal S20x2560x36x32 .bf16) : FVec Ideal S20x40x36 .f32 := gSel (gZero (rAmax A)) (gC 0x3F800000#32) (gLeast (rCand A))
/-- The clipped quotients, before they are rounded. -/
def rIn (A : FVec Ideal S20x2560x36x32 .bf16) : FVec Ideal S20x40x64x36x32 .f32 :=
  gClip (gC 0x43E00000#32) (gC 0xC3E00000#32) (gQuot (rUnit A) (rScale A))
/-- Which windows are odd. -/
def rOdd : S40.Idx → BitVec 1 :=
  cmpi .eq (andi (iotaInDim S40 32 0) (broadcastInDim S40 ![] bcast_S_S40 (constantI S_ 32 1#32)))
    (broadcastInDim S40 ![] bcast_S_S40 (constantI S_ 32 1#32))
/-- The temperatures, window by window. -/
def rTau (T : FVec Ideal S40x128 .f32) : FVec Ideal S40x36x64 .f32 :=
  select (broadcastInDim S40x36x64 ![0, 1, 2] bcast_S40x1x1_S40x36x64_0_1_2 (broadcastInDim S40x1x1 ![0] bcast_S40_S40x1x1_0 rOdd))
    (broadcastInDim S40x36x64 ![0, 1, 2] bcast_S1x36x64_S40x36x64_0_1_2 (broadcastInDim S1x36x64 ![1, 2] bcast_S36x64_S1x36x64_1_2
      (extractStridedSlice S36x64 ![0, 64] T slices_S40x128_S36x64_0_64)))
    (broadcastInDim S40x36x64 ![0, 1, 2] bcast_S1x36x64_S40x36x64_0_1_2 (broadcastInDim S1x36x64 ![1, 2] bcast_S36x64_S1x36x64_1_2
      (extractStridedSlice S36x64 ![0, 0] T slices_S40x128_S36x64_0_0)))
/-- The bias, window by window. -/
def rBias (B : FVec Ideal S36x64x128 .f32) : FVec Ideal S40x36x64x64 .f32 :=
  select (broadcastInDim S40x36x64x64 ![0, 1, 2, 3] bcast_S40x1x1x1_S40x36x64x64_0_1_2_3 (broadcastInDim S40x1x1x1 ![0] bcast_S40_S40x1x1x1_0 rOdd))
    (broadcastInDim S40x36x64x64 ![0, 1, 2, 3] bcast_S1x36x64x64_S40x36x64x64_0_1_2_3 (broadcastInDim S1x36x64x64 ![1, 2, 3] bcast_S36x64x64_S1x36x64x64_1_2_3
      (extractStridedSlice S36x64x64 ![0, 64, 0] (transpose S36x128x64 [0, 2, 1] B transposes_S36x64x128_S36x128x64_0_2_1) slices_S36x128x64_S36x64x64_0_64_0)))
    (broadcastInDim S40x36x64x64 ![0, 1, 2, 3] bcast_S1x36x64x64_S40x36x64x64_0_1_2_3 (broadcastInDim S1x36x64x64 ![1, 2, 3] bcast_S36x64x64_S1x36x64x64_1_2_3
      (extractStridedSlice S36x64x64 ![0, 0, 0] (transpose S36x128x64 [0, 2, 1] B transposes_S36x64x128_S36x128x64_0_2_1) slices_S36x128x64_S36x64x64_0_0_0)))
/-- The products of the codes, with both scales back on. -/
def rProd (Q K : FVec Ideal S20x40x64x36x32 .f32) (sq sk : FVec Ideal S20x40x36 .f32) : FVec Ideal S20x40x36x64x64 .f32 :=
  mulf (mulf (Host.dotGeneral dot_S20x40x64x36x32_S20x40x64x36x32_S20x40x36x64x64_4_4_2_2_013_013 none Q K)
      (broadcastInDim S20x40x36x64x64 ![0, 1, 2, 3, 4] bcast_S20x40x36x1x1_S20x40x36x64x64_0_1_2_3_4
        (broadcastInDim S20x40x36x1x1 ![0, 1, 2] bcast_S20x40x36_S20x40x36x1x1_0_1_2 sq)))
    (broadcastInDim S20x40x36x64x64 ![0, 1, 2, 3, 4] bcast_S20x40x36x1x1_S20x40x36x64x64_0_1_2_3_4
      (broadcastInDim S20x40x36x1x1 ![0, 1, 2] bcast_S20x40x36_S20x40x36x1x1_0_1_2 sk))
/-- The logits. -/
def rLogit (P : FVec Ideal S20x40x36x64x64 .f32) (T : FVec Ideal S40x36x64 .f32) (B : FVec Ideal S40x36x64x64 .f32) : FVec Ideal S20x40x36x64x64 .f32 :=
  addf (mulf P (broadcastInDim S20x40x36x64x64 ![0, 1, 2, 3, 4] bcast_S1x40x36x64x1_S20x40x36x64x64_0_1_2_3_4
      (broadcastInDim S1x40x36x64x1 ![1, 2, 3, 4] bcast_S40x36x64x1_S1x40x36x64x1_1_2_3_4
        (broadcastInDim S40x36x64x1 ![0, 1, 2] bcast_S40x36x64_S40x36x64x1_0_1_2 T))))
    (broadcastInDim S20x40x36x64x64 ![0, 1, 2, 3, 4] bcast_S1x40x36x64x64_S20x40x36x64x64_0_1_2_3_4
      (broadcastInDim S1x40x36x64x64 ![1, 2, 3, 4] bcast_S40x36x64x64_S1x40x36x64x64_1_2_3_4 B))
/-- The exponentials of the logits less their row's largest. -/
def rEx (G : FVec Ideal S20x40x36x64x64 .f32) : FVec Ideal S20x40x36x64x64 .f32 :=
  Host.powf (broadcastInDim S20x40x36x64x64 ![] bcast_S_S20x40x36x64x64 (constant S_ .f32 0x40000000#32))
    (subf G (broadcastInDim S20x40x36x64x64 ![0, 1, 2, 3, 4] bcast_S20x40x36x64x1_S20x40x36x64x64_0_1_2_3_4
      (broadcastInDim S20x40x36x64x1 ![0, 1, 2, 3] bcast_S20x40x36x64_S20x40x36x64x1_0_1_2_3
        (Host.reduce FloatOps.maximumf G (constant S_ .f32 0xFF800000#32) reducesTo_S20x40x36x64x64_S20x40x36x64_d4 h_S_))))
/-- The weights. -/
def rWt (E : FVec Ideal S20x40x36x64x64 .f32) : FVec Ideal S20x40x36x64x64 .bf16 :=
  truncf .bf16 (Host.divf E (broadcastInDim S20x40x36x64x64 ![0, 1, 2, 3, 4] bcast_S20x40x36x64x1_S20x40x36x64x64_0_1_2_3_4
      (broadcastInDim S20x40x36x64x1 ![0, 1, 2, 3] bcast_S20x40x36x64_S20x40x36x64x1_0_1_2_3
        (Host.reduceAdd E (constant S_ .f32 0x00000000#32) reducesTo_S20x40x36x64x64_S20x40x36x64_d4 h_S_)))) bitsLt_bf16_f32
/-- The values weighted, window by window. -/
def rAtt (W : FVec Ideal S20x40x36x64x64 .bf16) (A : FVec Ideal S20x2560x36x32 .bf16) : FVec Ideal S20x40x36x32x64 .f32 :=
  Host.dotGeneral dot_S20x40x64x36x32_S20x40x36x64x64_S20x40x36x32x64_2_4_4_3_013_012 none
    (shapeCast S20x40x64x36x32 A shapeCasts_S20x2560x36x32_S20x40x64x36x32) W
/-- The output. -/
def rOut (Y : FVec Ideal S20x40x36x32x64 .f32) : FVec Ideal S20x2560x1152 .bf16 :=
  truncf .bf16 (shapeCast S20x2560x1152 (transpose S20x40x64x36x32 [0, 1, 4, 2, 3] Y transposes_S20x40x36x32x64_S20x40x64x36x32_0_1_4_2_3)
    shapeCasts_S20x40x64x36x32_S20x2560x1152) bitsLt_bf16_f32

/-! ## The lines, chunk by chunk -/

section
variable (W : Valuation τ sig (Elt Ideal))

/-- What chunk 0 of the lines does not write it keeps. -/
theorem keep0 {r : Ref sig .tc} (hr : r ∉ ([main_v0, main_v1, main_v2, main_cst, main_v3, main_v4, main_v5, main_cst_0, main_v6, main_v7, main_v8, main_v9, main_v10, main_cst_1, main_v11, main_cst_2, main_v12, main_v13, main_v14, main_cst_3, main_v15, main_v16, main_cst_4, main_v17, main_v18, main_v19, main_v20, main_v21, main_v22, main_v23, main_cst_5] : List (Ref sig .tc))) :
    after (hostOps0 (F := Ideal)) W (Proc.devRef .tc r) = W (Proc.devRef .tc r) :=
  after_of_writes_sub _ W (forall_writes_sub_of_map rfl) hr

/-- What chunk 0_1 of the lines does not write it keeps. -/
theorem keep0_1 {r : Ref sig .tc} (hr : r ∉ ([main_call0_v0, main_call0_v1, main_call0_v2, main_v24] : List (Ref sig .tc))) :
    after (hostOps0_1 (F := Ideal)) W (Proc.devRef .tc r) = W (Proc.devRef .tc r) :=
  after_of_writes_sub _ W (forall_writes_sub_of_map rfl) hr

/-- What chunk 0_2 of the lines does not write it keeps. -/
theorem keep0_2 {r : Ref sig .tc} (hr : r ∉ ([main_cst_6, main_v25, main_cst_7, main_v26, main_v27, main_cst_8] : List (Ref sig .tc))) :
    after (hostOps0_2 (F := Ideal)) W (Proc.devRef .tc r) = W (Proc.devRef .tc r) :=
  after_of_writes_sub _ W (forall_writes_sub_of_map rfl) hr

/-- What chunk 0_3 of the lines does not write it keeps. -/
theorem keep0_3 {r : Ref sig .tc} (hr : r ∉ ([main_call1_v0, main_call1_v1, main_v28] : List (Ref sig .tc))) :
    after (hostOps0_3 (F := Ideal)) W (Proc.devRef .tc r) = W (Proc.devRef .tc r) :=
  after_of_writes_sub _ W (forall_writes_sub_of_map rfl) hr

/-- What chunk 0_4 of the lines does not write it keeps. -/
theorem keep0_4 {r : Ref sig .tc} (hr : r ∉ ([main_v29, main_v30, main_v31, main_cst_9, main_cst_10] : List (Ref sig .tc))) :
    after (hostOps0_4 (F := Ideal)) W (Proc.devRef .tc r) = W (Proc.devRef .tc r) :=
  after_of_writes_sub _ W (forall_writes_sub_of_map rfl) hr

/-- What chunk 0_5 of the lines does not write it keeps. -/
theorem keep0_5 {r : Ref sig .tc} (hr : r ∉ ([main_call2_v0, main_call2_v1, main_call2_v2, main_call2_v3, main_call2_v4, main_v32] : List (Ref sig .tc))) :
    after (hostOps0_5 (F := Ideal)) W (Proc.devRef .tc r) = W (Proc.devRef .tc r) :=
  after_of_writes_sub _ W (forall_writes_sub_of_map rfl) hr

/-- What chunk 0_6 of the lines does not write it keeps. -/
theorem keep0_6 {r : Ref sig .tc} (hr : r ∉ ([main_v33, main_v34, main_v35, main_cst_11, main_v36, main_v37, main_v38, main_cst_12, main_v39, main_v40, main_v41, main_v42, main_v43, main_cst_13, main_v44, main_cst_14, main_v45, main_v46, main_v47, main_cst_15, main_v48, main_v49, main_cst_16, main_v50, main_v51, main_v52, main_v53, main_v54, main_v55, main_v56, main_cst_17] : List (Ref sig .tc))) :
    after (hostOps0_6 (F := Ideal)) W (Proc.devRef .tc r) = W (Proc.devRef .tc r) :=
  after_of_writes_sub _ W (forall_writes_sub_of_map rfl) hr

/-- What chunk 0_7 of the lines does not write it keeps. -/
theorem keep0_7 {r : Ref sig .tc} (hr : r ∉ ([main_call3_v0, main_call3_v1, main_call3_v2, main_v57] : List (Ref sig .tc))) :
    after (hostOps0_7 (F := Ideal)) W (Proc.devRef .tc r) = W (Proc.devRef .tc r) :=
  after_of_writes_sub _ W (forall_writes_sub_of_map rfl) hr

/-- What chunk 0_8 of the lines does not write it keeps. -/
theorem keep0_8 {r : Ref sig .tc} (hr : r ∉ ([main_cst_18, main_v58, main_cst_19, main_v59, main_v60, main_cst_20] : List (Ref sig .tc))) :
    after (hostOps0_8 (F := Ideal)) W (Proc.devRef .tc r) = W (Proc.devRef .tc r) :=
  after_of_writes_sub _ W (forall_writes_sub_of_map rfl) hr

/-- What chunk 0_9 of the lines does not write it keeps. -/
theorem keep0_9 {r : Ref sig .tc} (hr : r ∉ ([main_call4_v0, main_call4_v1, main_v61] : List (Ref sig .tc))) :
    after (hostOps0_9 (F := Ideal)) W (Proc.devRef .tc r) = W (Proc.devRef .tc r) :=
  after_of_writes_sub _ W (forall_writes_sub_of_map rfl) hr

/-- What chunk 0_10 of the lines does not write it keeps. -/
theorem keep0_10 {r : Ref sig .tc} (hr : r ∉ ([main_v62, main_v63, main_v64, main_cst_21, main_cst_22] : List (Ref sig .tc))) :
    after (hostOps0_10 (F := Ideal)) W (Proc.devRef .tc r) = W (Proc.devRef .tc r) :=
  after_of_writes_sub _ W (forall_writes_sub_of_map rfl) hr

/-- What chunk 0_11 of the lines does not write it keeps. -/
theorem keep0_11 {r : Ref sig .tc} (hr : r ∉ ([main_call5_v0, main_call5_v1, main_call5_v2, main_call5_v3, main_call5_v4, main_v65] : List (Ref sig .tc))) :
    after (hostOps0_11 (F := Ideal)) W (Proc.devRef .tc r) = W (Proc.devRef .tc r) :=
  after_of_writes_sub _ W (forall_writes_sub_of_map rfl) hr

/-- What chunk 1 of the lines does not write it keeps. -/
theorem keep1 {r : Ref sig .tc} (hr : r ∉ ([main_v67, main_v68, main_v69, main_v70, main_v71, main_v72, main_v73, main_v74, main_c, main_v75, main_v76, main_c_23, main_v77, main_v78, main_v79, main_v80, main_v81, main_v82, main_v83] : List (Ref sig .tc))) :
    after (hostOps1 (F := Ideal)) W (Proc.devRef .tc r) = W (Proc.devRef .tc r) :=
  after_of_writes_sub _ W (forall_writes_sub_of_map rfl) hr

/-- What chunk 1_1 of the lines does not write it keeps. -/
theorem keep1_1 {r : Ref sig .tc} (hr : r ∉ ([main_call6_v0, main_call6_v1, main_call6_v2, main_v84] : List (Ref sig .tc))) :
    after (hostOps1_1 (F := Ideal)) W (Proc.devRef .tc r) = W (Proc.devRef .tc r) :=
  after_of_writes_sub _ W (forall_writes_sub_of_map rfl) hr

/-- What chunk 1_2 of the lines does not write it keeps. -/
theorem keep1_2 {r : Ref sig .tc} (hr : r ∉ ([main_v85, main_v86, main_v87, main_v88, main_v89, main_v90] : List (Ref sig .tc))) :
    after (hostOps1_2 (F := Ideal)) W (Proc.devRef .tc r) = W (Proc.devRef .tc r) :=
  after_of_writes_sub _ W (forall_writes_sub_of_map rfl) hr

/-- What chunk 1_3 of the lines does not write it keeps. -/
theorem keep1_3 {r : Ref sig .tc} (hr : r ∉ ([main_call7_v0, main_call7_v1, main_call7_v2, main_v91] : List (Ref sig .tc))) :
    after (hostOps1_3 (F := Ideal)) W (Proc.devRef .tc r) = W (Proc.devRef .tc r) :=
  after_of_writes_sub _ W (forall_writes_sub_of_map rfl) hr

/-- What chunk 1_4 of the lines does not write it keeps. -/
theorem keep1_4 {r : Ref sig .tc} (hr : r ∉ ([main_v92, main_v93, main_v94, main_v95, main_v96, main_v97, main_v98, main_cst_24, main_v99, main_v100, main_v101, main_v102, main_cst_25, main_v103, main_v104, main_cst_26, main_v105, main_v106, main_v107, main_v108, main_v109, main_v110, main_v111, main_v112, main_v113, main_v114, main_v115, main_v116, main_v117, main_v118] : List (Ref sig .tc))) :
    after (hostOps1_4 (F := Ideal)) W (Proc.devRef .tc r) = W (Proc.devRef .tc r) :=
  after_of_writes_sub _ W (forall_writes_sub_of_map rfl) hr

/-! The chain of `main_arg0`. -/

theorem unit_q : after (hostOps0 (F := Ideal)) W (Proc.devRef .tc main_v9) = rUnit (W (Proc.devRef .tc main_arg0)) := by
  after_results
  try rfl

theorem amax_q : after (hostOps0 (F := Ideal)) W (Proc.devRef .tc main_v11) = rAmax (W (Proc.devRef .tc main_arg0)) := by
  after_results
  try rfl

theorem pow_q : after (hostOps0 (F := Ideal)) W (Proc.devRef .tc main_v18) = rPow := by
  after_results
  try rfl

theorem lt_q : after (hostOps0 (F := Ideal)) W (Proc.devRef .tc main_v23) = gLt (rAmax (W (Proc.devRef .tc main_arg0))) rPow := by
  after_results
  try rfl

theorem inf_q : after (hostOps0 (F := Ideal)) W (Proc.devRef .tc main_cst_5) = gC 0x7F800000#32 := by
  after_results
  try rfl

theorem cand_q : after (hostOps0_1 (F := Ideal)) W (Proc.devRef .tc main_v24) = gCand (W (Proc.devRef .tc main_v23)) (W (Proc.devRef .tc main_v18)) (W (Proc.devRef .tc main_cst_5)) := by
  after_results
  try rfl

theorem least_q : after (hostOps0_2 (F := Ideal)) W (Proc.devRef .tc main_v25) = gLeast (W (Proc.devRef .tc main_v24)) := by
  after_results
  try rfl

theorem zero_q : after (hostOps0_2 (F := Ideal)) W (Proc.devRef .tc main_v27) = gZero (W (Proc.devRef .tc main_v11)) := by
  after_results
  try rfl

theorem one_q : after (hostOps0_2 (F := Ideal)) W (Proc.devRef .tc main_cst_8) = gC 0x3F800000#32 := by
  after_results
  try rfl

theorem scale_q : after (hostOps0_3 (F := Ideal)) W (Proc.devRef .tc main_v28) = gSel (W (Proc.devRef .tc main_v27)) (W (Proc.devRef .tc main_cst_8)) (W (Proc.devRef .tc main_v25)) := by
  after_results
  try rfl

theorem quot_q : after (hostOps0_4 (F := Ideal)) W (Proc.devRef .tc main_v31) = gQuot (W (Proc.devRef .tc main_v9)) (W (Proc.devRef .tc main_v28)) := by
  after_results
  try rfl

theorem lo_q : after (hostOps0_4 (F := Ideal)) W (Proc.devRef .tc main_cst_9) = gC 0xC3E00000#32 := by
  after_results
  try rfl

theorem hi_q : after (hostOps0_4 (F := Ideal)) W (Proc.devRef .tc main_cst_10) = gC 0x43E00000#32 := by
  after_results
  try rfl

theorem clip_q : after (hostOps0_5 (F := Ideal)) W (Proc.devRef .tc main_v32) = gClip (W (Proc.devRef .tc main_cst_10)) (W (Proc.devRef .tc main_cst_9)) (W (Proc.devRef .tc main_v31)) := by
  after_results
  try rfl

/-! The chain of `main_arg1`. -/

theorem unit_k : after (hostOps0_6 (F := Ideal)) W (Proc.devRef .tc main_v42) = rUnit (W (Proc.devRef .tc main_arg1)) := by
  after_results
  try rfl

theorem amax_k : after (hostOps0_6 (F := Ideal)) W (Proc.devRef .tc main_v44) = rAmax (W (Proc.devRef .tc main_arg1)) := by
  after_results
  try rfl

theorem pow_k : after (hostOps0_6 (F := Ideal)) W (Proc.devRef .tc main_v51) = rPow := by
  after_results
  try rfl

theorem lt_k : after (hostOps0_6 (F := Ideal)) W (Proc.devRef .tc main_v56) = gLt (rAmax (W (Proc.devRef .tc main_arg1))) rPow := by
  after_results
  try rfl

theorem inf_k : after (hostOps0_6 (F := Ideal)) W (Proc.devRef .tc main_cst_17) = gC 0x7F800000#32 := by
  after_results
  try rfl

theorem cand_k : after (hostOps0_7 (F := Ideal)) W (Proc.devRef .tc main_v57) = gCand (W (Proc.devRef .tc main_v56)) (W (Proc.devRef .tc main_v51)) (W (Proc.devRef .tc main_cst_17)) := by
  after_results
  try rfl

theorem least_k : after (hostOps0_8 (F := Ideal)) W (Proc.devRef .tc main_v58) = gLeast (W (Proc.devRef .tc main_v57)) := by
  after_results
  try rfl

theorem zero_k : after (hostOps0_8 (F := Ideal)) W (Proc.devRef .tc main_v60) = gZero (W (Proc.devRef .tc main_v44)) := by
  after_results
  try rfl

theorem one_k : after (hostOps0_8 (F := Ideal)) W (Proc.devRef .tc main_cst_20) = gC 0x3F800000#32 := by
  after_results
  try rfl

theorem scale_k : after (hostOps0_9 (F := Ideal)) W (Proc.devRef .tc main_v61) = gSel (W (Proc.devRef .tc main_v60)) (W (Proc.devRef .tc main_cst_20)) (W (Proc.devRef .tc main_v58)) := by
  after_results
  try rfl

theorem quot_k : after (hostOps0_10 (F := Ideal)) W (Proc.devRef .tc main_v64) = gQuot (W (Proc.devRef .tc main_v42)) (W (Proc.devRef .tc main_v61)) := by
  after_results
  try rfl

theorem lo_k : after (hostOps0_10 (F := Ideal)) W (Proc.devRef .tc main_cst_21) = gC 0xC3E00000#32 := by
  after_results
  try rfl

theorem hi_k : after (hostOps0_10 (F := Ideal)) W (Proc.devRef .tc main_cst_22) = gC 0x43E00000#32 := by
  after_results
  try rfl

theorem clip_k : after (hostOps0_11 (F := Ideal)) W (Proc.devRef .tc main_v65) = gClip (W (Proc.devRef .tc main_cst_22)) (W (Proc.devRef .tc main_cst_21)) (W (Proc.devRef .tc main_v64)) := by
  after_results
  try rfl

/-! The lines after the rounding. -/

theorem prod : after (hostOps1 (F := Ideal)) W (Proc.devRef .tc main_v73) = rProd (W (Proc.devRef .tc main_v66_2)) (W (Proc.devRef .tc main_v66_3)) (W (Proc.devRef .tc main_v28)) (W (Proc.devRef .tc main_v61)) := by
  after_results
  try rfl

theorem odd : after (hostOps1 (F := Ideal)) W (Proc.devRef .tc main_v78) = rOdd := by
  after_results
  try rfl

theorem odd3 : after (hostOps1 (F := Ideal)) W (Proc.devRef .tc main_v79) = broadcastInDim S40x1x1 ![0] bcast_S40_S40x1x1_0 rOdd := by
  after_results
  try rfl

theorem tau64 : after (hostOps1 (F := Ideal)) W (Proc.devRef .tc main_v81) = broadcastInDim S1x36x64 ![1, 2] bcast_S36x64_S1x36x64_1_2 (extractStridedSlice S36x64 ![0, 64] (W (Proc.devRef .tc main_arg4)) slices_S40x128_S36x64_0_64) := by
  after_results
  try rfl

theorem tau0 : after (hostOps1 (F := Ideal)) W (Proc.devRef .tc main_v83) = broadcastInDim S1x36x64 ![1, 2] bcast_S36x64_S1x36x64_1_2 (extractStridedSlice S36x64 ![0, 0] (W (Proc.devRef .tc main_arg4)) slices_S40x128_S36x64_0_0) := by
  after_results
  try rfl

theorem tau : after (hostOps1_1 (F := Ideal)) W (Proc.devRef .tc main_v84) = select (broadcastInDim S40x36x64 ![0, 1, 2] bcast_S40x1x1_S40x36x64_0_1_2 (W (Proc.devRef .tc main_v79)))
    (broadcastInDim S40x36x64 ![0, 1, 2] bcast_S1x36x64_S40x36x64_0_1_2 (W (Proc.devRef .tc main_v81)))
    (broadcastInDim S40x36x64 ![0, 1, 2] bcast_S1x36x64_S40x36x64_0_1_2 (W (Proc.devRef .tc main_v83))) := by
  after_results
  try rfl

theorem odd4 : after (hostOps1_2 (F := Ideal)) W (Proc.devRef .tc main_v86) = broadcastInDim S40x1x1x1 ![0] bcast_S40_S40x1x1x1_0 (W (Proc.devRef .tc main_v78)) := by
  after_results
  try rfl

theorem bias64 : after (hostOps1_2 (F := Ideal)) W (Proc.devRef .tc main_v88) = broadcastInDim S1x36x64x64 ![1, 2, 3] bcast_S36x64x64_S1x36x64x64_1_2_3
      (extractStridedSlice S36x64x64 ![0, 64, 0] (transpose S36x128x64 [0, 2, 1] (W (Proc.devRef .tc main_arg3)) transposes_S36x64x128_S36x128x64_0_2_1) slices_S36x128x64_S36x64x64_0_64_0) := by
  after_results
  try rfl

theorem bias0 : after (hostOps1_2 (F := Ideal)) W (Proc.devRef .tc main_v90) = broadcastInDim S1x36x64x64 ![1, 2, 3] bcast_S36x64x64_S1x36x64x64_1_2_3
      (extractStridedSlice S36x64x64 ![0, 0, 0] (transpose S36x128x64 [0, 2, 1] (W (Proc.devRef .tc main_arg3)) transposes_S36x64x128_S36x128x64_0_2_1) slices_S36x128x64_S36x64x64_0_0_0) := by
  after_results
  try rfl

theorem bias : after (hostOps1_3 (F := Ideal)) W (Proc.devRef .tc main_v91) = select (broadcastInDim S40x36x64x64 ![0, 1, 2, 3] bcast_S40x1x1x1_S40x36x64x64_0_1_2_3 (W (Proc.devRef .tc main_v86)))
    (broadcastInDim S40x36x64x64 ![0, 1, 2, 3] bcast_S1x36x64x64_S40x36x64x64_0_1_2_3 (W (Proc.devRef .tc main_v88)))
    (broadcastInDim S40x36x64x64 ![0, 1, 2, 3] bcast_S1x36x64x64_S40x36x64x64_0_1_2_3 (W (Proc.devRef .tc main_v90))) := by
  after_results
  try rfl

theorem out : after (hostOps1_4 (F := Ideal)) W (Proc.devRef .tc main_v114) = rOut (rAtt (rWt (rEx (rLogit (W (Proc.devRef .tc main_v73)) (W (Proc.devRef .tc main_v84)) (W (Proc.devRef .tc main_v91))))) (W (Proc.devRef .tc main_arg2))) := by
  after_results
  try rfl

theorem code115 : after (hostOps1_4 (F := Ideal)) W (Proc.devRef .tc main_v115) = transpose S20x40x36x32x64 [0, 1, 3, 4, 2] (W (Proc.devRef .tc main_v66_0)) transposes_S20x40x64x36x32_S20x40x36x32x64_0_1_3_4_2 := by
  after_results
  try rfl

theorem code116 : after (hostOps1_4 (F := Ideal)) W (Proc.devRef .tc main_v116) = transpose S20x40x36x32x64 [0, 1, 3, 4, 2] (W (Proc.devRef .tc main_v66_1)) transposes_S20x40x64x36x32_S20x40x36x32x64_0_1_3_4_2 := by
  after_results
  try rfl

theorem scale117 : after (hostOps1_4 (F := Ideal)) W (Proc.devRef .tc main_v117) = transpose S20x36x40 [0, 2, 1] (W (Proc.devRef .tc main_v28)) transposes_S20x40x36_S20x36x40_0_2_1 := by
  after_results
  try rfl

theorem scale118 : after (hostOps1_4 (F := Ideal)) W (Proc.devRef .tc main_v118) = transpose S20x36x40 [0, 2, 1] (W (Proc.devRef .tc main_v61)) transposes_S20x40x36_S20x36x40_0_2_1 := by
  after_results
  try rfl

end

end Cert.ReferenceIdeal.Hand

end
-- ==== Proof.RefVal.lean ====
/-
  The reference's values entry by entry, in the words of Spec.
-/
module

public import proofs.«01_k».proof.Proof.RefRun
public import proofs.«01_k».proof.Proof.Spec
public import Idealize.ShloMosaic.Lib.Pointwise
public import Idealize.ShloMosaic.Lib.IdealHost

@[expose] public section

set_option maxRecDepth 16384

noncomputable section

namespace Cert.ReferenceIdeal.Hand

open Cert.ReferenceIdeal Cert.ReferenceIdeal.Gen
open Idealize.ShloMosaic Idealize.ShloMosaic.TcCoe

/-- A window's head of an argument. -/
def rin (A : S20x2560x36x32.Idx → EReal) (b : Fin 20) (n : Fin 40) (h : Fin 36) : Spec.Win :=
  fun i d => A (ix4 b ⟨64 * n.val + i.val, by omega⟩ h d)

theorem rX_at (A : FVec Ideal S20x2560x36x32 .bf16) (b : Fin 20) (n : Fin 40) (i : Fin 64) (h : Fin 36) (d : Fin 32) :
    rX A (ix5 b n i h d) = rin A b n h i d := by
  pointwise [rX]
  unfold rin
  refine congrArg A (congrArg (fun z => ix4 b z h d) (Fin.ext ?_))
  show n.val * 64 + i.val = 64 * n.val + i.val
  omega

theorem rNrm_at (A : FVec Ideal S20x2560x36x32 .bf16) (b : Fin 20) (n : Fin 40) (i : Fin 64) (h : Fin 36) (d : Fin 1) :
    rNrm A (ix5 b n i h d) = Spec.nrm (rin A b n h) i := by
  pointwise [rNrm]
  simp only [rX_at]
  rfl

theorem rUnit_at (A : FVec Ideal S20x2560x36x32 .bf16) (b : Fin 20) (n : Fin 40) (i : Fin 64) (h : Fin 36) (d : Fin 32) :
    rUnit A (ix5 b n i h d) = rin A b n h i d * (Spec.nrm (rin A b n h) i)⁻¹ := by
  pointwise [rUnit]
  rw [rNrm_at, rX_at, Spec.div_nrm]

/-! ## The largest entry -/

theorem drop_iff (b : Fin 20) (n : Fin 40) (h : Fin 36) (y : S20x40x64x36x32.Idx) :
    reducesTo_S20x40x64x36x32_S20x40x36_d2_4.drop y = ix3 b n h ↔ y 0 = b ∧ y 1 = n ∧ y 3 = h := by
  have e0 := Shape.ReducesTo.drop_apply_val_of_eq reducesTo_S20x40x64x36x32_S20x40x36_d2_4 y (0 : Fin 3) (0 : Fin 5)
  have e1 := Shape.ReducesTo.drop_apply_val_of_eq reducesTo_S20x40x64x36x32_S20x40x36_d2_4 y (1 : Fin 3) (1 : Fin 5)
  have e2 := Shape.ReducesTo.drop_apply_val_of_eq reducesTo_S20x40x64x36x32_S20x40x36_d2_4 y (2 : Fin 3) (3 : Fin 5)
  constructor
  · intro e
    refine ⟨Fin.ext (e0.symm.trans ?_), Fin.ext (e1.symm.trans ?_), Fin.ext (e2.symm.trans ?_)⟩
    · rw [e]; rfl
    · rw [e]; rfl
    · rw [e]; rfl
  · rintro ⟨h0, h1, h2⟩
    funext a
    apply Fin.ext
    fin_cases a
    · exact e0.trans (congrArg Fin.val h0)
    · exact e1.trans (congrArg Fin.val h1)
    · exact e2.trans (congrArg Fin.val h2)

theorem sup_fiber (f : S20x40x64x36x32.Idx → EReal) (b : Fin 20) (n : Fin 40) (h : Fin 36) :
    (Finset.univ.filter fun y => reducesTo_S20x40x64x36x32_S20x40x36_d2_4.drop y = ix3 b n h).sup f
      = Finset.univ.sup fun i : Fin 64 => Finset.univ.sup fun d : Fin 32 => f (ix5 b n i h d) := by
  apply le_antisymm
  · refine Finset.sup_le fun y hy => ?_
    obtain ⟨h0, h1, h2⟩ := (drop_iff b n h y).mp (Finset.mem_filter.mp hy).2
    have hy' : y = ix5 b n (y 2) h (y 4) := by
      funext a
      fin_cases a
      · exact h0
      · exact h1
      · rfl
      · exact h2
      · rfl
    rw [hy']
    exact (Finset.le_sup (f := fun d : Fin 32 => f (ix5 b n (y 2) h d)) (Finset.mem_univ (y 4))).trans
      (Finset.le_sup (f := fun i : Fin 64 => Finset.univ.sup fun d : Fin 32 => f (ix5 b n i h d)) (Finset.mem_univ (y 2)))
  · exact Finset.sup_le fun i _ => Finset.sup_le fun d _ =>
      Finset.le_sup (Finset.mem_filter.mpr ⟨Finset.mem_univ _, (drop_iff b n h _).mpr ⟨rfl, rfl, rfl⟩⟩)

theorem rAmax_at (A : FVec Ideal S20x2560x36x32 .bf16) (b : Fin 20) (n : Fin 40) (h : Fin 36) :
    rAmax A (ix3 b n h) = Spec.amax (rin A b n h) := by
  pointwise [rAmax]
  rw [Spec.fold_max_eq, sup_fiber]
  unfold Spec.amax
  refine Finset.sup_congr rfl fun i _ => Finset.sup_congr rfl fun d _ => ?_
  rw [rUnit_at]
  rfl

/-! ## The scale -/

theorem top_bits : Ideal.ofBits FTy.f32 2139095040#32 = ⊤ := by
  unfold Ideal.ofBits
  have h1 : (BitVec.extractLsb' 31 1 (2139095040#32) == 1#1) = false := by decide
  have h2 : (BitVec.extractLsb' 23 8 (2139095040#32)).toNat = 255 := by decide
  have h3 : (BitVec.extractLsb' 0 23 (2139095040#32)).toNat = 0 := by decide
  simp [Ideal.ieee, h1, h2, h3]
theorem fold_min_eq {ι : Type} (f : ι → EReal) (S : Finset ι) : S.fold min (Ideal.ofBits FTy.f32 2139095040#32) f = S.inf f := by
  rw [top_bits]; rfl
theorem two_bits : Ideal.ofBits FTy.f32 1073741824#32 = ((2 : ℝ) : EReal) :=
  (Spec.ofBits_normal 1073741824#32 128 0 (by decide) (by decide) (by decide) (by decide)).trans (by congr 1; norm_num)
theorem one_bits : Ideal.ofBits FTy.f32 1065353216#32 = 1 :=
  (Spec.ofBits_normal 1065353216#32 127 0 (by decide) (by decide) (by decide) (by decide)).trans (by rw [← EReal.coe_one]; congr 1; norm_num)
theorem k126_bits : Ideal.ofBits FTy.f32 1123811328#32 = ((126 : ℝ) : EReal) :=
  (Spec.ofBits_normal 1123811328#32 133 8126464 (by decide) (by decide) (by decide) (by decide)).trans (by congr 1; norm_num)
/-- A power of the real two is the exponential to base two, at the infinities too. -/
theorem pow_two (y : EReal) : Ideal.pow ((2 : ℝ) : EReal) y = Ideal.exp2 y := by
  induction y using EReal.rec with
  | bot => rw [Ideal.pow_coe_bot, Ideal.exp2_bot, if_neg (by norm_num), if_pos (by norm_num)]
  | top => rw [Ideal.pow_coe_top, Ideal.exp2_top, if_neg (by norm_num), if_pos (by norm_num)]
  | coe r => rw [Ideal.pow_coe_coe, Ideal.exp2_coe]

theorem rPow_at (n : Fin 254) : rPow (ix1 n) = Spec.pw n := by
  pointwise [rPow]
  have e : FloatOps.sitofp (F := Ideal) FTy.f32 (BitVec.ofNat 32 n.val) = ((n.val : ℝ) : EReal) := by
    show (((BitVec.ofNat 32 n.val).toInt : ℝ) : EReal) = _
    rw [(by decide : ∀ n : Fin 254, (BitVec.ofNat 32 n.val).toInt = (n.val : ℤ)) n]
    rfl
  rw [two_bits, k126_bits, e, pow_two, ← EReal.coe_sub, Ideal.exp2_coe]
  unfold Spec.pw
  rw [EReal.coe_eq_coe_iff]
  show (2 : ℝ) ^ ((n.val : ℝ) - 126) = _
  rw [← Real.rpow_intCast]
  push_cast
  rfl

theorem lt_at (a : FVec Ideal S20x40x36 .f32) (p : FVec Ideal S254 .f32) (b : Fin 20) (n : Fin 40) (h : Fin 36) (k : Fin 254) :
    gLt a p (ix4 b n h k) = BitVec.ofBool (decide (a (ix3 b n h) * Spec.k448 < p (ix1 k))) := by
  pointwise [gLt]
  rfl
theorem cand_at (l : S20x40x36x254.Idx → BitVec 1) (p : FVec Ideal S254 .f32) (x : FVec Ideal S_ .f32) (b : Fin 20) (n : Fin 40) (h : Fin 36) (k : Fin 254) :
    gCand l p x (ix4 b n h k) = Scalar.select (l (ix4 b n h k)) (p (ix1 k)) (x ix0) := by
  pointwise [gCand]
theorem sel_at (z : S20x40x36.Idx → BitVec 1) (o : FVec Ideal S_ .f32) (x : FVec Ideal S20x40x36 .f32) (b : Fin 20) (n : Fin 40) (h : Fin 36) :
    gSel z o x (ix3 b n h) = Scalar.select (z (ix3 b n h)) (o ix0) (x (ix3 b n h)) := by
  pointwise [gSel]
theorem zero_at (a : FVec Ideal S20x40x36 .f32) (b : Fin 20) (n : Fin 40) (h : Fin 36) :
    gZero a (ix3 b n h) = BitVec.ofBool (decide (a (ix3 b n h) = 0)) := by
  pointwise [gZero]
theorem least_at (x : FVec Ideal S20x40x36x254 .f32) (b : Fin 20) (n : Fin 40) (h : Fin 36) :
    gLeast x (ix3 b n h) = Finset.univ.fold min (Ideal.ofBits FTy.f32 2139095040#32) fun k : Fin 254 => x (ix4 b n h k) := by
  pointwise [gLeast]
theorem clip_at (hi lo : FVec Ideal S_ .f32) (X : FVec Ideal S20x40x64x36x32 .f32) (b : Fin 20) (n : Fin 40) (i : Fin 64) (h : Fin 36) (d : Fin 32) :
    gClip hi lo X (ix5 b n i h d) = min (hi ix0) (max (lo ix0) (X (ix5 b n i h d))) := by
  pointwise [gClip]
theorem quot_at (X : FVec Ideal S20x40x64x36x32 .f32) (s : FVec Ideal S20x40x36 .f32) (b : Fin 20) (n : Fin 40) (i : Fin 64) (h : Fin 36) (d : Fin 32) :
    gQuot X s (ix5 b n i h d) = Ideal.div (X (ix5 b n i h d)) (s (ix3 b n h)) := by
  pointwise [gQuot]

theorem select_ofBool {α : Type} (p : Prop) [Decidable p] (x y : α) : Scalar.select (BitVec.ofBool (decide p)) x y = if p then x else y := by
  by_cases hp : p
  · rw [if_pos hp, decide_eq_true hp]; rfl
  · rw [if_neg hp, decide_eq_false hp]; rfl

theorem gC_at (x : BitVec 32) : gC x ix0 = Ideal.ofBits FTy.f32 x := rfl

theorem rCand_at (A : FVec Ideal S20x2560x36x32 .bf16) (b : Fin 20) (n : Fin 40) (h : Fin 36) (k : Fin 254) :
    rCand A (ix4 b n h k) = if Spec.amax (rin A b n h) * Spec.k448 < Spec.pw k then Spec.pw k else ⊤ := by
  unfold rCand
  rw [cand_at, lt_at, rAmax_at, rPow_at, select_ofBool, gC_at, top_bits]

theorem rScale_at (A : FVec Ideal S20x2560x36x32 .bf16) (b : Fin 20) (n : Fin 40) (h : Fin 36) :
    rScale A (ix3 b n h) = Spec.scl (Spec.amax (rin A b n h)) := by
  unfold rScale
  rw [sel_at, zero_at, least_at, rAmax_at, select_ofBool, gC_at, fold_min_eq, one_bits]
  unfold Spec.scl
  simp only [rCand_at]

theorem rIn_at (A : FVec Ideal S20x2560x36x32 .bf16) (b : Fin 20) (n : Fin 40) (i : Fin 64) (h : Fin 36) (d : Fin 32) :
    rIn A (ix5 b n i h d) = Spec.code (rin A b n h) i d := by
  unfold rIn
  obtain ⟨_, _, r, hr, hs⟩ := Spec.scl_bits _ (Spec.amax_nonneg (rin A b n h)) (Spec.amax_le (rin A b n h))
  have hne : Spec.scl (Spec.amax (rin A b n h)) ≠ 0 := by
    rw [hs]; exact_mod_cast hr.ne'
  rw [clip_at, quot_at, rUnit_at, rScale_at, gC_at, gC_at, Ideal.div, if_neg hne]
  rfl

/-! ## The attention -/

theorem rOdd_at (n : Fin 40) : rOdd (ix1 n) = BitVec.ofBool (decide (n.val % 2 = 1)) := by
  pointwise [rOdd]
  revert n
  decide

theorem rTau_at (T : FVec Ideal S40x128 .f32) (n : Fin 40) (h : Fin 36) (i : Fin 64) :
    rTau T (ix3 n h i) = T (ix2 ⟨h.val, by omega⟩ ⟨64 * (n.val % 2) + i.val, by omega⟩) := by
  pointwise [rTau]
  rw [rOdd_at, select_ofBool]
  split
  · rename_i e
    exact congrArg T (congrArg (ix2 _) (Fin.ext (show 64 + i.val = 64 * (n.val % 2) + i.val by omega)))
  · rename_i e
    exact congrArg T (congrArg (ix2 _) (Fin.ext (show i.val = 64 * (n.val % 2) + i.val by omega)))

theorem rBias_at (B : FVec Ideal S36x64x128 .f32) (n : Fin 40) (h : Fin 36) (i j : Fin 64) :
    rBias B (ix4 n h i j) = B (ix3 h j ⟨64 * (n.val % 2) + i.val, by omega⟩) := by
  pointwise [rBias]
  rw [rOdd_at, select_ofBool]
  split
  · rename_i e
    exact congrArg B (congrArg (ix3 h j) (Fin.ext (show 64 + i.val = 64 * (n.val % 2) + i.val by omega)))
  · rename_i e
    exact congrArg B (congrArg (ix3 h j) (Fin.ext (show i.val = 64 * (n.val % 2) + i.val by omega)))

theorem rProd_at (Q K : FVec Ideal S20x40x64x36x32 .f32) (sq sk : FVec Ideal S20x40x36 .f32) (b : Fin 20) (n : Fin 40) (h : Fin 36) (i j : Fin 64) :
    rProd Q K sq sk (ix5 b n h i j) = (∑ d : Fin 32, Q (ix5 b n i h d) * K (ix5 b n j h d)) * sq (ix3 b n h) * sk (ix3 b n h) := by
  pointwise [rProd]

theorem rLogit_at (P : FVec Ideal S20x40x36x64x64 .f32) (T : FVec Ideal S40x36x64 .f32) (B : FVec Ideal S40x36x64x64 .f32) (b : Fin 20) (n : Fin 40) (h : Fin 36) (i j : Fin 64) :
    rLogit P T B (ix5 b n h i j) = P (ix5 b n h i j) * T (ix3 n h i) + B (ix4 n h i j) := by
  pointwise [rLogit]

theorem rEx_at (G : FVec Ideal S20x40x36x64x64 .f32) (b : Fin 20) (n : Fin 40) (h : Fin 36) (i j : Fin 64) :
    rEx G (ix5 b n h i j) = Ideal.exp2 (G (ix5 b n h i j) - Finset.univ.sup fun j' : Fin 64 => G (ix5 b n h i j')) := by
  pointwise [rEx]
  rw [two_bits, pow_two, Spec.fold_max_eq]

theorem rWt_at (E : FVec Ideal S20x40x36x64x64 .f32) (b : Fin 20) (n : Fin 40) (h : Fin 36) (i j : Fin 64) :
    rWt E (ix5 b n h i j) = Ideal.div (E (ix5 b n h i j)) (∑ j' : Fin 64, E (ix5 b n h i j')) := by
  pointwise [rWt]

theorem rAtt_at (W : FVec Ideal S20x40x36x64x64 .bf16) (A : FVec Ideal S20x2560x36x32 .bf16) (b : Fin 20) (n : Fin 40) (h : Fin 36) (d : Fin 32) (i : Fin 64) :
    rAtt W A (ix5 b n h d i) = ∑ j : Fin 64, rin A b n h j d * W (ix5 b n h i j) := by
  pointwise [rAtt]
  refine Finset.sum_congr rfl fun j _ => ?_
  refine congrArg (· * _) (congrArg A (congrArg (fun z => ix4 b z h d) (Fin.ext ?_)))
  show n.val * 64 + j.val = 64 * n.val + j.val
  omega

theorem rOut_at (Y : FVec Ideal S20x40x36x32x64 .f32) (b : Fin 20) (t : Fin 2560) (l : Fin 1152) :
    rOut Y (ix3 b t l) = Y (ix5 b ⟨t.val / 64, by omega⟩ ⟨l.val / 32, by omega⟩ ⟨l.val % 32, by omega⟩ ⟨t.val % 64, by omega⟩) := by
  pointwise [rOut]

end Cert.ReferenceIdeal.Hand

end
-- ==== Proof.RefHost.lean ====
/-
  What the reference's launch leaves in the five results' buffers, as one expression of the arguments each.
-/
module

public import proofs.«01_k».proof.Proof.RefRun
public import Idealize.ShloMosaic.Lib.Pipeline.ValueKit.Geometry

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.ShloMosaic.StableHlo (after after_append)
open Idealize.SL.Sem

variable (m : (ℓ : Loc nD τ sig) → Buf (Elt Ideal) ℓ) (ρ : Dev nD → PrngReg) (c : Dev nD)

/-! ## The rounding body leaves its inputs: at the ideal values a cast changes nothing -/

theorem pay1_eq (x : Vec Ideal S20x40x64x36x32 .f32) : k0_pay1 x = x := by
  unfold k0_pay1
  simp only [shapeCast_self]
  rfl
theorem pay2_eq (x : Vec Ideal S20x40x64x36x32 .f32) : k0_pay2 x = x := by
  unfold k0_pay2
  simp only [shapeCast_self]
  rfl
theorem pay3_eq (x : Vec Ideal S20x40x64x36x32 .fp8e4m3) : k0_pay3 x = x := by
  unfold k0_pay3
  simp only [shapeCast_self]
  rfl
theorem pay4_eq (x : Vec Ideal S20x40x64x36x32 .fp8e4m3) : k0_pay4 x = x := by
  unfold k0_pay4
  simp only [shapeCast_self]
  rfl
theorem zero5 : (![0, 0, 0, 0, 0] : Fin S20x40x64x36x32.rank → Nat) = fun _ => 0 := by
  funext a; fin_cases a <;> rfl

section
variable (arg0 : Memref sig .tc .vmem S20x40x64x36x32 .f32) (harg0 : arg0.IsWhole) (arg1 : Memref sig .tc .vmem S20x40x64x36x32 .f32) (harg1 : arg1.IsWhole) (arg2 : Memref sig .tc .vmem S20x40x64x36x32 .fp8e4m3) (harg2 : arg2.IsWhole) (arg3 : Memref sig .tc .vmem S20x40x64x36x32 .fp8e4m3) (harg3 : arg3.IsWhole) (arg4 : Memref sig .tc .vmem S20x40x64x36x32 .f32) (harg4 : arg4.IsWhole) (arg5 : Memref sig .tc .vmem S20x40x64x36x32 .f32) (harg5 : arg5.IsWhole)
    (x0 : Vec Ideal S20x40x64x36x32 .f32) (x1 : Vec Ideal S20x40x64x36x32 .f32)
theorem H2_eq : kernelRun0_A.sl.H2_1 c arg0 harg0 x0 = [⟨Rect.unit ![0, 0, 0, 0, 0] S20x40x64x36x32.size inb_S20x40x64x36x32_S20x40x64x36x32_0_0_0_0_0, x0⟩] := by
  unfold kernelRun0_A.sl.H2_1
  rw [View.readAt_eq_ld, harg0.read_unread, View.ld_unit_zero zero5, pay1_eq]
theorem H3_eq : kernelRun0_A.sl.H3_1 c arg1 harg1 x1 = [⟨Rect.unit ![0, 0, 0, 0, 0] S20x40x64x36x32.size inb_S20x40x64x36x32_S20x40x64x36x32_0_0_0_0_0, x1⟩] := by
  unfold kernelRun0_A.sl.H3_1
  rw [View.readAt_eq_ld, harg1.read_unread, View.ld_unit_zero zero5, pay2_eq]
theorem out2_eq : out0_A_2 c arg0 harg0 arg1 harg1 arg2 harg2 arg3 harg3 arg4 harg4 arg5 harg5 x0 x1 = x0 := by
  unfold out0_A_2
  rw [View.read_writes_eq_canon _ _ _ (cover0_A_2 c arg0 harg0 arg1 harg1 arg2 harg2 arg3 harg3 arg4 harg4 arg5 harg5 x0 x1)]
  unfold kernelRun0_A
  dsimp only
  rw [H2_eq]
  exact View.canon_unit_zero zero5 _ _
theorem out3_eq : out0_A_3 c arg0 harg0 arg1 harg1 arg2 harg2 arg3 harg3 arg4 harg4 arg5 harg5 x0 x1 = x1 := by
  unfold out0_A_3
  rw [View.read_writes_eq_canon _ _ _ (cover0_A_3 c arg0 harg0 arg1 harg1 arg2 harg2 arg3 harg3 arg4 harg4 arg5 harg5 x0 x1)]
  unfold kernelRun0_A
  dsimp only
  rw [H3_eq]
  exact View.canon_unit_zero zero5 _ _
theorem out4_eq : out0_A_4 c arg0 harg0 arg1 harg1 arg2 harg2 arg3 harg3 arg4 harg4 arg5 harg5 x0 x1 = x0 := by
  unfold out0_A_4
  rw [View.read_writes_eq_canon _ _ _ (cover0_A_4 c arg0 harg0 arg1 harg1 arg2 harg2 arg3 harg3 arg4 harg4 arg5 harg5 x0 x1)]
  unfold kernelRun0_A
  dsimp only [kernelRun0_A.sl.v8]
  rw [H2_eq, View.readCov_unit_zero _ zero5, pay3_eq]
  exact View.canon_unit_zero zero5 _ _
theorem out5_eq : out0_A_5 c arg0 harg0 arg1 harg1 arg2 harg2 arg3 harg3 arg4 harg4 arg5 harg5 x0 x1 = x1 := by
  unfold out0_A_5
  rw [View.read_writes_eq_canon _ _ _ (cover0_A_5 c arg0 harg0 arg1 harg1 arg2 harg2 arg3 harg3 arg4 harg4 arg5 harg5 x0 x1)]
  unfold kernelRun0_A
  dsimp only [kernelRun0_A.sl.v12]
  rw [H3_eq, View.readCov_unit_zero _ zero5, pay4_eq]
  exact View.canon_unit_zero zero5 _ _
end

theorem at0 : ∀ t : Fin cfg0.N, ∀ a, win0_0.index t a = 0 := by decide +kernel
theorem blk0 (t : Fin cfg0.N) (X : Buf (Elt Ideal) (((cfg0.win 0).blk t).view.loc (c : Thread nD τ))) (y : S20x40x64x36x32.Idx) :
    ((cfg0.win 0).blk t).view.read (Elt Ideal) X y = X y := by
  refine congrArg X ?_
  funext a
  apply Fin.ext
  exact Pipeline.Window.rect_emb_val_of_index_zero win0_0 t a (at0 t a) y
theorem iblk0 (t : Fin cfg0.N) (X : FVec Ideal S20x40x64x36x32 .f32) (hX : V m c (Pipeline.arrRef spec0 0) = X) :
    iblk m c 0 t = X := by
  unfold iblk
  rw [hX]
  exact funext (blk0 c t X)

theorem at1 : ∀ t : Fin cfg0.N, ∀ a, win0_1.index t a = 0 := by decide +kernel
theorem blk1 (t : Fin cfg0.N) (X : Buf (Elt Ideal) (((cfg0.win 1).blk t).view.loc (c : Thread nD τ))) (y : S20x40x64x36x32.Idx) :
    ((cfg0.win 1).blk t).view.read (Elt Ideal) X y = X y := by
  refine congrArg X ?_
  funext a
  apply Fin.ext
  exact Pipeline.Window.rect_emb_val_of_index_zero win0_1 t a (at1 t a) y
theorem iblk1 (t : Fin cfg0.N) (X : FVec Ideal S20x40x64x36x32 .f32) (hX : V m c (Pipeline.arrRef spec0 1) = X) :
    iblk m c 1 t = X := by
  unfold iblk
  rw [hX]
  exact funext (blk1 c t X)

theorem whole2 : (cfg0.win 2).WholeAt t0_0 := by decide +kernel
/-- The rounding's output 0 is its input 0. -/
theorem arr2 (X : FVec Ideal S20x40x64x36x32 .f32) (hX : V m c (Pipeline.arrRef spec0 0) = X) :
    (dats m 0 c).arrAt 2 cfg0.N = X := by
  have h : (dats m 0 c).after 2 t0_0 = X := by
    rw [after0_2]
    unfold outsAt0
    dsimp only
    rw [out2_eq]
    exact iblk0 m c t0_0 X hX
  refine Pipeline.Dat.arrAt_eq_of_after_last (dats m 0 c) 2 t0_0 whole2 X fun j => ?_
  rw [h]
  rfl

theorem whole3 : (cfg0.win 3).WholeAt t0_0 := by decide +kernel
/-- The rounding's output 1 is its input 1. -/
theorem arr3 (X : FVec Ideal S20x40x64x36x32 .f32) (hX : V m c (Pipeline.arrRef spec0 1) = X) :
    (dats m 0 c).arrAt 3 cfg0.N = X := by
  have h : (dats m 0 c).after 3 t0_0 = X := by
    rw [after0_3]
    unfold outsAt0
    dsimp only
    rw [out3_eq]
    exact iblk1 m c t0_0 X hX
  refine Pipeline.Dat.arrAt_eq_of_after_last (dats m 0 c) 3 t0_0 whole3 X fun j => ?_
  rw [h]
  rfl

theorem whole4 : (cfg0.win 4).WholeAt t0_0 := by decide +kernel
/-- The rounding's output 2 is its input 0. -/
theorem arr4 (X : FVec Ideal S20x40x64x36x32 .f32) (hX : V m c (Pipeline.arrRef spec0 0) = X) :
    (dats m 0 c).arrAt 4 cfg0.N = X := by
  have h : (dats m 0 c).after 4 t0_0 = X := by
    rw [after0_4]
    unfold outsAt0
    dsimp only
    rw [out4_eq]
    exact iblk0 m c t0_0 X hX
  refine Pipeline.Dat.arrAt_eq_of_after_last (dats m 0 c) 4 t0_0 whole4 X fun j => ?_
  rw [h]
  rfl

theorem whole5 : (cfg0.win 5).WholeAt t0_0 := by decide +kernel
/-- The rounding's output 3 is its input 1. -/
theorem arr5 (X : FVec Ideal S20x40x64x36x32 .f32) (hX : V m c (Pipeline.arrRef spec0 1) = X) :
    (dats m 0 c).arrAt 5 cfg0.N = X := by
  have h : (dats m 0 c).after 5 t0_0 = X := by
    rw [after0_5]
    unfold outsAt0
    dsimp only
    rw [out5_eq]
    exact iblk1 m c t0_0 X hX
  refine Pipeline.Dat.arrAt_eq_of_after_last (dats m 0 c) 5 t0_0 whole5 X fun j => ?_
  rw [h]
  rfl

/-! ## The lines before the rounding -/

theorem pre_scale_q : V0 m c (Proc.devRef .tc main_v28) = rScale (m (c, Proc.devRef .tc main_arg0)) := by
  unfold V0
  simp only [List.flatten_cons, List.flatten_nil, List.append_nil, after_append]
  rw [keep0_11 _ (r := main_v28) (by decide),
    keep0_10 _ (r := main_v28) (by decide),
    keep0_9 _ (r := main_v28) (by decide),
    keep0_8 _ (r := main_v28) (by decide),
    keep0_7 _ (r := main_v28) (by decide),
    keep0_6 _ (r := main_v28) (by decide),
    keep0_5 _ (r := main_v28) (by decide),
    keep0_4 _ (r := main_v28) (by decide),
    scale_q,
    zero_q,
    keep0_1 _ (r := main_v11) (by decide),
    amax_q,
    one_q,
    least_q,
    cand_q,
    lt_q,
    pow_q,
    inf_q]
  try rfl

theorem pre_clip_q : V0 m c (Proc.devRef .tc main_v32) = rIn (m (c, Proc.devRef .tc main_arg0)) := by
  unfold V0
  simp only [List.flatten_cons, List.flatten_nil, List.append_nil, after_append]
  rw [keep0_11 _ (r := main_v32) (by decide),
    keep0_10 _ (r := main_v32) (by decide),
    keep0_9 _ (r := main_v32) (by decide),
    keep0_8 _ (r := main_v32) (by decide),
    keep0_7 _ (r := main_v32) (by decide),
    keep0_6 _ (r := main_v32) (by decide),
    clip_q,
    hi_q,
    lo_q,
    quot_q,
    keep0_3 _ (r := main_v9) (by decide),
    keep0_2 _ (r := main_v9) (by decide),
    keep0_1 _ (r := main_v9) (by decide),
    unit_q,
    scale_q,
    zero_q,
    keep0_1 _ (r := main_v11) (by decide),
    amax_q,
    one_q,
    least_q,
    cand_q,
    lt_q,
    pow_q,
    inf_q]
  try rfl

theorem pre_scale_k : V0 m c (Proc.devRef .tc main_v61) = rScale (m (c, Proc.devRef .tc main_arg1)) := by
  unfold V0
  simp only [List.flatten_cons, List.flatten_nil, List.append_nil, after_append]
  rw [keep0_11 _ (r := main_v61) (by decide),
    keep0_10 _ (r := main_v61) (by decide),
    scale_k,
    zero_k,
    keep0_7 _ (r := main_v44) (by decide),
    amax_k,
    one_k,
    least_k,
    cand_k,
    lt_k,
    pow_k,
    inf_k,
    keep0_5 _ (r := main_arg1) (by decide),
    keep0_4 _ (r := main_arg1) (by decide),
    keep0_3 _ (r := main_arg1) (by decide),
    keep0_2 _ (r := main_arg1) (by decide),
    keep0_1 _ (r := main_arg1) (by decide),
    keep0 _ (r := main_arg1) (by decide)]
  try rfl

theorem pre_clip_k : V0 m c (Proc.devRef .tc main_v65) = rIn (m (c, Proc.devRef .tc main_arg1)) := by
  unfold V0
  simp only [List.flatten_cons, List.flatten_nil, List.append_nil, after_append]
  rw [clip_k,
    hi_k,
    lo_k,
    quot_k,
    keep0_9 _ (r := main_v42) (by decide),
    keep0_8 _ (r := main_v42) (by decide),
    keep0_7 _ (r := main_v42) (by decide),
    unit_k,
    scale_k,
    zero_k,
    keep0_7 _ (r := main_v44) (by decide),
    amax_k,
    one_k,
    least_k,
    cand_k,
    lt_k,
    pow_k,
    inf_k,
    keep0_5 _ (r := main_arg1) (by decide),
    keep0_4 _ (r := main_arg1) (by decide),
    keep0_3 _ (r := main_arg1) (by decide),
    keep0_2 _ (r := main_arg1) (by decide),
    keep0_1 _ (r := main_arg1) (by decide),
    keep0 _ (r := main_arg1) (by decide)]
  try rfl

theorem pre_arg2 : V0 m c (Proc.devRef .tc main_arg2) = m (c, Proc.devRef .tc main_arg2) := by
  unfold V0
  simp only [List.flatten_cons, List.flatten_nil, List.append_nil, after_append]
  rw [keep0_11 _ (r := main_arg2) (by decide),
    keep0_10 _ (r := main_arg2) (by decide),
    keep0_9 _ (r := main_arg2) (by decide),
    keep0_8 _ (r := main_arg2) (by decide),
    keep0_7 _ (r := main_arg2) (by decide),
    keep0_6 _ (r := main_arg2) (by decide),
    keep0_5 _ (r := main_arg2) (by decide),
    keep0_4 _ (r := main_arg2) (by decide),
    keep0_3 _ (r := main_arg2) (by decide),
    keep0_2 _ (r := main_arg2) (by decide),
    keep0_1 _ (r := main_arg2) (by decide),
    keep0 _ (r := main_arg2) (by decide)]
  try rfl

theorem pre_arg3 : V0 m c (Proc.devRef .tc main_arg3) = m (c, Proc.devRef .tc main_arg3) := by
  unfold V0
  simp only [List.flatten_cons, List.flatten_nil, List.append_nil, after_append]
  rw [keep0_11 _ (r := main_arg3) (by decide),
    keep0_10 _ (r := main_arg3) (by decide),
    keep0_9 _ (r := main_arg3) (by decide),
    keep0_8 _ (r := main_arg3) (by decide),
    keep0_7 _ (r := main_arg3) (by decide),
    keep0_6 _ (r := main_arg3) (by decide),
    keep0_5 _ (r := main_arg3) (by decide),
    keep0_4 _ (r := main_arg3) (by decide),
    keep0_3 _ (r := main_arg3) (by decide),
    keep0_2 _ (r := main_arg3) (by decide),
    keep0_1 _ (r := main_arg3) (by decide),
    keep0 _ (r := main_arg3) (by decide)]
  try rfl

theorem pre_arg4 : V0 m c (Proc.devRef .tc main_arg4) = m (c, Proc.devRef .tc main_arg4) := by
  unfold V0
  simp only [List.flatten_cons, List.flatten_nil, List.append_nil, after_append]
  rw [keep0_11 _ (r := main_arg4) (by decide),
    keep0_10 _ (r := main_arg4) (by decide),
    keep0_9 _ (r := main_arg4) (by decide),
    keep0_8 _ (r := main_arg4) (by decide),
    keep0_7 _ (r := main_arg4) (by decide),
    keep0_6 _ (r := main_arg4) (by decide),
    keep0_5 _ (r := main_arg4) (by decide),
    keep0_4 _ (r := main_arg4) (by decide),
    keep0_3 _ (r := main_arg4) (by decide),
    keep0_2 _ (r := main_arg4) (by decide),
    keep0_1 _ (r := main_arg4) (by decide),
    keep0 _ (r := main_arg4) (by decide)]
  try rfl

/-! ## The lines after it -/

/-- The buffers as the rounding leaves them. -/
abbrev mid : Valuation τ sig (Elt Ideal) :=
  Pipeline.withArrays (cfgs 0).spec c (V0 m c) fun w => (dats m 0 c).arrAt w (cfgs 0).N

theorem spec0_inj : Function.Injective (Pipeline.arrRef spec0) := by decide
theorem mid_v66_0 : mid m c (Proc.devRef .tc main_v66_0) = rIn (m (c, Proc.devRef .tc main_arg0)) :=
  (Pipeline.withArrays_arr spec0 spec0_inj c (V0 m c) _ 2).trans (arr2 m c _ (pre_clip_q m c))
theorem mid_v66_1 : mid m c (Proc.devRef .tc main_v66_1) = rIn (m (c, Proc.devRef .tc main_arg1)) :=
  (Pipeline.withArrays_arr spec0 spec0_inj c (V0 m c) _ 3).trans (arr3 m c _ (pre_clip_k m c))
theorem mid_v66_2 : mid m c (Proc.devRef .tc main_v66_2) = rIn (m (c, Proc.devRef .tc main_arg0)) :=
  (Pipeline.withArrays_arr spec0 spec0_inj c (V0 m c) _ 4).trans (arr4 m c _ (pre_clip_q m c))
theorem mid_v66_3 : mid m c (Proc.devRef .tc main_v66_3) = rIn (m (c, Proc.devRef .tc main_arg1)) :=
  (Pipeline.withArrays_arr spec0 spec0_inj c (V0 m c) _ 5).trans (arr5 m c _ (pre_clip_k m c))
theorem mid_v28 : mid m c (Proc.devRef .tc main_v28) = rScale (m (c, Proc.devRef .tc main_arg0)) :=
  (Pipeline.withArrays_of_ne spec0 c (V0 m c) _ main_v28 (by decide)).trans (pre_scale_q m c)
theorem mid_v61 : mid m c (Proc.devRef .tc main_v61) = rScale (m (c, Proc.devRef .tc main_arg1)) :=
  (Pipeline.withArrays_of_ne spec0 c (V0 m c) _ main_v61 (by decide)).trans (pre_scale_k m c)
theorem mid_arg2 : mid m c (Proc.devRef .tc main_arg2) = m (c, Proc.devRef .tc main_arg2) :=
  (Pipeline.withArrays_of_ne spec0 c (V0 m c) _ main_arg2 (by decide)).trans (pre_arg2 m c)
theorem mid_arg3 : mid m c (Proc.devRef .tc main_arg3) = m (c, Proc.devRef .tc main_arg3) :=
  (Pipeline.withArrays_of_ne spec0 c (V0 m c) _ main_arg3 (by decide)).trans (pre_arg3 m c)
theorem mid_arg4 : mid m c (Proc.devRef .tc main_arg4) = m (c, Proc.devRef .tc main_arg4) :=
  (Pipeline.withArrays_of_ne spec0 c (V0 m c) _ main_arg4 (by decide)).trans (pre_arg4 m c)

/-- What a buffer holds at the end. -/
abbrev fin (r : Ref sig .tc) : Buf (Elt Ideal) ((c.tc : Thread nD τ).loc r) :=
  Pipeline.afterTail₀ cfgs (dats m) 0 (V0 m) [hostOps1, hostOps1_1, hostOps1_2, hostOps1_3, hostOps1_4] c r

/-- The reference's output as one expression. -/
def rRes (A0 A1 A2 : FVec Ideal S20x2560x36x32 .bf16) (B : FVec Ideal S36x64x128 .f32) (T : FVec Ideal S40x128 .f32) : FVec Ideal S20x2560x1152 .bf16 :=
  rOut (rAtt (rWt (rEx (rLogit (rProd (rIn A0) (rIn A1) (rScale A0) (rScale A1)) (rTau T) (rBias B)))) A2)

theorem fin_out : fin m c main_v114 = rRes (m (c, Proc.devRef .tc main_arg0)) (m (c, Proc.devRef .tc main_arg1)) (m (c, Proc.devRef .tc main_arg2)) (m (c, Proc.devRef .tc main_arg3)) (m (c, Proc.devRef .tc main_arg4)) := by
  show after _ (mid m c) _ = _
  simp only [List.flatten_cons, List.flatten_nil, List.append_nil, after_append]
  rw [out,
    keep1_3 _ (r := main_v73) (by decide),
    keep1_2 _ (r := main_v73) (by decide),
    keep1_1 _ (r := main_v73) (by decide),
    prod,
    mid_v66_2,
    mid_v66_3,
    mid_v28,
    mid_v61,
    keep1_3 _ (r := main_v84) (by decide),
    keep1_2 _ (r := main_v84) (by decide),
    tau,
    odd3,
    tau64,
    tau0,
    mid_arg4,
    bias,
    odd4,
    bias64,
    bias0,
    keep1_1 _ (r := main_v78) (by decide),
    odd,
    keep1_1 _ (r := main_arg3) (by decide),
    keep1 _ (r := main_arg3) (by decide),
    mid_arg3,
    keep1_3 _ (r := main_arg2) (by decide),
    keep1_2 _ (r := main_arg2) (by decide),
    keep1_1 _ (r := main_arg2) (by decide),
    keep1 _ (r := main_arg2) (by decide),
    mid_arg2]
  try rfl

theorem fin_115 : fin m c main_v115 = transpose S20x40x36x32x64 [0, 1, 3, 4, 2] (rIn (m (c, Proc.devRef .tc main_arg0))) transposes_S20x40x64x36x32_S20x40x36x32x64_0_1_3_4_2 := by
  show after _ (mid m c) _ = _
  simp only [List.flatten_cons, List.flatten_nil, List.append_nil, after_append]
  rw [code115,
    keep1_3 _ (r := main_v66_0) (by decide),
    keep1_2 _ (r := main_v66_0) (by decide),
    keep1_1 _ (r := main_v66_0) (by decide),
    keep1 _ (r := main_v66_0) (by decide),
    mid_v66_0]
  try rfl

theorem fin_116 : fin m c main_v116 = transpose S20x40x36x32x64 [0, 1, 3, 4, 2] (rIn (m (c, Proc.devRef .tc main_arg1))) transposes_S20x40x64x36x32_S20x40x36x32x64_0_1_3_4_2 := by
  show after _ (mid m c) _ = _
  simp only [List.flatten_cons, List.flatten_nil, List.append_nil, after_append]
  rw [code116,
    keep1_3 _ (r := main_v66_1) (by decide),
    keep1_2 _ (r := main_v66_1) (by decide),
    keep1_1 _ (r := main_v66_1) (by decide),
    keep1 _ (r := main_v66_1) (by decide),
    mid_v66_1]
  try rfl

theorem fin_117 : fin m c main_v117 = transpose S20x36x40 [0, 2, 1] (rScale (m (c, Proc.devRef .tc main_arg0))) transposes_S20x40x36_S20x36x40_0_2_1 := by
  show after _ (mid m c) _ = _
  simp only [List.flatten_cons, List.flatten_nil, List.append_nil, after_append]
  rw [scale117,
    keep1_3 _ (r := main_v28) (by decide),
    keep1_2 _ (r := main_v28) (by decide),
    keep1_1 _ (r := main_v28) (by decide),
    keep1 _ (r := main_v28) (by decide),
    mid_v28]
  try rfl

theorem fin_118 : fin m c main_v118 = transpose S20x36x40 [0, 2, 1] (rScale (m (c, Proc.devRef .tc main_arg1))) transposes_S20x40x36_S20x36x40_0_2_1 := by
  show after _ (mid m c) _ = _
  simp only [List.flatten_cons, List.flatten_nil, List.append_nil, after_append]
  rw [scale118,
    keep1_3 _ (r := main_v61) (by decide),
    keep1_2 _ (r := main_v61) (by decide),
    keep1_1 _ (r := main_v61) (by decide),
    keep1 _ (r := main_v61) (by decide),
    mid_v61]
  try rfl

end Cert.ReferenceIdeal.Hand

end
-- ==== Proof.RefFinal.lean ====
/-
  The reference's five results at each index, and what its launch leaves in memory.
-/
module

public import proofs.«01_k».proof.Proof.RefVal
public import proofs.«01_k».proof.Proof.RefHost

@[expose] public section

set_option maxRecDepth 16384

noncomputable section

namespace Cert.ReferenceIdeal.Hand

open Cert.ReferenceIdeal Cert.ReferenceIdeal.Gen
open Idealize.ShloMosaic Idealize.ShloMosaic.TcCoe
open Idealize.SL.Sem

/-! ## The results at an index -/

/-- The weights at a window, a head, a query and a key. -/
theorem wt_at (A0 A1 : FVec Ideal S20x2560x36x32 .bf16) (B : FVec Ideal S36x64x128 .f32) (T : FVec Ideal S40x128 .f32) (b : Fin 20) (n : Fin 40) (h : Fin 36) (i j : Fin 64) :
    rWt (rEx (rLogit (rProd (rIn A0) (rIn A1) (rScale A0) (rScale A1)) (rTau T) (rBias B))) (ix5 b n h i j)
      = Ideal.div
          (Spec.ex (rin A0 b n h) (rin A1 b n h) (fun i => T (ix2 ⟨h.val, by omega⟩ ⟨64 * (n.val % 2) + i.val, by omega⟩)) (fun i j => B (ix3 h j ⟨64 * (n.val % 2) + i.val, by omega⟩)) i j)
          (∑ j', Spec.ex (rin A0 b n h) (rin A1 b n h) (fun i => T (ix2 ⟨h.val, by omega⟩ ⟨64 * (n.val % 2) + i.val, by omega⟩)) (fun i j => B (ix3 h j ⟨64 * (n.val % 2) + i.val, by omega⟩)) i j') := by
  rw [rWt_at]
  simp only [rEx_at, rLogit_at, rProd_at, rIn_at, rScale_at, rTau_at, rBias_at]
  rfl

/-- The attention of a token's window and a feature's head. -/
theorem res_at (A0 A1 A2 : FVec Ideal S20x2560x36x32 .bf16) (B : FVec Ideal S36x64x128 .f32) (T : FVec Ideal S40x128 .f32) (b : Fin 20) (t : Fin 2560) (l : Fin 1152) :
    rRes A0 A1 A2 B T (ix3 b t l)
      = Spec.att (rin A0 b ⟨t.val / 64, by omega⟩ ⟨l.val / 32, by omega⟩) (rin A1 b ⟨t.val / 64, by omega⟩ ⟨l.val / 32, by omega⟩) (rin A2 b ⟨t.val / 64, by omega⟩ ⟨l.val / 32, by omega⟩)
          (fun i => T (ix2 ⟨l.val / 32, by omega⟩ ⟨64 * (t.val / 64 % 2) + i.val, by omega⟩))
          (fun i j => B (ix3 ⟨l.val / 32, by omega⟩ j ⟨64 * (t.val / 64 % 2) + i.val, by omega⟩))
          ⟨t.val % 64, by omega⟩ ⟨l.val % 32, by omega⟩ := by
  unfold rRes
  rw [rOut_at, rAtt_at]
  unfold Spec.att
  exact Finset.sum_congr rfl fun j _ => congrArg (_ * ·) (wt_at A0 A1 B T b _ _ _ j)

/-- The codes, feature before token. -/
theorem codes_at (A : FVec Ideal S20x2560x36x32 .bf16) (b : Fin 20) (n : Fin 40) (h : Fin 36) (d : Fin 32) (i : Fin 64) :
    transpose S20x40x36x32x64 [0, 1, 3, 4, 2] (rIn A) transposes_S20x40x64x36x32_S20x40x36x32x64_0_1_3_4_2 (ix5 b n h d i) = Spec.code (rin A b n h) i d := by
  rw [← rIn_at]
  generalize rIn A = X
  pointwise []

/-- The scales, head before window. -/
theorem scales_at (A : FVec Ideal S20x2560x36x32 .bf16) (b : Fin 20) (h : Fin 36) (n : Fin 40) :
    transpose S20x36x40 [0, 2, 1] (rScale A) transposes_S20x40x36_S20x36x40_0_2_1 (ix3 b h n) = Spec.scl (Spec.amax (rin A b n h)) := by
  rw [← rScale_at]
  generalize rScale A = X
  pointwise []

/-! ## The run -/

variable (m : (ℓ : Loc nD τ sig) → Buf (Elt Ideal) ℓ) (ρ : Dev nD → PrngReg)

/-- What the reference's run leaves in the results, and that it leaves the arguments. -/
theorem value :
    θ_run defs (onTc (τ := τ) (main (F := Ideal))) ⟨m, fun _ => 0, ρ⟩ (fun r => ∀ c : Dev nD,
      (r.2.mem ((c.tc : Thread nD τ).loc main_v114) = rRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v115) = transpose S20x40x36x32x64 [0, 1, 3, 4, 2] (rIn (m ((c.tc : Thread nD τ).loc main_arg0))) transposes_S20x40x64x36x32_S20x40x36x32x64_0_1_3_4_2
      ∧ r.2.mem ((c.tc : Thread nD τ).loc main_v116) = transpose S20x40x36x32x64 [0, 1, 3, 4, 2] (rIn (m ((c.tc : Thread nD τ).loc main_arg1))) transposes_S20x40x64x36x32_S20x40x36x32x64_0_1_3_4_2
      ∧ r.2.mem ((c.tc : Thread nD τ).loc main_v117) = transpose S20x36x40 [0, 2, 1] (rScale (m ((c.tc : Thread nD τ).loc main_arg0))) transposes_S20x40x36_S20x36x40_0_2_1
      ∧ r.2.mem ((c.tc : Thread nD τ).loc main_v118) = transpose S20x36x40 [0, 2, 1] (rScale (m ((c.tc : Thread nD τ).loc main_arg1))) transposes_S20x40x36_S20x36x40_0_2_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (unchanged m ρ))
  exact ⟨⟨((h.1 c).2 main_v114 (Pipeline.mem_restRefs_of main_v114 (by decide) (by decide))).trans (fin_out m c),
    ((h.1 c).2 main_v115 (Pipeline.mem_restRefs_of main_v115 (by decide) (by decide))).trans (fin_115 m c),
    ((h.1 c).2 main_v116 (Pipeline.mem_restRefs_of main_v116 (by decide) (by decide))).trans (fin_116 m c),
    ((h.1 c).2 main_v117 (Pipeline.mem_restRefs_of main_v117 (by decide) (by decide))).trans (fin_117 m c),
    ((h.1 c).2 main_v118 (Pipeline.mem_restRefs_of main_v118 (by decide) (by decide))).trans (fin_118 m c)⟩, h.2 c⟩

end Cert.ReferenceIdeal.Hand

end
-- ==== Proof.Close.lean ====
/-
  The kernel's five results are the reference's, given that the bias and the scales are finite.
-/
module

public import proofs.«01_k».proof.Defs
public import proofs.«01_k».proof.Proof.Final
public import proofs.«01_k».proof.Proof.RefFinal
public import Idealize.ShloMosaic.Lib.ReduceAll

@[expose] public section

noncomputable section

namespace Cert.Proof

open Idealize.ShloMosaic Idealize.ShloMosaic.TcCoe Idealize.SL.Sem

/-! ## The precondition -/

/-- The shape relations the precondition states. -/
theorem facts_finite : Cert.Pre_finite_logits.Facts :=
  ⟨by decide, by decide, by decide, by decide, by decide⟩

/-- A magnitude below infinity is a real's. -/
theorem real_of_abs (x : EReal) (h : BitVec.ofBool (decide (Spec.eabs x < Ideal.ofBits FTy.f32 2139095040#32)) = 1#1) : ∃ r : ℝ, x = (r : EReal) := by
  rw [Cert.ReferenceIdeal.Hand.top_bits] at h
  have hlt : Spec.eabs x < ⊤ := by
    by_contra hn
    rw [decide_eq_false hn] at h
    exact absurd h (by decide)
  induction x using EReal.rec with
  | coe r => exact ⟨r, rfl⟩
  | bot => exact absurd hlt (by simp [Spec.eabs])
  | top => exact absurd hlt (by simp [Spec.eabs])

/-- Where the precondition holds every entry of the bias and of the scales is a real. -/
theorem reals_of_pre (A0 A1 A2 : FVec Ideal Cert.KernelIdeal.S20x2560x36x32 .bf16) (B : FVec Ideal Cert.KernelIdeal.S36x64x128 .f32) (T : FVec Ideal Cert.KernelIdeal.S40x128 .f32)
    (h : @Cert.Pre_finite_logits.fn facts_finite Ideal _ A0 A1 A2 B T = fun _ => 1#1) : (∀ y, ∃ r : ℝ, B y = (r : EReal)) ∧ (∀ y, ∃ r : ℝ, T y = (r : EReal)) := by
  letI := facts_finite
  have h0 := congrFun h (fun a => a.elim0)
  obtain ⟨hB, hT⟩ := IntOp.andi_eq_one.1 h0
  haveI : Subsingleton Cert.Pre_finite_logits.S_.Idx := ⟨fun a b => funext fun i => i.elim0⟩
  exact ⟨fun y => real_of_abs _ (Host.reduce_andi_all _ _ _ _ _ hB y), fun y => real_of_abs _ (Host.reduce_andi_all _ _ _ _ _ hT y)⟩

/-! ## The two programs' results -/

open Cert.KernelIdeal.Hand Cert.ReferenceIdeal.Hand

theorem out_eq (A0 A1 A2 : FVec Ideal Cert.KernelIdeal.S20x2560x36x32 .bf16) (B : FVec Ideal Cert.KernelIdeal.S36x64x128 .f32) (T : FVec Ideal Cert.KernelIdeal.S40x128 .f32) :
    rRes A0 A1 A2 B T = outV A0 A1 A2 B T := by
  funext y
  have hy : y = ix3 (y 0) (y 1) (y 2) := by
    funext a
    fin_cases a <;> rfl
  rw [hy]
  exact res_at A0 A1 A2 B T (y 0) (y 1) (y 2)

theorem code_eq (A : FVec Ideal Cert.KernelIdeal.S20x2560x36x32 .bf16) :
    transpose Cert.ReferenceIdeal.S20x40x36x32x64 [0, 1, 3, 4, 2] (rIn A) Cert.ReferenceIdeal.Gen.facts.transposes_S20x40x64x36x32_S20x40x36x32x64_0_1_3_4_2 = codeG A := by
  funext y
  have hy : y = ix5 (y 0) (y 1) (y 2) (y 3) (y 4) := by
    funext a
    fin_cases a <;> rfl
  rw [hy]
  exact codes_at A (y 0) (y 1) (y 2) (y 3) (y 4)

theorem scale_eq (A : FVec Ideal Cert.KernelIdeal.S20x2560x36x32 .bf16) :
    transpose Cert.ReferenceIdeal.S20x36x40 [0, 2, 1] (rScale A) Cert.ReferenceIdeal.Gen.facts.transposes_S20x40x36_S20x36x40_0_2_1 = scaleG A := by
  funext y
  have hy : y = ix3 (y 0) (y 1) (y 2) := by
    funext a
    fin_cases a <;> rfl
  rw [hy]
  exact scales_at A (y 0) (y 1) (y 2)

/-- The kernel's five results are the reference's, at the ideal instance, where the bias and the scales are finite. -/
theorem algebraic : @Cert.algebraic_KernelIdeal_ReferenceIdeal_pre_finite_logits Cert.KernelIdeal.Gen.facts Cert.ReferenceIdeal.Gen.facts facts_finite := by
  intro m g m' g' hpre hargs
  refine ⟨fun c => outV (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)),
    fun c => codeG (m (c.tc.loc Cert.KernelIdeal.main_arg0)), fun c => codeG (m (c.tc.loc Cert.KernelIdeal.main_arg1)),
    fun c => scaleG (m (c.tc.loc Cert.KernelIdeal.main_arg0)), fun c => scaleG (m (c.tc.loc Cert.KernelIdeal.main_arg1)), ?_, ?_⟩
  · refine (θ_run _ _ _).mono (fun r h c => ?_) (Cert.KernelIdeal.Hand.value m g)
    obtain ⟨⟨h0, h1, h2, h3, h4⟩, ha⟩ := h c
    obtain ⟨hB, hT⟩ := reals_of_pre _ _ _ _ _ (hpre c)
    exact ⟨h0 hT hB, h1, h2, h3, h4, ha⟩
  · refine (θ_run _ _ _).mono (fun r h c => ?_) (Cert.ReferenceIdeal.Hand.value m' g')
    obtain ⟨⟨h0, h1, h2, h3, h4⟩, ha⟩ := h c
    obtain ⟨e0, e1, e2, e3, e4⟩ := hargs c
    refine ⟨h0.trans ?_, h1.trans ?_, h2.trans ?_, h3.trans ?_, h4.trans ?_, ha⟩
    · exact (by rw [e0, e1, e2, e3, e4] : _ = rRes _ _ _ _ _).trans (out_eq _ _ _ _ _)
    · exact (congrArg (fun A => transpose _ _ (rIn A) _) e0).trans (code_eq _)
    · exact (congrArg (fun A => transpose _ _ (rIn A) _) e1).trans (code_eq _)
    · exact (congrArg (fun A => transpose _ _ (rScale A) _) e0).trans (scale_eq _)
    · exact (congrArg (fun A => transpose _ _ (rScale A) _) e1).trans (scale_eq _)

end Cert.Proof

end
-- ==== Proof.BiasSpec.lean ====
/-
  The position bias over the extended reals: the two coordinates of a table row, the hidden layer, its scale and codes, and the table.
-/
module

public import proofs.«01_k».proof.Proof.Spec

@[expose] public section

noncomputable section

namespace Cert.BiasSpec

open Idealize.ShloMosaic Cert.Spec

/-- The pattern of log2(e), as a real. -/
def cE : ℝ := (8388608 + 3713595 : ℕ) * (2 : ℝ) ^ ((127 : ℤ) - 150)
/-- The log-spaced coordinate of an offset. -/
def lc (d : ℝ) : ℝ := (SignType.sign d : ℝ) * (Real.log (1 + 8 * |d| / 7) * cE) / 3
/-- The row's and the column's coordinate of table row `t`. -/
def cH (t : ℕ) : ℝ := lc (((t / 15 : ℕ) : ℝ) - 7)
def cW (t : ℕ) : ℝ := lc (((t % 15 : ℕ) : ℝ) - 7)

/-- The hidden layer. -/
def hid (w : Fin 2 → Fin 512 → EReal) (b : Fin 512 → EReal) (t : ℕ) (e : Fin 512) : EReal :=
  max ((cH t : EReal) * w 0 e + (cW t : EReal) * w 1 e + b e) 0
/-- A row's largest entry. -/
def amax (w : Fin 2 → Fin 512 → EReal) (b : Fin 512 → EReal) (t : ℕ) : EReal := Finset.univ.sup fun e => hid w b t e
/-- The codes. -/
def code (w : Fin 2 → Fin 512 → EReal) (b : Fin 512 → EReal) (t : ℕ) (e : Fin 512) : EReal :=
  min c448 (max m448 (hid w b t e * (scl (amax w b t))⁻¹))
/-- The table. -/
def rel (w : Fin 2 → Fin 512 → EReal) (b : Fin 512 → EReal) (w2 : Fin 512 → Fin 36 → EReal) (s2 : Fin 36 → EReal) (t : ℕ) (n : Fin 36) : EReal :=
  Ideal.ofBits .f32 0x41800000#32 * Ideal.logistic ((∑ e, code w b t e * w2 e n) * scl (amax w b t) * s2 n)

/-! ## Constants -/

theorem b8 : Ideal.ofBits .f32 0x41000000#32 = ((8 : ℝ) : EReal) :=
  (ofBits_normal _ 130 0 (by decide) (by decide) (by decide) (by decide)).trans (by congr 1; norm_num)
theorem b7 : Ideal.ofBits .f32 0x40E00000#32 = ((7 : ℝ) : EReal) :=
  (ofBits_normal _ 129 6291456 (by decide) (by decide) (by decide) (by decide)).trans (by congr 1; norm_num)
theorem b3 : Ideal.ofBits .f32 0x40400000#32 = ((3 : ℝ) : EReal) :=
  (ofBits_normal _ 128 4194304 (by decide) (by decide) (by decide) (by decide)).trans (by congr 1; norm_num)
theorem b1 : Ideal.ofBits .f32 0x3F800000#32 = ((1 : ℝ) : EReal) :=
  (ofBits_normal _ 127 0 (by decide) (by decide) (by decide) (by decide)).trans (by congr 1; norm_num)
theorem b15 : Ideal.ofBits .f32 0x41700000#32 = ((15 : ℝ) : EReal) :=
  (ofBits_normal _ 130 7340032 (by decide) (by decide) (by decide) (by decide)).trans (by congr 1; norm_num)
theorem bhalf : Ideal.ofBits .f32 0x3F000000#32 = ((1 / 2 : ℝ) : EReal) :=
  (ofBits_normal _ 126 0 (by decide) (by decide) (by decide) (by decide)).trans (by congr 1; norm_num)
theorem bfif : Ideal.ofBits .f32 0x3D888889#32 = ((8947849 / 134217728 : ℝ) : EReal) :=
  (ofBits_normal _ 123 559241 (by decide) (by decide) (by decide) (by decide)).trans (by congr 1; norm_num)
theorem bE : Ideal.ofBits .f32 0x3FB8AA3B#32 = (cE : EReal) :=
  ofBits_normal _ 127 3713595 (by decide) (by decide) (by decide) (by decide)
/-- A pattern with the sign bit set and exponent field neither zero nor all ones, as a real. -/
theorem ofBits_neg (b : BitVec 32) (x f : ℕ) (h1 : (BitVec.extractLsb' (8 + 23) 1 b == 1#1) = true)
    (h2 : (BitVec.extractLsb' 23 8 b).toNat = x) (h3 : (BitVec.extractLsb' 0 23 b).toNat = f) (hx0 : 0 < x) (hx : x < 255) :
    Ideal.ofBits .f32 b = ((-((8388608 + f : ℕ) * (2 : ℝ) ^ ((x : ℤ) - 150)) : ℝ) : EReal) := by
  unfold Ideal.ofBits Ideal.ieee
  simp only [h1, h2, h3]
  rw [if_neg (by norm_num; omega), if_neg (by omega)]
  congr 1
  have : (x : ℤ) - (2 ^ (8 - 1) - 1) - (23 : ℕ) = (x : ℤ) - 150 := by norm_num; ring
  rw [this]
  norm_num
  ring
theorem bm1 : Ideal.ofBits .f32 0xBF800000#32 = ((-1 : ℝ) : EReal) :=
  (ofBits_neg _ 127 0 (by decide) (by decide) (by decide) (by decide) (by decide)).trans (by congr 1; norm_num)
theorem bm7 : Ideal.ofBits .f32 0xC0E00000#32 = ((-7 : ℝ) : EReal) :=
  (ofBits_neg _ 129 6291456 (by decide) (by decide) (by decide) (by decide) (by decide)).trans (by congr 1; norm_num)
theorem big : Ideal.ofBits .f32 0x7149F2CA#32 ≤ (((2 : ℝ) ^ (100 : ℕ) : ℝ) : EReal) := by
  rw [ofBits_normal 0x7149F2CA#32 226 4846282 (by decide) (by decide) (by decide) (by decide), EReal.coe_le_coe_iff]
  norm_num

/-! ## The coordinates -/

theorem cE_pos : 0 < cE := by unfold cE; positivity
theorem cE_le : cE ≤ 2 := by unfold cE; norm_num

theorem div_coe (x y : ℝ) (hy : y ≠ 0) : Ideal.div (x : EReal) (y : EReal) = ((x / y : ℝ) : EReal) := by
  rw [Ideal.div, if_neg (by exact_mod_cast hy), ← EReal.coe_inv, ← EReal.coe_mul, div_eq_mul_inv]

theorem eabs_coe (y : ℝ) : max (y : EReal) (-(y : EReal)) = ((|y| : ℝ) : EReal) := by
  rw [abs_eq_max_neg, EReal.coe_strictMono.monotone.map_max, EReal.coe_neg]

theorem log_part (d : ℝ) :
    Ideal.log (((1 : ℝ) : EReal) + Ideal.div (((8 : ℝ) : EReal) * max (d : EReal) (-(d : EReal))) ((7 : ℝ) : EReal)) = ((Real.log (1 + 8 * |d| / 7) : ℝ) : EReal) := by
  rw [eabs_coe, ← EReal.coe_mul, div_coe _ _ (by norm_num), ← EReal.coe_add, Ideal.log_coe, if_neg]
  have : 0 ≤ |d| := abs_nonneg d
  push Not
  positivity

theorem ref_lc (d : ℝ) :
    Ideal.div (Ideal.sign (d : EReal) * (Ideal.log (((1 : ℝ) : EReal) + Ideal.div (((8 : ℝ) : EReal) * max (d : EReal) (-(d : EReal))) ((7 : ℝ) : EReal)) * (cE : EReal))) ((3 : ℝ) : EReal)
      = (lc d : EReal) := by
  rw [log_part, Ideal.sign_coe, ← EReal.coe_mul, ← EReal.coe_mul, div_coe _ _ (by norm_num)]
  rfl

theorem ker_lc (d : ℝ) :
    (if (0 : EReal) < (d : EReal) then ((1 : ℝ) : EReal) else if (d : EReal) < 0 then ((-1 : ℝ) : EReal) else 0)
      * Ideal.div (Ideal.log (((1 : ℝ) : EReal) + Ideal.div (((8 : ℝ) : EReal) * max (d : EReal) (-(d : EReal))) ((7 : ℝ) : EReal)) * (cE : EReal)) ((3 : ℝ) : EReal)
      = (lc d : EReal) := by
  have hs : (if (0 : EReal) < (d : EReal) then ((1 : ℝ) : EReal) else if (d : EReal) < 0 then ((-1 : ℝ) : EReal) else 0)
      = (((SignType.sign d : ℝ)) : EReal) := by
    rcases lt_trichotomy d 0 with h | h | h
    · rw [if_neg (by simpa using h.le), if_pos (by exact_mod_cast h), sign_neg h]; simp
    · subst h; simp
    · rw [if_pos (by exact_mod_cast h), sign_pos h]; simp
  rw [hs, log_part, ← EReal.coe_mul, div_coe _ _ (by norm_num), ← EReal.coe_mul]
  congr 1
  unfold lc
  ring

theorem lc_abs (d : ℝ) (hd : |d| ≤ 7) : |lc d| ≤ 8 := by
  have h0 : 0 ≤ |d| := abs_nonneg d
  have hl0 : 0 ≤ Real.log (1 + 8 * |d| / 7) := Real.log_nonneg (by
    have : 0 ≤ 8 * |d| / 7 := by positivity
    linarith)
  have hl : Real.log (1 + 8 * |d| / 7) ≤ 8 := by
    have := Real.log_le_sub_one_of_pos (x := 1 + 8 * |d| / 7) (by positivity)
    linarith
  have hs : |(SignType.sign d : ℝ)| ≤ 1 := by
    rcases lt_trichotomy d 0 with h | h | h
    · simp [sign_neg h]
    · simp [h]
    · simp [sign_pos h]
  unfold lc
  rw [abs_div, abs_mul, abs_of_nonneg (mul_nonneg hl0 cE_pos.le), abs_of_pos (by norm_num : (0 : ℝ) < 3)]
  have h1 : Real.log (1 + 8 * |d| / 7) * cE ≤ 16 := by nlinarith [cE_le, cE_pos]
  have h2 : 0 ≤ Real.log (1 + 8 * |d| / 7) * cE := mul_nonneg hl0 cE_pos.le
  have h3 : |(SignType.sign d : ℝ)| * (Real.log (1 + 8 * |d| / 7) * cE) ≤ 1 * 16 := mul_le_mul hs h1 h2 (by norm_num)
  linarith

theorem cH_abs (t : ℕ) (ht : t < 225) : |cH t| ≤ 8 := by
  refine lc_abs _ ?_
  have : t / 15 ≤ 14 := by omega
  have h : ((t / 15 : ℕ) : ℝ) ≤ 14 := by exact_mod_cast this
  have h0 : (0 : ℝ) ≤ ((t / 15 : ℕ) : ℝ) := Nat.cast_nonneg _
  rw [abs_le]; constructor <;> linarith
theorem cW_abs (t : ℕ) : |cW t| ≤ 8 := by
  refine lc_abs _ ?_
  have : t % 15 ≤ 14 := by omega
  have h : ((t % 15 : ℕ) : ℝ) ≤ 14 := by exact_mod_cast this
  have h0 : (0 : ℝ) ≤ ((t % 15 : ℕ) : ℝ) := Nat.cast_nonneg _
  rw [abs_le]; constructor <;> linarith

/-- The row's coordinate as the kernel finds it: the floor of a product with the rounded fifteenth. -/
theorem floor_row (t : ℕ) (ht : t < 225) :
    Ideal.liftRound Int.floor ((((t : ℝ) : EReal) + ((1 / 2 : ℝ) : EReal)) * ((8947849 / 134217728 : ℝ) : EReal)) = (((t / 15 : ℕ) : ℝ) : EReal) := by
  rw [← EReal.coe_add, ← EReal.coe_mul]
  have : ⌊((t : ℝ) + 1 / 2) * (8947849 / 134217728)⌋ = ((t / 15 : ℕ) : ℤ) := by
    rw [Int.floor_eq_iff]
    have h1 : (t / 15) * 268435456 ≤ (2 * t + 1) * 8947849 := by omega
    have h2 : (2 * t + 1) * 8947849 < (t / 15 + 1) * 268435456 := by omega
    have h1' : ((t / 15 : ℕ) : ℝ) * 268435456 ≤ (2 * (t : ℝ) + 1) * 8947849 := by exact_mod_cast h1
    have h2' : (2 * (t : ℝ) + 1) * 8947849 < (((t / 15 : ℕ) : ℝ) + 1) * 268435456 := by exact_mod_cast h2
    simp only [Int.cast_natCast]
    constructor <;> linarith
  show (((⌊((t : ℝ) + 1 / 2) * (8947849 / 134217728)⌋ : ℤ) : ℝ) : EReal) = _
  rw [this, Int.cast_natCast]

theorem mod_row (t : ℕ) : ((t : ℝ) : EReal) - (((t / 15 : ℕ) : ℝ) : EReal) * ((15 : ℝ) : EReal) = (((t % 15 : ℕ) : ℝ) : EReal) := by
  rw [← EReal.coe_mul, ← EReal.coe_sub]
  congr 1
  have h := Nat.div_add_mod t 15
  have : (15 : ℝ) * ((t / 15 : ℕ) : ℝ) + ((t % 15 : ℕ) : ℝ) = (t : ℝ) := by exact_mod_cast h
  linarith

/-! ## The largest entry is moderate -/

theorem hid_nonneg (w : Fin 2 → Fin 512 → EReal) (b : Fin 512 → EReal) (t : ℕ) (e : Fin 512) : 0 ≤ hid w b t e := le_max_right _ _

theorem hid_abs (w : Fin 2 → Fin 512 → EReal) (b : Fin 512 → EReal) (t : ℕ) (e : Fin 512) : max (hid w b t e) (-(hid w b t e)) = hid w b t e := by
  have h := hid_nonneg w b t e
  have h' := EReal.neg_le_neg_iff.mpr h
  rw [neg_zero] at h'
  exact max_eq_left (h'.trans h)

theorem amax_nonneg (w : Fin 2 → Fin 512 → EReal) (b : Fin 512 → EReal) (t : ℕ) : 0 ≤ amax w b t :=
  (hid_nonneg w b t 0).trans (Finset.le_sup (f := fun e => hid w b t e) (Finset.mem_univ 0))

/-- A value below a bound in absolute value is a real below it. -/
theorem real_of_lt (x : EReal) (h : max x (-x) < Ideal.ofBits .f32 0x7149F2CA#32) : ∃ r : ℝ, x = (r : EReal) ∧ |r| ≤ 2 ^ (100 : ℕ) := by
  have h := lt_of_lt_of_le h big
  have ht : x ≠ ⊤ := by rintro rfl; simp at h
  have hb : x ≠ ⊥ := by rintro rfl; simp at h
  lift x to ℝ using ⟨ht, hb⟩
  rw [eabs_coe, EReal.coe_lt_coe_iff] at h
  exact ⟨x, rfl, h.le⟩

theorem amax_le (w : Fin 2 → Fin 512 → EReal) (b : Fin 512 → EReal)
    (hw : ∀ i e, ∃ r : ℝ, w i e = (r : EReal) ∧ |r| ≤ 2 ^ (100 : ℕ)) (hb : ∀ e, ∃ r : ℝ, b e = (r : EReal) ∧ |r| ≤ 2 ^ (100 : ℕ)) (t : ℕ) (ht : t < 225) :
    amax w b t ≤ (((2 : ℝ) ^ (110 : ℕ) : ℝ) : EReal) := by
  refine Finset.sup_le fun e _ => ?_
  obtain ⟨x, hx, hx'⟩ := hw 0 e
  obtain ⟨y, hy, hy'⟩ := hw 1 e
  obtain ⟨z, hz, hz'⟩ := hb e
  unfold hid
  rw [hx, hy, hz, ← EReal.coe_mul, ← EReal.coe_mul, ← EReal.coe_add, ← EReal.coe_add]
  refine max_le ?_ (by exact_mod_cast (by positivity : (0 : ℝ) ≤ 2 ^ (110 : ℕ)))
  rw [EReal.coe_le_coe_iff]
  have h1 : cH t * x ≤ 8 * 2 ^ (100 : ℕ) := by
    refine (le_abs_self _).trans ?_
    rw [abs_mul]
    exact mul_le_mul (cH_abs t ht) hx' (abs_nonneg _) (by norm_num)
  have h2 : cW t * y ≤ 8 * 2 ^ (100 : ℕ) := by
    refine (le_abs_self _).trans ?_
    rw [abs_mul]
    exact mul_le_mul (cW_abs t) hy' (abs_nonneg _) (by norm_num)
  have h3 : z ≤ 2 ^ (100 : ℕ) := (le_abs_self z).trans hz'
  have : (2 : ℝ) ^ (110 : ℕ) = 1024 * 2 ^ (100 : ℕ) := by norm_num
  have hp : (0 : ℝ) < 2 ^ (100 : ℕ) := by positivity
  linarith

/-! ## The scale, counted, of a moderate largest entry -/

theorem count_eq (y : EReal) (hy : y < pw ⟨236, by omega⟩) :
    ∃ c : Fin 254, c.val ≤ 236 ∧ (Finset.univ.filter fun k => pw k ≤ y).card = c.val
      ∧ (Finset.univ.inf fun n => if y < pw n then pw n else ⊤) = pw c := by
  have hex : ∃ n : ℕ, ∃ h : n < 254, y < pw ⟨n, h⟩ := ⟨236, by omega, hy⟩
  classical
  let c := Nat.find hex
  obtain ⟨hc, hyc⟩ := Nat.find_spec hex
  have hle : c ≤ 236 := Nat.find_min' hex ⟨by omega, hy⟩
  have hlt : ∀ k : Fin 254, pw k ≤ y ↔ k.val < c := by
    intro k
    constructor
    · intro h
      by_contra hk
      exact absurd (lt_of_lt_of_le hyc ((pw_le_iff ⟨c, hc⟩ k).mpr (by show c ≤ k.val; omega))) (not_lt.mpr h)
    · intro h
      have := Nat.find_min hex h
      by_contra hk
      exact this ⟨k.isLt, not_le.mp hk⟩
  refine ⟨⟨c, hc⟩, hle, ?_, le_antisymm ?_ ?_⟩
  · rw [Finset.filter_congr (fun k _ => hlt k)]
    have : (Finset.univ.filter fun k : Fin 254 => k.val < c) = Finset.Iio (⟨c, hc⟩ : Fin 254) := by
      ext k; simp [Fin.lt_def]
    rw [this, Fin.card_Iio]
  · refine (Finset.inf_le (Finset.mem_univ (⟨c, hc⟩ : Fin 254))).trans ?_
    rw [if_pos hyc]
  · refine Finset.le_inf fun n _ => ?_
    split_ifs with h
    · rw [pw_le_iff]
      have : ¬ n.val < c := fun hn => absurd ((hlt n).mpr hn) (not_le.mpr h)
      show c ≤ n.val; omega
    · exact le_top

/-- For a moderate largest entry the counted exponent gives the scale, its reciprocal, and a scale that is a positive real. -/
theorem scl_bits (a : EReal) (h0 : 0 ≤ a) (h1 : a ≤ (((2 : ℝ) ^ (110 : ℕ) : ℝ) : EReal)) :
    Ideal.ofBits FTy.f32 (IntOp.shli ArithUnit.vector (IntOp.addi (expo (a * k448)) 127#32) 23#32) = scl a
    ∧ Ideal.ofBits FTy.f32 (IntOp.shli ArithUnit.vector (IntOp.subi 127#32 (expo (a * k448))) 23#32) = (scl a)⁻¹
    ∧ ∃ r : ℝ, 0 < r ∧ scl a = (r : EReal) := by
  obtain ⟨k, hk0, hk1, hk⟩ := k448_pos
  by_cases ha : a = 0
  · subst ha
    exact Cert.Spec.scl_bits 0 le_rfl zero_le_one
  · have hy0 : a * k448 ≠ 0 := by
      rw [hk]; exact mul_ne_zero ha (by exact_mod_cast hk0.ne')
    have hy : a * k448 < pw ⟨236, by omega⟩ := by
      refine lt_of_le_of_lt (mul_le_mul_of_nonneg_right h1 (by rw [hk]; exact_mod_cast hk0.le)) ?_
      have : pw ⟨236, by omega⟩ = (((2 : ℝ) ^ (110 : ℕ) : ℝ) : EReal) := by
        simp only [pw]; congr 1
      rw [this, hk, ← EReal.coe_mul, EReal.coe_lt_coe_iff]
      have : (0 : ℝ) < 2 ^ (110 : ℕ) := by positivity
      nlinarith
    obtain ⟨c, hc, hcard, hinf⟩ := count_eq _ hy
    have he : expo (a * k448) = BitVec.ofNat 32 c.val - 126#32 := by
      rw [expo, if_neg hy0, fold_eq, hcard]; rfl
    have hs : scl a = pw c := by rw [scl, if_neg ha, hinf]
    rw [he, hs]
    refine ⟨?_, ?_, _, by positivity, rfl⟩
    · refine ofBits_pow c _ ?_
      refine shli_toNat _ (c.val + 1) ?_ (by omega)
      show (BitVec.ofNat 32 c.val - 126#32 + 127#32).toNat = _
      rw [BitVec.toNat_add, BitVec.toNat_sub, BitVec.toNat_ofNat, BitVec.toNat_ofNat, BitVec.toNat_ofNat]; omega
    · rw [pw_inv c (by omega)]
      refine ofBits_pow _ _ ?_
      refine shli_toNat _ (252 - c.val + 1) ?_ (by omega)
      show (127#32 - (BitVec.ofNat 32 c.val - 126#32)).toNat = _
      rw [BitVec.toNat_sub, BitVec.toNat_sub, BitVec.toNat_ofNat, BitVec.toNat_ofNat, BitVec.toNat_ofNat]; omega

end Cert.BiasSpec

end
-- ==== Proof.BiasVec.lean ====
/-
  The vector functions the position-bias body is made of, each read at an index.
-/
module

public import proofs.«01_k».proof.Proof.Gen.BiasIdeal.Skeleton
public import proofs.«01_k».proof.Proof.BiasSpec
public import proofs.«01_k».proof.Proof.RefVal
public import Idealize.ShloMosaic.Lib.Pointwise

@[expose] public section

noncomputable section

namespace Cert.BiasIdeal.Hand

open Cert.BiasIdeal Cert.BiasIdeal.Gen
open Idealize.ShloMosaic

variable [Facts]
open Facts

theorem pay2_at (t : Fin 256) (j : Fin 1) : k0_pay2 (F := Ideal) (ix2 t j) = ((t.val : ℝ) : EReal) := by
  pointwise [k0_pay2]
  show (((BitVec.ofNat 32 t.val).toInt : ℝ) : EReal) = _
  rw [(by decide : ∀ n : Fin 256, (BitVec.ofNat 32 n.val).toInt = (n.val : ℤ)) t]
  rfl

theorem pay3_at (t : Fin 256) (ht : t.val < 225) (j : Fin 1) : k0_pay3 (F := Ideal) (ix2 t j) = (((t.val / 15 : ℕ) : ℝ) : EReal) := by
  pointwise [k0_pay3]
  rw [pay2_at, BiasSpec.bhalf, BiasSpec.bfif]
  exact BiasSpec.floor_row t.val ht

theorem pay5_at (t : Fin 256) (ht : t.val < 225) (j : Fin 1) : k0_pay5 (F := Ideal) (ix2 t j) = ((((t.val % 15 : ℕ) : ℝ) - 7 : ℝ) : EReal) := by
  pointwise [k0_pay5]
  rw [pay2_at, pay3_at t ht, BiasSpec.b15, BiasSpec.b7, BiasSpec.mod_row, EReal.coe_sub]

/-- A coordinate as the kernel finds it, the sign by two comparisons. -/
theorem coord_eq (x : EReal) (r : ℝ) (h : x = (r : EReal)) (y : EReal) (hy : y = Ideal.ofBits FTy.f32 1090519040#32 * FloatOps.absf (F := Ideal) (φ := .f32) x) :
    (if 0 < x then 1 else if x < 0 then Ideal.ofBits FTy.f32 3212836864#32 else 0) *
        Ideal.div (Ideal.log (1 + Ideal.div y (Ideal.ofBits FTy.f32 1088421888#32)) * Ideal.ofBits FTy.f32 1069066811#32)
          (Ideal.ofBits FTy.f32 1077936128#32) = (BiasSpec.lc r : EReal) := by
  subst hy h
  rw [BiasSpec.b8, BiasSpec.b7, BiasSpec.bE, BiasSpec.b3, BiasSpec.bm1]
  have := BiasSpec.ker_lc r
  rw [EReal.coe_one] at this
  exact this

theorem pay4_at (v : Vec Ideal S1x512 .f32) (t : Fin 256) (ht : t.val < 225) (e : Fin 512) : k0_pay4 v (ix2 t e) = (BiasSpec.cH t.val : EReal) * v (ix2 0 e) := by
  pointwise [k0_pay4]
  rw [pay3_at t ht]
  exact congrArg (· * v (ix2 0 e)) (coord_eq _ _ (by rw [BiasSpec.b7, ← EReal.coe_sub]) _ rfl)

theorem pay6_at (t : Fin 256) (j : Fin 1) : k0_pay6 (F := Ideal) (ix2 t j) = max (k0_pay5 (F := Ideal) (ix2 t j)) (-(k0_pay5 (F := Ideal) (ix2 t j))) := by
  pointwise [k0_pay6]
  rfl
theorem pay7_at (t : Fin 256) (j : Fin 1) : k0_pay7 (F := Ideal) (ix2 t j) = Ideal.ofBits .f32 0x41000000#32 := by
  pointwise [k0_pay7]

theorem pay8_at (v37 : FVec Ideal S256x512 .f32) (v62 v67 : Vec Ideal S1x512 .f32) (t : Fin 256) (ht : t.val < 225) (e : Fin 512) :
    k0_pay8 v37 k0_pay5 k0_pay6 k0_pay7 v62 v67 (ix2 t e)
      = max (v37 (ix2 t e) + (BiasSpec.cW t.val : EReal) * v62 (ix2 0 e) + v67 (ix2 0 e)) 0 := by
  have h5 := pay5_at t ht 0
  have h6 := pay6_at t 0
  have h7 := pay7_at t 0
  generalize k0_pay5 (F := Ideal) = v39 at *
  generalize k0_pay6 (F := Ideal) = v40 at *
  generalize k0_pay7 (F := Ideal) = v41 at *
  pointwise [k0_pay8]
  exact congrArg (fun z => max (v37 (ix2 t e) + z * v62 (ix2 0 e) + v67 (ix2 0 e)) 0)
    (coord_eq _ _ h5 _ (by rw [h6, h7]; rfl))

theorem pay9_at (v37 : FVec Ideal S256x512 .f32) (v39 v40 v41 : FVec Ideal S256x1 .f32) (v62 v67 : Vec Ideal S1x512 .f32) (t : Fin 256) (l : Fin 128) :
   k0_pay9 v37 v39 v40 v41 v62 v67 (ix2 t l) = (Finset.univ.sup fun e : Fin 512 => k0_pay8 v37 v39 v40 v41 v62 v67 (ix2 t e)) * Spec.k448 := by
  pointwise [k0_pay9]
  rw [Spec.fold_max_eq]
  rfl

theorem pay13_at (v37 : FVec Ideal S256x512 .f32) (v39 v40 v41 : FVec Ideal S256x1 .f32) (v62 v67 : Vec Ideal S1x512 .f32) (t : Fin 256) (l : Fin 128) :
    k0_pay13 (k0_pay9 v37 v39 v40 v41 v62 v67) k0_pay10 (k0_pay11 v37 v39 v40 v41 v62 v67) k0_pay12 (ix2 t l) = Spec.expo (k0_pay9 v37 v39 v40 v41 v62 v67 (ix2 t l)) := by
  unfold Spec.expo k0_pay11
  pointwise [k0_pay13, k0_pay10, k0_pay12]

variable (p : FVec Ideal S256x128 .f32) (a : IVec S254x256x128 32) (q : FVec Ideal S1x256x128 .f32) (d : IVec S254x256x128 32)
theorem pay14_at (t : Fin 256) (l : Fin 128) :
    k0_pay14 p a q d (ix2 t l) = Ideal.ofBits .f32 (IntOp.shli ArithUnit.vector (IntOp.addi (k0_pay13 p a q d (ix2 t l)) 127#32) 23#32) := by
  pointwise [k0_pay14]
theorem pay15_at (h : FVec Ideal S256x512 .f32) (t : Fin 256) (e : Fin 512) :
    k0_pay15 h p a q d (ix2 t e) = min Spec.c448 (max Spec.m448 (h (ix2 t e) * Ideal.ofBits .f32 (IntOp.shli ArithUnit.vector (IntOp.subi 127#32 (k0_pay13 p a q d (ix2 t 0))) 23#32))) := by
  pointwise [k0_pay15]
  try rfl
theorem pay16_at (h : FVec Ideal S256x512 .f32) (t : Fin 225) (e : Fin 512) :
    k0_pay16 h p a q d (ix2 t e) = k0_pay15 h p a q d (ix2 ⟨t.val, by omega⟩ e) := by
  pointwise [k0_pay16]
theorem pay17_at (t : Fin 225) (j : Fin 1) :
    k0_pay17 p a q d (ix2 t j) = k0_pay14 p a q d (ix2 ⟨t.val, by omega⟩ 0) := by
  pointwise [k0_pay17]
theorem pay18_at (h : FVec Ideal S256x512 .f32) (w : Vec Ideal S36x512 .fp8e4m3) (n : Fin 36) (t : Fin 256) :
    k0_pay18 h p a q d w (ix2 n t) = (∑ e : Fin 512, w (ix2 n e) * k0_pay15 h p a q d (ix2 t e)) * k0_pay14 p a q d (ix2 t 0) := by
  pointwise [k0_pay18]
theorem pay20_at (y : FVec Ideal S36x256 .f32) (s : Vec Ideal S36x1 .f32) (n : Fin 36) (t : Fin 225) :
    k0_pay20 y s (ix2 n t) = Ideal.ofBits .f32 0x41800000#32 * Ideal.logistic (y (ix2 n ⟨t.val, by omega⟩) * s (ix2 n 0)) := by
  pointwise [k0_pay20, k0_pay19]

/-! ## The whole body at an entry of a table row -/

variable (r0 r1 bb : Vec Ideal S1x512 .f32)

/-- The hidden layer the body computes from the two weight rows and the bias row. -/
abbrev hidK : FVec Ideal S256x512 .f32 := k0_pay8 (k0_pay4 r0) k0_pay5 k0_pay6 k0_pay7 r1 bb
abbrev amxK : FVec Ideal S256x128 .f32 := k0_pay9 (k0_pay4 r0) k0_pay5 k0_pay6 k0_pay7 r1 bb
abbrev amx1K : FVec Ideal S1x256x128 .f32 := k0_pay11 (k0_pay4 r0) k0_pay5 k0_pay6 k0_pay7 r1 bb

variable (w : Fin 2 → Fin 512 → EReal) (b : Fin 512 → EReal) (h0 : ∀ e, r0 (ix2 0 e) = w 0 e) (h1 : ∀ e, r1 (ix2 0 e) = w 1 e) (hb : ∀ e, bb (ix2 0 e) = b e)
include h0 h1 hb

theorem hidK_at (t : Fin 256) (ht : t.val < 225) (e : Fin 512) : hidK r0 r1 bb (ix2 t e) = BiasSpec.hid w b t.val e := by
  unfold hidK
  rw [pay8_at _ _ _ t ht, pay4_at _ t ht, h0, h1, hb]
  rfl

theorem amxK_at (t : Fin 256) (ht : t.val < 225) (l : Fin 128) : amxK r0 r1 bb (ix2 t l) = BiasSpec.amax w b t.val * Spec.k448 := by
  unfold amxK
  rw [pay9_at]
  unfold BiasSpec.amax
  refine congrArg (· * Spec.k448) (Finset.sup_congr rfl fun e _ => hidK_at r0 r1 bb w b h0 h1 hb t ht e)

theorem expK_at (t : Fin 256) (ht : t.val < 225) (l : Fin 128) :
    k0_pay13 (amxK r0 r1 bb) k0_pay10 (amx1K r0 r1 bb) k0_pay12 (ix2 t l) = Spec.expo (BiasSpec.amax w b t.val * Spec.k448) :=
  (pay13_at _ _ _ _ _ _ t l).trans (congrArg Spec.expo (amxK_at r0 r1 bb w b h0 h1 hb t ht l))

variable (hm : ∀ t : ℕ, t < 225 → BiasSpec.amax w b t ≤ (((2 : ℝ) ^ (110 : ℕ) : ℝ) : EReal))
include hm

theorem sclK_at (t : Fin 256) (ht : t.val < 225) (l : Fin 128) :
    k0_pay14 (amxK r0 r1 bb) k0_pay10 (amx1K r0 r1 bb) k0_pay12 (ix2 t l) = Spec.scl (BiasSpec.amax w b t.val) := by
  rw [pay14_at, expK_at r0 r1 bb w b h0 h1 hb t ht]
  exact (BiasSpec.scl_bits _ (BiasSpec.amax_nonneg w b t.val) (hm _ ht)).1

theorem codeK_at (t : Fin 256) (ht : t.val < 225) (e : Fin 512) :
    k0_pay15 (hidK r0 r1 bb) (amxK r0 r1 bb) k0_pay10 (amx1K r0 r1 bb) k0_pay12 (ix2 t e) = BiasSpec.code w b t.val e := by
  rw [pay15_at, expK_at r0 r1 bb w b h0 h1 hb t ht, (BiasSpec.scl_bits _ (BiasSpec.amax_nonneg w b t.val) (hm _ ht)).2.1,
    hidK_at r0 r1 bb w b h0 h1 hb t ht]
  rfl

theorem relK_at (w2 : Vec Ideal S36x512 .fp8e4m3) (s2 : Vec Ideal S36x1 .f32) (n : Fin 36) (t : Fin 225) :
    k0_pay20 (k0_pay18 (hidK r0 r1 bb) (amxK r0 r1 bb) k0_pay10 (amx1K r0 r1 bb) k0_pay12 w2) s2 (ix2 n t)
      = BiasSpec.rel w b (fun e n => w2 (ix2 n e)) (fun n => s2 (ix2 n 0)) t.val n := by
  rw [pay20_at, pay18_at, sclK_at r0 r1 bb w b h0 h1 hb hm _ t.isLt]
  unfold BiasSpec.rel
  refine congrArg (fun z => _ * Ideal.logistic (z * _ * _)) (Finset.sum_congr rfl fun e _ => ?_)
  rw [codeK_at r0 r1 bb w b h0 h1 hb hm _ t.isLt, mul_comm]

end Cert.BiasIdeal.Hand

end
-- ==== Proof.BiasIdx.lean ====
/-
  Which table row the bias of a query and a key of one window is read from, and the integer arithmetic both programs
  find it by.
-/
module

public import proofs.«01_k».proof.Proof.BiasSpec
public import Idealize.ShloMosaic.Lib.Pointwise

@[expose] public section

noncomputable section

namespace BiasSpec

open Idealize.ShloMosaic

/-- The table row of query `i` and key `j`: their row difference and their column difference, each shifted to start at
    zero, the former times the table's width. -/
def idx (i j : ℕ) : ℕ := (i / 8 + 7 - j / 8) * 15 + (i % 8 + 7 - j % 8)

theorem idx_lt (i j : ℕ) (hi : i < 64) : idx i j < 225 := by
  unfold idx
  have h1 : i / 8 + 7 - j / 8 ≤ 14 := by omega
  have h2 : i % 8 + 7 - j % 8 ≤ 14 := by omega
  omega

/-- The query's part, as the kernel computes it over the lanes. -/
theorem lane_word : ∀ l : Fin 128, IntOp.addi (IntOp.muli (IntOp.subi (IntOp.addi (IntOp.shrsi ArithUnit.vector (IntOp.andi (BitVec.ofNat 32 l.val) 63#32) 3#32) 8#32) 1#32) 15#32)
    (IntOp.andi (IntOp.andi (BitVec.ofNat 32 l.val) 63#32) 7#32) = BitVec.ofNat 32 ((l.val % 64 / 8 + 7) * 15 + l.val % 64 % 8) := by decide +kernel

/-- The key's part, as the kernel computes it for a pass of its loop. -/
theorem key_word : ∀ k : Fin 64, Scalar.addi (Scalar.muli (Scalar.shrsi (Scf.iv 0#32 1#32 k.val) 3#32) 15#32) (Scalar.andi (Scf.iv 0#32 1#32 k.val) 7#32)
    = BitVec.ofNat 32 (k.val / 8 * 15 + k.val % 8) := by decide +kernel

/-- The kernel's comparison holds at exactly the row of the query and the key. -/
theorem hit (a b t : ℕ) (ha : 105 ≤ a) (ha2 : a < 1000) (hb : b ≤ 112) (ht : t < 256) :
    (IntOp.subi (IntOp.subi (IntOp.addi (BitVec.ofNat 32 a) 8#32) 1#32) (BitVec.ofNat 32 t) = BitVec.ofNat 32 b) ↔ t = a + 7 - b := by
  unfold IntOp.subi IntOp.addi
  constructor
  · intro h
    have := congrArg BitVec.toNat h
    simp only [BitVec.toNat_sub, BitVec.toNat_add, BitVec.toNat_ofNat] at this
    omega
  · intro h
    apply BitVec.eq_of_toNat_eq
    simp only [BitVec.toNat_sub, BitVec.toNat_add, BitVec.toNat_ofNat]
    omega

theorem idx_eq (l k : ℕ) (hk : k < 64) : (l % 64 / 8 + 7) * 15 + l % 64 % 8 + 7 - (k / 8 * 15 + k % 8) = idx (l % 64) k := by
  unfold idx
  have : k / 8 ≤ 7 := by omega
  rw [Nat.sub_mul]
  have : k / 8 * 15 ≤ 7 * 15 := by omega
  omega

/-- A flag widened and made a float is one or zero. -/
theorem flag (p : Prop) [Decidable p] : FloatOps.sitofp (F := Ideal) FTy.f32 (BitVec.setWidth 32 (BitVec.ofBool (decide p))) = if p then (1 : EReal) else 0 := by
  by_cases h : p
  · simp only [h, decide_true, if_true]
    show (((BitVec.setWidth 32 (BitVec.ofBool true)).toInt : ℝ) : EReal) = 1
    rw [show (BitVec.setWidth 32 (BitVec.ofBool true)).toInt = 1 by decide]
    norm_num
  · simp only [h, decide_false, if_false]
    show (((BitVec.setWidth 32 (BitVec.ofBool false)).toInt : ℝ) : EReal) = 0
    rw [show (BitVec.setWidth 32 (BitVec.ofBool false)).toInt = 0 by decide]
    norm_num

end BiasSpec

end
-- ==== Proof.BiasTab.lean ====
/-
  The vector functions the two small tables of the position-bias body are made of, each read at an index.
-/
module

public import proofs.«01_k».proof.Proof.BiasVec
public import proofs.«01_k».proof.Proof.BiasIdx

@[expose] public section

noncomputable section

namespace Cert.BiasIdeal.Hand

open Cert.BiasIdeal Cert.BiasIdeal.Gen
open Idealize.ShloMosaic

variable [Facts]
open Facts

/-- The loop runs over the 64 keys. -/
theorem trips_lt (k : Fin k0_t1_loop.trips) : k.val < 64 := Nat.lt_of_lt_of_le k.isLt k0_t1_abs.2.1

theorem pay1_raw (v : FVec Ideal S36x256 .f32) (k : Fin k0_t1_loop.trips) (n : Fin 36) (j : Fin 1) (l : Fin 128) :
    k0_pay1 v (iota .tc S256x128 32 [0] iota_S256x128_d0_w32) k0_pay24 k0_pay25 k0_pay26 k (ix3 n j l) = ∑ x : Fin 256, v (ix2 n x) *
        FloatOps.sitofp FTy.f32 (BitVec.setWidth 32 (IntOp.cmpi CmpIPredicate.eq
              (IntOp.subi (IntOp.subi (IntOp.addi (IntOp.addi (IntOp.muli (IntOp.subi (IntOp.addi (IntOp.shrsi ArithUnit.vector (IntOp.andi (BitVec.ofNat 32 l.val) 63#32) 3#32) 8#32) 1#32) 15#32)
                (IntOp.andi (IntOp.andi (BitVec.ofNat 32 l.val) 63#32) 7#32)) 8#32) 1#32) (BitVec.ofNat 32 x.val))
              (Scalar.addi (Scalar.muli (Scalar.shrsi (Scf.iv 0#32 1#32 k.val) 3#32) 15#32) (Scalar.andi (Scf.iv 0#32 1#32 k.val) 7#32)))) := by
  pointwise [k0_pay1, k0_pay24, k0_pay25, k0_pay26]

/-- The one-hot product picks the row of the lane's query and the pass's key. -/
theorem pay1_at (v : FVec Ideal S36x256 .f32) (k : Fin k0_t1_loop.trips) (n : Fin 36) (j : Fin 1) (l : Fin 128) (t : Fin 256) (ht : t.val = BiasSpec.idx (l.val % 64) k.val) :
    k0_pay1 v (iota .tc S256x128 32 [0] iota_S256x128_d0_w32) k0_pay24 k0_pay25 k0_pay26 k (ix3 n j l) = v (ix2 n t) := by
  have hk := trips_lt k
  rw [pay1_raw, BiasSpec.lane_word, BiasSpec.key_word ⟨k.val, hk⟩]
  have e : ∀ x : Fin 256, FloatOps.sitofp (F := Ideal) FTy.f32 (BitVec.setWidth 32 (IntOp.cmpi CmpIPredicate.eq
      (IntOp.subi (IntOp.subi (IntOp.addi (BitVec.ofNat 32 ((l.val % 64 / 8 + 7) * 15 + l.val % 64 % 8)) 8#32) 1#32) (BitVec.ofNat 32 x.val))
      (BitVec.ofNat 32 (k.val / 8 * 15 + k.val % 8)))) = if x = t then (1 : EReal) else 0 := by
    intro x
    refine (BiasSpec.flag (_ = _)).trans (if_congr ?_ rfl rfl)
    rw [BiasSpec.hit _ _ _ (by omega) (by omega) (by omega) x.isLt, BiasSpec.idx_eq _ _ hk, ← ht]
    exact Fin.ext_iff.symm
  simp only [e]
  simp

theorem pay22_at (v : Vec Ideal S36x1 .f32) (t : Fin 36) (l : Fin 128) :
    k0_pay22 v (ix2 t l) = Ideal.exp (min (v (ix2 t 0)) (Ideal.ofBits FTy.f32 0x40935D8E#32)) * Ideal.ofBits FTy.f32 0x3FB8AA3B#32 := by
  pointwise [k0_pay22]
theorem pay21_at (t : Fin 40) (l : Fin 128) : k0_pay21 (F := Ideal) (ix2 t l) = 0 := by
  pointwise [k0_pay21]
theorem pay23_at (y : FVec Ideal S36x256 .f32) (s : Vec Ideal S36x1 .f32) (n : Fin 36) (t : Fin 256) (ht : t.val < 225) :
    k0_pay23 y s (ix2 n t) = k0_pay20 y s (ix2 n ⟨t.val, ht⟩) * Ideal.ofBits .f32 0x3FB8AA3B#32 := by
  rw [pay20_at]
  pointwise [k0_pay23, k0_pay19]

end Cert.BiasIdeal.Hand

end
-- ==== Proof.BiasKer.lean ====
/-
  What the position-bias call leaves in its five results' arrays, entry by entry, in terms of the arguments.
-/
module

public import proofs.«01_k».proof.Proof.Gen.BiasIdeal.Frame
public import proofs.«01_k».proof.Proof.BiasTab
public import Idealize.ShloMosaic.Lib.StableHlo.Run
public import Idealize.ShloMosaic.Lib.Pipeline.Value
public import Idealize.ShloMosaic.Lib.Pipeline.ValueKit.Geometry

@[expose] public section

set_option maxRecDepth 16384

noncomputable section

namespace Cert.BiasIdeal.Hand

open Cert.BiasIdeal Cert.BiasIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

theorem zero2 : (![0, 0] : Fin 2 → Nat) = fun _ => 0 := by
  funext a; fin_cases a <;> rfl

/-- The two rows of the first layer's weights, as the body loads them. -/
abbrev row0 (x0 : Vec Ideal S2x512 .f32) : Vec Ideal S1x512 .f32 := fun y => x0 (ix2 0 (y 1))
abbrev row1 (x0 : Vec Ideal S2x512 .f32) : Vec Ideal S1x512 .f32 := fun y => x0 (ix2 1 (y 1))

section
variable (arg0 : Memref sig .tc .vmem S2x512 .f32) (harg0 : arg0.IsWhole) (arg1 : Memref sig .tc .vmem S1x512 .f32) (harg1 : arg1.IsWhole) (arg2 : Memref sig .tc .vmem S36x512 .fp8e4m3) (harg2 : arg2.IsWhole) (arg3 : Memref sig .tc .vmem S36x1 .f32) (harg3 : arg3.IsWhole) (arg4 : Memref sig .tc .vmem S36x1 .f32) (harg4 : arg4.IsWhole) (arg5 : Memref sig .tc .vmem S36x225 .f32) (harg5 : arg5.IsWhole) (arg6 : Memref sig .tc .vmem S225x512 .fp8e4m3) (harg6 : arg6.IsWhole) (arg7 : Memref sig .tc .vmem S225x1 .f32) (harg7 : arg7.IsWhole) (arg8 : Memref sig .tc .vmem S36x64x128 .f32) (harg8 : arg8.IsWhole) (arg9 : Memref sig .tc .vmem S40x128 .f32) (harg9 : arg9.IsWhole)
    (x0 : Vec Ideal S2x512 .f32) (x1 : Vec Ideal S1x512 .f32) (x2 : Vec Ideal S36x512 .fp8e4m3) (x3 : Vec Ideal S36x1 .f32) (x4 : Vec Ideal S36x1 .f32)

theorem read0 : arg0.view.readAt (Elt Ideal) (Rect.unit (s := S2x512) ![0, 0] S1x512.size inb_S2x512_S1x512_0_0).toLoadRect (harg0.unread x0) = row0 x0 := by
  rw [View.readAt_eq_ld, harg0.read_unread]
  funext y
  refine congrArg x0 (funext fun a => Fin.ext ?_)
  have h0 : (y 0).val = 0 := by have := (y 0).isLt; change _ < 1 at this; omega
  fin_cases a
  · show 0 + 1 * (y 0).val = 0; omega
  · show 0 + 1 * (y 1).val = (y 1).val; omega
theorem read1 : arg0.view.readAt (Elt Ideal) (Rect.unit (s := S2x512) ![1, 0] S1x512.size inb_S2x512_S1x512_1_0).toLoadRect (harg0.unread x0) = row1 x0 := by
  rw [View.readAt_eq_ld, harg0.read_unread]
  funext y
  refine congrArg x0 (funext fun a => Fin.ext ?_)
  have h0 : (y 0).val = 0 := by have := (y 0).isLt; change _ < 1 at this; omega
  fin_cases a
  · show 1 + 1 * (y 0).val = 1; omega
  · show 0 + 1 * (y 1).val = (y 1).val; omega
theorem whl1 : arg1.view.readAt (Elt Ideal) (Rect.unit (s := S1x512) ![0, 0] S1x512.size inb_S1x512_S1x512_0_0).toLoadRect (harg1.unread x1) = x1 := by
  rw [View.readAt_eq_ld, harg1.read_unread, View.ld_unit_zero zero2]
theorem whl2 : arg2.view.readAt (Elt Ideal) (Rect.unit (s := S36x512) ![0, 0] S36x512.size inb_S36x512_S36x512_0_0).toLoadRect (harg2.unread x2) = x2 := by
  rw [View.readAt_eq_ld, harg2.read_unread, View.ld_unit_zero zero2]
theorem whl3 : arg3.view.readAt (Elt Ideal) (Rect.unit (s := S36x1) ![0, 0] S36x1.size inb_S36x1_S36x1_0_0).toLoadRect (harg3.unread x3) = x3 := by
  rw [View.readAt_eq_ld, harg3.read_unread, View.ld_unit_zero zero2]
theorem r1_eq : kernelRun0_A.sl.r_1 c arg0 harg0 arg1 harg1 x0 x1 = (hidK (row0 x0) (row1 x0) x1) := by
  unfold kernelRun0_A.sl.r_1 kernelRun0_A.sl.r
  rw [read0, read1, whl1]
theorem r2_eq : kernelRun0_A.sl.r_2 c arg0 harg0 arg1 harg1 x0 x1 = (amxK (row0 x0) (row1 x0) x1) := by
  unfold kernelRun0_A.sl.r_2 kernelRun0_A.sl.r
  rw [read0, read1, whl1]
theorem r3_eq : kernelRun0_A.sl.r_3 c arg0 harg0 arg1 harg1 x0 x1 = (amx1K (row0 x0) (row1 x0) x1) := by
  unfold kernelRun0_A.sl.r_3 kernelRun0_A.sl.r
  rw [read0, read1, whl1]
theorem r4_eq : kernelRun0_A.sl.r_4 c arg0 harg0 arg1 harg1 arg2 harg2 x0 x1 x2 = (k0_pay18 (hidK (row0 x0) (row1 x0) x1) (amxK (row0 x0) (row1 x0) x1) k0_pay10 (amx1K (row0 x0) (row1 x0) x1) k0_pay12 x2) := by
  unfold kernelRun0_A.sl.r_4
  rw [r1_eq, r2_eq, r3_eq, whl2]
theorem H5_eq : kernelRun0_A.sl.H5_1 c arg0 harg0 arg1 harg1 arg2 harg2 arg3 harg3 x0 x1 x2 x3 = [⟨Rect.unit ![0, 0] S36x225.size inb_S36x225_S36x225_0_0, k0_pay20 (k0_pay18 (hidK (row0 x0) (row1 x0) x1) (amxK (row0 x0) (row1 x0) x1) k0_pay10 (amx1K (row0 x0) (row1 x0) x1) k0_pay12 x2) x3⟩] := by
  unfold kernelRun0_A.sl.H5_1
  rw [r4_eq, whl3]
theorem out5_eq : out0_A_5 c arg0 harg0 arg1 harg1 arg2 harg2 arg3 harg3 arg4 harg4 arg5 harg5 arg6 harg6 arg7 harg7 arg8 harg8 arg9 harg9 x0 x1 x2 x3 x4 = k0_pay20 (k0_pay18 (hidK (row0 x0) (row1 x0) x1) (amxK (row0 x0) (row1 x0) x1) k0_pay10 (amx1K (row0 x0) (row1 x0) x1) k0_pay12 x2) x3 := by
  unfold out0_A_5
  rw [View.read_writes_eq_canon _ _ _ (cover0_A_5 c arg0 harg0 arg1 harg1 arg2 harg2 arg3 harg3 arg4 harg4 arg5 harg5 arg6 harg6 arg7 harg7 arg8 harg8 arg9 harg9 x0 x1 x2 x3 x4)]
  unfold kernelRun0_A
  dsimp only
  rw [H5_eq]
  exact View.canon_unit_zero zero2 _ _
theorem H6_eq : kernelRun0_A.sl.H6_1 c arg0 harg0 arg1 harg1 x0 x1 = [⟨Rect.unit ![0, 0] S225x512.size inb_S225x512_S225x512_0_0, k0_pay16 (hidK (row0 x0) (row1 x0) x1) (amxK (row0 x0) (row1 x0) x1) k0_pay10 (amx1K (row0 x0) (row1 x0) x1) k0_pay12⟩] := by
  unfold kernelRun0_A.sl.H6_1
  rw [r1_eq, r2_eq, r3_eq]
theorem out6_eq : out0_A_6 c arg0 harg0 arg1 harg1 arg2 harg2 arg3 harg3 arg4 harg4 arg5 harg5 arg6 harg6 arg7 harg7 arg8 harg8 arg9 harg9 x0 x1 x2 x3 x4 = k0_pay16 (hidK (row0 x0) (row1 x0) x1) (amxK (row0 x0) (row1 x0) x1) k0_pay10 (amx1K (row0 x0) (row1 x0) x1) k0_pay12 := by
  unfold out0_A_6
  rw [View.read_writes_eq_canon _ _ _ (cover0_A_6 c arg0 harg0 arg1 harg1 arg2 harg2 arg3 harg3 arg4 harg4 arg5 harg5 arg6 harg6 arg7 harg7 arg8 harg8 arg9 harg9 x0 x1 x2 x3 x4)]
  unfold kernelRun0_A
  dsimp only
  rw [H6_eq]
  exact View.canon_unit_zero zero2 _ _
theorem H7_eq : kernelRun0_A.sl.H7_1 c arg0 harg0 arg1 harg1 x0 x1 = [⟨Rect.unit ![0, 0] S225x1.size inb_S225x1_S225x1_0_0, k0_pay17 (amxK (row0 x0) (row1 x0) x1) k0_pay10 (amx1K (row0 x0) (row1 x0) x1) k0_pay12⟩] := by
  unfold kernelRun0_A.sl.H7_1
  rw [r2_eq, r3_eq]
theorem out7_eq : out0_A_7 c arg0 harg0 arg1 harg1 arg2 harg2 arg3 harg3 arg4 harg4 arg5 harg5 arg6 harg6 arg7 harg7 arg8 harg8 arg9 harg9 x0 x1 x2 x3 x4 = k0_pay17 (amxK (row0 x0) (row1 x0) x1) k0_pay10 (amx1K (row0 x0) (row1 x0) x1) k0_pay12 := by
  unfold out0_A_7
  rw [View.read_writes_eq_canon _ _ _ (cover0_A_7 c arg0 harg0 arg1 harg1 arg2 harg2 arg3 harg3 arg4 harg4 arg5 harg5 arg6 harg6 arg7 harg7 arg8 harg8 arg9 harg9 x0 x1 x2 x3 x4)]
  unfold kernelRun0_A
  dsimp only
  rw [H7_eq]
  exact View.canon_unit_zero zero2 _ _
theorem whl4 : arg4.view.readAt (Elt Ideal) (Rect.unit (s := S36x1) ![0, 0] S36x1.size inb_S36x1_S36x1_0_0).toLoadRect (harg4.unread x4) = x4 := by
  rw [View.readAt_eq_ld, harg4.read_unread, View.ld_unit_zero zero2]
theorem r5_eq : kernelRun0_A.sl.r_5 c arg0 harg0 arg1 harg1 arg2 harg2 arg3 harg3 x0 x1 x2 x3 = k0_pay23 (k0_pay18 (hidK (row0 x0) (row1 x0) x1) (amxK (row0 x0) (row1 x0) x1) k0_pay10 (amx1K (row0 x0) (row1 x0) x1) k0_pay12 x2) x3 := by
  unfold kernelRun0_A.sl.r_5
  rw [r4_eq, whl3]

/-- The bias as a function of its own indices, from the scores the body holds. -/
def biasF (v : FVec Ideal S36x256 .f32) : FVec Ideal S36x64x128 .f32 :=
  fun y => v (ix2 (y 0) ⟨BiasSpec.idx ((y 2).val % 64) (y 1).val, lt_trans (BiasSpec.idx_lt _ _ (Nat.mod_lt _ (by decide))) (by decide)⟩)

/-- What one pass of the loop over the keys stores. -/
abbrev keyPiece (v : FVec Ideal S36x256 .f32) (k : Fin k0_t1_loop.trips) : View.Piece (Elt Ideal) S36x64x128 .f32 :=
  ⟨Rect.unit (s := S36x64x128) (k0_off1 k) S36x1x128.size (k0_off1_inb k), k0_pay1 v (iota .tc S256x128 32 [0] iota_S256x128_d0_w32) k0_pay24 k0_pay25 k0_pay26 k⟩

theorem keyPiece_eq (v : FVec Ideal S36x256 .f32) (k : Fin k0_t1_loop.trips) (x : (Rect.unit (s := S36x64x128) (k0_off1 k) S36x1x128.size (k0_off1_inb k)).shape.Idx) :
    (keyPiece v k).2 x = biasF v ((keyPiece v k).1.emb x) := by
  obtain ⟨n, j, l, rfl⟩ : ∃ (n : Fin 36) (j : Fin 1) (l : Fin 128), x = ix3 n j l := ⟨x 0, x 1, x 2, eq_ix3 x⟩
  have hj : j.val = 0 := by omega
  have o := k0_off1_eq k
  have e0 : ((keyPiece v k).1.emb (ix3 n j l) 0).val = n.val := by
    show k0_off1 k 0 + 1 * n.val = n.val
    rw [o]; show 0 + 1 * n.val = n.val; omega
  have e1 : ((keyPiece v k).1.emb (ix3 n j l) 1).val = k.val := by
    show k0_off1 k 1 + 1 * j.val = k.val
    rw [o]; show k.val + 1 * j.val = k.val; omega
  have e2 : ((keyPiece v k).1.emb (ix3 n j l) 2).val = l.val := by
    show k0_off1 k 2 + 1 * l.val = l.val
    rw [o]; show 0 + 1 * l.val = l.val; omega
  refine (pay1_at v k n j l ⟨BiasSpec.idx (l.val % 64) k.val, lt_trans (BiasSpec.idx_lt _ _ (Nat.mod_lt _ (by decide))) (by decide)⟩ rfl).trans ?_
  unfold biasF
  exact congrArg₂ (fun a b => v (ix2 a b)) (Fin.ext e0.symm) (Fin.ext (by show BiasSpec.idx _ _ = BiasSpec.idx _ _; rw [e1, e2]))

theorem passes_succ (v : FVec Ideal S36x256 .f32) (k : Fin k0_t1_loop.trips) :
    pb_k0_t1 Variants.none c none arg0 harg0 arg1 harg1 arg2 harg2 arg3 harg3 arg4 harg4 arg5 harg5 arg6 harg6 arg7 harg7 arg8 harg8 arg9 harg9 v kernelRun0_A.sl.v149 k0_pay24 k0_pay25 k0_pay26 (k.val + 1)
      = keyPiece v k :: pb_k0_t1 Variants.none c none arg0 harg0 arg1 harg1 arg2 harg2 arg3 harg3 arg4 harg4 arg5 harg5 arg6 harg6 arg7 harg7 arg8 harg8 arg9 harg9 v kernelRun0_A.sl.v149 k0_pay24 k0_pay25 k0_pay26 k.val := by
  rw [pb_k0_t1_succ]
  unfold tripL_k0_t1 trip_k0_t1
  rfl

/-- Every piece the passes before `n` leave is a piece of the bias. -/
theorem passes_eq (v : FVec Ideal S36x256 .f32) (n : ℕ) (hn : n ≤ k0_t1_loop.trips) :
    ∀ p ∈ pb_k0_t1 Variants.none c none arg0 harg0 arg1 harg1 arg2 harg2 arg3 harg3 arg4 harg4 arg5 harg5 arg6 harg6 arg7 harg7 arg8 harg8 arg9 harg9 v kernelRun0_A.sl.v149 k0_pay24 k0_pay25 k0_pay26 n, ∀ x, p.2 x = biasF v (p.1.emb x) := by
  induction n with
  | zero => intro p hp; exact absurd hp List.not_mem_nil
  | succ n ih =>
    intro p hp
    rw [passes_succ c arg0 harg0 arg1 harg1 arg2 harg2 arg3 harg3 arg4 harg4 arg5 harg5 arg6 harg6 arg7 harg7 arg8 harg8 arg9 harg9 v ⟨n, hn⟩] at hp
    rcases List.mem_cons.1 hp with rfl | hp
    · exact keyPiece_eq v ⟨n, hn⟩
    · exact ih (Nat.le_of_lt hn) p hp

theorem out8_eq : out0_A_8 c arg0 harg0 arg1 harg1 arg2 harg2 arg3 harg3 arg4 harg4 arg5 harg5 arg6 harg6 arg7 harg7 arg8 harg8 arg9 harg9 x0 x1 x2 x3 x4 = biasF (k0_pay23 (k0_pay18 (hidK (row0 x0) (row1 x0) x1) (amxK (row0 x0) (row1 x0) x1) k0_pay10 (amx1K (row0 x0) (row1 x0) x1) k0_pay12 x2) x3) := by
  funext y
  have hc := cover0_A_8 c arg0 harg0 arg1 harg1 arg2 harg2 arg3 harg3 arg4 harg4 arg5 harg5 arg6 harg6 arg7 harg7 arg8 harg8 arg9 harg9 x0 x1 x2 x3 x4
  unfold out0_A_8
  rw [View.read_writes_eq_canon _ _ _ hc]
  have hy := hc y
  revert hy
  unfold kernelRun0_A
  dsimp only
  rw [r5_eq]
  intro hy
  exact View.canon_apply_of_pieces _ _ (passes_eq c arg0 harg0 arg1 harg1 arg2 harg2 arg3 harg3 arg4 harg4 arg5 harg5 arg6 harg6 arg7 harg7 arg8 harg8 arg9 harg9 _ _ (le_refl _)) y hy

/-- The temperatures as a function of their own indices. -/
def tauF (v : FVec Ideal S36x1 .f32) : FVec Ideal S40x128 .f32 :=
  fun y => if h : (y 0).val < 36 then Ideal.exp (min (v (ix2 ⟨(y 0).val, h⟩ 0)) (Ideal.ofBits FTy.f32 0x40935D8E#32)) * Ideal.ofBits FTy.f32 0x3FB8AA3B#32 else 0

theorem out9_eq : out0_A_9 c arg0 harg0 arg1 harg1 arg2 harg2 arg3 harg3 arg4 harg4 arg5 harg5 arg6 harg6 arg7 harg7 arg8 harg8 arg9 harg9 x0 x1 x2 x3 x4 = tauF x4 := by
  funext y
  unfold out0_A_9
  rw [View.read_writes_eq_canon _ _ _ (cover0_A_9 c arg0 harg0 arg1 harg1 arg2 harg2 arg3 harg3 arg4 harg4 arg5 harg5 arg6 harg6 arg7 harg7 arg8 harg8 arg9 harg9 x0 x1 x2 x3 x4)]
  unfold kernelRun0_A
  dsimp only
  unfold kernelRun0_A.sl.H9_2
  rw [whl4]
  obtain ⟨i, l, rfl⟩ : ∃ (i : Fin 40) (l : Fin 128), y = ix2 i l := ⟨y 0, y 1, eq_ix2 y⟩
  by_cases h : i.val < 36
  · have e : (ix2 i l : S40x128.Idx) = (Rect.unit (s := S40x128) ![0, 0] S36x128.size inb_S40x128_S36x128_0_0).emb (ix2 ⟨i.val, h⟩ l) := by
      funext a
      apply Fin.ext
      fin_cases a
      · show i.val = 0 + 1 * i.val; omega
      · show l.val = 0 + 1 * l.val; omega
    have t : tauF x4 (ix2 i l) = k0_pay22 x4 (ix2 ⟨i.val, h⟩ l) := by
      rw [pay22_at]
      exact dif_pos h
    rw [t]
    conv_lhs => rw [e]
    exact View.canon_cons_emb _ _ _ _
  · have hn : (ix2 i l : S40x128.Idx) ∉ (Rect.unit (s := S40x128) ![0, 0] S36x128.size inb_S40x128_S36x128_0_0).set := by
      rw [Rect.mem_set_unit]
      intro hm
      have := (hm 0).2
      change i.val < 0 + 36 at this
      omega
    refine (View.canon_cons_of_not_mem (⟨Rect.unit (s := S40x128) ![0, 0] S36x128.size inb_S40x128_S36x128_0_0, k0_pay22 x4⟩ : View.Piece (Elt Ideal) S40x128 .f32) _ hn).trans ?_
    refine (congrFun (View.canon_unit_zero zero2 _ _) _).trans ?_
    rw [pay21_at]
    unfold tauF
    rw [dif_neg]
    exact h
end

/-! ## The blocks: each window is its whole array -/

theorem at0 : ∀ t : Fin cfg0.N, ∀ a, win0_0.index t a = 0 := by decide +kernel
theorem blk0 (t : Fin cfg0.N) (X : Buf (Elt Ideal) (((cfg0.win 0).blk t).view.loc (c : Thread nD τ))) (y : S2x512.Idx) :
    ((cfg0.win 0).blk t).view.read (Elt Ideal) X y = X y := by
  refine congrArg X ?_
  funext a
  apply Fin.ext
  exact Pipeline.Window.rect_emb_val_of_index_zero win0_0 t a (at0 t a) y
theorem iblk0 (t : Fin cfg0.N) (X : FVec Ideal S2x512 .f32) (hX : V m c (Pipeline.arrRef spec0 0) = X) :
    iblk m c 0 t = X := by
  unfold iblk
  rw [hX]
  exact funext (blk0 c t X)

theorem at1 : ∀ t : Fin cfg0.N, ∀ a, win0_1.index t a = 0 := by decide +kernel
theorem blk1 (t : Fin cfg0.N) (X : Buf (Elt Ideal) (((cfg0.win 1).blk t).view.loc (c : Thread nD τ))) (y : S1x512.Idx) :
    ((cfg0.win 1).blk t).view.read (Elt Ideal) X y = X y := by
  refine congrArg X ?_
  funext a
  apply Fin.ext
  exact Pipeline.Window.rect_emb_val_of_index_zero win0_1 t a (at1 t a) y
theorem iblk1 (t : Fin cfg0.N) (X : FVec Ideal S1x512 .f32) (hX : V m c (Pipeline.arrRef spec0 1) = X) :
    iblk m c 1 t = X := by
  unfold iblk
  rw [hX]
  exact funext (blk1 c t X)

theorem at2 : ∀ t : Fin cfg0.N, ∀ a, win0_2.index t a = 0 := by decide +kernel
theorem blk2 (t : Fin cfg0.N) (X : Buf (Elt Ideal) (((cfg0.win 2).blk t).view.loc (c : Thread nD τ))) (y : S36x512.Idx) :
    ((cfg0.win 2).blk t).view.read (Elt Ideal) X y = X y := by
  refine congrArg X ?_
  funext a
  apply Fin.ext
  exact Pipeline.Window.rect_emb_val_of_index_zero win0_2 t a (at2 t a) y
theorem iblk2 (t : Fin cfg0.N) (X : FVec Ideal S36x512 .fp8e4m3) (hX : V m c (Pipeline.arrRef spec0 2) = X) :
    iblk m c 2 t = X := by
  unfold iblk
  rw [hX]
  exact funext (blk2 c t X)

theorem at3 : ∀ t : Fin cfg0.N, ∀ a, win0_3.index t a = 0 := by decide +kernel
theorem blk3 (t : Fin cfg0.N) (X : Buf (Elt Ideal) (((cfg0.win 3).blk t).view.loc (c : Thread nD τ))) (y : S36x1.Idx) :
    ((cfg0.win 3).blk t).view.read (Elt Ideal) X y = X y := by
  refine congrArg X ?_
  funext a
  apply Fin.ext
  exact Pipeline.Window.rect_emb_val_of_index_zero win0_3 t a (at3 t a) y
theorem iblk3 (t : Fin cfg0.N) (X : FVec Ideal S36x1 .f32) (hX : V m c (Pipeline.arrRef spec0 3) = X) :
    iblk m c 3 t = X := by
  unfold iblk
  rw [hX]
  exact funext (blk3 c t X)

theorem at4 : ∀ t : Fin cfg0.N, ∀ a, win0_4.index t a = 0 := by decide +kernel
theorem blk4 (t : Fin cfg0.N) (X : Buf (Elt Ideal) (((cfg0.win 4).blk t).view.loc (c : Thread nD τ))) (y : S36x1.Idx) :
    ((cfg0.win 4).blk t).view.read (Elt Ideal) X y = X y := by
  refine congrArg X ?_
  funext a
  apply Fin.ext
  exact Pipeline.Window.rect_emb_val_of_index_zero win0_4 t a (at4 t a) y
theorem iblk4 (t : Fin cfg0.N) (X : FVec Ideal S36x1 .f32) (hX : V m c (Pipeline.arrRef spec0 4) = X) :
    iblk m c 4 t = X := by
  unfold iblk
  rw [hX]
  exact funext (blk4 c t X)

/-! ## The lines before the call only relay out -/

theorem V_v0 : V m c main_v0 = shapeCast S1x512 (m ((c : Thread nD τ).loc main_arg2)) shapeCasts_S512_S1x512 := by
  dsimp only [V, hostOps0]; after_results
  try rfl
theorem V_v1 : V m c main_v1 = transpose S36x512 [1, 0] (m ((c : Thread nD τ).loc main_arg3)) transposes_S512x36_S36x512_1_0 := by
  dsimp only [V, hostOps0]; after_results
  try rfl
theorem V_v2 : V m c main_v2 = shapeCast S36x1 (m ((c : Thread nD τ).loc main_arg4)) shapeCasts_S36_S36x1 := by
  dsimp only [V, hostOps0]; after_results
  try rfl
theorem V_v3 : V m c main_v3 = shapeCast S36x1 (m ((c : Thread nD τ).loc main_arg0)) shapeCasts_S36_S36x1 := by
  dsimp only [V, hostOps0]; after_results
  try rfl

theorem b_at (A : FVec Ideal S512 .f32) (e : Fin 512) : shapeCast S1x512 A shapeCasts_S512_S1x512 (ix2 0 e) = A (ix1 e) := by
  pointwise []
theorem w2_at (A : FVec Ideal S512x36 .fp8e4m3) (n : Fin 36) (e : Fin 512) : transpose S36x512 [1, 0] A transposes_S512x36_S36x512_1_0 (ix2 n e) = A (ix2 e n) := by
  pointwise []
theorem s2_at (A : FVec Ideal S36 .f32) (n : Fin 36) : shapeCast S36x1 A shapeCasts_S36_S36x1 (ix2 n 0) = A (ix1 n) := by
  pointwise []

/-! ## The five results -/

/-- The table, its codes and its scales as functions of the arguments. -/
def relV (W : FVec Ideal S2x512 .f32) (B : FVec Ideal S512 .f32) (W2 : FVec Ideal S512x36 .fp8e4m3) (S2 : FVec Ideal S36 .f32) : FVec Ideal S36x225 .f32 :=
  fun y => BiasSpec.rel (fun i e => W (ix2 i e)) (fun e => B (ix1 e)) (fun e n => W2 (ix2 e n)) (fun n => S2 (ix1 n)) (y 1).val (y 0)
def codeV (W : FVec Ideal S2x512 .f32) (B : FVec Ideal S512 .f32) : FVec Ideal S225x512 .fp8e4m3 :=
  fun y => BiasSpec.code (fun i e => W (ix2 i e)) (fun e => B (ix1 e)) (y 0).val (y 1)
def scaleV (W : FVec Ideal S2x512 .f32) (B : FVec Ideal S512 .f32) : FVec Ideal S225x1 .f32 :=
  fun y => Spec.scl (BiasSpec.amax (fun i e => W (ix2 i e)) (fun e => B (ix1 e)) (y 0).val)

/-- The bias of a head, a key and a query, and a head's temperature. -/
def biasV (W : FVec Ideal S2x512 .f32) (B : FVec Ideal S512 .f32) (W2 : FVec Ideal S512x36 .fp8e4m3) (S2 : FVec Ideal S36 .f32) : FVec Ideal S36x64x128 .f32 :=
  fun y => BiasSpec.rel (fun i e => W (ix2 i e)) (fun e => B (ix1 e)) (fun e n => W2 (ix2 e n)) (fun n => S2 (ix1 n)) (BiasSpec.idx ((y 2).val % 64) (y 1).val) (y 0) * Ideal.ofBits .f32 0x3FB8AA3B#32
def tauV (L : FVec Ideal S36 .f32) : FVec Ideal S40x128 .f32 :=
  fun y => if h : (y 0).val < 36 then Ideal.exp (min (L (ix1 ⟨(y 0).val, h⟩)) (Ideal.ofBits FTy.f32 0x40935D8E#32)) * Ideal.ofBits FTy.f32 0x3FB8AA3B#32 else 0

/-- No row's largest entry is out of range. -/
def Moderate (W : FVec Ideal S2x512 .f32) (B : FVec Ideal S512 .f32) : Prop :=
  ∀ t : ℕ, t < 225 → BiasSpec.amax (fun i e => W (ix2 i e)) (fun e => B (ix1 e)) t ≤ (((2 : ℝ) ^ (110 : ℕ) : ℝ) : EReal)

section
variable (W : FVec Ideal S2x512 .f32) (B : FVec Ideal S512 .f32) (W2 : FVec Ideal S512x36 .fp8e4m3) (S2 : FVec Ideal S36 .f32) (hm : Moderate W B)
include hm

theorem rel_eq : k0_pay20 (k0_pay18 (hidK (row0 W) (row1 W) (shapeCast S1x512 B shapeCasts_S512_S1x512)) (amxK (row0 W) (row1 W) (shapeCast S1x512 B shapeCasts_S512_S1x512)) k0_pay10
      (amx1K (row0 W) (row1 W) (shapeCast S1x512 B shapeCasts_S512_S1x512)) k0_pay12 (transpose S36x512 [1, 0] W2 transposes_S512x36_S36x512_1_0)) (shapeCast S36x1 S2 shapeCasts_S36_S36x1) = relV W B W2 S2 := by
  funext y
  obtain ⟨i, j, rfl⟩ : ∃ (i : Fin 36) (j : Fin 225), y = ix2 i j := ⟨y 0, y 1, eq_ix2 y⟩
  exact (relK_at _ _ _ (fun i e => W (ix2 i e)) (fun e => B (ix1 e)) (fun _ => rfl) (fun _ => rfl) (b_at B) hm _ _ i j).trans
    (congrArg₂ (fun f g => BiasSpec.rel _ _ f g j.val i) (funext fun e => funext fun n => w2_at W2 n e) (funext fun n => s2_at S2 n))
theorem code_eq : k0_pay16 (hidK (row0 W) (row1 W) (shapeCast S1x512 B shapeCasts_S512_S1x512)) (amxK (row0 W) (row1 W) (shapeCast S1x512 B shapeCasts_S512_S1x512)) k0_pay10
      (amx1K (row0 W) (row1 W) (shapeCast S1x512 B shapeCasts_S512_S1x512)) k0_pay12 = codeV W B := by
  funext y
  obtain ⟨i, j, rfl⟩ : ∃ (i : Fin 225) (j : Fin 512), y = ix2 i j := ⟨y 0, y 1, eq_ix2 y⟩
  rw [pay16_at]
  exact codeK_at _ _ _ (fun i e => W (ix2 i e)) (fun e => B (ix1 e)) (fun _ => rfl) (fun _ => rfl) (b_at B) hm _ i.isLt _
theorem scale_eq : k0_pay17 (amxK (row0 W) (row1 W) (shapeCast S1x512 B shapeCasts_S512_S1x512)) k0_pay10
      (amx1K (row0 W) (row1 W) (shapeCast S1x512 B shapeCasts_S512_S1x512)) k0_pay12 = scaleV W B := by
  funext y
  obtain ⟨i, j, rfl⟩ : ∃ (i : Fin 225) (j : Fin 1), y = ix2 i j := ⟨y 0, y 1, eq_ix2 y⟩
  rw [pay17_at]
  exact sclK_at _ _ _ (fun i e => W (ix2 i e)) (fun e => B (ix1 e)) (fun _ => rfl) (fun _ => rfl) (b_at B) hm _ i.isLt _
theorem bias_eq : biasF (k0_pay23 (k0_pay18 (hidK (row0 W) (row1 W) (shapeCast S1x512 B shapeCasts_S512_S1x512)) (amxK (row0 W) (row1 W) (shapeCast S1x512 B shapeCasts_S512_S1x512)) k0_pay10
      (amx1K (row0 W) (row1 W) (shapeCast S1x512 B shapeCasts_S512_S1x512)) k0_pay12 (transpose S36x512 [1, 0] W2 transposes_S512x36_S36x512_1_0)) (shapeCast S36x1 S2 shapeCasts_S36_S36x1)) = biasV W B W2 S2 := by
  funext y
  obtain ⟨n, k, l, rfl⟩ : ∃ (n : Fin 36) (k : Fin 64) (l : Fin 128), y = ix3 n k l := ⟨y 0, y 1, y 2, eq_ix3 y⟩
  have hi := BiasSpec.idx_lt (l.val % 64) k.val (Nat.mod_lt _ (by decide))
  unfold biasF
  refine (pay23_at _ _ n ⟨BiasSpec.idx (l.val % 64) k.val, lt_trans hi (by decide)⟩ hi).trans ?_
  rw [rel_eq W B W2 S2 hm]
  rfl
end

theorem tau_eq (L : FVec Ideal S36 .f32) : tauF (shapeCast S36x1 L shapeCasts_S36_S36x1) = tauV L := by
  funext y
  unfold tauF tauV
  split_ifs with h
  · rw [s2_at]
  · rfl

theorem whole5 : (cfg0.win 5).WholeAt t0_0 := by decide +kernel
theorem arr5 (hm : Moderate (m ((c : Thread nD τ).loc main_arg1)) (m ((c : Thread nD τ).loc main_arg2))) : (dats m 0 c).arrAt 5 cfg0.N = relV (m ((c : Thread nD τ).loc main_arg1)) (m ((c : Thread nD τ).loc main_arg2)) (m ((c : Thread nD τ).loc main_arg3)) (m ((c : Thread nD τ).loc main_arg4)) := by
  have h : (dats m 0 c).after 5 t0_0 = relV (m ((c : Thread nD τ).loc main_arg1)) (m ((c : Thread nD τ).loc main_arg2)) (m ((c : Thread nD τ).loc main_arg3)) (m ((c : Thread nD τ).loc main_arg4)) := by
    rw [after0_5]
    unfold outsAt0
    dsimp only
    rw [out5_eq, iblk0 m c _ _ (V_main_arg1 m c), iblk1 m c _ _ (V_v0 m c), iblk2 m c _ _ (V_v1 m c), iblk3 m c _ _ (V_v2 m c)]
    exact rel_eq _ _ _ _ hm
  refine Pipeline.Dat.arrAt_eq_of_after_last (dats m 0 c) 5 t0_0 whole5 _ fun j => ?_
  rw [h]
  rfl

theorem whole6 : (cfg0.win 6).WholeAt t0_0 := by decide +kernel
theorem arr6 (hm : Moderate (m ((c : Thread nD τ).loc main_arg1)) (m ((c : Thread nD τ).loc main_arg2))) : (dats m 0 c).arrAt 6 cfg0.N = codeV (m ((c : Thread nD τ).loc main_arg1)) (m ((c : Thread nD τ).loc main_arg2)) := by
  have h : (dats m 0 c).after 6 t0_0 = codeV (m ((c : Thread nD τ).loc main_arg1)) (m ((c : Thread nD τ).loc main_arg2)) := by
    rw [after0_6]
    unfold outsAt0
    dsimp only
    rw [out6_eq, iblk0 m c _ _ (V_main_arg1 m c), iblk1 m c _ _ (V_v0 m c)]
    exact code_eq _ _ hm
  refine Pipeline.Dat.arrAt_eq_of_after_last (dats m 0 c) 6 t0_0 whole6 _ fun j => ?_
  rw [h]
  rfl

theorem whole7 : (cfg0.win 7).WholeAt t0_0 := by decide +kernel
theorem arr7 (hm : Moderate (m ((c : Thread nD τ).loc main_arg1)) (m ((c : Thread nD τ).loc main_arg2))) : (dats m 0 c).arrAt 7 cfg0.N = scaleV (m ((c : Thread nD τ).loc main_arg1)) (m ((c : Thread nD τ).loc main_arg2)) := by
  have h : (dats m 0 c).after 7 t0_0 = scaleV (m ((c : Thread nD τ).loc main_arg1)) (m ((c : Thread nD τ).loc main_arg2)) := by
    rw [after0_7]
    unfold outsAt0
    dsimp only
    rw [out7_eq, iblk0 m c _ _ (V_main_arg1 m c), iblk1 m c _ _ (V_v0 m c)]
    exact scale_eq _ _ hm
  refine Pipeline.Dat.arrAt_eq_of_after_last (dats m 0 c) 7 t0_0 whole7 _ fun j => ?_
  rw [h]
  rfl

theorem whole8 : (cfg0.win 8).WholeAt t0_0 := by decide +kernel
theorem arr8 (hm : Moderate (m ((c : Thread nD τ).loc main_arg1)) (m ((c : Thread nD τ).loc main_arg2))) : (dats m 0 c).arrAt 8 cfg0.N = biasV (m ((c : Thread nD τ).loc main_arg1)) (m ((c : Thread nD τ).loc main_arg2)) (m ((c : Thread nD τ).loc main_arg3)) (m ((c : Thread nD τ).loc main_arg4)) := by
  have h : (dats m 0 c).after 8 t0_0 = biasV (m ((c : Thread nD τ).loc main_arg1)) (m ((c : Thread nD τ).loc main_arg2)) (m ((c : Thread nD τ).loc main_arg3)) (m ((c : Thread nD τ).loc main_arg4)) := by
    rw [after0_8]
    unfold outsAt0
    dsimp only
    rw [out8_eq, iblk0 m c _ _ (V_main_arg1 m c), iblk1 m c _ _ (V_v0 m c), iblk2 m c _ _ (V_v1 m c), iblk3 m c _ _ (V_v2 m c)]
    exact bias_eq _ _ _ _ hm
  refine Pipeline.Dat.arrAt_eq_of_after_last (dats m 0 c) 8 t0_0 whole8 _ fun j => ?_
  rw [h]
  rfl

theorem whole9 : (cfg0.win 9).WholeAt t0_0 := by decide +kernel
theorem arr9 : (dats m 0 c).arrAt 9 cfg0.N = tauV (m ((c : Thread nD τ).loc main_arg0)) := by
  have h : (dats m 0 c).after 9 t0_0 = tauV (m ((c : Thread nD τ).loc main_arg0)) := by
    rw [after0_9]
    unfold outsAt0
    dsimp only
    rw [out9_eq, iblk4 m c _ _ (V_v3 m c)]
    exact tau_eq _
  refine Pipeline.Dat.arrAt_eq_of_after_last (dats m 0 c) 9 t0_0 whole9 _ fun j => ?_
  rw [h]
  rfl

/-- What a program's run leaves in the results, and that it leaves the arguments. -/
theorem value :
    θ_run defs (onTc (τ := τ) (main (F := Ideal))) ⟨m, fun _ => 0, ρ⟩ (fun r => ∀ c : Dev nD,
      (Moderate (m ((c.tc : Thread nD τ).loc main_arg1)) (m ((c.tc : Thread nD τ).loc main_arg2)) →
        r.2.mem ((c.tc : Thread nD τ).loc main_v4_0) = relV (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_v4_1) = codeV (m ((c.tc : Thread nD τ).loc main_arg1)) (m ((c.tc : Thread nD τ).loc main_arg2))
        ∧ r.2.mem ((c.tc : Thread nD τ).loc main_v4_2) = scaleV (m ((c.tc : Thread nD τ).loc main_arg1)) (m ((c.tc : Thread nD τ).loc main_arg2))
        ∧ r.2.mem ((c.tc : Thread nD τ).loc main_v4_3) = biasV (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_v4_4) = tauV (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (unchanged m ρ))
  exact ⟨fun hm => ⟨((h.1 c).1 5).trans (arr5 m c hm), ((h.1 c).1 6).trans (arr6 m c hm), ((h.1 c).1 7).trans (arr7 m c hm), ((h.1 c).1 8).trans (arr8 m c hm), ((h.1 c).1 9).trans (arr9 m c)⟩, h.2 c⟩

end Cert.BiasIdeal.Hand

end
-- ==== Proof.BiasRefRun.lean ====
/-
  The bias reference's host lines: what each of the named values is, as one expression of the arguments.
-/
module

public import proofs.«01_k».proof.Proof.Gen.BiasReferenceIdeal.Frame
public import Idealize.ShloMosaic.Lib.StableHlo.Run
public import Idealize.ShloMosaic.Lib.Pipeline.Value
public import Idealize.ShloMosaic.PureOps.Ideal

@[expose] public section

set_option maxRecDepth 16384

noncomputable section

namespace Cert.BiasReferenceIdeal.Hand

open Cert.BiasReferenceIdeal Cert.BiasReferenceIdeal.Gen
open Idealize.ShloMosaic Idealize.ShloMosaic.TcCoe Idealize.ShloMosaic.Tactic
open Idealize.ShloMosaic.StableHlo (after after_append after_of_writes_sub forall_writes_sub_of_map)

/-! ## The reference's values -/

/-- A constant of no axes. -/
abbrev gC (b : BitVec 32) : FVec Ideal S_ .f32 := constant S_ .f32 b
/-- The offsets -7 … 7. -/
def rD : FVec Ideal S15 .f32 :=
  addf (broadcastInDim S15 ![] bcast_S_S15 (constant S_ .f32 0xC0E00000#32)) (sitofp .f32 (iotaInDim S15 32 0))
/-- The log-spaced coordinates of given offsets. -/
abbrev gF (d : FVec Ideal S15 .f32) : FVec Ideal S15 .f32 :=
  Host.divf (mulf (Host.sign d) (mulf (Host.log (addf (broadcastInDim S15 ![] bcast_S_S15 (constant S_ .f32 0x3F800000#32))
      (Host.divf (mulf (broadcastInDim S15 ![] bcast_S_S15 (constant S_ .f32 0x41000000#32)) (Host.absf d))
        (broadcastInDim S15 ![] bcast_S_S15 (constant S_ .f32 0x40E00000#32)))))
      (broadcastInDim S15 ![] bcast_S_S15 (constant S_ .f32 0x3FB8AA3B#32))))
    (broadcastInDim S15 ![] bcast_S_S15 (constant S_ .f32 0x40400000#32))
/-- The table rows' two coordinates. -/
abbrev gCo (f : FVec Ideal S15 .f32) : FVec Ideal S225x2 .f32 :=
  shapeCast S225x2 (concatenate S15x15x2 2
    [⟨S15x15x1, broadcastInDim S15x15x1 ![0, 1] bcast_S15x15_S15x15x1_0_1 (broadcastInDim S15x15 ![0] bcast_S15_S15x15_0 f)⟩,
     ⟨S15x15x1, broadcastInDim S15x15x1 ![0, 1] bcast_S15x15_S15x15x1_0_1 (broadcastInDim S15x15 ![1] bcast_S15_S15x15_1 f)⟩]
    concatenates_S15x15x1_S15x15x1_S15x15x2_d2) shapeCasts_S15x15x2_S225x2
/-- The hidden layer of given coordinates. -/
abbrev gHid (x : FVec Ideal S225x2 .f32) (w : FVec Ideal S2x512 .f32) (b : FVec Ideal S512 .f32) : FVec Ideal S225x512 .f32 :=
  maximumf (addf (Host.dotGeneral dot_S225x2_S2x512_S225x512_1_0_0_1_n_n (some .fp32) x w)
      (broadcastInDim S225x512 ![0, 1] bcast_S1x512_S225x512_0_1 (broadcastInDim S1x512 ![1] bcast_S512_S1x512_1 b)))
    (broadcastInDim S225x512 ![] bcast_S_S225x512 (constant S_ .f32 0x00000000#32))
/-- A row's largest absolute entry. -/
abbrev gAmax (h : FVec Ideal S225x512 .f32) : FVec Ideal S225 .f32 :=
  Host.reduce FloatOps.maximumf (Host.absf h) (constant S_ .f32 0xFF800000#32) reducesTo_S225x512_S225_d1 h_S_
/-- Which of the powers exceed the largest entry over the largest code. -/
abbrev gLt (a : FVec Ideal S225 .f32) (p : FVec Ideal S254 .f32) : S225x254.Idx → BitVec 1 :=
  cmpf .olt
    (broadcastInDim S225x254 ![0, 1] bcast_S225x1_S225x254_0_1 (broadcastInDim S225x1 ![0] bcast_S225_S225x1_0
      (mulf a (broadcastInDim S225 ![] bcast_S_S225 (constant S_ .f32 0x3B124925#32)))))
    (broadcastInDim S225x254 ![0, 1] bcast_S1x254_S225x254_0_1 (broadcastInDim S1x254 ![1] bcast_S254_S1x254_1 p))
/-- Those powers, and infinity in the others' place. -/
abbrev gCand (l : S225x254.Idx → BitVec 1) (p : FVec Ideal S254 .f32) (i : FVec Ideal S_ .f32) : FVec Ideal S225x254 .f32 :=
  select l (broadcastInDim S225x254 ![1] bcast_S254_S225x254_1 p) (broadcastInDim S225x254 ![] bcast_S_S225x254 i)
/-- The least of them. -/
abbrev gLeast (x : FVec Ideal S225x254 .f32) : FVec Ideal S225 .f32 :=
  Host.reduce FloatOps.minimumf x (constant S_ .f32 0x7F800000#32) reducesTo_S225x254_S225_d1 h_S_
/-- Which entries are zero. -/
abbrev gZero (a : FVec Ideal S225 .f32) : S225.Idx → BitVec 1 :=
  cmpf .oeq a (broadcastInDim S225 ![] bcast_S_S225 (constant S_ .f32 0x00000000#32))
/-- A constant where the flag is set, the other value elsewhere. -/
abbrev gSel (z : S225.Idx → BitVec 1) (o : FVec Ideal S_ .f32) (x : FVec Ideal S225 .f32) : FVec Ideal S225 .f32 :=
  select z (broadcastInDim S225 ![] bcast_S_S225 o) x
/-- The quotients by the scale. -/
abbrev gQuot (u : FVec Ideal S225x512 .f32) (s : FVec Ideal S225 .f32) : FVec Ideal S225x512 .f32 :=
  Host.divf u (broadcastInDim S225x512 ![0, 1] bcast_S225x1_S225x512_0_1 (broadcastInDim S225x1 ![0] bcast_S225_S225x1_0 s))
/-- The quotients clipped. -/
abbrev gClip (hi lo : FVec Ideal S_ .f32) (x : FVec Ideal S225x512 .f32) : FVec Ideal S225x512 .f32 :=
  minimumf (broadcastInDim S225x512 ![] bcast_S_S225x512 hi) (maximumf (broadcastInDim S225x512 ![] bcast_S_S225x512 lo) x)
/-- The second layer's product, with both scales on. -/
abbrev gRaw (x : FVec Ideal S225x512 .f32) (w : FVec Ideal S512x36 .f32) (s : FVec Ideal S225 .f32) (s2 : FVec Ideal S36 .f32) : FVec Ideal S225x36 .f32 :=
  mulf (mulf (Host.dotGeneral dot_S225x512_S512x36_S225x36_1_0_0_1_n_n none x w)
      (broadcastInDim S225x36 ![0, 1] bcast_S225x1_S225x36_0_1 (broadcastInDim S225x1 ![0] bcast_S225_S225x1_0 s)))
    (broadcastInDim S225x36 ![0, 1] bcast_S1x36_S225x36_0_1 (broadcastInDim S1x36 ![1] bcast_S36_S1x36_1 s2))
/-- The table of given products. -/
abbrev gTab (y : FVec Ideal S225x36 .f32) : FVec Ideal S225x36 .f32 :=
  mulf (broadcastInDim S225x36 ![] bcast_S_S225x36 (constant S_ .f32 0x41800000#32))
    (Host.divf (broadcastInDim S225x36 ![] bcast_S_S225x36 (constant S_ .f32 0x3F800000#32))
      (addf (broadcastInDim S225x36 ![] bcast_S_S225x36 (constant S_ .f32 0x3F800000#32)) (Host.exp (Host.negf y))))
/-- The same, heads first. -/
abbrev gRel (y : FVec Ideal S225x36 .f32) : FVec Ideal S36x225 .f32 := transpose S36x225 [1, 0] (gTab y) transposes_S225x36_S36x225_1_0
/-- A window position's row and column. -/
abbrev gRow : IVec S64 32 := Host.shrsi (iotaInDim S64 32 0) (broadcastInDim S64 ![] bcast_S_S64 (constantI S_ 32 3#32))
abbrev gCl : IVec S64 32 := andi (iotaInDim S64 32 0) (broadcastInDim S64 ![] bcast_S_S64 (constantI S_ 32 7#32))
/-- The differences of every two, shifted to start at zero. -/
abbrev gDif (a : IVec S64 32) : IVec S64x64 32 :=
  subi (addi (subi (broadcastInDim S64x64 ![0, 1] bcast_S64x1_S64x64_0_1 (broadcastInDim S64x1 ![0] bcast_S64_S64x1_0 a))
        (broadcastInDim S64x64 ![0, 1] bcast_S1x64_S64x64_0_1 (broadcastInDim S1x64 ![1] bcast_S64_S1x64_1 a)))
      (broadcastInDim S64x64 ![] bcast_S_S64x64 (constantI S_ 32 8#32)))
    (broadcastInDim S64x64 ![] bcast_S_S64x64 (constantI S_ 32 1#32))
/-- The table rows of every query and key. -/
abbrev gInd : IVec S64x64 32 := addi (muli (gDif gRow) (broadcastInDim S64x64 ![] bcast_S_S64x64 (constantI S_ 32 15#32))) (gDif gCl)
/-- Those, a negative one counted from the end. -/
abbrev gWrap (x : IVec S64x64 32) : IVec S64x64x1 32 :=
  broadcastInDim S64x64x1 ![0, 1] bcast_S64x64_S64x64x1_0_1
    (select (cmpi .slt x (broadcastInDim S64x64 ![] bcast_S_S64x64 (constantI S_ 32 0#32))) (addi x (broadcastInDim S64x64 ![] bcast_S_S64x64 (constantI S_ 32 225#32))) x)
/-- The rows taken of a table. -/
abbrev gTake (x : FVec Ideal S225x36 .f32) (i : IVec S64x64x1 32) : FVec Ideal S64x64x36 .f32 :=
  Host.gather gather_S225x36_S64x64x1_S64x64x36_2_0_n_n_0_2_136 x i
/-- The bias of what was taken: heads first, keys before queries, in base two. -/
abbrev gSc (x : FVec Ideal S64x64x36 .f32) : FVec Ideal S36x64x64 .f32 :=
  mulf (transpose S36x64x64 [2, 1, 0] x transposes_S64x64x36_S36x64x64_2_1_0) (broadcastInDim S36x64x64 ![] bcast_S_S36x64x64 (constant S_ .f32 0x3FB8AA3B#32))
/-- The same twice along the lanes. -/
abbrev gTwo (x : FVec Ideal S36x64x64 .f32) : FVec Ideal S36x64x128 .f32 :=
  concatenate S36x64x128 2 [⟨S36x64x64, x⟩, ⟨S36x64x64, x⟩] concatenates_S36x64x64_S36x64x64_S36x64x128_d2
/-- The heads' temperatures along the lanes, four rows of zeros below. -/
abbrev gTau (l : FVec Ideal S36 .f32) : FVec Ideal S40x128 .f32 :=
  concatenate S40x128 0
    [⟨S36x128, broadcastInDim S36x128 ![0, 1] bcast_S36x1_S36x128_0_1 (broadcastInDim S36x1 ![0] bcast_S36_S36x1_0
        (mulf (Host.exp (minimumf l (broadcastInDim S36 ![] bcast_S_S36 (constant S_ .f32 0x40935D8E#32)))) (broadcastInDim S36 ![] bcast_S_S36 (constant S_ .f32 0x3FB8AA3B#32))))⟩,
     ⟨S4x128, broadcastInDim S4x128 ![] bcast_S_S4x128 (constant S_ .f32 0x00000000#32)⟩] concatenates_S36x128_S4x128_S40x128_d0
/-- The scales as a column. -/
abbrev gCol (s : FVec Ideal S225 .f32) : FVec Ideal S225x1 .f32 := broadcastInDim S225x1 ![0] bcast_S225_S225x1_0 s

/-- The log-spaced coordinates. -/
def rF : FVec Ideal S15 .f32 := gF rD
/-- The table rows' coordinates. -/
def rCo : FVec Ideal S225x2 .f32 := gCo rF
/-- The hidden layer. -/
def rHid (w : FVec Ideal S2x512 .f32) (b : FVec Ideal S512 .f32) : FVec Ideal S225x512 .f32 := gHid rCo w b
/-- Its rows' largest entries. -/
def rAmax (w : FVec Ideal S2x512 .f32) (b : FVec Ideal S512 .f32) : FVec Ideal S225 .f32 := gAmax (rHid w b)
/-- The powers of two. -/
def rPow : FVec Ideal S254 .f32 :=
  Host.powf (broadcastInDim S254 ![] bcast_S_S254 (constant S_ .f32 0x40000000#32))
    (subf (sitofp .f32 (iotaInDim S254 32 0)) (broadcastInDim S254 ![] bcast_S_S254 (constant S_ .f32 0x42FC0000#32)))
/-- Where a power exceeds the largest entry over the largest code, that power; elsewhere infinity. -/
def rCand (w : FVec Ideal S2x512 .f32) (b : FVec Ideal S512 .f32) : FVec Ideal S225x254 .f32 := gCand (gLt (rAmax w b) rPow) rPow (gC 0x7F800000#32)
/-- The scale of a row: one if the row is zero, else the least candidate. -/
def rScale (w : FVec Ideal S2x512 .f32) (b : FVec Ideal S512 .f32) : FVec Ideal S225 .f32 := gSel (gZero (rAmax w b)) (gC 0x3F800000#32) (gLeast (rCand w b))
/-- The clipped quotients, before they are rounded. -/
def rIn (w : FVec Ideal S2x512 .f32) (b : FVec Ideal S512 .f32) : FVec Ideal S225x512 .f32 :=
  gClip (gC 0x43E00000#32) (gC 0xC3E00000#32) (gQuot (rHid w b) (rScale w b))
/-- The table. -/
def rRel (w : FVec Ideal S2x512 .f32) (b : FVec Ideal S512 .f32) (w2 : FVec Ideal S512x36 .f32) (s2 : FVec Ideal S36 .f32) : FVec Ideal S36x225 .f32 :=
  gRel (gRaw (rIn w b) w2 (rScale w b) s2)
/-- The bias of every head, key and query. -/
def rBias (w : FVec Ideal S2x512 .f32) (b : FVec Ideal S512 .f32) (w2 : FVec Ideal S512x36 .f32) (s2 : FVec Ideal S36 .f32) : FVec Ideal S36x64x128 .f32 :=
  gTwo (gSc (gTake (gTab (gRaw (rIn w b) w2 (rScale w b) s2)) (gWrap gInd)))
/-- The heads' temperatures. -/
def rTau (l : FVec Ideal S36 .f32) : FVec Ideal S40x128 .f32 := gTau l

/-! ## The lines, chunk by chunk -/

section
variable (W : Valuation τ sig (Elt Ideal))

/-- What chunk 0 of the lines does not write it keeps. -/
theorem keep0 {r : Ref sig .tc} (hr : r ∉ ([main_v0, main_cst, main_v1, main_v2, main_v3, main_v4, main_cst_0, main_v5, main_v6, main_cst_1, main_v7, main_v8, main_cst_2, main_v9, main_v10, main_v11, main_cst_3, main_v12, main_v13, main_v14, main_cst_4, main_v15, main_v16, main_v17, main_v18, main_v19, main_v20, main_v21, main_v22, main_v23, main_v24, main_v25, main_v26, main_cst_5, main_v27, main_v28, main_v29, main_cst_6, main_v30, main_cst_7, main_v31, main_v32, main_v33, main_cst_8, main_v34, main_v35, main_cst_9, main_v36, main_v37, main_v38, main_v39, main_v40, main_v41, main_v42, main_cst_10] : List (Ref sig .tc))) :
    after (hostOps0 (F := Ideal)) W (Proc.devRef .tc r) = W (Proc.devRef .tc r) :=
  after_of_writes_sub _ W (forall_writes_sub_of_map rfl) hr

/-- What chunk 0_1 of the lines does not write it keeps. -/
theorem keep0_1 {r : Ref sig .tc} (hr : r ∉ ([main_call0_v0, main_call0_v1, main_call0_v2, main_v43] : List (Ref sig .tc))) :
    after (hostOps0_1 (F := Ideal)) W (Proc.devRef .tc r) = W (Proc.devRef .tc r) :=
  after_of_writes_sub _ W (forall_writes_sub_of_map rfl) hr

/-- What chunk 0_2 of the lines does not write it keeps. -/
theorem keep0_2 {r : Ref sig .tc} (hr : r ∉ ([main_cst_11, main_v44, main_cst_12, main_v45, main_v46, main_cst_13] : List (Ref sig .tc))) :
    after (hostOps0_2 (F := Ideal)) W (Proc.devRef .tc r) = W (Proc.devRef .tc r) :=
  after_of_writes_sub _ W (forall_writes_sub_of_map rfl) hr

/-- What chunk 0_3 of the lines does not write it keeps. -/
theorem keep0_3 {r : Ref sig .tc} (hr : r ∉ ([main_call1_v0, main_call1_v1, main_v47] : List (Ref sig .tc))) :
    after (hostOps0_3 (F := Ideal)) W (Proc.devRef .tc r) = W (Proc.devRef .tc r) :=
  after_of_writes_sub _ W (forall_writes_sub_of_map rfl) hr

/-- What chunk 0_4 of the lines does not write it keeps. -/
theorem keep0_4 {r : Ref sig .tc} (hr : r ∉ ([main_v48, main_v49, main_v50, main_cst_14, main_cst_15] : List (Ref sig .tc))) :
    after (hostOps0_4 (F := Ideal)) W (Proc.devRef .tc r) = W (Proc.devRef .tc r) :=
  after_of_writes_sub _ W (forall_writes_sub_of_map rfl) hr

/-- What chunk 0_5 of the lines does not write it keeps. -/
theorem keep0_5 {r : Ref sig .tc} (hr : r ∉ ([main_call2_v0, main_call2_v1, main_call2_v2, main_call2_v3, main_call2_v4, main_v51] : List (Ref sig .tc))) :
    after (hostOps0_5 (F := Ideal)) W (Proc.devRef .tc r) = W (Proc.devRef .tc r) :=
  after_of_writes_sub _ W (forall_writes_sub_of_map rfl) hr

/-- What chunk 1 of the lines does not write it keeps. -/
theorem keep1 {r : Ref sig .tc} (hr : r ∉ ([main_v53, main_v54, main_v55, main_v56, main_v57, main_v58, main_v59, main_v60, main_v61, main_cst_16, main_v62, main_v63, main_cst_17, main_v64, main_v65, main_cst_18, main_v66, main_v67, main_v68, main_c, main_v69, main_v70, main_c_19, main_v71, main_v72, main_v73, main_v74, main_v75, main_v76, main_v77, main_c_20, main_v78, main_v79, main_c_21, main_v80, main_v81, main_c_22, main_v82, main_v83, main_v84, main_v85, main_v86, main_v87, main_v88, main_c_23, main_v89, main_v90, main_c_24, main_v91, main_v92, main_v93, main_c_25, main_v94, main_v95, main_c_26, main_v96, main_v97, main_v98, main_v99, main_v100, main_v101, main_cst_27, main_v102, main_v103, main_cst_28, main_v104, main_v105, main_v106, main_cst_29, main_v107, main_v108, main_v109, main_v110, main_v111, main_v112, main_v113, main_cst_30, main_v114, main_v115] : List (Ref sig .tc))) :
    after (hostOps1 (F := Ideal)) W (Proc.devRef .tc r) = W (Proc.devRef .tc r) :=
  after_of_writes_sub _ W (forall_writes_sub_of_map rfl) hr

theorem hid : after (hostOps0 (F := Ideal)) W (Proc.devRef .tc main_v28) = rHid (W (Proc.devRef .tc main_arg1)) (W (Proc.devRef .tc main_arg2)) := by
  after_results
  try rfl

theorem amax : after (hostOps0 (F := Ideal)) W (Proc.devRef .tc main_v30) = rAmax (W (Proc.devRef .tc main_arg1)) (W (Proc.devRef .tc main_arg2)) := by
  after_results
  try rfl

theorem pow : after (hostOps0 (F := Ideal)) W (Proc.devRef .tc main_v37) = rPow := by
  after_results
  try rfl

theorem lt : after (hostOps0 (F := Ideal)) W (Proc.devRef .tc main_v42) = gLt (rAmax (W (Proc.devRef .tc main_arg1)) (W (Proc.devRef .tc main_arg2))) rPow := by
  after_results
  try rfl

theorem inf : after (hostOps0 (F := Ideal)) W (Proc.devRef .tc main_cst_10) = gC 0x7F800000#32 := by
  after_results
  try rfl

theorem cand : after (hostOps0_1 (F := Ideal)) W (Proc.devRef .tc main_v43) = gCand (W (Proc.devRef .tc main_v42)) (W (Proc.devRef .tc main_v37)) (W (Proc.devRef .tc main_cst_10)) := by
  after_results
  try rfl

theorem least : after (hostOps0_2 (F := Ideal)) W (Proc.devRef .tc main_v44) = gLeast (W (Proc.devRef .tc main_v43)) := by
  after_results
  try rfl

theorem zero : after (hostOps0_2 (F := Ideal)) W (Proc.devRef .tc main_v46) = gZero (W (Proc.devRef .tc main_v30)) := by
  after_results
  try rfl

theorem one : after (hostOps0_2 (F := Ideal)) W (Proc.devRef .tc main_cst_13) = gC 0x3F800000#32 := by
  after_results
  try rfl

theorem scale : after (hostOps0_3 (F := Ideal)) W (Proc.devRef .tc main_v47) = gSel (W (Proc.devRef .tc main_v46)) (W (Proc.devRef .tc main_cst_13)) (W (Proc.devRef .tc main_v44)) := by
  after_results
  try rfl

theorem quot : after (hostOps0_4 (F := Ideal)) W (Proc.devRef .tc main_v50) = gQuot (W (Proc.devRef .tc main_v28)) (W (Proc.devRef .tc main_v47)) := by
  after_results
  try rfl

theorem lo : after (hostOps0_4 (F := Ideal)) W (Proc.devRef .tc main_cst_14) = gC 0xC3E00000#32 := by
  after_results
  try rfl

theorem hi : after (hostOps0_4 (F := Ideal)) W (Proc.devRef .tc main_cst_15) = gC 0x43E00000#32 := by
  after_results
  try rfl

theorem clip : after (hostOps0_5 (F := Ideal)) W (Proc.devRef .tc main_v51) = gClip (W (Proc.devRef .tc main_cst_15)) (W (Proc.devRef .tc main_cst_14)) (W (Proc.devRef .tc main_v50)) := by
  after_results
  try rfl

theorem rel : after (hostOps1 (F := Ideal)) W (Proc.devRef .tc main_v111) = gRel (gRaw (W (Proc.devRef .tc main_v52_1)) (W (Proc.devRef .tc main_v52_2)) (W (Proc.devRef .tc main_v47)) (W (Proc.devRef .tc main_arg4))) := by
  after_results
  try rfl

theorem col : after (hostOps1 (F := Ideal)) W (Proc.devRef .tc main_v112) = gCol (W (Proc.devRef .tc main_v47)) := by
  after_results
  try rfl

theorem bias : after (hostOps1 (F := Ideal)) W (Proc.devRef .tc main_v113) = gTwo (gSc (gTake (gTab (gRaw (W (Proc.devRef .tc main_v52_1)) (W (Proc.devRef .tc main_v52_2)) (W (Proc.devRef .tc main_v47)) (W (Proc.devRef .tc main_arg4)))) (gWrap gInd))) := by
  after_results
  try rfl

theorem tau : after (hostOps1 (F := Ideal)) W (Proc.devRef .tc main_v115) = gTau (W (Proc.devRef .tc main_arg0)) := by
  after_results
  try rfl

end

end Cert.BiasReferenceIdeal.Hand

end
-- ==== Proof.BiasRefHost.lean ====
/-
  What the bias reference's launch leaves in the three results' buffers, as one expression of the arguments each.
-/
module

public import proofs.«01_k».proof.Proof.BiasRefRun
public import Idealize.ShloMosaic.Lib.Pipeline.ValueKit.Geometry

@[expose] public section

set_option maxRecDepth 16384

noncomputable section

namespace Cert.BiasReferenceIdeal.Hand

open Cert.BiasReferenceIdeal Cert.BiasReferenceIdeal.Gen
open Idealize.ShloMosaic Idealize.ShloMosaic.TcCoe Idealize.ShloMosaic.Tactic
open Idealize.ShloMosaic.StableHlo (after after_append)
open Idealize.SL.Sem

variable (m : (ℓ : Loc nD τ sig) → Buf (Elt Ideal) ℓ) (ρ : Dev nD → PrngReg) (c : Dev nD)

/-! ## The rounding body leaves its inputs: at the ideal values a cast changes nothing -/

theorem pay1_eq (x : Vec Ideal S225x512 .f32) : k0_pay1 x = x := by
  unfold k0_pay1
  simp only [shapeCast_self]
  rfl
theorem pay2_eq (x : Vec Ideal S225x512 .fp8e4m3) : k0_pay2 x = x := by
  unfold k0_pay2
  simp only [shapeCast_self]
  rfl
theorem pay3_eq (x : Vec Ideal S512x36 .fp8e4m3) : k0_pay3 x = x := by
  unfold k0_pay3
  rfl
theorem zero2 : (![0, 0] : Fin 2 → Nat) = fun _ => 0 := by
  funext a; fin_cases a <;> rfl

section
variable (arg0 : Memref sig .tc .vmem S225x512 .f32) (harg0 : arg0.IsWhole) (arg1 : Memref sig .tc .vmem S512x36 .fp8e4m3) (harg1 : arg1.IsWhole) (arg2 : Memref sig .tc .vmem S225x512 .fp8e4m3) (harg2 : arg2.IsWhole) (arg3 : Memref sig .tc .vmem S225x512 .f32) (harg3 : arg3.IsWhole) (arg4 : Memref sig .tc .vmem S512x36 .f32) (harg4 : arg4.IsWhole)
    (x0 : Vec Ideal S225x512 .f32) (x1 : Vec Ideal S512x36 .fp8e4m3)
theorem H2_eq : kernelRun0_A.sl.H2_1 c arg0 harg0 x0 = [⟨Rect.unit ![0, 0] S225x512.size inb_S225x512_S225x512_0_0, x0⟩] := by
  unfold kernelRun0_A.sl.H2_1
  rw [View.readAt_eq_ld, harg0.read_unread, View.ld_unit_zero zero2, pay1_eq]
theorem out2_eq : out0_A_2 c arg0 harg0 arg1 harg1 arg2 harg2 arg3 harg3 arg4 harg4 x0 x1 = x0 := by
  unfold out0_A_2
  rw [View.read_writes_eq_canon _ _ _ (cover0_A_2 c arg0 harg0 arg1 harg1 arg2 harg2 arg3 harg3 arg4 harg4 x0 x1)]
  unfold kernelRun0_A
  dsimp only
  rw [H2_eq]
  exact View.canon_unit_zero zero2 _ _
theorem out3_eq : out0_A_3 c arg0 harg0 arg1 harg1 arg2 harg2 arg3 harg3 arg4 harg4 x0 x1 = x0 := by
  unfold out0_A_3
  rw [View.read_writes_eq_canon _ _ _ (cover0_A_3 c arg0 harg0 arg1 harg1 arg2 harg2 arg3 harg3 arg4 harg4 x0 x1)]
  unfold kernelRun0_A
  dsimp only [kernelRun0_A.sl.v4]
  rw [H2_eq, View.readCov_unit_zero _ zero2, pay2_eq]
  exact View.canon_unit_zero zero2 _ _
theorem out4_eq : out0_A_4 c arg0 harg0 arg1 harg1 arg2 harg2 arg3 harg3 arg4 harg4 x0 x1 = x1 := by
  unfold out0_A_4
  rw [View.read_writes_eq_canon _ _ _ (cover0_A_4 c arg0 harg0 arg1 harg1 arg2 harg2 arg3 harg3 arg4 harg4 x0 x1)]
  unfold kernelRun0_A
  dsimp only
  rw [View.readAt_eq_ld, harg1.read_unread, View.ld_unit_zero zero2, pay3_eq]
  exact View.canon_unit_zero zero2 _ _
end

theorem at0 : ∀ t : Fin cfg0.N, ∀ a, win0_0.index t a = 0 := by decide +kernel
theorem blk0 (t : Fin cfg0.N) (X : Buf (Elt Ideal) (((cfg0.win 0).blk t).view.loc (c : Thread nD τ))) (y : S225x512.Idx) :
    ((cfg0.win 0).blk t).view.read (Elt Ideal) X y = X y := by
  refine congrArg X ?_
  funext a
  apply Fin.ext
  exact Pipeline.Window.rect_emb_val_of_index_zero win0_0 t a (at0 t a) y
theorem iblk0 (t : Fin cfg0.N) (X : FVec Ideal S225x512 .f32) (hX : V m c (Pipeline.arrRef spec0 0) = X) :
    iblk m c 0 t = X := by
  unfold iblk
  rw [hX]
  exact funext (blk0 c t X)

theorem at1 : ∀ t : Fin cfg0.N, ∀ a, win0_1.index t a = 0 := by decide +kernel
theorem blk1 (t : Fin cfg0.N) (X : Buf (Elt Ideal) (((cfg0.win 1).blk t).view.loc (c : Thread nD τ))) (y : S512x36.Idx) :
    ((cfg0.win 1).blk t).view.read (Elt Ideal) X y = X y := by
  refine congrArg X ?_
  funext a
  apply Fin.ext
  exact Pipeline.Window.rect_emb_val_of_index_zero win0_1 t a (at1 t a) y
theorem iblk1 (t : Fin cfg0.N) (X : FVec Ideal S512x36 .fp8e4m3) (hX : V m c (Pipeline.arrRef spec0 1) = X) :
    iblk m c 1 t = X := by
  unfold iblk
  rw [hX]
  exact funext (blk1 c t X)

theorem whole2 : (cfg0.win 2).WholeAt t0_0 := by decide +kernel
/-- The rounding's output 0 is its input 0. -/
theorem arr2 (X : FVec Ideal S225x512 .f32) (hX : V m c (Pipeline.arrRef spec0 0) = X) :
    (dats m 0 c).arrAt 2 cfg0.N = X := by
  have h : (dats m 0 c).after 2 t0_0 = X := by
    rw [after0_2]
    unfold outsAt0
    dsimp only
    rw [out2_eq]
    exact iblk0 m c t0_0 X hX
  refine Pipeline.Dat.arrAt_eq_of_after_last (dats m 0 c) 2 t0_0 whole2 X fun j => ?_
  rw [h]
  rfl

theorem whole3 : (cfg0.win 3).WholeAt t0_0 := by decide +kernel
/-- The rounding's output 1 is its input 0. -/
theorem arr3 (X : FVec Ideal S225x512 .f32) (hX : V m c (Pipeline.arrRef spec0 0) = X) :
    (dats m 0 c).arrAt 3 cfg0.N = X := by
  have h : (dats m 0 c).after 3 t0_0 = X := by
    rw [after0_3]
    unfold outsAt0
    dsimp only
    rw [out3_eq]
    exact iblk0 m c t0_0 X hX
  refine Pipeline.Dat.arrAt_eq_of_after_last (dats m 0 c) 3 t0_0 whole3 X fun j => ?_
  rw [h]
  rfl

theorem whole4 : (cfg0.win 4).WholeAt t0_0 := by decide +kernel
/-- The rounding's output 2 is its input 1. -/
theorem arr4 (X : FVec Ideal S512x36 .f32) (hX : V m c (Pipeline.arrRef spec0 1) = X) :
    (dats m 0 c).arrAt 4 cfg0.N = X := by
  have h : (dats m 0 c).after 4 t0_0 = X := by
    rw [after0_4]
    unfold outsAt0
    dsimp only
    rw [out4_eq]
    exact iblk1 m c t0_0 X hX
  refine Pipeline.Dat.arrAt_eq_of_after_last (dats m 0 c) 4 t0_0 whole4 X fun j => ?_
  rw [h]
  rfl

/-! ## The lines before the rounding -/

theorem pre_scale : V0 m c (Proc.devRef .tc main_v47) = rScale (m (c, Proc.devRef .tc main_arg1)) (m (c, Proc.devRef .tc main_arg2)) := by
  unfold V0
  simp only [List.flatten_cons, List.flatten_nil, List.append_nil, after_append]
  rw [keep0_5 _ (r := main_v47) (by decide),
    keep0_4 _ (r := main_v47) (by decide),
    scale,
    zero,
    keep0_1 _ (r := main_v30) (by decide),
    amax,
    one,
    least,
    cand,
    lt,
    pow,
    inf]
  try rfl

theorem pre_clip : V0 m c (Proc.devRef .tc main_v51) = rIn (m (c, Proc.devRef .tc main_arg1)) (m (c, Proc.devRef .tc main_arg2)) := by
  unfold V0
  simp only [List.flatten_cons, List.flatten_nil, List.append_nil, after_append]
  rw [clip,
    hi,
    lo,
    quot,
    keep0_3 _ (r := main_v28) (by decide),
    keep0_2 _ (r := main_v28) (by decide),
    keep0_1 _ (r := main_v28) (by decide),
    hid,
    scale,
    zero,
    keep0_1 _ (r := main_v30) (by decide),
    amax,
    one,
    least,
    cand,
    lt,
    pow,
    inf]
  try rfl

theorem pre_arg0 : V0 m c (Proc.devRef .tc main_arg0) = m (c, Proc.devRef .tc main_arg0) := by
  unfold V0
  simp only [List.flatten_cons, List.flatten_nil, List.append_nil, after_append]
  rw [keep0_5 _ (r := main_arg0) (by decide),
    keep0_4 _ (r := main_arg0) (by decide),
    keep0_3 _ (r := main_arg0) (by decide),
    keep0_2 _ (r := main_arg0) (by decide),
    keep0_1 _ (r := main_arg0) (by decide),
    keep0 _ (r := main_arg0) (by decide)]
  try rfl

theorem pre_arg3 : V0 m c (Proc.devRef .tc main_arg3) = m (c, Proc.devRef .tc main_arg3) := by
  unfold V0
  simp only [List.flatten_cons, List.flatten_nil, List.append_nil, after_append]
  rw [keep0_5 _ (r := main_arg3) (by decide),
    keep0_4 _ (r := main_arg3) (by decide),
    keep0_3 _ (r := main_arg3) (by decide),
    keep0_2 _ (r := main_arg3) (by decide),
    keep0_1 _ (r := main_arg3) (by decide),
    keep0 _ (r := main_arg3) (by decide)]
  try rfl

theorem pre_arg4 : V0 m c (Proc.devRef .tc main_arg4) = m (c, Proc.devRef .tc main_arg4) := by
  unfold V0
  simp only [List.flatten_cons, List.flatten_nil, List.append_nil, after_append]
  rw [keep0_5 _ (r := main_arg4) (by decide),
    keep0_4 _ (r := main_arg4) (by decide),
    keep0_3 _ (r := main_arg4) (by decide),
    keep0_2 _ (r := main_arg4) (by decide),
    keep0_1 _ (r := main_arg4) (by decide),
    keep0 _ (r := main_arg4) (by decide)]
  try rfl

/-! ## The lines after it -/

/-- The buffers as the rounding leaves them. -/
abbrev mid : Valuation τ sig (Elt Ideal) :=
  Pipeline.withArrays (cfgs 0).spec c (V0 m c) fun w => (dats m 0 c).arrAt w (cfgs 0).N

theorem spec0_inj : Function.Injective (Pipeline.arrRef spec0) := by decide
theorem mid_v52_0 : mid m c (Proc.devRef .tc main_v52_0) = rIn (m (c, Proc.devRef .tc main_arg1)) (m (c, Proc.devRef .tc main_arg2)) :=
  (Pipeline.withArrays_arr spec0 spec0_inj c (V0 m c) _ 2).trans (arr2 m c _ (pre_clip m c))
theorem mid_v52_1 : mid m c (Proc.devRef .tc main_v52_1) = rIn (m (c, Proc.devRef .tc main_arg1)) (m (c, Proc.devRef .tc main_arg2)) :=
  (Pipeline.withArrays_arr spec0 spec0_inj c (V0 m c) _ 3).trans (arr3 m c _ (pre_clip m c))
theorem mid_v52_2 : mid m c (Proc.devRef .tc main_v52_2) = m (c, Proc.devRef .tc main_arg3) :=
  (Pipeline.withArrays_arr spec0 spec0_inj c (V0 m c) _ 4).trans (arr4 m c _ (pre_arg3 m c))
theorem mid_v47 : mid m c (Proc.devRef .tc main_v47) = rScale (m (c, Proc.devRef .tc main_arg1)) (m (c, Proc.devRef .tc main_arg2)) :=
  (Pipeline.withArrays_of_ne spec0 c (V0 m c) _ main_v47 (by decide)).trans (pre_scale m c)
theorem mid_arg4 : mid m c (Proc.devRef .tc main_arg4) = m (c, Proc.devRef .tc main_arg4) :=
  (Pipeline.withArrays_of_ne spec0 c (V0 m c) _ main_arg4 (by decide)).trans (pre_arg4 m c)

theorem mid_arg0 : mid m c (Proc.devRef .tc main_arg0) = m (c, Proc.devRef .tc main_arg0) :=
  (Pipeline.withArrays_of_ne spec0 c (V0 m c) _ main_arg0 (by decide)).trans (pre_arg0 m c)

/-- What a buffer holds at the end. -/
abbrev fin (r : Ref sig .tc) : Buf (Elt Ideal) ((c.tc : Thread nD τ).loc r) :=
  Pipeline.afterTail₀ cfgs (dats m) 0 (V0 m) [hostOps1] c r

theorem fin_rel : fin m c main_v111 = rRel (m (c, Proc.devRef .tc main_arg1)) (m (c, Proc.devRef .tc main_arg2)) (m (c, Proc.devRef .tc main_arg3)) (m (c, Proc.devRef .tc main_arg4)) := by
  show after _ (mid m c) _ = _
  simp only [List.flatten_cons, List.flatten_nil, List.append_nil, after_append]
  rw [rel,
    mid_v52_1,
    mid_v52_2,
    mid_v47,
    mid_arg4]
  try rfl

theorem fin_bias : fin m c main_v113 = rBias (m (c, Proc.devRef .tc main_arg1)) (m (c, Proc.devRef .tc main_arg2)) (m (c, Proc.devRef .tc main_arg3)) (m (c, Proc.devRef .tc main_arg4)) := by
  show after _ (mid m c) _ = _
  simp only [List.flatten_cons, List.flatten_nil, List.append_nil, after_append]
  rw [bias,
    mid_v52_1,
    mid_v52_2,
    mid_v47,
    mid_arg4]
  try rfl

theorem fin_tau : fin m c main_v115 = rTau (m (c, Proc.devRef .tc main_arg0)) := by
  show after _ (mid m c) _ = _
  simp only [List.flatten_cons, List.flatten_nil, List.append_nil, after_append]
  rw [tau,
    mid_arg0]
  try rfl

theorem fin_code : fin m c main_v52_0 = rIn (m (c, Proc.devRef .tc main_arg1)) (m (c, Proc.devRef .tc main_arg2)) := by
  show after _ (mid m c) _ = _
  simp only [List.flatten_cons, List.flatten_nil, List.append_nil, after_append]
  rw [keep1 _ (r := main_v52_0) (by decide),
    mid_v52_0]
  try rfl

theorem fin_scale : fin m c main_v112 = gCol (rScale (m (c, Proc.devRef .tc main_arg1)) (m (c, Proc.devRef .tc main_arg2))) := by
  show after _ (mid m c) _ = _
  simp only [List.flatten_cons, List.flatten_nil, List.append_nil, after_append]
  rw [col,
    mid_v47]
  try rfl

end Cert.BiasReferenceIdeal.Hand

end
-- ==== Proof.BiasRefVal.lean ====
/-
  The bias reference's values entry by entry, in the words of BiasSpec.
-/
module

public import proofs.«01_k».proof.Proof.BiasRefRun
public import proofs.«01_k».proof.Proof.BiasSpec
public import proofs.«01_k».proof.Proof.BiasIdx
public import proofs.«01_k».proof.Proof.RefVal
public import Idealize.ShloMosaic.Lib.Pointwise
public import Idealize.ShloMosaic.Lib.IdealHost

@[expose] public section

set_option maxRecDepth 16384

noncomputable section

namespace Cert.BiasReferenceIdeal.Hand

open Cert.BiasReferenceIdeal Cert.BiasReferenceIdeal.Gen
open Idealize.ShloMosaic Idealize.ShloMosaic.TcCoe
open Cert.ReferenceIdeal.Hand (top_bits fold_min_eq two_bits one_bits k126_bits pow_two select_ofBool)

/-- An argument's entries by row and column. -/
def win (A : S2x512.Idx → EReal) : Fin 2 → Fin 512 → EReal := fun i e => A (ix2 i e)
def bin (A : S512.Idx → EReal) : Fin 512 → EReal := fun e => A (ix1 e)
def w2in (A : S512x36.Idx → EReal) : Fin 512 → Fin 36 → EReal := fun e n => A (ix2 e n)
def s2in (A : S36.Idx → EReal) : Fin 36 → EReal := fun n => A (ix1 n)

theorem rD_at (n : Fin 15) : rD (ix1 n) = (((n.val : ℝ) - 7 : ℝ) : EReal) := by
  pointwise [rD]
  have e : FloatOps.sitofp (F := Ideal) FTy.f32 (BitVec.ofNat 32 n.val) = ((n.val : ℝ) : EReal) := by
    show (((BitVec.ofNat 32 n.val).toInt : ℝ) : EReal) = _
    rw [(by decide : ∀ n : Fin 15, (BitVec.ofNat 32 n.val).toInt = (n.val : ℤ)) n]
    rfl
  rw [e, BiasSpec.bm7, ← EReal.coe_add]
  congr 1
  ring

theorem gF_at (d : FVec Ideal S15 .f32) (n : Fin 15) (r : ℝ) (h : d (ix1 n) = (r : EReal)) : gF d (ix1 n) = (BiasSpec.lc r : EReal) := by
  pointwise [gF]
  rw [h, BiasSpec.b8, BiasSpec.b7, BiasSpec.bE, BiasSpec.b3]
  have := BiasSpec.ref_lc r
  rw [EReal.coe_one] at this
  exact this

theorem rF_at (n : Fin 15) : rF (ix1 n) = (BiasSpec.lc ((n.val : ℝ) - 7) : EReal) := gF_at rD n _ (rD_at n)

theorem gCo0_at (f : FVec Ideal S15 .f32) (t : Fin 225) : gCo f (ix2 t 0) = f (ix1 ⟨t.val / 15, by omega⟩) := by
  pointwise [gCo]
theorem gCo1_at (f : FVec Ideal S15 .f32) (t : Fin 225) : gCo f (ix2 t 1) = f (ix1 ⟨t.val % 15, by omega⟩) := by
  pointwise [gCo]

theorem rCo0_at (t : Fin 225) : rCo (ix2 t 0) = (BiasSpec.cH t.val : EReal) := by
  unfold rCo; rw [gCo0_at, rF_at]; rfl
theorem rCo1_at (t : Fin 225) : rCo (ix2 t 1) = (BiasSpec.cW t.val : EReal) := by
  unfold rCo; rw [gCo1_at, rF_at]; rfl

theorem gHid_at (x : FVec Ideal S225x2 .f32) (w : FVec Ideal S2x512 .f32) (b : FVec Ideal S512 .f32) (t : Fin 225) (e : Fin 512) :
    gHid x w b (ix2 t e) = max ((∑ k : Fin 2, x (ix2 t k) * w (ix2 k e)) + b (ix1 e)) (Ideal.ofBits .f32 0x00000000#32) := by
  pointwise [gHid]

theorem rHid_at (w : FVec Ideal S2x512 .f32) (b : FVec Ideal S512 .f32) (t : Fin 225) (e : Fin 512) :
    rHid w b (ix2 t e) = BiasSpec.hid (win w) (bin b) t.val e := by
  unfold rHid
  rw [gHid_at, Fin.sum_univ_two, rCo0_at, rCo1_at]
  have : Ideal.ofBits .f32 0x00000000#32 = 0 := by simp [Ideal.ofBits, Ideal.ieee]
  rw [this]
  rfl

theorem gAmax_at (h : FVec Ideal S225x512 .f32) (t : Fin 225) : gAmax h (ix1 t) = Finset.univ.sup fun e : Fin 512 => max (h (ix2 t e)) (-(h (ix2 t e))) := by
  pointwise [gAmax]
  rw [Spec.fold_max_eq]
  rfl

theorem rAmax_at (w : FVec Ideal S2x512 .f32) (b : FVec Ideal S512 .f32) (t : Fin 225) :
    rAmax w b (ix1 t) = BiasSpec.amax (win w) (bin b) t.val := by
  unfold rAmax
  rw [gAmax_at]
  unfold BiasSpec.amax
  refine Finset.sup_congr rfl fun e _ => ?_
  rw [rHid_at, BiasSpec.hid_abs]

theorem rPow_at (n : Fin 254) : rPow (ix1 n) = Spec.pw n := by
  pointwise [rPow]
  have e : FloatOps.sitofp (F := Ideal) FTy.f32 (BitVec.ofNat 32 n.val) = ((n.val : ℝ) : EReal) := by
    show (((BitVec.ofNat 32 n.val).toInt : ℝ) : EReal) = _
    rw [(by decide : ∀ n : Fin 254, (BitVec.ofNat 32 n.val).toInt = (n.val : ℤ)) n]
    rfl
  rw [two_bits, k126_bits, e, pow_two, ← EReal.coe_sub, Ideal.exp2_coe]
  unfold Spec.pw
  rw [EReal.coe_eq_coe_iff]
  show (2 : ℝ) ^ ((n.val : ℝ) - 126) = _
  rw [← Real.rpow_intCast]
  push_cast
  rfl

theorem lt_at (a : FVec Ideal S225 .f32) (p : FVec Ideal S254 .f32) (t : Fin 225) (k : Fin 254) :
    gLt a p (ix2 t k) = BitVec.ofBool (decide (a (ix1 t) * Spec.k448 < p (ix1 k))) := by
  pointwise [gLt]
  rfl
theorem cand_at (l : S225x254.Idx → BitVec 1) (p : FVec Ideal S254 .f32) (x : FVec Ideal S_ .f32) (t : Fin 225) (k : Fin 254) :
    gCand l p x (ix2 t k) = Scalar.select (l (ix2 t k)) (p (ix1 k)) (x ix0) := by
  pointwise [gCand]
theorem sel_at (z : S225.Idx → BitVec 1) (o : FVec Ideal S_ .f32) (x : FVec Ideal S225 .f32) (t : Fin 225) :
    gSel z o x (ix1 t) = Scalar.select (z (ix1 t)) (o ix0) (x (ix1 t)) := by
  pointwise [gSel]
theorem zero_at (a : FVec Ideal S225 .f32) (t : Fin 225) : gZero a (ix1 t) = BitVec.ofBool (decide (a (ix1 t) = 0)) := by
  pointwise [gZero]
theorem least_at (x : FVec Ideal S225x254 .f32) (t : Fin 225) :
    gLeast x (ix1 t) = Finset.univ.fold min (Ideal.ofBits FTy.f32 2139095040#32) fun k : Fin 254 => x (ix2 t k) := by
  pointwise [gLeast]
theorem clip_at (hi lo : FVec Ideal S_ .f32) (X : FVec Ideal S225x512 .f32) (t : Fin 225) (e : Fin 512) :
    gClip hi lo X (ix2 t e) = min (hi ix0) (max (lo ix0) (X (ix2 t e))) := by
  pointwise [gClip]
theorem quot_at (X : FVec Ideal S225x512 .f32) (s : FVec Ideal S225 .f32) (t : Fin 225) (e : Fin 512) :
    gQuot X s (ix2 t e) = Ideal.div (X (ix2 t e)) (s (ix1 t)) := by
  pointwise [gQuot]
theorem gC_at (x : BitVec 32) : gC x ix0 = Ideal.ofBits FTy.f32 x := rfl

variable (w : FVec Ideal S2x512 .f32) (b : FVec Ideal S512 .f32) (t : Fin 225)

theorem rCand_at (k : Fin 254) :
    rCand w b (ix2 t k) = if BiasSpec.amax (win w) (bin b) t.val * Spec.k448 < Spec.pw k then Spec.pw k else ⊤ := by
  unfold rCand
  rw [cand_at, lt_at, rAmax_at, rPow_at, select_ofBool, gC_at, top_bits]

theorem rScale_at : rScale w b (ix1 t) = Spec.scl (BiasSpec.amax (win w) (bin b) t.val) := by
  unfold rScale
  rw [sel_at, zero_at, least_at, rAmax_at, select_ofBool, gC_at, fold_min_eq, one_bits]
  unfold Spec.scl
  simp only [rCand_at]

/-- The codes, where the scale is a positive real. -/
theorem rIn_at (hs : ∃ r : ℝ, 0 < r ∧ Spec.scl (BiasSpec.amax (win w) (bin b) t.val) = (r : EReal)) (e : Fin 512) :
    rIn w b (ix2 t e) = BiasSpec.code (win w) (bin b) t.val e := by
  obtain ⟨r, hr, hs⟩ := hs
  unfold rIn
  have hne : Spec.scl (BiasSpec.amax (win w) (bin b) t.val) ≠ 0 := by
    rw [hs]; exact_mod_cast hr.ne'
  rw [clip_at, quot_at, rHid_at, rScale_at, gC_at, gC_at, Ideal.div, if_neg hne]
  rfl

theorem gRaw_at (x : FVec Ideal S225x512 .f32) (w : FVec Ideal S512x36 .f32) (s : FVec Ideal S225 .f32) (s2 : FVec Ideal S36 .f32) (t : Fin 225) (n : Fin 36) :
    gRaw x w s s2 (ix2 t n) = (∑ e : Fin 512, x (ix2 t e) * w (ix2 e n)) * s (ix1 t) * s2 (ix1 n) := by
  pointwise [gRaw]
theorem gTab_at (y : FVec Ideal S225x36 .f32) (n : Fin 36) (t : Fin 225) :
    gTab y (ix2 t n) = Ideal.ofBits .f32 0x41800000#32 * Ideal.div (Ideal.ofBits .f32 0x3F800000#32) (Ideal.ofBits .f32 0x3F800000#32 + Ideal.exp (-(y (ix2 t n)))) := by
  pointwise [gTab]
theorem gRel_at (y : FVec Ideal S225x36 .f32) (n : Fin 36) (t : Fin 225) : gRel y (ix2 n t) = gTab y (ix2 t n) := by
  pointwise [gRel]

/-- The table's entries, the table's rows first. -/
theorem tab_at (w2 : FVec Ideal S512x36 .f32) (s2 : FVec Ideal S36 .f32)
    (hs : ∃ r : ℝ, 0 < r ∧ Spec.scl (BiasSpec.amax (win w) (bin b) t.val) = (r : EReal)) (n : Fin 36) :
    gTab (gRaw (rIn w b) w2 (rScale w b) s2) (ix2 t n) = BiasSpec.rel (win w) (bin b) (w2in w2) (s2in s2) t.val n := by
  rw [gTab_at, gRaw_at, rScale_at, one_bits]
  simp only [rIn_at w b t hs]
  rfl

theorem rRel_at (w2 : FVec Ideal S512x36 .f32) (s2 : FVec Ideal S36 .f32)
    (hs : ∃ r : ℝ, 0 < r ∧ Spec.scl (BiasSpec.amax (win w) (bin b) t.val) = (r : EReal)) (n : Fin 36) :
    rRel w b w2 s2 (ix2 n t) = BiasSpec.rel (win w) (bin b) (w2in w2) (s2in s2) t.val n := by
  unfold rRel
  rw [gRel_at, tab_at w b t w2 s2 hs]

theorem gCol_at (s : FVec Ideal S225 .f32) (j : Fin 1) : gCol s (ix2 t j) = s (ix1 t) := by
  pointwise [gCol]

/-! ## The two small tables -/

/-- The rows the bias is read from are the ones of the query and the key. -/
theorem row_word : ∀ i j : Fin 64,
    let d := IntOp.addi (IntOp.muli (IntOp.subi (IntOp.addi (IntOp.subi (IntOp.shrsi .host (BitVec.ofNat 32 i.val) 3#32) (IntOp.shrsi .host (BitVec.ofNat 32 j.val) 3#32)) 8#32) 1#32) 15#32)
      (IntOp.subi (IntOp.addi (IntOp.subi (IntOp.andi (BitVec.ofNat 32 i.val) 7#32) (IntOp.andi (BitVec.ofNat 32 j.val) 7#32)) 8#32) 1#32)
    d = BitVec.ofNat 32 (BiasSpec.idx i.val j.val) := by decide +kernel
theorem ind_at (i j : Fin 64) : gInd (ix2 i j) = BitVec.ofNat 32 (BiasSpec.idx i.val j.val) := by
  pointwise [gInd, gDif, gRow, gCl]
  exact row_word i j
theorem wrap_at (x : IVec S64x64 32) (i j : Fin 64) (k : Fin 1) : gWrap x (ix3 i j k) = Scalar.select (IntOp.cmpi .slt (x (ix2 i j)) 0#32) (IntOp.addi (x (ix2 i j)) 225#32) (x (ix2 i j)) := by
  pointwise [gWrap]
theorem sc_at (x : FVec Ideal S64x64x36 .f32) (n : Fin 36) (j i : Fin 64) : gSc x (ix3 n j i) = x (ix3 i j n) * Ideal.ofBits .f32 0x3FB8AA3B#32 := by
  pointwise [gSc]
theorem two_at (x : FVec Ideal S36x64x64 .f32) (n : Fin 36) (j : Fin 64) (l : Fin 128) : gTwo x (ix3 n j l) = x (ix3 n j ⟨l.val % 64, by omega⟩) := by
  pointwise [gTwo]
  split_ifs with h
  · exact congrArg x (congrArg (ix3 n j) (Fin.ext (Nat.mod_eq_of_lt h).symm))
  · exact congrArg x (congrArg (ix3 n j) (Fin.ext (by show l.val - 64 = l.val % 64; omega)))
  · exact absurd rfl ‹_›
theorem tau_at (L : FVec Ideal S36 .f32) (n : Fin 40) (l : Fin 128) : gTau L (ix2 n l) = if h : n.val < 36 then Ideal.exp (min (L (ix1 ⟨n.val, h⟩)) (Ideal.ofBits .f32 0x40935D8E#32)) * Ideal.ofBits .f32 0x3FB8AA3B#32 else 0 := by
  pointwise [gTau]

/-- Taking rows of a table at a position. -/
theorem take_at (x : FVec Ideal S225x36 .f32) (idx : IVec S64x64x1 32) (i j : Fin 64) (n : Fin 36) (t : Fin 225) (ht : idx (ix3 i j 0) = BitVec.ofNat 32 t.val) :
    gTake x idx (ix3 i j n) = x (ix2 t n) := by
  unfold gTake Host.gather
  congr 1
  funext a
  refine Fin.ext ?_
  show GatherDims.start gather_S225x36_S64x64x1_S64x64x36_2_0_n_n_0_2_136 (ix3 i j n) idx a + GatherDims.batchCoord gather_S225x36_S64x64x1_S64x64x36_2_0_n_n_0_2_136 (ix3 i j n) a
      + GatherDims.offCoord gather_S225x36_S64x64x1_S64x64x36_2_0_n_n_0_2_136 (ix3 i j n) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S225x36_S64x64x1_S64x64x36_2_0_n_n_0_2_136.startIndexMap from List.mem_singleton.mpr rfl)]
    have hsi : gather_S225x36_S64x64x1_S64x64x36_2_0_n_n_0_2_136.siIdx (ix3 i j n) ⟨List.idxOf (0 : Fin 2) gather_S225x36_S64x64x1_S64x64x36_2_0_n_n_0_2_136.startIndexMap,
        List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi, ht]
    show min (BitVec.ofNat 32 t.val).toInt.toNat 224 = t.val
    rw [(by decide +kernel : ∀ n : Fin 225, (BitVec.ofNat 32 n.val).toInt.toNat = n.val) t]
    omega
  · have hs : GatherDims.start gather_S225x36_S64x64x1_S64x64x36_2_0_n_n_0_2_136 (ix3 i j n) idx 1 = 0 := by
      unfold GatherDims.start
      rw [dif_neg (by decide)]
    rw [hs]
    simp only [Nat.zero_add, Nat.add_zero]
    rfl

theorem rBias_at (w2 : FVec Ideal S512x36 .f32) (s2 : FVec Ideal S36 .f32)
    (hs : ∀ t : Fin 225, ∃ r : ℝ, 0 < r ∧ Spec.scl (BiasSpec.amax (win w) (bin b) t.val) = (r : EReal)) (n : Fin 36) (j : Fin 64) (l : Fin 128) :
    rBias w b w2 s2 (ix3 n j l) = BiasSpec.rel (win w) (bin b) (w2in w2) (s2in s2) (BiasSpec.idx (l.val % 64) j.val) n * Ideal.ofBits .f32 0x3FB8AA3B#32 := by
  have hl : l.val % 64 < 64 := by omega
  have hi := BiasSpec.idx_lt (l.val % 64) j.val hl
  unfold rBias
  rw [two_at, sc_at, take_at _ _ ⟨l.val % 64, hl⟩ j n ⟨_, hi⟩ ?_, tab_at w b ⟨_, hi⟩ w2 s2 (hs _)]
  rw [wrap_at, ind_at]
  exact (by decide +kernel : ∀ t : Fin 225, Scalar.select (IntOp.cmpi .slt (BitVec.ofNat 32 t.val) 0#32) (IntOp.addi (BitVec.ofNat 32 t.val) 225#32) (BitVec.ofNat 32 t.val) = BitVec.ofNat 32 t.val) ⟨_, hi⟩

end Cert.BiasReferenceIdeal.Hand

end
-- ==== Proof.BiasClose.lean ====
/-
  The position-bias call's results are its reference's, given that the first layer's weights and bias are moderate.
-/
module

public import proofs.«01_k».proof.Defs
public import proofs.«01_k».proof.Proof.BiasKer
public import proofs.«01_k».proof.Proof.BiasRefHost
public import proofs.«01_k».proof.Proof.BiasRefVal
public import Idealize.ShloMosaic.Lib.ReduceAll

@[expose] public section

set_option maxRecDepth 16384

noncomputable section

namespace Cert.BiasReferenceIdeal.Hand

open Cert.BiasReferenceIdeal Cert.BiasReferenceIdeal.Gen
open Idealize.ShloMosaic Idealize.ShloMosaic.TcCoe
open Idealize.SL.Sem

variable (m : (ℓ : Loc nD τ sig) → Buf (Elt Ideal) ℓ) (ρ : Dev nD → PrngReg)

/-- What the reference's run leaves in the results, and that it leaves the arguments. -/
theorem value :
    θ_run defs (onTc (τ := τ) (main (F := Ideal))) ⟨m, fun _ => 0, ρ⟩ (fun r => ∀ c : Dev nD,
      (r.2.mem ((c.tc : Thread nD τ).loc main_v111) = rRel (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v52_0) = rIn (m ((c.tc : Thread nD τ).loc main_arg1)) (m ((c.tc : Thread nD τ).loc main_arg2))
      ∧ r.2.mem ((c.tc : Thread nD τ).loc main_v112) = gCol (rScale (m ((c.tc : Thread nD τ).loc main_arg1)) (m ((c.tc : Thread nD τ).loc main_arg2)))
      ∧ r.2.mem ((c.tc : Thread nD τ).loc main_v113) = rBias (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v115) = rTau (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (unchanged m ρ))
  exact ⟨⟨((h.1 c).2 main_v111 (Pipeline.mem_restRefs_of main_v111 (by decide) (by decide))).trans (fin_rel m c),
    ((h.1 c).1 2).trans (arr2 m c _ (pre_clip m c)),
    ((h.1 c).2 main_v112 (Pipeline.mem_restRefs_of main_v112 (by decide) (by decide))).trans (fin_scale m c),
    ((h.1 c).2 main_v113 (Pipeline.mem_restRefs_of main_v113 (by decide) (by decide))).trans (fin_bias m c),
    ((h.1 c).2 main_v115 (Pipeline.mem_restRefs_of main_v115 (by decide) (by decide))).trans (fin_tau m c)⟩, h.2 c⟩

end Cert.BiasReferenceIdeal.Hand

namespace Cert.Proof

open Idealize.ShloMosaic Idealize.ShloMosaic.TcCoe Idealize.SL.Sem
open Cert.BiasIdeal.Hand Cert.BiasReferenceIdeal.Hand

/-- The shape relations the precondition states. -/
theorem facts_moderate : Cert.Pre_moderate_layer.Facts :=
  ⟨by decide, by decide, by decide, by decide, by decide⟩

/-- A magnitude below the bound is a moderate real's. -/
theorem moderate_of (x : EReal) (h : BitVec.ofBool (decide (max x (-x) < Ideal.ofBits FTy.f32 0x7149F2CA#32)) = 1#1) : ∃ r : ℝ, x = (r : EReal) ∧ |r| ≤ 2 ^ (100 : ℕ) := by
  refine BiasSpec.real_of_lt x ?_
  by_contra hn
  rw [decide_eq_false hn] at h
  exact absurd h (by decide)

/-- Where the precondition holds no row's largest entry is out of range. -/
theorem moderate_of_pre (A0 : FVec Ideal Cert.BiasIdeal.S36 .f32) (W : FVec Ideal Cert.BiasIdeal.S2x512 .f32) (B : FVec Ideal Cert.BiasIdeal.S512 .f32) (W2 : FVec Ideal Cert.BiasIdeal.S512x36 .fp8e4m3) (S2 : FVec Ideal Cert.BiasIdeal.S36 .f32)
    (h : @Cert.Pre_moderate_layer.fn facts_moderate Ideal _ A0 W B W2 S2 = fun _ => 1#1) : Moderate W B := by
  letI := facts_moderate
  have h0 := congrFun h (fun a => a.elim0)
  obtain ⟨hW, hB⟩ := IntOp.andi_eq_one.1 h0
  haveI : Subsingleton Cert.Pre_moderate_layer.S_.Idx := ⟨fun a b => funext fun i => i.elim0⟩
  exact fun t ht => BiasSpec.amax_le _ _ (fun i e => moderate_of _ (Host.reduce_andi_all _ _ _ _ _ hW (ix2 i e))) (fun e => moderate_of _ (Host.reduce_andi_all _ _ _ _ _ hB (ix1 e))) t ht

section
variable (W : FVec Ideal Cert.BiasIdeal.S2x512 .f32) (B : FVec Ideal Cert.BiasIdeal.S512 .f32) (W2 : FVec Ideal Cert.BiasIdeal.S512x36 .fp8e4m3) (S2 : FVec Ideal Cert.BiasIdeal.S36 .f32) (hm : Moderate W B)
include hm

theorem scale_pos (t : Fin 225) : ∃ r : ℝ, 0 < r ∧ Spec.scl (BiasSpec.amax (win W) (bin B) t.val) = (r : EReal) :=
  (BiasSpec.scl_bits _ (BiasSpec.amax_nonneg _ _ _) (hm t.val t.isLt)).2.2

theorem bias_rel_eq : rRel W B W2 S2 = relV W B W2 S2 := by
  funext y
  obtain ⟨n, t, rfl⟩ : ∃ (i : Fin 36) (j : Fin 225), y = ix2 i j := ⟨y 0, y 1, eq_ix2 y⟩
  exact rRel_at W B t W2 S2 (scale_pos W B hm t) n
theorem bias_code_eq : rIn W B = codeV W B := by
  funext y
  obtain ⟨t, e, rfl⟩ : ∃ (i : Fin 225) (j : Fin 512), y = ix2 i j := ⟨y 0, y 1, eq_ix2 y⟩
  exact rIn_at W B t (scale_pos W B hm t) e
theorem bias_bias_eq : rBias W B W2 S2 = biasV W B W2 S2 := by
  funext y
  obtain ⟨n, j, l, rfl⟩ : ∃ (i : Fin 36) (j : Fin 64) (l : Fin 128), y = ix3 i j l := ⟨y 0, y 1, y 2, eq_ix3 y⟩
  exact rBias_at W B W2 S2 (scale_pos W B hm) n j l
end

theorem bias_tau_eq (L : FVec Ideal Cert.BiasIdeal.S36 .f32) : rTau L = tauV L := by
  funext y
  obtain ⟨n, l, rfl⟩ : ∃ (i : Fin 40) (j : Fin 128), y = ix2 i j := ⟨y 0, y 1, eq_ix2 y⟩
  exact tau_at L n l

theorem bias_scale_eq (W : FVec Ideal Cert.BiasIdeal.S2x512 .f32) (B : FVec Ideal Cert.BiasIdeal.S512 .f32) : gCol (rScale W B) = scaleV W B := by
  funext y
  obtain ⟨t, j, rfl⟩ : ∃ (i : Fin 225) (j : Fin 1), y = ix2 i j := ⟨y 0, y 1, eq_ix2 y⟩
  exact (gCol_at t (rScale W B) j).trans (rScale_at W B t)

/-- The call's table, its codes and scales, the bias and the temperatures are the reference's, at the ideal instance, where the first layer is moderate. -/
theorem algebraic_bias : @Cert.algebraic_BiasIdeal_BiasReferenceIdeal_pre_moderate_layer Cert.BiasIdeal.Gen.facts Cert.BiasReferenceIdeal.Gen.facts facts_moderate := by
  intro m g m' g' hpre hargs
  refine ⟨fun c => relV (m (c.tc.loc Cert.BiasIdeal.main_arg1)) (m (c.tc.loc Cert.BiasIdeal.main_arg2)) (m (c.tc.loc Cert.BiasIdeal.main_arg3)) (m (c.tc.loc Cert.BiasIdeal.main_arg4)),
    fun c => codeV (m (c.tc.loc Cert.BiasIdeal.main_arg1)) (m (c.tc.loc Cert.BiasIdeal.main_arg2)),
    fun c => scaleV (m (c.tc.loc Cert.BiasIdeal.main_arg1)) (m (c.tc.loc Cert.BiasIdeal.main_arg2)),
    fun c => biasV (m (c.tc.loc Cert.BiasIdeal.main_arg1)) (m (c.tc.loc Cert.BiasIdeal.main_arg2)) (m (c.tc.loc Cert.BiasIdeal.main_arg3)) (m (c.tc.loc Cert.BiasIdeal.main_arg4)),
    fun c => tauV (m (c.tc.loc Cert.BiasIdeal.main_arg0)), ?_, ?_⟩
  · refine (θ_run _ _ _).mono (fun r h c => ?_) (Cert.BiasIdeal.Hand.value m g)
    obtain ⟨hv, ha⟩ := h c
    obtain ⟨h0, h1, h2, h3, h4⟩ := hv (moderate_of_pre _ _ _ _ _ (hpre c))
    exact ⟨h0, h1, h2, h3, h4, ha⟩
  · refine (θ_run _ _ _).mono (fun r h c => ?_) (Cert.BiasReferenceIdeal.Hand.value m' g')
    obtain ⟨⟨h0, h1, h2, h3, h4⟩, ha⟩ := h c
    obtain ⟨e0, e1, e2, e3, e4⟩ := hargs c
    have hm := moderate_of_pre _ _ _ _ _ (hpre c)
    refine ⟨h0.trans ?_, h1.trans ?_, h2.trans ?_, h3.trans ?_, h4.trans ?_, ha⟩
    · exact (by rw [e1, e2, e3, e4] : _ = rRel _ _ _ _).trans (bias_rel_eq _ _ _ _ hm)
    · exact (by rw [e1, e2] : _ = rIn _ _).trans (bias_code_eq _ _ hm)
    · exact (by rw [e1, e2] : _ = gCol (rScale _ _)).trans (bias_scale_eq _ _)
    · exact (by rw [e1, e2, e3, e4] : _ = rBias _ _ _ _).trans (bias_bias_eq _ _ _ _ hm)
    · exact (by rw [e0] : _ = rTau _).trans (bias_tau_eq _)

end Cert.Proof

end
-- ==== Proof.lean ====
module

public import proofs.«01_k».proof.Defs
public import proofs.«01_k».proof.Proof.BitsFrame
public import proofs.«01_k».proof.Proof.IdealFrame
public import proofs.«01_k».proof.Proof.Gen.ReferenceIdeal.Frame
public import proofs.«01_k».proof.Proof.Close
public import proofs.«01_k».proof.Proof.BiasClose
public import proofs.«01_k».proof.Proof.Gen.Bias.Frame
public import proofs.«01_k».proof.Proof.Gen.BiasIdeal.Frame
public import proofs.«01_k».proof.Proof.Gen.BiasReferenceIdeal.Frame
public import Idealize.ShloMosaic.Adequacy
public import Idealize.ShloMosaic.Init

@[expose] public section

noncomputable section

namespace Cert.Proof

open Idealize.ShloMosaic Idealize.ShloMosaic.TcCoe Idealize.SL.Sem

/-- Every claim of `Defs`: the stated facts of the programs and of the preconditions, the frames, the empty lists of rewrites, and the equalities with the two references. -/
theorem claim : Cert.Claim := ⟨Cert.Kernel.Gen.facts, Cert.KernelIdeal.Gen.facts, Cert.ReferenceIdeal.Gen.facts, Cert.Bias.Gen.facts, Cert.BiasIdeal.Gen.facts, Cert.BiasReferenceIdeal.Gen.facts, facts_finite, facts_moderate,
  fun m ρ _ => Cert.Kernel.Hand.frame (F := Bits) m ρ,
  fun m ρ _ => Cert.KernelIdeal.Hand.frame (F := Ideal) m ρ,
  fun m ρ _ => Cert.KernelIdeal.Hand.frame (F := Ideal) m ρ,
  fun m ρ _ => Cert.ReferenceIdeal.Gen.frame (F := Ideal) m ρ,
  fun m ρ _ => Cert.ReferenceIdeal.Gen.frame (F := Ideal) m ρ,
  fun m ρ _ => Cert.Bias.Gen.frame (F := Bits) m ρ,
  fun m ρ _ => Cert.BiasIdeal.Gen.frame (F := Ideal) m ρ,
  fun m ρ _ => Cert.BiasIdeal.Gen.frame (F := Ideal) m ρ,
  fun m ρ _ => Cert.BiasReferenceIdeal.Gen.frame (F := Ideal) m ρ,
  fun m ρ _ => Cert.BiasReferenceIdeal.Gen.frame (F := Ideal) m ρ,
  trivial,
  algebraic,
  trivial,
  algebraic_bias⟩

end Cert.Proof

end
